-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_qk [hPre_finite_qk : Cert.Pre_finite_qk.Facts] (m : (ℓ : Loc Cert.KernelIdeal.nD Cert.KernelIdeal.τ Cert.KernelIdeal.sig) → Buf (Elt Ideal) ℓ) : Prop :=
  ∀ c : Dev Cert.KernelIdeal.nD,
    (Cert.Pre_finite_qk.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_qk [hPre_finite_qk : Cert.Pre_finite_qk.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_qk.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_qk [hKernelIdeal : Cert.KernelIdeal.Facts] [hPre_finite_qk : Cert.Pre_finite_qk.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_qk m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_qk [hReferenceIdeal : Cert.ReferenceIdeal.Facts] [hPre_finite_qk : Cert.Pre_finite_qk.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_qk m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2))
      ∧ r.2.sem = fun _ => 0)

def preserves_Kernel_KernelIdeal : Prop :=
  IdealRules.named_const.Statement Cert.KernelIdeal.κ "scale_log2e" .f32 0x3DD53B95#32 (((Real.sqrt 192)⁻¹ * (Real.log 2)⁻¹ : ℝ) : EReal)

def algebraic_KernelIdeal_ReferenceIdeal_pre_finite_qk [hKernelIdeal : Cert.KernelIdeal.Facts] [hReferenceIdeal : Cert.ReferenceIdeal.Facts] [hPre_finite_qk : Cert.Pre_finite_qk.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_qk m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v17)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v17) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v68) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v3)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v3) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v6) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v5)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v5) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v3) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)) →
    ∃ (v0 : (c : Dev Cert.Kernel5Ideal.nD) → Buf (Elt Ideal) ((c.tc : Thread Cert.Kernel5Ideal.nD Cert.Kernel5Ideal.τ).loc Cert.Kernel5Ideal.main_v6_0)) (v1 : (c : Dev Cert.Kernel5Ideal.nD) → Buf (Elt Ideal) ((c.tc : Thread Cert.Kernel5Ideal.nD Cert.Kernel5Ideal.τ).loc Cert.Kernel5Ideal.main_v6_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v6_0) = v0 c
          ∧ r.2.mem ((c.tc : Thread Cert.Kernel5Ideal.nD Cert.Kernel5Ideal.τ).loc Cert.Kernel5Ideal.main_v6_1) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v28) = v0 c
          ∧ r.2.mem ((c.tc : Thread Cert.Reference5Ideal.nD Cert.Reference5Ideal.τ).loc Cert.Reference5Ideal.main_v30) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)) →
    ∃ (v0 : (c : Dev Cert.Kernel6Ideal.nD) → Buf (Elt Ideal) ((c.tc : Thread Cert.Kernel6Ideal.nD Cert.Kernel6Ideal.τ).loc Cert.Kernel6Ideal.main_v6_0)) (v1 : (c : Dev Cert.Kernel6Ideal.nD) → Buf (Elt Ideal) ((c.tc : Thread Cert.Kernel6Ideal.nD Cert.Kernel6Ideal.τ).loc Cert.Kernel6Ideal.main_v6_1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v6_0) = v0 c
          ∧ r.2.mem ((c.tc : Thread Cert.Kernel6Ideal.nD Cert.Kernel6Ideal.τ).loc Cert.Kernel6Ideal.main_v6_1) = v1 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v28) = v0 c
          ∧ r.2.mem ((c.tc : Thread Cert.Reference6Ideal.nD Cert.Reference6Ideal.τ).loc Cert.Reference6Ideal.main_v30) = v1 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v4)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v4) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v15) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v6)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v6) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v4) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)) →
    ∃ (v0 : (c : Dev Cert.Kernel9Ideal.nD) → Buf (Elt Ideal) ((c.tc : Thread Cert.Kernel9Ideal.nD Cert.Kernel9Ideal.τ).loc Cert.Kernel9Ideal.main_v36)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v36) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v36) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)) →
    ∃ (v0 : (c : Dev Cert.Kernel10Ideal.nD) → Buf (Elt Ideal) ((c.tc : Thread Cert.Kernel10Ideal.nD Cert.Kernel10Ideal.τ).loc Cert.Kernel10Ideal.main_v35_0)) (v1 : (c : Dev Cert.Kernel10Ideal.nD) → Buf (Elt Ideal) ((c.tc : Thread Cert.Kernel10Ideal.nD Cert.Kernel10Ideal.τ).loc Cert.Kernel10Ideal.main_v35_1)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v35_0) = v0 c
          ∧ r.2.mem ((c.tc : Thread Cert.Kernel10Ideal.nD Cert.Kernel10Ideal.τ).loc Cert.Kernel10Ideal.main_v35_1) = v1 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v45) = v0 c
          ∧ r.2.mem ((c.tc : Thread Cert.Reference10Ideal.nD Cert.Reference10Ideal.τ).loc Cert.Reference10Ideal.main_v48) = v1 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)) →
    ∃ (v0 : (c : Dev Cert.Kernel11Ideal.nD) → Buf (Elt Ideal) ((c.tc : Thread Cert.Kernel11Ideal.nD Cert.Kernel11Ideal.τ).loc Cert.Kernel11Ideal.main_v9)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v9) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v8) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hPre_finite_qk : Cert.Pre_finite_qk.Facts),
    quiescent_Kernel (hKernel := hKernel)
    ∧ quiescent_KernelIdeal (hKernelIdeal := hKernelIdeal)
    ∧ quiescent_KernelIdeal_pre_finite_qk (hKernelIdeal := hKernelIdeal) (hPre_finite_qk := hPre_finite_qk)
    ∧ quiescent_ReferenceIdeal (hReferenceIdeal := hReferenceIdeal)
    ∧ quiescent_ReferenceIdeal_pre_finite_qk (hReferenceIdeal := hReferenceIdeal) (hPre_finite_qk := hPre_finite_qk)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ preserves_Kernel_KernelIdeal
    ∧ algebraic_KernelIdeal_ReferenceIdeal_pre_finite_qk (hKernelIdeal := hKernelIdeal) (hReferenceIdeal := hReferenceIdeal) (hPre_finite_qk := hPre_finite_qk)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
-- ==== Pre_finite_qk.lean ====
abbrev S2x4096x16x128 : Shape := ⟨4, ![2, 4096, 16, 128]⟩
abbrev S2x4096x16x64 : Shape := ⟨4, ![2, 4096, 16, 64]⟩
abbrev S2x4096x64 : Shape := ⟨3, ![2, 4096, 64]⟩
abbrev S_ : Shape := ⟨0, ![]⟩

class Facts : Prop where
  bcast_S_S2x4096x16x128 : S_.BroadcastsInDim S2x4096x16x128 (![] : Fin 0 → Fin S2x4096x16x128.rank)
  reducesTo_S2x4096x16x128_S_d0_1_2_3 : S2x4096x16x128.ReducesTo [0, 1, 2, 3] S_
  h_S_ : 0 < S_.numel
  bcast_S_S2x4096x16x64 : S_.BroadcastsInDim S2x4096x16x64 (![] : Fin 0 → Fin S2x4096x16x64.rank)
  reducesTo_S2x4096x16x64_S_d0_1_2_3 : S2x4096x16x64.ReducesTo [0, 1, 2, 3] S_
  bcast_S_S2x4096x64 : S_.BroadcastsInDim S2x4096x64 (![] : Fin 0 → Fin S2x4096x64.rank)
  reducesTo_S2x4096x64_S_d0_1_2 : S2x4096x64.ReducesTo [0, 1, 2] S_

variable [Facts]

def fn_part1 {F : FTy → Type} [FloatOps F] (main_v13 : IVec S_ 1) (main_v16 : IVec S2x4096x64 1) : IVec S_ 1 :=
  let main_c_5 : IVec S_ 1 := constantI S_ 1 1#1
  let main_v17 : IVec S_ 1 := (fun x v => Host.reduce IntOp.andi x v reducesTo_S2x4096x64_S_d0_1_2 h_S_) main_v16 main_c_5
  let main_v18 : IVec S_ 1 := andi main_v13 main_v17
  main_v18

def fn {F : FTy → Type} [FloatOps F] (main_arg0 : FVec F S2x4096x16x128 .f32) (main_arg1 : FVec F S2x4096x16x64 .f32) (main_arg2 : FVec F S2x4096x16x128 .f32) (main_arg3 : FVec F S2x4096x64 .f32) (main_arg4 : FVec F S2x4096x16x128 .f32) : IVec S_ 1 :=
  let main_v0 : FVec F S2x4096x16x128 .f32 := Host.absf main_arg0
  let main_cst : FVec F S_ .f32 := constant S_ .f32 0x7F800000#32
  let main_v1 : FVec F S2x4096x16x128 .f32 := broadcastInDim S2x4096x16x128 ![] bcast_S_S2x4096x16x128 main_cst
  let main_v2 : IVec S2x4096x16x128 1 := cmpf .olt main_v0 main_v1
  let main_c : IVec S_ 1 := constantI S_ 1 1#1
  let main_v3 : IVec S_ 1 := (fun x v => Host.reduce IntOp.andi x v reducesTo_S2x4096x16x128_S_d0_1_2_3 h_S_) main_v2 main_c
  let main_v4 : FVec F S2x4096x16x64 .f32 := Host.absf main_arg1
  let main_cst_0 : FVec F S_ .f32 := constant S_ .f32 0x7F800000#32
  let main_v5 : FVec F S2x4096x16x64 .f32 := broadcastInDim S2x4096x16x64 ![] bcast_S_S2x4096x16x64 main_cst_0
  let main_v6 : IVec S2x4096x16x64 1 := cmpf .olt main_v4 main_v5
  let main_c_1 : IVec S_ 1 := constantI S_ 1 1#1
  let main_v7 : IVec S_ 1 := (fun x v => Host.reduce IntOp.andi x v reducesTo_S2x4096x16x64_S_d0_1_2_3 h_S_) main_v6 main_c_1
  let main_v8 : IVec S_ 1 := andi main_v3 main_v7
  let main_v9 : FVec F S2x4096x16x128 .f32 := Host.absf main_arg2
  let main_cst_2 : FVec F S_ .f32 := constant S_ .f32 0x7F800000#32
  let main_v10 : FVec F S2x4096x16x128 .f32 := broadcastInDim S2x4096x16x128 ![] bcast_S_S2x4096x16x128 main_cst_2
  let main_v11 : IVec S2x4096x16x128 1 := cmpf .olt main_v9 main_v10
  let main_c_3 : IVec S_ 1 := constantI S_ 1 1#1
  let main_v12 : IVec S_ 1 := (fun x v => Host.reduce IntOp.andi x v reducesTo_S2x4096x16x128_S_d0_1_2_3 h_S_) main_v11 main_c_3
  let main_v13 : IVec S_ 1 := andi main_v8 main_v12
  let main_v14 : FVec F S2x4096x64 .f32 := Host.absf main_arg3
  let main_cst_4 : FVec F S_ .f32 := constant S_ .f32 0x7F800000#32
  let main_v15 : FVec F S2x4096x64 .f32 := broadcastInDim S2x4096x64 ![] bcast_S_S2x4096x64 main_cst_4
  let main_v16 : IVec S2x4096x64 1 := cmpf .olt main_v14 main_v15
  fn_part1 (F := F) main_v13 main_v16
-- ==== Kernel.lean ====
abbrev S2x4096x16x128 : Shape := ⟨4, ![2, 4096, 16, 128]⟩
abbrev S2x4096x16x64 : Shape := ⟨4, ![2, 4096, 16, 64]⟩
abbrev S2x4096x64 : Shape := ⟨3, ![2, 4096, 64]⟩
abbrev S_ : Shape := ⟨0, ![]⟩
abbrev S2x4096x1x64 : Shape := ⟨4, ![2, 4096, 1, 64]⟩
abbrev S2x4096x16x256 : Shape := ⟨4, ![2, 4096, 16, 256]⟩
abbrev S8192x4096 : Shape := ⟨2, ![8192, 4096]⟩
abbrev S8192x2048 : Shape := ⟨2, ![8192, 2048]⟩
abbrev S1024x512 : Shape := ⟨2, ![1024, 512]⟩
abbrev S4096x512 : Shape := ⟨2, ![4096, 512]⟩
abbrev S4096x256 : Shape := ⟨2, ![4096, 256]⟩
abbrev S1024x256 : Shape := ⟨2, ![1024, 256]⟩
abbrev S1024x1 : Shape := ⟨2, ![1024, 1]⟩
abbrev S1024x128 : Shape := ⟨2, ![1024, 128]⟩
abbrev S1024x1024 : Shape := ⟨2, ![1024, 1024]⟩
abbrev S1024 : Shape := ⟨1, ![1024]⟩

abbrev nBuf : Space → Nat
  | .hbm => 18
  | .vmem => 8
  | .smem => 0
  | _ => 0

abbrev bufTy : (tb : Table) → Fin (tcTables nBuf tb) → BufTy
  | .hbm, ⟨0, _⟩ => ⟨S2x4096x16x128, .f32⟩
  | .hbm, ⟨1, _⟩ => ⟨S2x4096x16x64, .f32⟩
  | .hbm, ⟨2, _⟩ => ⟨S2x4096x16x128, .f32⟩
  | .hbm, ⟨3, _⟩ => ⟨S2x4096x64, .f32⟩
  | .hbm, ⟨4, _⟩ => ⟨S2x4096x16x128, .f32⟩
  | .hbm, ⟨5, _⟩ => ⟨S_, .f32⟩
  | .hbm, ⟨6, _⟩ => ⟨S2x4096x16x64, .f32⟩
  | .hbm, ⟨7, _⟩ => ⟨S2x4096x1x64, .f32⟩
  | .hbm, ⟨8, _⟩ => ⟨S2x4096x16x64, .f32⟩
  | .hbm, ⟨9, _⟩ => ⟨S2x4096x16x256, .f32⟩
  | .hbm, ⟨10, _⟩ => ⟨S8192x4096, .f32⟩
  | .hbm, ⟨11, _⟩ => ⟨S8192x4096, .bf16⟩
  | .hbm, ⟨12, _⟩ => ⟨S2x4096x16x256, .f32⟩
  | .hbm, ⟨13, _⟩ => ⟨S8192x4096, .f32⟩
  | .hbm, ⟨14, _⟩ => ⟨S8192x4096, .bf16⟩
  | .hbm, ⟨15, _⟩ => ⟨S8192x2048, .f32⟩
  | .hbm, ⟨16, _⟩ => ⟨S8192x2048, .bf16⟩
  | .hbm, ⟨17, _⟩ => ⟨S8192x2048, .bf16⟩
  | .local _ .vmem, ⟨0, _⟩ => ⟨S1024x512, .bf16⟩
  | .local _ .vmem, ⟨1, _⟩ => ⟨S1024x512, .bf16⟩
  | .local _ .vmem, ⟨2, _⟩ => ⟨S4096x512, .bf16⟩
  | .local _ .vmem, ⟨3, _⟩ => ⟨S4096x512, .bf16⟩
  | .local _ .vmem, ⟨4, _⟩ => ⟨S4096x256, .bf16⟩
  | .local _ .vmem, ⟨5, _⟩ => ⟨S4096x256, .bf16⟩
  | .local _ .vmem, ⟨6, _⟩ => ⟨S1024x256, .bf16⟩
  | .local _ .vmem, ⟨7, _⟩ => ⟨S1024x256, .bf16⟩
  | _, _ => ⟨S2x4096x16x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 8, 4], ![false, false, false]⟩

@[reducible] def k0_t1_loop (i : grid0.Coords) : Scf.Loop 32 :=
  let c0_i32 : BitVec 32 := 0#32
  let arg2 : BitVec 32 := BitVec.ofNat 32 (i 2).val
  let v6 : BitVec 32 := Scalar.subi arg2 c0_i32
  let c1_i32 : BitVec 32 := 1#32
  let v8 : BitVec 32 := Scalar.divsi v6 c1_i32
  let v9 : BitVec 32 := Scalar.muli v8 c1_i32
  let v10 : BitVec 32 := Scalar.addi c0_i32 v9
  let c1_i32_5 : BitVec 32 := 1#32
  ⟨c0_i32, v10, c1_i32_5⟩
def k0_mult1 (i : grid0.Coords) (k0_t1 : Fin (k0_t1_loop i).trips) : BitVec 32 :=
  let c0_i32 : BitVec 32 := 0#32
  let c1_i32_5 : BitVec 32 := 1#32
  let arg7 : BitVec 32 := Scf.iv c0_i32 c1_i32_5 k0_t1
  let c1024_i32_33 : BitVec 32 := 1024#32
  let v101 : BitVec 32 := Scalar.muli arg7 c1024_i32_33
  v101
def k0_off1 (i : grid0.Coords) (k0_t1 : Fin (k0_t1_loop i).trips) : Fin 2 → Nat :=
  let c0_i32 : BitVec 32 := 0#32
  let c1_i32_5 : BitVec 32 := 1#32
  let arg7 : BitVec 32 := Scf.iv c0_i32 c1_i32_5 k0_t1
  let c1024_i32_33 : BitVec 32 := 1024#32
  let v101 : BitVec 32 := Scalar.muli arg7 c1024_i32_33
  let v102 : BitVec 32 := v101
  let v105 : Index := Scalar.indexCast v102
  let c0_36 : Index := 0#32
  ![v105.toNat, 0]
def k0_off2 (i : grid0.Coords) (k0_t1 : Fin (k0_t1_loop i).trips) : Fin 2 → Nat :=
  let c0_i32 : BitVec 32 := 0#32
  let c1_i32_5 : BitVec 32 := 1#32
  let arg7 : BitVec 32 := Scf.iv c0_i32 c1_i32_5 k0_t1
  let c1024_i32_33 : BitVec 32 := 1024#32
  let v101 : BitVec 32 := Scalar.muli arg7 c1024_i32_33
  let v102 : BitVec 32 := v101
  let v108 : Index := Scalar.indexCast v102
  let c0_37 : Index := 0#32
  ![v108.toNat, 0]
def k0_off3 (i : grid0.Coords) (k0_t1 : Fin (k0_t1_loop i).trips) : Fin 2 → Nat :=
  let c0_i32 : BitVec 32 := 0#32
  let c1_i32_5 : BitVec 32 := 1#32
  let arg7 : BitVec 32 := Scf.iv c0_i32 c1_i32_5 k0_t1
  let c1024_i32_33 : BitVec 32 := 1024#32
  let v101 : BitVec 32 := Scalar.muli arg7 c1024_i32_33
  let v102 : BitVec 32 := v101
  let v135 : Index := Scalar.indexCast v102
  let c256_46 : Index := 256#32
  ![v135.toNat, 256]
def k0_off4 (i : grid0.Coords) (k0_t1 : Fin (k0_t1_loop i).trips) : Fin 2 → Nat :=
  let c0_i32 : BitVec 32 := 0#32
  let c1_i32_5 : BitVec 32 := 1#32
  let arg7 : BitVec 32 := Scf.iv c0_i32 c1_i32_5 k0_t1
  let c1024_i32_33 : BitVec 32 := 1024#32
  let v101 : BitVec 32 := Scalar.muli arg7 c1024_i32_33
  let v102 : BitVec 32 := v101
  let v138 : Index := Scalar.indexCast v102
  let c128_47 : Index := 128#32
  ![v138.toNat, 128]
@[reducible] def k0_t2_loop (i : grid0.Coords) : Scf.Loop 32 :=
  let c0_i32 : BitVec 32 := 0#32
  let arg2 : BitVec 32 := BitVec.ofNat 32 (i 2).val
  let v6 : BitVec 32 := Scalar.subi arg2 c0_i32
  let c1_i32 : BitVec 32 := 1#32
  let v8 : BitVec 32 := Scalar.divsi v6 c1_i32
  let v9 : BitVec 32 := Scalar.muli v8 c1_i32
  let v10 : BitVec 32 := Scalar.addi c0_i32 v9
  let v7 : BitVec 32 := Scalar.addi c0_i32 v6
  let c1_i32_6 : BitVec 32 := 1#32
  ⟨v10, v7, c1_i32_6⟩
def k0_mult2 (i : grid0.Coords) (k0_t2 : Fin (k0_t2_loop i).trips) : BitVec 32 :=
  let c0_i32 : BitVec 32 := 0#32
  let arg2 : BitVec 32 := BitVec.ofNat 32 (i 2).val
  let v6 : BitVec 32 := Scalar.subi arg2 c0_i32
  let c1_i32 : BitVec 32 := 1#32
  let v8 : BitVec 32 := Scalar.divsi v6 c1_i32
  let v9 : BitVec 32 := Scalar.muli v8 c1_i32
  let v10 : BitVec 32 := Scalar.addi c0_i32 v9
  let c1_i32_6 : BitVec 32 := 1#32
  let arg7 : BitVec 32 := Scf.iv v10 c1_i32_6 k0_t2
  let c1024_i32_33 : BitVec 32 := 1024#32
  let v101 : BitVec 32 := Scalar.muli arg7 c1024_i32_33
  v101
def k0_off5 (i : grid0.Coords) (k0_t2 : Fin (k0_t2_loop i).trips) : Fin 2 → Nat :=
  let c0_i32 : BitVec 32 := 0#32
  let arg2 : BitVec 32 := BitVec.ofNat 32 (i 2).val
  let v6 : BitVec 32 := Scalar.subi arg2 c0_i32
  let c1_i32 : BitVec 32 := 1#32
  let v8 : BitVec 32 := Scalar.divsi v6 c1_i32
  let v9 : BitVec 32 := Scalar.muli v8 c1_i32
  let v10 : BitVec 32 := Scalar.addi c0_i32 v9
  let c1_i32_6 : BitVec 32 := 1#32
  let arg7 : BitVec 32 := Scf.iv v10 c1_i32_6 k0_t2
  let c1024_i32_33 : BitVec 32 := 1024#32
  let v101 : BitVec 32 := Scalar.muli arg7 c1024_i32_33
  let v102 : BitVec 32 := v101
  let v105 : Index := Scalar.indexCast v102
  let c0_36 : Index := 0#32
  ![v105.toNat, 0]
def k0_off6 (i : grid0.Coords) (k0_t2 : Fin (k0_t2_loop i).trips) : Fin 2 → Nat :=
  let c0_i32 : BitVec 32 := 0#32
  let arg2 : BitVec 32 := BitVec.ofNat 32 (i 2).val
  let v6 : BitVec 32 := Scalar.subi arg2 c0_i32
  let c1_i32 : BitVec 32 := 1#32
  let v8 : BitVec 32 := Scalar.divsi v6 c1_i32
  let v9 : BitVec 32 := Scalar.muli v8 c1_i32
  let v10 : BitVec 32 := Scalar.addi c0_i32 v9
  let c1_i32_6 : BitVec 32 := 1#32
  let arg7 : BitVec 32 := Scf.iv v10 c1_i32_6 k0_t2
  let c1024_i32_33 : BitVec 32 := 1024#32
  let v101 : BitVec 32 := Scalar.muli arg7 c1024_i32_33
  let v102 : BitVec 32 := v101
  let v108 : Index := Scalar.indexCast v102
  let c0_37 : Index := 0#32
  ![v108.toNat, 0]
def k0_off7 (i : grid0.Coords) (k0_t2 : Fin (k0_t2_loop i).trips) : Fin 2 → Nat :=
  let c0_i32 : BitVec 32 := 0#32
  let arg2 : BitVec 32 := BitVec.ofNat 32 (i 2).val
  let v6 : BitVec 32 := Scalar.subi arg2 c0_i32
  let c1_i32 : BitVec 32 := 1#32
  let v8 : BitVec 32 := Scalar.divsi v6 c1_i32
  let v9 : BitVec 32 := Scalar.muli v8 c1_i32
  let v10 : BitVec 32 := Scalar.addi c0_i32 v9
  let c1_i32_6 : BitVec 32 := 1#32
  let arg7 : BitVec 32 := Scf.iv v10 c1_i32_6 k0_t2
  let c1024_i32_33 : BitVec 32 := 1024#32
  let v101 : BitVec 32 := Scalar.muli arg7 c1024_i32_33
  let v102 : BitVec 32 := v101
  let v135 : Index := Scalar.indexCast v102
  let c256_46 : Index := 256#32
  ![v135.toNat, 256]
def k0_off8 (i : grid0.Coords) (k0_t2 : Fin (k0_t2_loop i).trips) : Fin 2 → Nat :=
  let c0_i32 : BitVec 32 := 0#32
  let arg2 : BitVec 32 := BitVec.ofNat 32 (i 2).val
  let v6 : BitVec 32 := Scalar.subi arg2 c0_i32
  let c1_i32 : BitVec 32 := 1#32
  let v8 : BitVec 32 := Scalar.divsi v6 c1_i32
  let v9 : BitVec 32 := Scalar.muli v8 c1_i32
  let v10 : BitVec 32 := Scalar.addi c0_i32 v9
  let c1_i32_6 : BitVec 32 := 1#32
  let arg7 : BitVec 32 := Scf.iv v10 c1_i32_6 k0_t2
  let c1024_i32_33 : BitVec 32 := 1024#32
  let v101 : BitVec 32 := Scalar.muli arg7 c1024_i32_33
  let v102 : BitVec 32 := v101
  let v138 : Index := Scalar.indexCast v102
  let c128_47 : Index := 128#32
  ![v138.toNat, 128]
def k0_mult3 (i : grid0.Coords) : BitVec 32 :=
  let arg2 : BitVec 32 := BitVec.ofNat 32 (i 2).val
  let c1024_i32 : BitVec 32 := 1024#32
  let v13 : BitVec 32 := Scalar.muli arg2 c1024_i32
  v13
def k0_off9 (i : grid0.Coords) : Fin 2 → Nat :=
  let arg2 : BitVec 32 := BitVec.ofNat 32 (i 2).val
  let c1024_i32 : BitVec 32 := 1024#32
  let v13 : BitVec 32 := Scalar.muli arg2 c1024_i32
  let v14 : BitVec 32 := v13
  let v17 : Index := Scalar.indexCast v14
  let c0_8 : Index := 0#32
  ![v17.toNat, 0]
def k0_off10 (i : grid0.Coords) : Fin 2 → Nat :=
  let arg2 : BitVec 32 := BitVec.ofNat 32 (i 2).val
  let c1024_i32 : BitVec 32 := 1024#32
  let v13 : BitVec 32 := Scalar.muli arg2 c1024_i32
  let v14 : BitVec 32 := v13
  let v20 : Index := Scalar.indexCast v14
  let c0_9 : Index := 0#32
  ![v20.toNat, 0]
def k0_off11 (i : grid0.Coords) : Fin 2 → Nat :=
  let arg2 : BitVec 32 := BitVec.ofNat 32 (i 2).val
  let c1024_i32 : BitVec 32 := 1024#32
  let v13 : BitVec 32 := Scalar.muli arg2 c1024_i32
  let v14 : BitVec 32 := v13
  let v56 : Index := Scalar.indexCast v14
  let c256_19 : Index := 256#32
  ![v56.toNat, 256]
def k0_off12 (i : grid0.Coords) : Fin 2 → Nat :=
  let arg2 : BitVec 32 := BitVec.ofNat 32 (i 2).val
  let c1024_i32 : BitVec 32 := 1024#32
  let v13 : BitVec 32 := Scalar.muli arg2 c1024_i32
  let v14 : BitVec 32 := v13
  let v59 : Index := Scalar.indexCast v14
  let c128 : Index := 128#32
  ![v59.toNat, 128]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  ![v1.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  ![v1.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S4096x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== KernelIdeal.lean ====
variable {F : FTy → Type} [FloatOps F] [Named F]
def κ : String → Option EReal := fun
  | "scale_log2e" => some (((Real.sqrt 192)⁻¹ * (Real.log 2)⁻¹ : ℝ) : EReal)
  | _ => none
-- ==== ReferenceIdeal.lean ====
abbrev S2x4096x16x128 : Shape := ⟨4, ![2, 4096, 16, 128]⟩
abbrev S2x4096x16x64 : Shape := ⟨4, ![2, 4096, 16, 64]⟩
abbrev S2x4096x64 : Shape := ⟨3, ![2, 4096, 64]⟩
abbrev S2x16x4096x4096 : Shape := ⟨4, ![2, 16, 4096, 4096]⟩
abbrev S2x4096x4096x16 : Shape := ⟨4, ![2, 4096, 4096, 16]⟩
abbrev S_ : Shape := ⟨0, ![]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S1x1x4096x4096 : Shape := ⟨4, ![1, 1, 4096, 4096]⟩
abbrev S2x16x4096 : Shape := ⟨3, ![2, 16, 4096]⟩
abbrev S2x16x4096x1 : Shape := ⟨4, ![2, 16, 4096, 1]⟩
abbrev S2x16x128x4096 : Shape := ⟨4, ![2, 16, 128, 4096]⟩
abbrev S8192x2048 : Shape := ⟨2, ![8192, 2048]⟩

abbrev nBuf : Space → Nat
  | .hbm => 61
  | .vmem => 0
  | .smem => 0
  | _ => 0

abbrev bufTy : (tb : Table) → Fin (tcTables nBuf tb) → BufTy
  | .hbm, ⟨0, _⟩ => ⟨S2x4096x16x128, .f32⟩
  | .hbm, ⟨1, _⟩ => ⟨S2x4096x16x64, .f32⟩
  | .hbm, ⟨2, _⟩ => ⟨S2x4096x16x128, .f32⟩
  | .hbm, ⟨3, _⟩ => ⟨S2x4096x64, .f32⟩
  | .hbm, ⟨4, _⟩ => ⟨S2x4096x16x128, .f32⟩
  | .hbm, ⟨5, _⟩ => ⟨S2x16x4096x4096, .f32⟩
  | .hbm, ⟨6, _⟩ => ⟨S2x4096x4096x16, .f32⟩
  | .hbm, ⟨7, _⟩ => ⟨S2x16x4096x4096, .f32⟩
  | .hbm, ⟨8, _⟩ => ⟨S2x16x4096x4096, .f32⟩
  | .hbm, ⟨9, _⟩ => ⟨S_, .f32⟩
  | .hbm, ⟨10, _⟩ => ⟨S_, .f32⟩
  | .hbm, ⟨11, _⟩ => ⟨S2x16x4096x4096, .f32⟩
  | .hbm, ⟨12, _⟩ => ⟨S2x16x4096x4096, .f32⟩
  | .hbm, ⟨13, _⟩ => ⟨S4096, .i32⟩
  | .hbm, ⟨14, _⟩ => ⟨S_, .i32⟩
  | .hbm, ⟨15, _⟩ => ⟨S_, .i32⟩
  | .hbm, ⟨16, _⟩ => ⟨S4096, .i32⟩
  | .hbm, ⟨17, _⟩ => ⟨S4096, .i32⟩
  | .hbm, ⟨18, _⟩ => ⟨S4096, .i32⟩
  | .hbm, ⟨19, _⟩ => ⟨S_, .i32⟩
  | .hbm, ⟨20, _⟩ => ⟨S4096, .i32⟩
  | .hbm, ⟨21, _⟩ => ⟨S4096, .i1⟩
  | .hbm, ⟨22, _⟩ => ⟨S4096, .i32⟩
  | .hbm, ⟨23, _⟩ => ⟨S4096, .i32⟩
  | .hbm, ⟨24, _⟩ => ⟨S_, .i32⟩
  | .hbm, ⟨25, _⟩ => ⟨S4096, .i32⟩
  | .hbm, ⟨26, _⟩ => ⟨S4096, .i1⟩
  | .hbm, ⟨27, _⟩ => ⟨S4096, .i1⟩
  | .hbm, ⟨28, _⟩ => ⟨S_, .i32⟩
  | .hbm, ⟨29, _⟩ => ⟨S4096, .i32⟩
  | .hbm, ⟨30, _⟩ => ⟨S4096, .i32⟩
  | .hbm, ⟨31, _⟩ => ⟨S4096, .i32⟩
  | .hbm, ⟨32, _⟩ => ⟨S1x4096, .i32⟩
  | .hbm, ⟨33, _⟩ => ⟨S4096x1, .i32⟩
  | .hbm, ⟨34, _⟩ => ⟨S4096x4096, .i32⟩
  | .hbm, ⟨35, _⟩ => ⟨S4096x4096, .i32⟩
  | .hbm, ⟨36, _⟩ => ⟨S4096x4096, .i1⟩
  | .hbm, ⟨37, _⟩ => ⟨S1x1x4096x4096, .i1⟩
  | .hbm, ⟨38, _⟩ => ⟨S_, .f32⟩
  | .hbm, ⟨39, _⟩ => ⟨S_, .f32⟩
  | .hbm, ⟨40, _⟩ => ⟨S2x16x4096x4096, .i1⟩
  | .hbm, ⟨41, _⟩ => ⟨S2x16x4096x4096, .f32⟩
  | .hbm, ⟨42, _⟩ => ⟨S2x16x4096x4096, .f32⟩
  | .hbm, ⟨43, _⟩ => ⟨S_, .f32⟩
  | .hbm, ⟨44, _⟩ => ⟨S2x16x4096, .f32⟩
  | .hbm, ⟨45, _⟩ => ⟨S_, .f32⟩
  | .hbm, ⟨46, _⟩ => ⟨S2x16x4096, .f32⟩
  | .hbm, ⟨47, _⟩ => ⟨S2x16x4096, .f32⟩
  | .hbm, ⟨48, _⟩ => ⟨S2x16x4096x1, .f32⟩
  | .hbm, ⟨49, _⟩ => ⟨S2x16x4096x4096, .f32⟩
  | .hbm, ⟨50, _⟩ => ⟨S2x16x4096x4096, .f32⟩
  | .hbm, ⟨51, _⟩ => ⟨S2x16x4096x4096, .f32⟩
  | .hbm, ⟨52, _⟩ => ⟨S_, .f32⟩
  | .hbm, ⟨53, _⟩ => ⟨S2x16x4096, .f32⟩
  | .hbm, ⟨54, _⟩ => ⟨S2x16x4096x1, .f32⟩
  | .hbm, ⟨55, _⟩ => ⟨S2x16x4096x4096, .f32⟩
  | .hbm, ⟨56, _⟩ => ⟨S2x16x4096x4096, .f32⟩
  | .hbm, ⟨57, _⟩ => ⟨S2x16x128x4096, .f32⟩
  | .hbm, ⟨58, _⟩ => ⟨S2x4096x16x128, .f32⟩
  | .hbm, ⟨59, _⟩ => ⟨S8192x2048, .f32⟩
  | .hbm, ⟨60, _⟩ => ⟨S8192x2048, .bf16⟩
  | _, _ => ⟨S2x4096x16x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_c : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_call0_v5 : Ref sig .tc := ⟨.hbm, 20, rfl⟩
abbrev main_call0_v6 : Ref sig .tc := ⟨.hbm, 21, rfl⟩
abbrev main_call0_v7 : Ref sig .tc := ⟨.hbm, 22, rfl⟩
abbrev main_call0_v8 : Ref sig .tc := ⟨.hbm, 23, rfl⟩
abbrev main_call0_c : Ref sig .tc := ⟨.hbm, 24, rfl⟩
abbrev main_call0_v9 : Ref sig .tc := ⟨.hbm, 25, rfl⟩
abbrev main_call0_v10 : Ref sig .tc := ⟨.hbm, 26, rfl⟩
abbrev main_call0_v11 : Ref sig .tc := ⟨.hbm, 27, rfl⟩
abbrev main_call0_c_0 : Ref sig .tc := ⟨.hbm, 28, rfl⟩
abbrev main_call0_v12 : Ref sig .tc := ⟨.hbm, 29, rfl⟩
abbrev main_call0_v13 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_cst_0 : Ref sig .tc := ⟨.hbm, 38, rfl⟩
abbrev main_call1_v0 : Ref sig .tc := ⟨.hbm, 39, rfl⟩
abbrev main_call1_v1 : Ref sig .tc := ⟨.hbm, 40, rfl⟩
abbrev main_call1_v2 : Ref sig .tc := ⟨.hbm, 41, rfl⟩
abbrev main_v15 : Ref sig .tc := ⟨.hbm, 42, rfl⟩
abbrev main_cst_1 : Ref sig .tc := ⟨.hbm, 43, rfl⟩
abbrev main_v16 : Ref sig .tc := ⟨.hbm, 44, rfl⟩
abbrev main_cst_2 : Ref sig .tc := ⟨.hbm, 45, rfl⟩
abbrev main_v17 : Ref sig .tc := ⟨.hbm, 46, rfl⟩
abbrev main_v18 : Ref sig .tc := ⟨.hbm, 47, rfl⟩
abbrev main_v19 : Ref sig .tc := ⟨.hbm, 48, rfl⟩
abbrev main_v20 : Ref sig .tc := ⟨.hbm, 49, rfl⟩
abbrev main_v21 : Ref sig .tc := ⟨.hbm, 50, rfl⟩
abbrev main_v22 : Ref sig .tc := ⟨.hbm, 51, rfl⟩
abbrev main_cst_3 : Ref sig .tc := ⟨.hbm, 52, rfl⟩
abbrev main_v23 : Ref sig .tc := ⟨.hbm, 53, rfl⟩
abbrev main_v24 : Ref sig .tc := ⟨.hbm, 54, rfl⟩
abbrev main_v25 : Ref sig .tc := ⟨.hbm, 55, rfl⟩
abbrev main_v26 : Ref sig .tc := ⟨.hbm, 56, rfl⟩
abbrev main_v27 : Ref sig .tc := ⟨.hbm, 57, rfl⟩
abbrev main_v28 : Ref sig .tc := ⟨.hbm, 58, rfl⟩
abbrev main_v29 : Ref sig .tc := ⟨.hbm, 59, rfl⟩
abbrev main_v30 : Ref sig .tc := ⟨.hbm, 60, rfl⟩

abbrev nD : Nat := 1
abbrev τ : Topo := Topo.v7x

variable {F : FTy → Type} [FloatOps F]
-- ==== Kernel2.lean ====
abbrev S2x4096x2048 : Shape := ⟨3, ![2, 4096, 2048]⟩
abbrev S2x4096 : Shape := ⟨2, ![2, 4096]⟩
abbrev S2048x12288 : Shape := ⟨2, ![2048, 12288]⟩
abbrev S8192x2048 : Shape := ⟨2, ![8192, 2048]⟩
abbrev S8192x1 : Shape := ⟨2, ![8192, 1]⟩
abbrev S8192x128 : Shape := ⟨2, ![8192, 128]⟩
abbrev S128 : Shape := ⟨1, ![128]⟩
abbrev S_ : Shape := ⟨0, ![]⟩
abbrev S1x128 : Shape := ⟨2, ![1, 128]⟩
abbrev S8192x4096 : Shape := ⟨2, ![8192, 4096]⟩
abbrev S1024x512 : Shape := ⟨2, ![1024, 512]⟩
abbrev S2048x512 : Shape := ⟨2, ![2048, 512]⟩
abbrev S1024x128 : Shape := ⟨2, ![1024, 128]⟩
abbrev S1024x2048 : Shape := ⟨2, ![1024, 2048]⟩

abbrev nBuf : Space → Nat
  | .hbm => 23
  | .vmem => 16
  | .smem => 0
  | _ => 0

abbrev bufTy : (tb : Table) → Fin (tcTables nBuf tb) → BufTy
  | .hbm, ⟨0, _⟩ => ⟨S2x4096x2048, .f32⟩
  | .hbm, ⟨1, _⟩ => ⟨S2x4096, .i32⟩
  | .hbm, ⟨2, _⟩ => ⟨S2048x12288, .f32⟩
  | .hbm, ⟨3, _⟩ => ⟨S8192x2048, .f32⟩
  | .hbm, ⟨4, _⟩ => ⟨S8192x2048, .bf16⟩
  | .hbm, ⟨5, _⟩ => ⟨S8192x1, .i32⟩
  | .hbm, ⟨6, _⟩ => ⟨S8192x1, .f32⟩
  | .hbm, ⟨7, _⟩ => ⟨S8192x128, .f32⟩
  | .hbm, ⟨8, _⟩ => ⟨S128, .f32⟩
  | .hbm, ⟨9, _⟩ => ⟨S128, .f32⟩
  | .hbm, ⟨10, _⟩ => ⟨S_, .f32⟩
  | .hbm, ⟨11, _⟩ => ⟨S128, .f32⟩
  | .hbm, ⟨12, _⟩ => ⟨S128, .f32⟩
  | .hbm, ⟨13, _⟩ => ⟨S_, .f32⟩
  | .hbm, ⟨14, _⟩ => ⟨S128, .f32⟩
  | .hbm, ⟨15, _⟩ => ⟨S128, .f32⟩
  | .hbm, ⟨16, _⟩ => ⟨S1x128, .f32⟩
  | .hbm, ⟨17, _⟩ => ⟨S8192x128, .f32⟩
  | .hbm, ⟨18, _⟩ => ⟨S8192x128, .f32⟩
  | .hbm, ⟨19, _⟩ => ⟨S2048x12288, .bf16⟩
  | .hbm, ⟨20, _⟩ => ⟨S8192x128, .f32⟩
  | .hbm, ⟨21, _⟩ => ⟨S8192x128, .f32⟩
  | .hbm, ⟨22, _⟩ => ⟨S8192x4096, .bf16⟩
  | .local _ .vmem, ⟨0, _⟩ => ⟨S1024x512, .bf16⟩
  | .local _ .vmem, ⟨1, _⟩ => ⟨S1024x512, .bf16⟩
  | .local _ .vmem, ⟨2, _⟩ => ⟨S1024x512, .bf16⟩
  | .local _ .vmem, ⟨3, _⟩ => ⟨S1024x512, .bf16⟩
  | .local _ .vmem, ⟨4, _⟩ => ⟨S1024x512, .bf16⟩
  | .local _ .vmem, ⟨5, _⟩ => ⟨S1024x512, .bf16⟩
  | .local _ .vmem, ⟨6, _⟩ => ⟨S1024x512, .bf16⟩
  | .local _ .vmem, ⟨7, _⟩ => ⟨S1024x512, .bf16⟩
  | .local _ .vmem, ⟨8, _⟩ => ⟨S2048x512, .bf16⟩
  | .local _ .vmem, ⟨9, _⟩ => ⟨S2048x512, .bf16⟩
  | .local _ .vmem, ⟨10, _⟩ => ⟨S1024x128, .f32⟩
  | .local _ .vmem, ⟨11, _⟩ => ⟨S1024x128, .f32⟩
  | .local _ .vmem, ⟨12, _⟩ => ⟨S1024x128, .f32⟩
  | .local _ .vmem, ⟨13, _⟩ => ⟨S1024x128, .f32⟩
  | .local _ .vmem, ⟨14, _⟩ => ⟨S1024x512, .bf16⟩
  | .local _ .vmem, ⟨15, _⟩ => ⟨S1024x512, .bf16⟩
  | _, _ => ⟨S2x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let c0_i32 : BitVec 32 := 0#32
  ![arg0.toNat, c2_i32.toNat]

def cc0_transform_3 (i : grid0.Coords) : Fin 2 → Nat :=
  let arg0 : BitVec 32 := BitVec.ofNat 32 (i 0).val
  let arg1 : BitVec 32 := BitVec.ofNat 32 (i 1).val
  let c3_i32 : BitVec 32 := 3#32
  let c0_i32 : BitVec 32 := 0#32
  ![arg0.toNat, c3_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![c0_i32_0.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1024x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1024x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference2Ideal.lean ====
abbrev S2x4096x2048 : Shape := ⟨3, ![2, 4096, 2048]⟩
abbrev S2x4096 : Shape := ⟨2, ![2, 4096]⟩
abbrev S2048x12288 : Shape := ⟨2, ![2048, 12288]⟩
abbrev S2x4096x12288 : Shape := ⟨3, ![2, 4096, 12288]⟩
abbrev S2x4096x8x256 : Shape := ⟨4, ![2, 4096, 8, 256]⟩
abbrev S128 : Shape := ⟨1, ![128]⟩
abbrev S_ : Shape := ⟨0, ![]⟩
abbrev S2x4096x1 : Shape := ⟨3, ![2, 4096, 1]⟩
abbrev S1x1x128 : Shape := ⟨3, ![1, 1, 128]⟩
abbrev S2x4096x128 : Shape := ⟨3, ![2, 4096, 128]⟩
abbrev S2x4096x1x128 : Shape := ⟨4, ![2, 4096, 1, 128]⟩
abbrev S2x4096x8x128 : Shape := ⟨4, ![2, 4096, 8, 128]⟩
abbrev S8192x2048 : Shape := ⟨2, ![8192, 2048]⟩
abbrev S8192x4096 : Shape := ⟨2, ![8192, 4096]⟩

abbrev nBuf : Space → Nat
  | .hbm => 77
  | .vmem => 0
  | .smem => 0
  | _ => 0

abbrev bufTy : (tb : Table) → Fin (tcTables nBuf tb) → BufTy
  | .hbm, ⟨0, _⟩ => ⟨S2x4096x2048, .f32⟩
  | .hbm, ⟨1, _⟩ => ⟨S2x4096, .i32⟩
  | .hbm, ⟨2, _⟩ => ⟨S2048x12288, .f32⟩
  | .hbm, ⟨3, _⟩ => ⟨S2x4096x12288, .f32⟩
  | .hbm, ⟨4, _⟩ => ⟨S2x4096x2048, .f32⟩
  | .hbm, ⟨5, _⟩ => ⟨S2x4096x8x256, .f32⟩
  | .hbm, ⟨6, _⟩ => ⟨S128, .f32⟩
  | .hbm, ⟨7, _⟩ => ⟨S128, .f32⟩
  | .hbm, ⟨8, _⟩ => ⟨S_, .f32⟩
  | .hbm, ⟨9, _⟩ => ⟨S128, .f32⟩
  | .hbm, ⟨10, _⟩ => ⟨S128, .f32⟩
  | .hbm, ⟨11, _⟩ => ⟨S_, .f32⟩
  | .hbm, ⟨12, _⟩ => ⟨S128, .f32⟩
  | .hbm, ⟨13, _⟩ => ⟨S128, .f32⟩
  | .hbm, ⟨14, _⟩ => ⟨S2x4096, .f32⟩
  | .hbm, ⟨15, _⟩ => ⟨S2x4096x1, .f32⟩
  | .hbm, ⟨16, _⟩ => ⟨S1x1x128, .f32⟩
  | .hbm, ⟨17, _⟩ => ⟨S2x4096x128, .f32⟩
  | .hbm, ⟨18, _⟩ => ⟨S2x4096x128, .f32⟩
  | .hbm, ⟨19, _⟩ => ⟨S2x4096x128, .f32⟩
  | .hbm, ⟨20, _⟩ => ⟨S2x4096x128, .f32⟩
  | .hbm, ⟨21, _⟩ => ⟨S2x4096x1x128, .f32⟩
  | .hbm, ⟨22, _⟩ => ⟨S2x4096x128, .f32⟩
  | .hbm, ⟨23, _⟩ => ⟨S2x4096x1x128, .f32⟩
  | .hbm, ⟨24, _⟩ => ⟨S2x4096x8x128, .f32⟩
  | .hbm, ⟨25, _⟩ => ⟨S2x4096x8x128, .f32⟩
  | .hbm, ⟨26, _⟩ => ⟨S2x4096x8x128, .f32⟩
  | .hbm, ⟨27, _⟩ => ⟨S2x4096x8x128, .f32⟩
  | .hbm, ⟨28, _⟩ => ⟨S2x4096x8x128, .f32⟩
  | .hbm, ⟨29, _⟩ => ⟨S2x4096x8x128, .f32⟩
  | .hbm, ⟨30, _⟩ => ⟨S2x4096x8x128, .f32⟩
  | .hbm, ⟨31, _⟩ => ⟨S2x4096x8x128, .f32⟩
  | .hbm, ⟨32, _⟩ => ⟨S2x4096x8x128, .f32⟩
  | .hbm, ⟨33, _⟩ => ⟨S2x4096x8x128, .f32⟩
  | .hbm, ⟨34, _⟩ => ⟨S2x4096x8x128, .f32⟩
  | .hbm, ⟨35, _⟩ => ⟨S2x4096x8x128, .f32⟩
  | .hbm, ⟨36, _⟩ => ⟨S2x4096x8x256, .f32⟩
  | .hbm, ⟨37, _⟩ => ⟨S2x4096x2048, .f32⟩
  | .hbm, ⟨38, _⟩ => ⟨S2x4096x8x256, .f32⟩
  | .hbm, ⟨39, _⟩ => ⟨S128, .f32⟩
  | .hbm, ⟨40, _⟩ => ⟨S128, .f32⟩
  | .hbm, ⟨41, _⟩ => ⟨S_, .f32⟩
  | .hbm, ⟨42, _⟩ => ⟨S128, .f32⟩
  | .hbm, ⟨43, _⟩ => ⟨S128, .f32⟩
  | .hbm, ⟨44, _⟩ => ⟨S_, .f32⟩
  | .hbm, ⟨45, _⟩ => ⟨S128, .f32⟩
  | .hbm, ⟨46, _⟩ => ⟨S128, .f32⟩
  | .hbm, ⟨47, _⟩ => ⟨S2x4096, .f32⟩
  | .hbm, ⟨48, _⟩ => ⟨S2x4096x1, .f32⟩
  | .hbm, ⟨49, _⟩ => ⟨S1x1x128, .f32⟩
  | .hbm, ⟨50, _⟩ => ⟨S2x4096x128, .f32⟩
  | .hbm, ⟨51, _⟩ => ⟨S2x4096x128, .f32⟩
  | .hbm, ⟨52, _⟩ => ⟨S2x4096x128, .f32⟩
  | .hbm, ⟨53, _⟩ => ⟨S2x4096x128, .f32⟩
  | .hbm, ⟨54, _⟩ => ⟨S2x4096x1x128, .f32⟩
  | .hbm, ⟨55, _⟩ => ⟨S2x4096x128, .f32⟩
  | .hbm, ⟨56, _⟩ => ⟨S2x4096x1x128, .f32⟩
  | .hbm, ⟨57, _⟩ => ⟨S2x4096x8x128, .f32⟩
  | .hbm, ⟨58, _⟩ => ⟨S2x4096x8x128, .f32⟩
  | .hbm, ⟨59, _⟩ => ⟨S2x4096x8x128, .f32⟩
  | .hbm, ⟨60, _⟩ => ⟨S2x4096x8x128, .f32⟩
  | .hbm, ⟨61, _⟩ => ⟨S2x4096x8x128, .f32⟩
  | .hbm, ⟨62, _⟩ => ⟨S2x4096x8x128, .f32⟩
  | .hbm, ⟨63, _⟩ => ⟨S2x4096x8x128, .f32⟩
  | .hbm, ⟨64, _⟩ => ⟨S2x4096x8x128, .f32⟩
  | .hbm, ⟨65, _⟩ => ⟨S2x4096x8x128, .f32⟩
  | .hbm, ⟨66, _⟩ => ⟨S2x4096x8x128, .f32⟩
  | .hbm, ⟨67, _⟩ => ⟨S2x4096x8x128, .f32⟩
  | .hbm, ⟨68, _⟩ => ⟨S2x4096x8x128, .f32⟩
  | .hbm, ⟨69, _⟩ => ⟨S2x4096x8x256, .f32⟩
  | .hbm, ⟨70, _⟩ => ⟨S_, .f32⟩
  | .hbm, ⟨71, _⟩ => ⟨S2x4096x8x256, .f32⟩
  | .hbm, ⟨72, _⟩ => ⟨S2x4096x8x256, .f32⟩
  | .hbm, ⟨73, _⟩ => ⟨S8192x2048, .f32⟩
  | .hbm, ⟨74, _⟩ => ⟨S8192x2048, .f32⟩
  | .hbm, ⟨75, _⟩ => ⟨S8192x4096, .f32⟩
  | .hbm, ⟨76, _⟩ => ⟨S8192x4096, .bf16⟩
  | _, _ => ⟨S2x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_cst_1 : Ref sig .tc := ⟨.hbm, 41, rfl⟩
abbrev main_v36 : Ref sig .tc := ⟨.hbm, 42, rfl⟩
abbrev main_v37 : Ref sig .tc := ⟨.hbm, 43, rfl⟩
abbrev main_cst_2 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev main_v48 : Ref sig .tc := ⟨.hbm, 55, rfl⟩
abbrev main_v49 : Ref sig .tc := ⟨.hbm, 56, rfl⟩
abbrev main_v50 : Ref sig .tc := ⟨.hbm, 57, rfl⟩
abbrev main_v51 : Ref sig .tc := ⟨.hbm, 58, rfl⟩
abbrev main_v52 : Ref sig .tc := ⟨.hbm, 59, rfl⟩
abbrev main_v53 : Ref sig .tc := ⟨.hbm, 60, rfl⟩
abbrev main_v54 : Ref sig .tc := ⟨.hbm, 61, rfl⟩
abbrev main_v55 : Ref sig .tc := ⟨.hbm, 62, rfl⟩
abbrev main_v56 : Ref sig .tc := ⟨.hbm, 63, rfl⟩
abbrev main_v57 : Ref sig .tc := ⟨.hbm, 64, rfl⟩
abbrev main_v58 : Ref sig .tc := ⟨.hbm, 65, rfl⟩
abbrev main_v59 : Ref sig .tc := ⟨.hbm, 66, rfl⟩
abbrev main_v60 : Ref sig .tc := ⟨.hbm, 67, rfl⟩
abbrev main_v61 : Ref sig .tc := ⟨.hbm, 68, rfl⟩
abbrev main_v62 : Ref sig .tc := ⟨.hbm, 69, rfl⟩
abbrev main_cst_3 : Ref sig .tc := ⟨.hbm, 70, rfl⟩
abbrev main_v63 : Ref sig .tc := ⟨.hbm, 71, rfl⟩
abbrev main_v64 : Ref sig .tc := ⟨.hbm, 72, rfl⟩
abbrev main_v65 : Ref sig .tc := ⟨.hbm, 73, rfl⟩
abbrev main_v66 : Ref sig .tc := ⟨.hbm, 74, rfl⟩
abbrev main_v67 : Ref sig .tc := ⟨.hbm, 75, rfl⟩
abbrev main_v68 : Ref sig .tc := ⟨.hbm, 76, rfl⟩

abbrev nD : Nat := 1
abbrev τ : Topo := Topo.v7x

variable {F : FTy → Type} [FloatOps F]
-- ==== Kernel3.lean ====
abbrev S2x4096x2048 : Shape := ⟨3, ![2, 4096, 2048]⟩
abbrev S2048x12288 : Shape := ⟨2, ![2048, 12288]⟩
abbrev S8192x2048 : Shape := ⟨2, ![8192, 2048]⟩
abbrev S8192x8192 : Shape := ⟨2, ![8192, 8192]⟩
abbrev S1024x512 : Shape := ⟨2, ![1024, 512]⟩
abbrev S2048x512 : Shape := ⟨2, ![2048, 512]⟩
abbrev S1024x2048 : Shape := ⟨2, ![1024, 2048]⟩

abbrev nBuf : Space → Nat
  | .hbm => 6
  | .vmem => 12
  | .smem => 0
  | _ => 0

abbrev bufTy : (tb : Table) → Fin (tcTables nBuf tb) → BufTy
  | .hbm, ⟨0, _⟩ => ⟨S2x4096x2048, .f32⟩
  | .hbm, ⟨1, _⟩ => ⟨S2048x12288, .f32⟩
  | .hbm, ⟨2, _⟩ => ⟨S8192x2048, .f32⟩
  | .hbm, ⟨3, _⟩ => ⟨S8192x2048, .bf16⟩
  | .hbm, ⟨4, _⟩ => ⟨S2048x12288, .bf16⟩
  | .hbm, ⟨5, _⟩ => ⟨S8192x8192, .bf16⟩
  | .local _ .vmem, ⟨0, _⟩ => ⟨S1024x512, .bf16⟩
  | .local _ .vmem, ⟨1, _⟩ => ⟨S1024x512, .bf16⟩
  | .local _ .vmem, ⟨2, _⟩ => ⟨S1024x512, .bf16⟩
  | .local _ .vmem, ⟨3, _⟩ => ⟨S1024x512, .bf16⟩
  | .local _ .vmem, ⟨4, _⟩ => ⟨S1024x512, .bf16⟩
  | .local _ .vmem, ⟨5, _⟩ => ⟨S1024x512, .bf16⟩
  | .local _ .vmem, ⟨6, _⟩ => ⟨S1024x512, .bf16⟩
  | .local _ .vmem, ⟨7, _⟩ => ⟨S1024x512, .bf16⟩
  | .local _ .vmem, ⟨8, _⟩ => ⟨S2048x512, .bf16⟩
  | .local _ .vmem, ⟨9, _⟩ => ⟨S2048x512, .bf16⟩
  | .local _ .vmem, ⟨10, _⟩ => ⟨S1024x512, .bf16⟩
  | .local _ .vmem, ⟨11, _⟩ => ⟨S1024x512, .bf16⟩
  | _, _ => ⟨S2x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![8, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let c0_i32 : BitVec 32 := 0#32
  ![arg0.toNat, c2_i32.toNat]

def cc0_transform_3 (i : grid0.Coords) : Fin 2 → Nat :=
  let arg0 : BitVec 32 := BitVec.ofNat 32 (i 0).val
  let arg1 : BitVec 32 := BitVec.ofNat 32 (i 1).val
  let c3_i32 : BitVec 32 := 3#32
  let c0_i32 : BitVec 32 := 0#32
  ![arg0.toNat, c3_i32.toNat]

def cc0_transform_4 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi arg1 c8_i32
  let c0_i32 : BitVec 32 := 0#32
  let c0_i32_0 : BitVec 32 := 0#32
  ![c0_i32.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference3Ideal.lean ====
abbrev S2x4096x2048 : Shape := ⟨3, ![2, 4096, 2048]⟩
abbrev S2048x12288 : Shape := ⟨2, ![2048, 12288]⟩
abbrev S2x4096x12288 : Shape := ⟨3, ![2, 4096, 12288]⟩
abbrev S2x4096x4096 : Shape := ⟨3, ![2, 4096, 4096]⟩
abbrev S8192x4096 : Shape := ⟨2, ![8192, 4096]⟩
abbrev S8192x8192 : Shape := ⟨2, ![8192, 8192]⟩

abbrev nBuf : Space → Nat
  | .hbm => 9
  | .vmem => 0
  | .smem => 0
  | _ => 0

abbrev bufTy : (tb : Table) → Fin (tcTables nBuf tb) → BufTy
  | .hbm, ⟨0, _⟩ => ⟨S2x4096x2048, .f32⟩
  | .hbm, ⟨1, _⟩ => ⟨S2048x12288, .f32⟩
  | .hbm, ⟨2, _⟩ => ⟨S2x4096x12288, .f32⟩
  | .hbm, ⟨3, _⟩ => ⟨S2x4096x4096, .f32⟩
  | .hbm, ⟨4, _⟩ => ⟨S2x4096x4096, .f32⟩
  | .hbm, ⟨5, _⟩ => ⟨S8192x4096, .f32⟩
  | .hbm, ⟨6, _⟩ => ⟨S8192x4096, .f32⟩
  | .hbm, ⟨7, _⟩ => ⟨S8192x8192, .f32⟩
  | .hbm, ⟨8, _⟩ => ⟨S8192x8192, .bf16⟩
  | _, _ => ⟨S2x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩

abbrev nD : Nat := 1
abbrev τ : Topo := Topo.v7x

variable {F : FTy → Type} [FloatOps F]
-- ==== Kernel4.lean ====
abbrev S2x4096x2048 : Shape := ⟨3, ![2, 4096, 2048]⟩
abbrev S2048x2048 : Shape := ⟨2, ![2048, 2048]⟩
abbrev S8192x2048 : Shape := ⟨2, ![8192, 2048]⟩
abbrev S2048x8192 : Shape := ⟨2, ![2048, 8192]⟩
abbrev S1024x512 : Shape := ⟨2, ![1024, 512]⟩
abbrev S2048x512 : Shape := ⟨2, ![2048, 512]⟩
abbrev S1024x2048 : Shape := ⟨2, ![1024, 2048]⟩

abbrev nBuf : Space → Nat
  | .hbm => 8
  | .vmem => 12
  | .smem => 0
  | _ => 0

abbrev bufTy : (tb : Table) → Fin (tcTables nBuf tb) → BufTy
  | .hbm, ⟨0, _⟩ => ⟨S2x4096x2048, .f32⟩
  | .hbm, ⟨1, _⟩ => ⟨S2048x2048, .f32⟩
  | .hbm, ⟨2, _⟩ => ⟨S2048x2048, .f32⟩
  | .hbm, ⟨3, _⟩ => ⟨S2048x2048, .bf16⟩
  | .hbm, ⟨4, _⟩ => ⟨S8192x2048, .f32⟩
  | .hbm, ⟨5, _⟩ => ⟨S2048x8192, .f32⟩
  | .hbm, ⟨6, _⟩ => ⟨S2048x8192, .bf16⟩
  | .hbm, ⟨7, _⟩ => ⟨S2048x8192, .bf16⟩
  | .local _ .vmem, ⟨0, _⟩ => ⟨S1024x512, .bf16⟩
  | .local _ .vmem, ⟨1, _⟩ => ⟨S1024x512, .bf16⟩
  | .local _ .vmem, ⟨2, _⟩ => ⟨S1024x512, .bf16⟩
  | .local _ .vmem, ⟨3, _⟩ => ⟨S1024x512, .bf16⟩
  | .local _ .vmem, ⟨4, _⟩ => ⟨S1024x512, .bf16⟩
  | .local _ .vmem, ⟨5, _⟩ => ⟨S1024x512, .bf16⟩
  | .local _ .vmem, ⟨6, _⟩ => ⟨S1024x512, .bf16⟩
  | .local _ .vmem, ⟨7, _⟩ => ⟨S1024x512, .bf16⟩
  | .local _ .vmem, ⟨8, _⟩ => ⟨S2048x512, .bf16⟩
  | .local _ .vmem, ⟨9, _⟩ => ⟨S2048x512, .bf16⟩
  | .local _ .vmem, ⟨10, _⟩ => ⟨S1024x512, .bf16⟩
  | .local _ .vmem, ⟨11, _⟩ => ⟨S1024x512, .bf16⟩
  | _, _ => ⟨S2x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let c0_i32 : BitVec 32 := 0#32
  ![arg0.toNat, c2_i32.toNat]

def cc0_transform_3 (i : grid0.Coords) : Fin 2 → Nat :=
  let arg0 : BitVec 32 := BitVec.ofNat 32 (i 0).val
  let arg1 : BitVec 32 := BitVec.ofNat 32 (i 1).val
  let c3_i32 : BitVec 32 := 3#32
  let c0_i32 : BitVec 32 := 0#32
  ![arg0.toNat, c3_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![c0_i32_0.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference4Ideal.lean ====
abbrev S2x4096x2048 : Shape := ⟨3, ![2, 4096, 2048]⟩
abbrev S2048x2048 : Shape := ⟨2, ![2048, 2048]⟩
abbrev S8192x2048 : Shape := ⟨2, ![8192, 2048]⟩
abbrev S2048x8192 : Shape := ⟨2, ![2048, 8192]⟩

abbrev nBuf : Space → Nat
  | .hbm => 6
  | .vmem => 0
  | .smem => 0
  | _ => 0

abbrev bufTy : (tb : Table) → Fin (tcTables nBuf tb) → BufTy
  | .hbm, ⟨0, _⟩ => ⟨S2x4096x2048, .f32⟩
  | .hbm, ⟨1, _⟩ => ⟨S2048x2048, .f32⟩
  | .hbm, ⟨2, _⟩ => ⟨S8192x2048, .f32⟩
  | .hbm, ⟨3, _⟩ => ⟨S8192x2048, .f32⟩
  | .hbm, ⟨4, _⟩ => ⟨S2048x8192, .f32⟩
  | .hbm, ⟨5, _⟩ => ⟨S2048x8192, .bf16⟩
  | _, _ => ⟨S2x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel5.lean ====
abbrev S2x4096x2048 : Shape := ⟨3, ![2, 4096, 2048]⟩
abbrev S2x4096x4096 : Shape := ⟨3, ![2, 4096, 4096]⟩
abbrev S4096x2048 : Shape := ⟨2, ![4096, 2048]⟩
abbrev S2048 : Shape := ⟨1, ![2048]⟩
abbrev S8192x4096 : Shape := ⟨2, ![8192, 4096]⟩
abbrev S8192x2048 : Shape := ⟨2, ![8192, 2048]⟩
abbrev S1x2048 : Shape := ⟨2, ![1, 2048]⟩
abbrev S2048x8192 : Shape := ⟨2, ![2048, 8192]⟩
abbrev S512x512 : Shape := ⟨2, ![512, 512]⟩
abbrev S1024x512 : Shape := ⟨2, ![1024, 512]⟩
abbrev S512x2048 : Shape := ⟨2, ![512, 2048]⟩
abbrev S2048x512 : Shape := ⟨2, ![2048, 512]⟩
abbrev S512x1024 : Shape := ⟨2, ![512, 1024]⟩
abbrev S512 : Shape := ⟨1, ![512]⟩
abbrev S512x1 : Shape := ⟨2, ![512, 1]⟩

abbrev nBuf : Space → Nat
  | .hbm => 13
  | .vmem => 21
  | .smem => 0
  | _ => 0

abbrev bufTy : (tb : Table) → Fin (tcTables nBuf tb) → BufTy
  | .hbm, ⟨0, _⟩ => ⟨S2x4096x2048, .f32⟩
  | .hbm, ⟨1, _⟩ => ⟨S2x4096x4096, .f32⟩
  | .hbm, ⟨2, _⟩ => ⟨S4096x2048, .f32⟩
  | .hbm, ⟨3, _⟩ => ⟨S2048, .f32⟩
  | .hbm, ⟨4, _⟩ => ⟨S2048, .f32⟩
  | .hbm, ⟨5, _⟩ => ⟨S8192x4096, .f32⟩
  | .hbm, ⟨6, _⟩ => ⟨S8192x4096, .bf16⟩
  | .hbm, ⟨7, _⟩ => ⟨S4096x2048, .bf16⟩
  | .hbm, ⟨8, _⟩ => ⟨S8192x2048, .f32⟩
  | .hbm, ⟨9, _⟩ => ⟨S1x2048, .f32⟩
  | .hbm, ⟨10, _⟩ => ⟨S1x2048, .f32⟩
  | .hbm, ⟨11, _⟩ => ⟨S8192x2048, .f32⟩
  | .hbm, ⟨12, _⟩ => ⟨S2048x8192, .bf16⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S1024x512, .bf16⟩
  | .local _ .vmem, ⟨5, _⟩ => ⟨S1024x512, .bf16⟩
  | .local _ .vmem, ⟨6, _⟩ => ⟨S1024x512, .bf16⟩
  | .local _ .vmem, ⟨7, _⟩ => ⟨S1024x512, .bf16⟩
  | .local _ .vmem, ⟨8, _⟩ => ⟨S1024x512, .bf16⟩
  | .local _ .vmem, ⟨9, _⟩ => ⟨S1024x512, .bf16⟩
  | .local _ .vmem, ⟨10, _⟩ => ⟨S1024x512, .bf16⟩
  | .local _ .vmem, ⟨11, _⟩ => ⟨S1024x512, .bf16⟩
  | .local _ .vmem, ⟨12, _⟩ => ⟨S512x2048, .f32⟩
  | .local _ .vmem, ⟨13, _⟩ => ⟨S512x2048, .f32⟩
  | .local _ .vmem, ⟨14, _⟩ => ⟨S1x2048, .f32⟩
  | .local _ .vmem, ⟨15, _⟩ => ⟨S1x2048, .f32⟩
  | .local _ .vmem, ⟨16, _⟩ => ⟨S512x2048, .f32⟩
  | .local _ .vmem, ⟨17, _⟩ => ⟨S512x2048, .f32⟩
  | .local _ .vmem, ⟨18, _⟩ => ⟨S2048x512, .bf16⟩
  | .local _ .vmem, ⟨19, _⟩ => ⟨S2048x512, .bf16⟩
  | .local _ .vmem, ⟨20, _⟩ => ⟨S512x2048, .f32⟩
  | _, _ => ⟨S2x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6_0 : Ref sig .tc := ⟨.hbm, 11, rfl⟩
abbrev main_v6_1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_scratch0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem9_1 : DmaSem sig := 17
abbrev cc0_sem10_0 : DmaSem sig := 18
abbrev cc0_sem10_1 : DmaSem sig := 19

abbrev nD : Nat := 1
abbrev τ : Topo := Topo.v7x

variable {F : FTy → Type} [FloatOps F]

abbrev grid0 : Pipeline.Grid := ⟨2, ![16, 4], ![false, false]⟩

def k0_cond2 (i : grid0.Coords) : BitVec 1 :=
  let arg1 : BitVec 32 := BitVec.ofNat 32 (i 1).val
  let c3_i32 : BitVec 32 := 3#32
  let v40 : BitVec 1 := Scalar.cmpi .eq arg1 c3_i32
  let v41 : BitVec 32 := Scalar.extui v40
  let c0_i32_28 : BitVec 32 := 0#32
  let v42 : BitVec 1 := Scalar.cmpi .ne v41 c0_i32_28
  v42

def cc0_transform_0 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg1 c2_i32
  let c0_i32 : BitVec 32 := 0#32
  let v1 : BitVec 32 := Scalar.addi v0 c0_i32
  let c0_i32_0 : BitVec 32 := 0#32
  ![arg0.toNat, v1.toNat]

def cc0_transform_1 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg1 c2_i32
  let c1_i32 : BitVec 32 := 1#32
  let v1 : BitVec 32 := Scalar.addi v0 c1_i32
  let c0_i32 : BitVec 32 := 0#32
  ![arg0.toNat, v1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg1.toNat, c1_i32.toNat]

def cc0_transform_4 (i : grid0.Coords) : Fin 2 → Nat :=
  let arg0 : BitVec 32 := BitVec.ofNat 32 (i 0).val
  let arg1 : BitVec 32 := BitVec.ofNat 32 (i 1).val
  let c2_i32 : BitVec 32 := 2#32
  let c0_i32 : BitVec 32 := 0#32
  ![arg1.toNat, c2_i32.toNat]

def cc0_transform_5 (i : grid0.Coords) : Fin 2 → Nat :=
  let arg0 : BitVec 32 := BitVec.ofNat 32 (i 0).val
  let arg1 : BitVec 32 := BitVec.ofNat 32 (i 1).val
  let c3_i32 : BitVec 32 := 3#32
  let c0_i32 : BitVec 32 := 0#32
  ![arg1.toNat, c3_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S512x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S2048x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]
-- ==== Reference5Ideal.lean ====
abbrev S2x4096x2048 : Shape := ⟨3, ![2, 4096, 2048]⟩
abbrev S2x4096x4096 : Shape := ⟨3, ![2, 4096, 4096]⟩
abbrev S4096x2048 : Shape := ⟨2, ![4096, 2048]⟩
abbrev S2048 : Shape := ⟨1, ![2048]⟩
abbrev S_ : Shape := ⟨0, ![]⟩
abbrev S2x4096 : Shape := ⟨2, ![2, 4096]⟩
abbrev S2x4096x1 : Shape := ⟨3, ![2, 4096, 1]⟩
abbrev S1x1x2048 : Shape := ⟨3, ![1, 1, 2048]⟩
abbrev S8192x2048 : Shape := ⟨2, ![8192, 2048]⟩
abbrev S2048x8192 : Shape := ⟨2, ![2048, 8192]⟩

abbrev nBuf : Space → Nat
  | .hbm => 42
  | .vmem => 0
  | .smem => 0
  | _ => 0

abbrev bufTy : (tb : Table) → Fin (tcTables nBuf tb) → BufTy
  | .hbm, ⟨0, _⟩ => ⟨S2x4096x2048, .f32⟩
  | .hbm, ⟨1, _⟩ => ⟨S2x4096x4096, .f32⟩
  | .hbm, ⟨2, _⟩ => ⟨S4096x2048, .f32⟩
  | .hbm, ⟨3, _⟩ => ⟨S2048, .f32⟩
  | .hbm, ⟨4, _⟩ => ⟨S2048, .f32⟩
  | .hbm, ⟨5, _⟩ => ⟨S2x4096x2048, .f32⟩
  | .hbm, ⟨6, _⟩ => ⟨S_, .f32⟩
  | .hbm, ⟨7, _⟩ => ⟨S2x4096x2048, .f32⟩
  | .hbm, ⟨8, _⟩ => ⟨S2x4096x2048, .f32⟩
  | .hbm, ⟨9, _⟩ => ⟨S2x4096x2048, .f32⟩
  | .hbm, ⟨10, _⟩ => ⟨S_, .f32⟩
  | .hbm, ⟨11, _⟩ => ⟨S2x4096, .f32⟩
  | .hbm, ⟨12, _⟩ => ⟨S2x4096x1, .f32⟩
  | .hbm, ⟨13, _⟩ => ⟨S_, .f32⟩
  | .hbm, ⟨14, _⟩ => ⟨S2x4096x1, .f32⟩
  | .hbm, ⟨15, _⟩ => ⟨S2x4096x1, .f32⟩
  | .hbm, ⟨16, _⟩ => ⟨S2x4096x2048, .f32⟩
  | .hbm, ⟨17, _⟩ => ⟨S2x4096x2048, .f32⟩
  | .hbm, ⟨18, _⟩ => ⟨S2x4096x2048, .f32⟩
  | .hbm, ⟨19, _⟩ => ⟨S_, .f32⟩
  | .hbm, ⟨20, _⟩ => ⟨S2x4096, .f32⟩
  | .hbm, ⟨21, _⟩ => ⟨S2x4096x1, .f32⟩
  | .hbm, ⟨22, _⟩ => ⟨S_, .f32⟩
  | .hbm, ⟨23, _⟩ => ⟨S2x4096x1, .f32⟩
  | .hbm, ⟨24, _⟩ => ⟨S2x4096x1, .f32⟩
  | .hbm, ⟨25, _⟩ => ⟨S2x4096x2048, .f32⟩
  | .hbm, ⟨26, _⟩ => ⟨S2x4096x2048, .f32⟩
  | .hbm, ⟨27, _⟩ => ⟨S_, .f32⟩
  | .hbm, ⟨28, _⟩ => ⟨S2x4096x1, .f32⟩
  | .hbm, ⟨29, _⟩ => ⟨S2x4096x1, .f32⟩
  | .hbm, ⟨30, _⟩ => ⟨S2x4096x1, .f32⟩
  | .hbm, ⟨31, _⟩ => ⟨S2x4096x2048, .f32⟩
  | .hbm, ⟨32, _⟩ => ⟨S2x4096x2048, .f32⟩
  | .hbm, ⟨33, _⟩ => ⟨S1x1x2048, .f32⟩
  | .hbm, ⟨34, _⟩ => ⟨S2x4096x2048, .f32⟩
  | .hbm, ⟨35, _⟩ => ⟨S2x4096x2048, .f32⟩
  | .hbm, ⟨36, _⟩ => ⟨S1x1x2048, .f32⟩
  | .hbm, ⟨37, _⟩ => ⟨S2x4096x2048, .f32⟩
  | .hbm, ⟨38, _⟩ => ⟨S2x4096x2048, .f32⟩
  | .hbm, ⟨39, _⟩ => ⟨S8192x2048, .f32⟩
  | .hbm, ⟨40, _⟩ => ⟨S2048x8192, .f32⟩
  | .hbm, ⟨41, _⟩ => ⟨S2048x8192, .bf16⟩
  | _, _ => ⟨S2x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_cst_3 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_4 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩

abbrev nD : Nat := 1
abbrev τ : Topo := Topo.v7x

variable {F : FTy → Type} [FloatOps F]
-- ==== Kernel6.lean ====
abbrev S2x4096x2048 : Shape := ⟨3, ![2, 4096, 2048]⟩
abbrev S2048x2048 : Shape := ⟨2, ![2048, 2048]⟩
abbrev S2048 : Shape := ⟨1, ![2048]⟩
abbrev S8192x2048 : Shape := ⟨2, ![8192, 2048]⟩
abbrev S1x2048 : Shape := ⟨2, ![1, 2048]⟩
abbrev S2048x8192 : Shape := ⟨2, ![2048, 8192]⟩
abbrev S512x512 : Shape := ⟨2, ![512, 512]⟩
abbrev S1024x512 : Shape := ⟨2, ![1024, 512]⟩
abbrev S512x2048 : Shape := ⟨2, ![512, 2048]⟩
abbrev S2048x512 : Shape := ⟨2, ![2048, 512]⟩
abbrev S512x1024 : Shape := ⟨2, ![512, 1024]⟩
abbrev S512 : Shape := ⟨1, ![512]⟩
abbrev S512x1 : Shape := ⟨2, ![512, 1]⟩

abbrev nBuf : Space → Nat
  | .hbm => 13
  | .vmem => 21
  | .smem => 0
  | _ => 0

abbrev bufTy : (tb : Table) → Fin (tcTables nBuf tb) → BufTy
  | .hbm, ⟨0, _⟩ => ⟨S2x4096x2048, .f32⟩
  | .hbm, ⟨1, _⟩ => ⟨S2x4096x2048, .f32⟩
  | .hbm, ⟨2, _⟩ => ⟨S2048x2048, .f32⟩
  | .hbm, ⟨3, _⟩ => ⟨S2048, .f32⟩
  | .hbm, ⟨4, _⟩ => ⟨S2048, .f32⟩
  | .hbm, ⟨5, _⟩ => ⟨S8192x2048, .f32⟩
  | .hbm, ⟨6, _⟩ => ⟨S8192x2048, .bf16⟩
  | .hbm, ⟨7, _⟩ => ⟨S2048x2048, .bf16⟩
  | .hbm, ⟨8, _⟩ => ⟨S8192x2048, .f32⟩
  | .hbm, ⟨9, _⟩ => ⟨S1x2048, .f32⟩
  | .hbm, ⟨10, _⟩ => ⟨S1x2048, .f32⟩
  | .hbm, ⟨11, _⟩ => ⟨S8192x2048, .f32⟩
  | .hbm, ⟨12, _⟩ => ⟨S2048x8192, .bf16⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S1024x512, .bf16⟩
  | .local _ .vmem, ⟨5, _⟩ => ⟨S1024x512, .bf16⟩
  | .local _ .vmem, ⟨6, _⟩ => ⟨S1024x512, .bf16⟩
  | .local _ .vmem, ⟨7, _⟩ => ⟨S1024x512, .bf16⟩
  | .local _ .vmem, ⟨8, _⟩ => ⟨S1024x512, .bf16⟩
  | .local _ .vmem, ⟨9, _⟩ => ⟨S1024x512, .bf16⟩
  | .local _ .vmem, ⟨10, _⟩ => ⟨S1024x512, .bf16⟩
  | .local _ .vmem, ⟨11, _⟩ => ⟨S1024x512, .bf16⟩
  | .local _ .vmem, ⟨12, _⟩ => ⟨S512x2048, .f32⟩
  | .local _ .vmem, ⟨13, _⟩ => ⟨S512x2048, .f32⟩
  | .local _ .vmem, ⟨14, _⟩ => ⟨S1x2048, .f32⟩
  | .local _ .vmem, ⟨15, _⟩ => ⟨S1x2048, .f32⟩
  | .local _ .vmem, ⟨16, _⟩ => ⟨S512x2048, .f32⟩
  | .local _ .vmem, ⟨17, _⟩ => ⟨S512x2048, .f32⟩
  | .local _ .vmem, ⟨18, _⟩ => ⟨S2048x512, .bf16⟩
  | .local _ .vmem, ⟨19, _⟩ => ⟨S2048x512, .bf16⟩
  | .local _ .vmem, ⟨20, _⟩ => ⟨S512x2048, .f32⟩
  | _, _ => ⟨S2x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6_0 : Ref sig .tc := ⟨.hbm, 11, rfl⟩
abbrev main_v6_1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_scratch0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem9_1 : DmaSem sig := 17
abbrev cc0_sem10_0 : DmaSem sig := 18
abbrev cc0_sem10_1 : DmaSem sig := 19

abbrev nD : Nat := 1
abbrev τ : Topo := Topo.v7x

variable {F : FTy → Type} [FloatOps F]

abbrev grid0 : Pipeline.Grid := ⟨2, ![16, 2], ![false, false]⟩

def k0_cond2 (i : grid0.Coords) : BitVec 1 :=
  let arg1 : BitVec 32 := BitVec.ofNat 32 (i 1).val
  let c1_i32 : BitVec 32 := 1#32
  let v40 : BitVec 1 := Scalar.cmpi .eq arg1 c1_i32
  let v41 : BitVec 32 := Scalar.extui v40
  let c0_i32_28 : BitVec 32 := 0#32
  let v42 : BitVec 1 := Scalar.cmpi .ne v41 c0_i32_28
  v42

def cc0_transform_0 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg1 c2_i32
  let c0_i32 : BitVec 32 := 0#32
  let v1 : BitVec 32 := Scalar.addi v0 c0_i32
  let c0_i32_0 : BitVec 32 := 0#32
  ![arg0.toNat, v1.toNat]

def cc0_transform_1 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg1 c2_i32
  let c1_i32 : BitVec 32 := 1#32
  let v1 : BitVec 32 := Scalar.addi v0 c1_i32
  let c0_i32 : BitVec 32 := 0#32
  ![arg0.toNat, v1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg1.toNat, c1_i32.toNat]

def cc0_transform_4 (i : grid0.Coords) : Fin 2 → Nat :=
  let arg0 : BitVec 32 := BitVec.ofNat 32 (i 0).val
  let arg1 : BitVec 32 := BitVec.ofNat 32 (i 1).val
  let c2_i32 : BitVec 32 := 2#32
  let c0_i32 : BitVec 32 := 0#32
  ![arg1.toNat, c2_i32.toNat]

def cc0_transform_5 (i : grid0.Coords) : Fin 2 → Nat :=
  let arg0 : BitVec 32 := BitVec.ofNat 32 (i 0).val
  let arg1 : BitVec 32 := BitVec.ofNat 32 (i 1).val
  let c3_i32 : BitVec 32 := 3#32
  let c0_i32 : BitVec 32 := 0#32
  ![arg1.toNat, c3_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S512x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S2048x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]
-- ==== Reference6Ideal.lean ====
abbrev S2x4096x2048 : Shape := ⟨3, ![2, 4096, 2048]⟩
abbrev S2048x2048 : Shape := ⟨2, ![2048, 2048]⟩
abbrev S2048 : Shape := ⟨1, ![2048]⟩
abbrev S_ : Shape := ⟨0, ![]⟩
abbrev S2x4096 : Shape := ⟨2, ![2, 4096]⟩
abbrev S2x4096x1 : Shape := ⟨3, ![2, 4096, 1]⟩
abbrev S1x1x2048 : Shape := ⟨3, ![1, 1, 2048]⟩
abbrev S8192x2048 : Shape := ⟨2, ![8192, 2048]⟩
abbrev S2048x8192 : Shape := ⟨2, ![2048, 8192]⟩

abbrev nBuf : Space → Nat
  | .hbm => 42
  | .vmem => 0
  | .smem => 0
  | _ => 0

abbrev bufTy : (tb : Table) → Fin (tcTables nBuf tb) → BufTy
  | .hbm, ⟨0, _⟩ => ⟨S2x4096x2048, .f32⟩
  | .hbm, ⟨1, _⟩ => ⟨S2x4096x2048, .f32⟩
  | .hbm, ⟨2, _⟩ => ⟨S2048x2048, .f32⟩
  | .hbm, ⟨3, _⟩ => ⟨S2048, .f32⟩
  | .hbm, ⟨4, _⟩ => ⟨S2048, .f32⟩
  | .hbm, ⟨5, _⟩ => ⟨S2x4096x2048, .f32⟩
  | .hbm, ⟨6, _⟩ => ⟨S_, .f32⟩
  | .hbm, ⟨7, _⟩ => ⟨S2x4096x2048, .f32⟩
  | .hbm, ⟨8, _⟩ => ⟨S2x4096x2048, .f32⟩
  | .hbm, ⟨9, _⟩ => ⟨S2x4096x2048, .f32⟩
  | .hbm, ⟨10, _⟩ => ⟨S_, .f32⟩
  | .hbm, ⟨11, _⟩ => ⟨S2x4096, .f32⟩
  | .hbm, ⟨12, _⟩ => ⟨S2x4096x1, .f32⟩
  | .hbm, ⟨13, _⟩ => ⟨S_, .f32⟩
  | .hbm, ⟨14, _⟩ => ⟨S2x4096x1, .f32⟩
  | .hbm, ⟨15, _⟩ => ⟨S2x4096x1, .f32⟩
  | .hbm, ⟨16, _⟩ => ⟨S2x4096x2048, .f32⟩
  | .hbm, ⟨17, _⟩ => ⟨S2x4096x2048, .f32⟩
  | .hbm, ⟨18, _⟩ => ⟨S2x4096x2048, .f32⟩
  | .hbm, ⟨19, _⟩ => ⟨S_, .f32⟩
  | .hbm, ⟨20, _⟩ => ⟨S2x4096, .f32⟩
  | .hbm, ⟨21, _⟩ => ⟨S2x4096x1, .f32⟩
  | .hbm, ⟨22, _⟩ => ⟨S_, .f32⟩
  | .hbm, ⟨23, _⟩ => ⟨S2x4096x1, .f32⟩
  | .hbm, ⟨24, _⟩ => ⟨S2x4096x1, .f32⟩
  | .hbm, ⟨25, _⟩ => ⟨S2x4096x2048, .f32⟩
  | .hbm, ⟨26, _⟩ => ⟨S2x4096x2048, .f32⟩
  | .hbm, ⟨27, _⟩ => ⟨S_, .f32⟩
  | .hbm, ⟨28, _⟩ => ⟨S2x4096x1, .f32⟩
  | .hbm, ⟨29, _⟩ => ⟨S2x4096x1, .f32⟩
  | .hbm, ⟨30, _⟩ => ⟨S2x4096x1, .f32⟩
  | .hbm, ⟨31, _⟩ => ⟨S2x4096x2048, .f32⟩
  | .hbm, ⟨32, _⟩ => ⟨S2x4096x2048, .f32⟩
  | .hbm, ⟨33, _⟩ => ⟨S1x1x2048, .f32⟩
  | .hbm, ⟨34, _⟩ => ⟨S2x4096x2048, .f32⟩
  | .hbm, ⟨35, _⟩ => ⟨S2x4096x2048, .f32⟩
  | .hbm, ⟨36, _⟩ => ⟨S1x1x2048, .f32⟩
  | .hbm, ⟨37, _⟩ => ⟨S2x4096x2048, .f32⟩
  | .hbm, ⟨38, _⟩ => ⟨S2x4096x2048, .f32⟩
  | .hbm, ⟨39, _⟩ => ⟨S8192x2048, .f32⟩
  | .hbm, ⟨40, _⟩ => ⟨S2048x8192, .f32⟩
  | .hbm, ⟨41, _⟩ => ⟨S2048x8192, .bf16⟩
  | _, _ => ⟨S2x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_cst_3 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_4 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩

abbrev nD : Nat := 1
abbrev τ : Topo := Topo.v7x

variable {F : FTy → Type} [FloatOps F]
-- ==== Kernel7.lean ====
abbrev S2x4096x2048 : Shape := ⟨3, ![2, 4096, 2048]⟩
abbrev S2048x512 : Shape := ⟨2, ![2048, 512]⟩
abbrev S512 : Shape := ⟨1, ![512]⟩
abbrev S8192x2048 : Shape := ⟨2, ![8192, 2048]⟩
abbrev S1x512 : Shape := ⟨2, ![1, 512]⟩
abbrev S8192x512 : Shape := ⟨2, ![8192, 512]⟩
abbrev S1024x512 : Shape := ⟨2, ![1024, 512]⟩
abbrev S1024x2048 : Shape := ⟨2, ![1024, 2048]⟩
abbrev S1024 : Shape := ⟨1, ![1024]⟩
abbrev S1024x1 : Shape := ⟨2, ![1024, 1]⟩

abbrev nBuf : Space → Nat
  | .hbm => 8
  | .vmem => 12
  | .smem => 0
  | _ => 0

abbrev bufTy : (tb : Table) → Fin (tcTables nBuf tb) → BufTy
  | .hbm, ⟨0, _⟩ => ⟨S2x4096x2048, .f32⟩
  | .hbm, ⟨1, _⟩ => ⟨S2048x512, .f32⟩
  | .hbm, ⟨2, _⟩ => ⟨S512, .f32⟩
  | .hbm, ⟨3, _⟩ => ⟨S8192x2048, .f32⟩
  | .hbm, ⟨4, _⟩ => ⟨S8192x2048, .bf16⟩
  | .hbm, ⟨5, _⟩ => ⟨S2048x512, .bf16⟩
  | .hbm, ⟨6, _⟩ => ⟨S1x512, .f32⟩
  | .hbm, ⟨7, _⟩ => ⟨S8192x512, .bf16⟩
  | .local _ .vmem, ⟨0, _⟩ => ⟨S1024x512, .bf16⟩
  | .local _ .vmem, ⟨1, _⟩ => ⟨S1024x512, .bf16⟩
  | .local _ .vmem, ⟨2, _⟩ => ⟨S1024x512, .bf16⟩
  | .local _ .vmem, ⟨3, _⟩ => ⟨S1024x512, .bf16⟩
  | .local _ .vmem, ⟨4, _⟩ => ⟨S1024x512, .bf16⟩
  | .local _ .vmem, ⟨5, _⟩ => ⟨S1024x512, .bf16⟩
  | .local _ .vmem, ⟨6, _⟩ => ⟨S1024x512, .bf16⟩
  | .local _ .vmem, ⟨7, _⟩ => ⟨S1024x512, .bf16⟩
  | .local _ .vmem, ⟨8, _⟩ => ⟨S2048x512, .bf16⟩
  | .local _ .vmem, ⟨9, _⟩ => ⟨S1x512, .f32⟩
  | .local _ .vmem, ⟨10, _⟩ => ⟨S1024x512, .bf16⟩
  | .local _ .vmem, ⟨11, _⟩ => ⟨S1024x512, .bf16⟩
  | _, _ => ⟨S2x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let c0_i32 : BitVec 32 := 0#32
  ![arg0.toNat, c2_i32.toNat]

def cc0_transform_3 (i : grid0.Coords) : Fin 2 → Nat :=
  let arg0 : BitVec 32 := BitVec.ofNat 32 (i 0).val
  let arg1 : BitVec 32 := BitVec.ofNat 32 (i 1).val
  let c3_i32 : BitVec 32 := 3#32
  let c0_i32 : BitVec 32 := 0#32
  ![arg0.toNat, c3_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![c0_i32_0.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S2048x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, true]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== Reference7Ideal.lean ====
abbrev S2x4096x2048 : Shape := ⟨3, ![2, 4096, 2048]⟩
abbrev S2048x512 : Shape := ⟨2, ![2048, 512]⟩
abbrev S512 : Shape := ⟨1, ![512]⟩
abbrev S2x4096x512 : Shape := ⟨3, ![2, 4096, 512]⟩
abbrev S_ : Shape := ⟨0, ![]⟩
abbrev S2x4096 : Shape := ⟨2, ![2, 4096]⟩
abbrev S2x4096x1 : Shape := ⟨3, ![2, 4096, 1]⟩
abbrev S1x1x512 : Shape := ⟨3, ![1, 1, 512]⟩
abbrev S8192x512 : Shape := ⟨2, ![8192, 512]⟩

abbrev nBuf : Space → Nat
  | .hbm => 22
  | .vmem => 0
  | .smem => 0
  | _ => 0

abbrev bufTy : (tb : Table) → Fin (tcTables nBuf tb) → BufTy
  | .hbm, ⟨0, _⟩ => ⟨S2x4096x2048, .f32⟩
  | .hbm, ⟨1, _⟩ => ⟨S2048x512, .f32⟩
  | .hbm, ⟨2, _⟩ => ⟨S512, .f32⟩
  | .hbm, ⟨3, _⟩ => ⟨S2x4096x512, .f32⟩
  | .hbm, ⟨4, _⟩ => ⟨S2x4096x512, .f32⟩
  | .hbm, ⟨5, _⟩ => ⟨S_, .f32⟩
  | .hbm, ⟨6, _⟩ => ⟨S2x4096, .f32⟩
  | .hbm, ⟨7, _⟩ => ⟨S2x4096x1, .f32⟩
  | .hbm, ⟨8, _⟩ => ⟨S_, .f32⟩
  | .hbm, ⟨9, _⟩ => ⟨S2x4096x1, .f32⟩
  | .hbm, ⟨10, _⟩ => ⟨S2x4096x1, .f32⟩
  | .hbm, ⟨11, _⟩ => ⟨S_, .f32⟩
  | .hbm, ⟨12, _⟩ => ⟨S2x4096x1, .f32⟩
  | .hbm, ⟨13, _⟩ => ⟨S2x4096x1, .f32⟩
  | .hbm, ⟨14, _⟩ => ⟨S2x4096x1, .f32⟩
  | .hbm, ⟨15, _⟩ => ⟨S2x4096x512, .f32⟩
  | .hbm, ⟨16, _⟩ => ⟨S2x4096x512, .f32⟩
  | .hbm, ⟨17, _⟩ => ⟨S1x1x512, .f32⟩
  | .hbm, ⟨18, _⟩ => ⟨S2x4096x512, .f32⟩
  | .hbm, ⟨19, _⟩ => ⟨S2x4096x512, .f32⟩
  | .hbm, ⟨20, _⟩ => ⟨S8192x512, .f32⟩
  | .hbm, ⟨21, _⟩ => ⟨S8192x512, .bf16⟩
  | _, _ => ⟨S2x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]
-- ==== Kernel8.lean ====
abbrev S2x4096x512 : Shape := ⟨3, ![2, 4096, 512]⟩
abbrev S512x4096 : Shape := ⟨2, ![512, 4096]⟩
abbrev S512x16x256 : Shape := ⟨3, ![512, 16, 256]⟩
abbrev S512x16x128 : Shape := ⟨3, ![512, 16, 128]⟩
abbrev S512x2048 : Shape := ⟨2, ![512, 2048]⟩
abbrev S8192x512 : Shape := ⟨2, ![8192, 512]⟩
abbrev S8192x2048 : Shape := ⟨2, ![8192, 2048]⟩
abbrev S1024x512 : Shape := ⟨2, ![1024, 512]⟩
abbrev S512x512 : Shape := ⟨2, ![512, 512]⟩

abbrev nBuf : Space → Nat
  | .hbm => 9
  | .vmem => 6
  | .smem => 0
  | _ => 0

abbrev bufTy : (tb : Table) → Fin (tcTables nBuf tb) → BufTy
  | .hbm, ⟨0, _⟩ => ⟨S2x4096x512, .f32⟩
  | .hbm, ⟨1, _⟩ => ⟨S512x4096, .f32⟩
  | .hbm, ⟨2, _⟩ => ⟨S512x16x256, .f32⟩
  | .hbm, ⟨3, _⟩ => ⟨S512x16x128, .f32⟩
  | .hbm, ⟨4, _⟩ => ⟨S512x2048, .f32⟩
  | .hbm, ⟨5, _⟩ => ⟨S512x2048, .bf16⟩
  | .hbm, ⟨6, _⟩ => ⟨S8192x512, .f32⟩
  | .hbm, ⟨7, _⟩ => ⟨S8192x512, .bf16⟩
  | .hbm, ⟨8, _⟩ => ⟨S8192x2048, .bf16⟩
  | .local _ .vmem, ⟨0, _⟩ => ⟨S1024x512, .bf16⟩
  | .local _ .vmem, ⟨1, _⟩ => ⟨S1024x512, .bf16⟩
  | .local _ .vmem, ⟨2, _⟩ => ⟨S512x512, .bf16⟩
  | .local _ .vmem, ⟨3, _⟩ => ⟨S512x512, .bf16⟩
  | .local _ .vmem, ⟨4, _⟩ => ⟨S1024x512, .bf16⟩
  | .local _ .vmem, ⟨5, _⟩ => ⟨S1024x512, .bf16⟩
  | _, _ => ⟨S2x4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference8Ideal.lean ====
abbrev S2x4096x512 : Shape := ⟨3, ![2, 4096, 512]⟩
abbrev S512x4096 : Shape := ⟨2, ![512, 4096]⟩
abbrev S2x4096x4096 : Shape := ⟨3, ![2, 4096, 4096]⟩
abbrev S2x4096x16x256 : Shape := ⟨4, ![2, 4096, 16, 256]⟩
abbrev S2x4096x16x128 : Shape := ⟨4, ![2, 4096, 16, 128]⟩
abbrev S8192x2048 : Shape := ⟨2, ![8192, 2048]⟩

abbrev nBuf : Space → Nat
  | .hbm => 7
  | .vmem => 0
  | .smem => 0
  | _ => 0

abbrev bufTy : (tb : Table) → Fin (tcTables nBuf tb) → BufTy
  | .hbm, ⟨0, _⟩ => ⟨S2x4096x512, .f32⟩
  | .hbm, ⟨1, _⟩ => ⟨S512x4096, .f32⟩
  | .hbm, ⟨2, _⟩ => ⟨S2x4096x4096, .f32⟩
  | .hbm, ⟨3, _⟩ => ⟨S2x4096x16x256, .f32⟩
  | .hbm, ⟨4, _⟩ => ⟨S2x4096x16x128, .f32⟩
  | .hbm, ⟨5, _⟩ => ⟨S8192x2048, .f32⟩
  | .hbm, ⟨6, _⟩ => ⟨S8192x2048, .bf16⟩
  | _, _ => ⟨S2x4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel9.lean ====
abbrev S2x4096x512 : Shape := ⟨3, ![2, 4096, 512]⟩
abbrev S2x4096 : Shape := ⟨2, ![2, 4096]⟩
abbrev S512x3072 : Shape := ⟨2, ![512, 3072]⟩
abbrev S8192x1 : Shape := ⟨2, ![8192, 1]⟩
abbrev S8192x128 : Shape := ⟨2, ![8192, 128]⟩
abbrev S32 : Shape := ⟨1, ![32]⟩
abbrev S_ : Shape := ⟨0, ![]⟩
abbrev S64 : Shape := ⟨1, ![64]⟩
abbrev S128 : Shape := ⟨1, ![128]⟩
abbrev S1x128 : Shape := ⟨2, ![1, 128]⟩
abbrev S512x16x192 : Shape := ⟨3, ![512, 16, 192]⟩
abbrev S512x16x256 : Shape := ⟨3, ![512, 16, 256]⟩
abbrev S512x4096 : Shape := ⟨2, ![512, 4096]⟩
abbrev S8192x512 : Shape := ⟨2, ![8192, 512]⟩
abbrev S8192x4096 : Shape := ⟨2, ![8192, 4096]⟩
abbrev S1024x512 : Shape := ⟨2, ![1024, 512]⟩
abbrev S512x512 : Shape := ⟨2, ![512, 512]⟩
abbrev S1024x128 : Shape := ⟨2, ![1024, 128]⟩

abbrev nBuf : Space → Nat
  | .hbm => 58
  | .vmem => 12
  | .smem => 0
  | _ => 0

abbrev bufTy : (tb : Table) → Fin (tcTables nBuf tb) → BufTy
  | .hbm, ⟨0, _⟩ => ⟨S2x4096x512, .f32⟩
  | .hbm, ⟨1, _⟩ => ⟨S2x4096, .i32⟩
  | .hbm, ⟨2, _⟩ => ⟨S512x3072, .f32⟩
  | .hbm, ⟨3, _⟩ => ⟨S8192x1, .i32⟩
  | .hbm, ⟨4, _⟩ => ⟨S8192x1, .f32⟩
  | .hbm, ⟨5, _⟩ => ⟨S8192x128, .f32⟩
  | .hbm, ⟨6, _⟩ => ⟨S32, .f32⟩
  | .hbm, ⟨7, _⟩ => ⟨S32, .f32⟩
  | .hbm, ⟨8, _⟩ => ⟨S_, .f32⟩
  | .hbm, ⟨9, _⟩ => ⟨S32, .f32⟩
  | .hbm, ⟨10, _⟩ => ⟨S32, .f32⟩
  | .hbm, ⟨11, _⟩ => ⟨S_, .f32⟩
  | .hbm, ⟨12, _⟩ => ⟨S32, .f32⟩
  | .hbm, ⟨13, _⟩ => ⟨S32, .f32⟩
  | .hbm, ⟨14, _⟩ => ⟨S_, .f32⟩
  | .hbm, ⟨15, _⟩ => ⟨S64, .f32⟩
  | .hbm, ⟨16, _⟩ => ⟨S128, .f32⟩
  | .hbm, ⟨17, _⟩ => ⟨S1x128, .f32⟩
  | .hbm, ⟨18, _⟩ => ⟨S8192x128, .f32⟩
  | .hbm, ⟨19, _⟩ => ⟨S8192x128, .f32⟩
  | .hbm, ⟨20, _⟩ => ⟨S8192x128, .i32⟩
  | .hbm, ⟨21, _⟩ => ⟨S8192x128, .f32⟩
  | .hbm, ⟨22, _⟩ => ⟨S8192x128, .f32⟩
  | .hbm, ⟨23, _⟩ => ⟨S_, .i32⟩
  | .hbm, ⟨24, _⟩ => ⟨S8192x128, .i32⟩
  | .hbm, ⟨25, _⟩ => ⟨S8192x128, .i1⟩
  | .hbm, ⟨26, _⟩ => ⟨S_, .f32⟩
  | .hbm, ⟨27, _⟩ => ⟨S_, .f32⟩
  | .hbm, ⟨28, _⟩ => ⟨S8192x128, .f32⟩
  | .hbm, ⟨29, _⟩ => ⟨S8192x128, .f32⟩
  | .hbm, ⟨30, _⟩ => ⟨S_, .i32⟩
  | .hbm, ⟨31, _⟩ => ⟨S8192x128, .i32⟩
  | .hbm, ⟨32, _⟩ => ⟨S8192x128, .i1⟩
  | .hbm, ⟨33, _⟩ => ⟨S8192x128, .f32⟩
  | .hbm, ⟨34, _⟩ => ⟨S_, .f32⟩
  | .hbm, ⟨35, _⟩ => ⟨S_, .f32⟩
  | .hbm, ⟨36, _⟩ => ⟨S8192x128, .f32⟩
  | .hbm, ⟨37, _⟩ => ⟨S8192x128, .f32⟩
  | .hbm, ⟨38, _⟩ => ⟨S_, .i32⟩
  | .hbm, ⟨39, _⟩ => ⟨S8192x128, .i32⟩
  | .hbm, ⟨40, _⟩ => ⟨S8192x128, .i1⟩
  | .hbm, ⟨41, _⟩ => ⟨S_, .i32⟩
  | .hbm, ⟨42, _⟩ => ⟨S8192x128, .i32⟩
  | .hbm, ⟨43, _⟩ => ⟨S8192x128, .i1⟩
  | .hbm, ⟨44, _⟩ => ⟨S8192x128, .i1⟩
  | .hbm, ⟨45, _⟩ => ⟨S_, .f32⟩
  | .hbm, ⟨46, _⟩ => ⟨S_, .f32⟩
  | .hbm, ⟨47, _⟩ => ⟨S8192x128, .f32⟩
  | .hbm, ⟨48, _⟩ => ⟨S8192x128, .f32⟩
  | .hbm, ⟨49, _⟩ => ⟨S512x16x192, .f32⟩
  | .hbm, ⟨50, _⟩ => ⟨S_, .i32⟩
  | .hbm, ⟨51, _⟩ => ⟨S_, .f32⟩
  | .hbm, ⟨52, _⟩ => ⟨S512x16x256, .f32⟩
  | .hbm, ⟨53, _⟩ => ⟨S512x4096, .f32⟩
  | .hbm, ⟨54, _⟩ => ⟨S512x4096, .bf16⟩
  | .hbm, ⟨55, _⟩ => ⟨S8192x512, .f32⟩
  | .hbm, ⟨56, _⟩ => ⟨S8192x512, .bf16⟩
  | .hbm, ⟨57, _⟩ => ⟨S8192x4096, .bf16⟩
  | .local _ .vmem, ⟨0, _⟩ => ⟨S1024x512, .bf16⟩
  | .local _ .vmem, ⟨1, _⟩ => ⟨S1024x512, .bf16⟩
  | .local _ .vmem, ⟨2, _⟩ => ⟨S512x512, .bf16⟩
  | .local _ .vmem, ⟨3, _⟩ => ⟨S512x512, .bf16⟩
  | .local _ .vmem, ⟨4, _⟩ => ⟨S1024x128, .f32⟩
  | .local _ .vmem, ⟨5, _⟩ => ⟨S1024x128, .f32⟩
  | .local _ .vmem, ⟨6, _⟩ => ⟨S1024x128, .f32⟩
  | .local _ .vmem, ⟨7, _⟩ => ⟨S1024x128, .f32⟩
  | .local _ .vmem, ⟨8, _⟩ => ⟨S1024x128, .f32⟩
  | .local _ .vmem, ⟨9, _⟩ => ⟨S1024x128, .f32⟩
  | .local _ .vmem, ⟨10, _⟩ => ⟨S1024x512, .bf16⟩
  | .local _ .vmem, ⟨11, _⟩ => ⟨S1024x512, .bf16⟩
  | _, _ => ⟨S2x4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_c : Ref sig .tc := ⟨.hbm, 23, rfl⟩
abbrev main_v17 : Ref sig .tc := ⟨.hbm, 24, rfl⟩
abbrev main_v18 : Ref sig .tc := ⟨.hbm, 25, rfl⟩
abbrev main_cst_2 : Ref sig .tc := ⟨.hbm, 26, rfl⟩
abbrev main_call0_v0 : Ref sig .tc := ⟨.hbm, 27, rfl⟩
abbrev main_call0_v1 : Ref sig .tc := ⟨.hbm, 28, rfl⟩
abbrev main_v19 : Ref sig .tc := ⟨.hbm, 29, rfl⟩
abbrev main_c_3 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_4 : Ref sig .tc := ⟨.hbm, 34, rfl⟩
abbrev main_call1_v0 : Ref sig .tc := ⟨.hbm, 35, rfl⟩
abbrev main_call1_v1 : Ref sig .tc := ⟨.hbm, 36, rfl⟩
abbrev main_v23 : Ref sig .tc := ⟨.hbm, 37, rfl⟩
abbrev main_c_5 : Ref sig .tc := ⟨.hbm, 38, rfl⟩
abbrev main_v24 : Ref sig .tc := ⟨.hbm, 39, rfl⟩
abbrev main_v25 : Ref sig .tc := ⟨.hbm, 40, rfl⟩
abbrev main_c_6 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_cst_7 : Ref sig .tc := ⟨.hbm, 45, rfl⟩
abbrev main_call2_v0 : Ref sig .tc := ⟨.hbm, 46, rfl⟩
abbrev main_call2_v1 : Ref sig .tc := ⟨.hbm, 47, rfl⟩
abbrev main_v29 : Ref sig .tc := ⟨.hbm, 48, rfl⟩
abbrev main_v30 : Ref sig .tc := ⟨.hbm, 49, rfl⟩
abbrev main_c_8 : Ref sig .tc := ⟨.hbm, 50, rfl⟩
abbrev main_call3_v0 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference9Ideal.lean ====
abbrev S2x4096x512 : Shape := ⟨3, ![2, 4096, 512]⟩
abbrev S2x4096 : Shape := ⟨2, ![2, 4096]⟩
abbrev S512x3072 : Shape := ⟨2, ![512, 3072]⟩
abbrev S2x4096x3072 : Shape := ⟨3, ![2, 4096, 3072]⟩
abbrev S2x4096x16x192 : Shape := ⟨4, ![2, 4096, 16, 192]⟩
abbrev S2x4096x16x128 : Shape := ⟨4, ![2, 4096, 16, 128]⟩
abbrev S2x4096x16x64 : Shape := ⟨4, ![2, 4096, 16, 64]⟩
abbrev S32 : Shape := ⟨1, ![32]⟩
abbrev S_ : Shape := ⟨0, ![]⟩
abbrev S2x4096x1 : Shape := ⟨3, ![2, 4096, 1]⟩
abbrev S1x1x32 : Shape := ⟨3, ![1, 1, 32]⟩
abbrev S2x4096x32 : Shape := ⟨3, ![2, 4096, 32]⟩
abbrev S2x4096x1x32 : Shape := ⟨4, ![2, 4096, 1, 32]⟩
abbrev S2x4096x16x32 : Shape := ⟨4, ![2, 4096, 16, 32]⟩
abbrev S2x4096x16x256 : Shape := ⟨4, ![2, 4096, 16, 256]⟩
abbrev S8192x4096 : Shape := ⟨2, ![8192, 4096]⟩

abbrev nBuf : Space → Nat
  | .hbm => 43
  | .vmem => 0
  | .smem => 0
  | _ => 0

abbrev bufTy : (tb : Table) → Fin (tcTables nBuf tb) → BufTy
  | .hbm, ⟨0, _⟩ => ⟨S2x4096x512, .f32⟩
  | .hbm, ⟨1, _⟩ => ⟨S2x4096, .i32⟩
  | .hbm, ⟨2, _⟩ => ⟨S512x3072, .f32⟩
  | .hbm, ⟨3, _⟩ => ⟨S2x4096x3072, .f32⟩
  | .hbm, ⟨4, _⟩ => ⟨S2x4096x16x192, .f32⟩
  | .hbm, ⟨5, _⟩ => ⟨S2x4096x16x128, .f32⟩
  | .hbm, ⟨6, _⟩ => ⟨S2x4096x16x64, .f32⟩
  | .hbm, ⟨7, _⟩ => ⟨S32, .f32⟩
  | .hbm, ⟨8, _⟩ => ⟨S32, .f32⟩
  | .hbm, ⟨9, _⟩ => ⟨S_, .f32⟩
  | .hbm, ⟨10, _⟩ => ⟨S32, .f32⟩
  | .hbm, ⟨11, _⟩ => ⟨S32, .f32⟩
  | .hbm, ⟨12, _⟩ => ⟨S_, .f32⟩
  | .hbm, ⟨13, _⟩ => ⟨S32, .f32⟩
  | .hbm, ⟨14, _⟩ => ⟨S32, .f32⟩
  | .hbm, ⟨15, _⟩ => ⟨S2x4096, .f32⟩
  | .hbm, ⟨16, _⟩ => ⟨S2x4096x1, .f32⟩
  | .hbm, ⟨17, _⟩ => ⟨S1x1x32, .f32⟩
  | .hbm, ⟨18, _⟩ => ⟨S2x4096x32, .f32⟩
  | .hbm, ⟨19, _⟩ => ⟨S2x4096x32, .f32⟩
  | .hbm, ⟨20, _⟩ => ⟨S2x4096x32, .f32⟩
  | .hbm, ⟨21, _⟩ => ⟨S2x4096x32, .f32⟩
  | .hbm, ⟨22, _⟩ => ⟨S2x4096x1x32, .f32⟩
  | .hbm, ⟨23, _⟩ => ⟨S2x4096x32, .f32⟩
  | .hbm, ⟨24, _⟩ => ⟨S2x4096x1x32, .f32⟩
  | .hbm, ⟨25, _⟩ => ⟨S2x4096x16x32, .f32⟩
  | .hbm, ⟨26, _⟩ => ⟨S2x4096x16x32, .f32⟩
  | .hbm, ⟨27, _⟩ => ⟨S2x4096x16x32, .f32⟩
  | .hbm, ⟨28, _⟩ => ⟨S2x4096x16x32, .f32⟩
  | .hbm, ⟨29, _⟩ => ⟨S2x4096x16x32, .f32⟩
  | .hbm, ⟨30, _⟩ => ⟨S2x4096x16x32, .f32⟩
  | .hbm, ⟨31, _⟩ => ⟨S2x4096x16x32, .f32⟩
  | .hbm, ⟨32, _⟩ => ⟨S2x4096x16x32, .f32⟩
  | .hbm, ⟨33, _⟩ => ⟨S2x4096x16x32, .f32⟩
  | .hbm, ⟨34, _⟩ => ⟨S2x4096x16x32, .f32⟩
  | .hbm, ⟨35, _⟩ => ⟨S2x4096x16x32, .f32⟩
  | .hbm, ⟨36, _⟩ => ⟨S2x4096x16x32, .f32⟩
  | .hbm, ⟨37, _⟩ => ⟨S2x4096x16x64, .f32⟩
  | .hbm, ⟨38, _⟩ => ⟨S_, .f32⟩
  | .hbm, ⟨39, _⟩ => ⟨S2x4096x16x64, .f32⟩
  | .hbm, ⟨40, _⟩ => ⟨S2x4096x16x256, .f32⟩
  | .hbm, ⟨41, _⟩ => ⟨S8192x4096, .f32⟩
  | .hbm, ⟨42, _⟩ => ⟨S8192x4096, .bf16⟩
  | _, _ => ⟨S2x4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_cst_1 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩

abbrev nD : Nat := 1
abbrev τ : Topo := Topo.v7x

variable {F : FTy → Type} [FloatOps F]
-- ==== Kernel10.lean ====
abbrev S2x4096x2048 : Shape := ⟨3, ![2, 4096, 2048]⟩
abbrev S2x4096 : Shape := ⟨2, ![2, 4096]⟩
abbrev S2048x576 : Shape := ⟨2, ![2048, 576]⟩
abbrev S512 : Shape := ⟨1, ![512]⟩
abbrev S8192x1 : Shape := ⟨2, ![8192, 1]⟩
abbrev S8192x128 : Shape := ⟨2, ![8192, 128]⟩
abbrev S32 : Shape := ⟨1, ![32]⟩
abbrev S_ : Shape := ⟨0, ![]⟩
abbrev S64 : Shape := ⟨1, ![64]⟩
abbrev S128 : Shape := ⟨1, ![128]⟩
abbrev S1x128 : Shape := ⟨2, ![1, 128]⟩
abbrev S2048x640 : Shape := ⟨2, ![2048, 640]⟩
abbrev S8192x2048 : Shape := ⟨2, ![8192, 2048]⟩
abbrev S1x512 : Shape := ⟨2, ![1, 512]⟩
abbrev S8192x512 : Shape := ⟨2, ![8192, 512]⟩
abbrev S1024x512 : Shape := ⟨2, ![1024, 512]⟩
abbrev S1024x128 : Shape := ⟨2, ![1024, 128]⟩
abbrev S1024x2048 : Shape := ⟨2, ![1024, 2048]⟩
abbrev S1024x640 : Shape := ⟨2, ![1024, 640]⟩
abbrev S1024 : Shape := ⟨1, ![1024]⟩
abbrev S1024x1 : Shape := ⟨2, ![1024, 1]⟩

abbrev nBuf : Space → Nat
  | .hbm => 59
  | .vmem => 20
  | .smem => 0
  | _ => 0

abbrev bufTy : (tb : Table) → Fin (tcTables nBuf tb) → BufTy
  | .hbm, ⟨0, _⟩ => ⟨S2x4096x2048, .f32⟩
  | .hbm, ⟨1, _⟩ => ⟨S2x4096, .i32⟩
  | .hbm, ⟨2, _⟩ => ⟨S2048x576, .f32⟩
  | .hbm, ⟨3, _⟩ => ⟨S512, .f32⟩
  | .hbm, ⟨4, _⟩ => ⟨S8192x1, .i32⟩
  | .hbm, ⟨5, _⟩ => ⟨S8192x1, .f32⟩
  | .hbm, ⟨6, _⟩ => ⟨S8192x128, .f32⟩
  | .hbm, ⟨7, _⟩ => ⟨S32, .f32⟩
  | .hbm, ⟨8, _⟩ => ⟨S32, .f32⟩
  | .hbm, ⟨9, _⟩ => ⟨S_, .f32⟩
  | .hbm, ⟨10, _⟩ => ⟨S32, .f32⟩
  | .hbm, ⟨11, _⟩ => ⟨S32, .f32⟩
  | .hbm, ⟨12, _⟩ => ⟨S_, .f32⟩
  | .hbm, ⟨13, _⟩ => ⟨S32, .f32⟩
  | .hbm, ⟨14, _⟩ => ⟨S32, .f32⟩
  | .hbm, ⟨15, _⟩ => ⟨S_, .f32⟩
  | .hbm, ⟨16, _⟩ => ⟨S64, .f32⟩
  | .hbm, ⟨17, _⟩ => ⟨S128, .f32⟩
  | .hbm, ⟨18, _⟩ => ⟨S1x128, .f32⟩
  | .hbm, ⟨19, _⟩ => ⟨S8192x128, .f32⟩
  | .hbm, ⟨20, _⟩ => ⟨S8192x128, .f32⟩
  | .hbm, ⟨21, _⟩ => ⟨S8192x128, .i32⟩
  | .hbm, ⟨22, _⟩ => ⟨S8192x128, .f32⟩
  | .hbm, ⟨23, _⟩ => ⟨S8192x128, .f32⟩
  | .hbm, ⟨24, _⟩ => ⟨S_, .i32⟩
  | .hbm, ⟨25, _⟩ => ⟨S8192x128, .i32⟩
  | .hbm, ⟨26, _⟩ => ⟨S8192x128, .i1⟩
  | .hbm, ⟨27, _⟩ => ⟨S_, .f32⟩
  | .hbm, ⟨28, _⟩ => ⟨S_, .f32⟩
  | .hbm, ⟨29, _⟩ => ⟨S8192x128, .f32⟩
  | .hbm, ⟨30, _⟩ => ⟨S8192x128, .f32⟩
  | .hbm, ⟨31, _⟩ => ⟨S_, .i32⟩
  | .hbm, ⟨32, _⟩ => ⟨S8192x128, .i32⟩
  | .hbm, ⟨33, _⟩ => ⟨S8192x128, .i1⟩
  | .hbm, ⟨34, _⟩ => ⟨S8192x128, .f32⟩
  | .hbm, ⟨35, _⟩ => ⟨S_, .f32⟩
  | .hbm, ⟨36, _⟩ => ⟨S_, .f32⟩
  | .hbm, ⟨37, _⟩ => ⟨S8192x128, .f32⟩
  | .hbm, ⟨38, _⟩ => ⟨S8192x128, .f32⟩
  | .hbm, ⟨39, _⟩ => ⟨S_, .i32⟩
  | .hbm, ⟨40, _⟩ => ⟨S8192x128, .i32⟩
  | .hbm, ⟨41, _⟩ => ⟨S8192x128, .i1⟩
  | .hbm, ⟨42, _⟩ => ⟨S_, .i32⟩
  | .hbm, ⟨43, _⟩ => ⟨S8192x128, .i32⟩
  | .hbm, ⟨44, _⟩ => ⟨S8192x128, .i1⟩
  | .hbm, ⟨45, _⟩ => ⟨S8192x128, .i1⟩
  | .hbm, ⟨46, _⟩ => ⟨S_, .f32⟩
  | .hbm, ⟨47, _⟩ => ⟨S_, .f32⟩
  | .hbm, ⟨48, _⟩ => ⟨S8192x128, .f32⟩
  | .hbm, ⟨49, _⟩ => ⟨S8192x128, .f32⟩
  | .hbm, ⟨50, _⟩ => ⟨S_, .i32⟩
  | .hbm, ⟨51, _⟩ => ⟨S_, .f32⟩
  | .hbm, ⟨52, _⟩ => ⟨S2048x640, .f32⟩
  | .hbm, ⟨53, _⟩ => ⟨S2048x640, .bf16⟩
  | .hbm, ⟨54, _⟩ => ⟨S8192x2048, .f32⟩
  | .hbm, ⟨55, _⟩ => ⟨S8192x2048, .bf16⟩
  | .hbm, ⟨56, _⟩ => ⟨S1x512, .f32⟩
  | .hbm, ⟨57, _⟩ => ⟨S8192x512, .bf16⟩
  | .hbm, ⟨58, _⟩ => ⟨S8192x128, .bf16⟩
  | .local _ .vmem, ⟨0, _⟩ => ⟨S1024x512, .bf16⟩
  | .local _ .vmem, ⟨1, _⟩ => ⟨S1024x512, .bf16⟩
  | .local _ .vmem, ⟨2, _⟩ => ⟨S1024x512, .bf16⟩
  | .local _ .vmem, ⟨3, _⟩ => ⟨S1024x512, .bf16⟩
  | .local _ .vmem, ⟨4, _⟩ => ⟨S1024x512, .bf16⟩
  | .local _ .vmem, ⟨5, _⟩ => ⟨S1024x512, .bf16⟩
  | .local _ .vmem, ⟨6, _⟩ => ⟨S1024x512, .bf16⟩
  | .local _ .vmem, ⟨7, _⟩ => ⟨S1024x512, .bf16⟩
  | .local _ .vmem, ⟨8, _⟩ => ⟨S2048x640, .bf16⟩
  | .local _ .vmem, ⟨9, _⟩ => ⟨S1x512, .f32⟩
  | .local _ .vmem, ⟨10, _⟩ => ⟨S1024x128, .f32⟩
  | .local _ .vmem, ⟨11, _⟩ => ⟨S1024x128, .f32⟩
  | .local _ .vmem, ⟨12, _⟩ => ⟨S1024x128, .f32⟩
  | .local _ .vmem, ⟨13, _⟩ => ⟨S1024x128, .f32⟩
  | .local _ .vmem, ⟨14, _⟩ => ⟨S1024x128, .f32⟩
  | .local _ .vmem, ⟨15, _⟩ => ⟨S1024x128, .f32⟩
  | .local _ .vmem, ⟨16, _⟩ => ⟨S1024x512, .bf16⟩
  | .local _ .vmem, ⟨17, _⟩ => ⟨S1024x512, .bf16⟩
  | .local _ .vmem, ⟨18, _⟩ => ⟨S1024x128, .bf16⟩
  | .local _ .vmem, ⟨19, _⟩ => ⟨S1024x128, .bf16⟩
  | _, _ => ⟨S2x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_c : Ref sig .tc := ⟨.hbm, 24, rfl⟩
abbrev main_v17 : Ref sig .tc := ⟨.hbm, 25, rfl⟩
abbrev main_v18 : Ref sig .tc := ⟨.hbm, 26, rfl⟩
abbrev main_cst_2 : Ref sig .tc := ⟨.hbm, 27, rfl⟩
abbrev main_call0_v0 : Ref sig .tc := ⟨.hbm, 28, rfl⟩
abbrev main_call0_v1 : Ref sig .tc := ⟨.hbm, 29, rfl⟩
abbrev main_v19 : Ref sig .tc := ⟨.hbm, 30, rfl⟩
abbrev main_c_3 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_4 : Ref sig .tc := ⟨.hbm, 35, rfl⟩
abbrev main_call1_v0 : Ref sig .tc := ⟨.hbm, 36, rfl⟩
abbrev main_call1_v1 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_c_6 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_cst_7 : Ref sig .tc := ⟨.hbm, 46, rfl⟩
abbrev main_call2_v0 : Ref sig .tc := ⟨.hbm, 47, rfl⟩
abbrev main_call2_v1 : Ref sig .tc := ⟨.hbm, 48, rfl⟩
abbrev main_v29 : Ref sig .tc := ⟨.hbm, 49, rfl⟩
abbrev main_c_8 : Ref sig .tc := ⟨.hbm, 50, rfl⟩
abbrev main_call3_v0 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35_0 : Ref sig .tc := ⟨.hbm, 57, rfl⟩
abbrev main_v35_1 : Ref sig .tc := ⟨.hbm, 58, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let c0_i32 : BitVec 32 := 0#32
  ![arg0.toNat, c2_i32.toNat]

def cc0_transform_3 (i : grid0.Coords) : Fin 2 → Nat :=
  let arg0 : BitVec 32 := BitVec.ofNat 32 (i 0).val
  let arg1 : BitVec 32 := BitVec.ofNat 32 (i 1).val
  let c3_i32 : BitVec 32 := 3#32
  let c0_i32 : BitVec 32 := 0#32
  ![arg0.toNat, c3_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![c0_i32_0.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S2048x640 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, true]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1024x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1024x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1024x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1024x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1024x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]
-- ==== Reference10Ideal.lean ====
abbrev S2x4096x2048 : Shape := ⟨3, ![2, 4096, 2048]⟩
abbrev S2x4096 : Shape := ⟨2, ![2, 4096]⟩
abbrev S2048x576 : Shape := ⟨2, ![2048, 576]⟩
abbrev S512 : Shape := ⟨1, ![512]⟩
abbrev S2x4096x576 : Shape := ⟨3, ![2, 4096, 576]⟩
abbrev S2x4096x512 : Shape := ⟨3, ![2, 4096, 512]⟩
abbrev S_ : Shape := ⟨0, ![]⟩
abbrev S2x4096x1 : Shape := ⟨3, ![2, 4096, 1]⟩
abbrev S1x1x512 : Shape := ⟨3, ![1, 1, 512]⟩
abbrev S2x4096x64 : Shape := ⟨3, ![2, 4096, 64]⟩
abbrev S2x4096x1x64 : Shape := ⟨4, ![2, 4096, 1, 64]⟩
abbrev S32 : Shape := ⟨1, ![32]⟩
abbrev S1x1x32 : Shape := ⟨3, ![1, 1, 32]⟩
abbrev S2x4096x32 : Shape := ⟨3, ![2, 4096, 32]⟩
abbrev S2x4096x1x32 : Shape := ⟨4, ![2, 4096, 1, 32]⟩
abbrev S8192x512 : Shape := ⟨2, ![8192, 512]⟩
abbrev S2x4096x128 : Shape := ⟨3, ![2, 4096, 128]⟩
abbrev S8192x128 : Shape := ⟨2, ![8192, 128]⟩

abbrev nBuf : Space → Nat
  | .hbm => 59
  | .vmem => 0
  | .smem => 0
  | _ => 0

abbrev bufTy : (tb : Table) → Fin (tcTables nBuf tb) → BufTy
  | .hbm, ⟨0, _⟩ => ⟨S2x4096x2048, .f32⟩
  | .hbm, ⟨1, _⟩ => ⟨S2x4096, .i32⟩
  | .hbm, ⟨2, _⟩ => ⟨S2048x576, .f32⟩
  | .hbm, ⟨3, _⟩ => ⟨S512, .f32⟩
  | .hbm, ⟨4, _⟩ => ⟨S2x4096x576, .f32⟩
  | .hbm, ⟨5, _⟩ => ⟨S2x4096x512, .f32⟩
  | .hbm, ⟨6, _⟩ => ⟨S2x4096x512, .f32⟩
  | .hbm, ⟨7, _⟩ => ⟨S_, .f32⟩
  | .hbm, ⟨8, _⟩ => ⟨S2x4096, .f32⟩
  | .hbm, ⟨9, _⟩ => ⟨S2x4096x1, .f32⟩
  | .hbm, ⟨10, _⟩ => ⟨S_, .f32⟩
  | .hbm, ⟨11, _⟩ => ⟨S2x4096x1, .f32⟩
  | .hbm, ⟨12, _⟩ => ⟨S2x4096x1, .f32⟩
  | .hbm, ⟨13, _⟩ => ⟨S_, .f32⟩
  | .hbm, ⟨14, _⟩ => ⟨S2x4096x1, .f32⟩
  | .hbm, ⟨15, _⟩ => ⟨S2x4096x1, .f32⟩
  | .hbm, ⟨16, _⟩ => ⟨S2x4096x1, .f32⟩
  | .hbm, ⟨17, _⟩ => ⟨S2x4096x512, .f32⟩
  | .hbm, ⟨18, _⟩ => ⟨S2x4096x512, .f32⟩
  | .hbm, ⟨19, _⟩ => ⟨S1x1x512, .f32⟩
  | .hbm, ⟨20, _⟩ => ⟨S2x4096x512, .f32⟩
  | .hbm, ⟨21, _⟩ => ⟨S2x4096x512, .f32⟩
  | .hbm, ⟨22, _⟩ => ⟨S2x4096x64, .f32⟩
  | .hbm, ⟨23, _⟩ => ⟨S2x4096x1x64, .f32⟩
  | .hbm, ⟨24, _⟩ => ⟨S32, .f32⟩
  | .hbm, ⟨25, _⟩ => ⟨S32, .f32⟩
  | .hbm, ⟨26, _⟩ => ⟨S_, .f32⟩
  | .hbm, ⟨27, _⟩ => ⟨S32, .f32⟩
  | .hbm, ⟨28, _⟩ => ⟨S32, .f32⟩
  | .hbm, ⟨29, _⟩ => ⟨S_, .f32⟩
  | .hbm, ⟨30, _⟩ => ⟨S32, .f32⟩
  | .hbm, ⟨31, _⟩ => ⟨S32, .f32⟩
  | .hbm, ⟨32, _⟩ => ⟨S2x4096, .f32⟩
  | .hbm, ⟨33, _⟩ => ⟨S2x4096x1, .f32⟩
  | .hbm, ⟨34, _⟩ => ⟨S1x1x32, .f32⟩
  | .hbm, ⟨35, _⟩ => ⟨S2x4096x32, .f32⟩
  | .hbm, ⟨36, _⟩ => ⟨S2x4096x32, .f32⟩
  | .hbm, ⟨37, _⟩ => ⟨S2x4096x32, .f32⟩
  | .hbm, ⟨38, _⟩ => ⟨S2x4096x32, .f32⟩
  | .hbm, ⟨39, _⟩ => ⟨S2x4096x1x32, .f32⟩
  | .hbm, ⟨40, _⟩ => ⟨S2x4096x32, .f32⟩
  | .hbm, ⟨41, _⟩ => ⟨S2x4096x1x32, .f32⟩
  | .hbm, ⟨42, _⟩ => ⟨S2x4096x1x32, .f32⟩
  | .hbm, ⟨43, _⟩ => ⟨S2x4096x1x32, .f32⟩
  | .hbm, ⟨44, _⟩ => ⟨S2x4096x1x32, .f32⟩
  | .hbm, ⟨45, _⟩ => ⟨S2x4096x1x32, .f32⟩
  | .hbm, ⟨46, _⟩ => ⟨S2x4096x1x32, .f32⟩
  | .hbm, ⟨47, _⟩ => ⟨S2x4096x1x32, .f32⟩
  | .hbm, ⟨48, _⟩ => ⟨S2x4096x1x32, .f32⟩
  | .hbm, ⟨49, _⟩ => ⟨S2x4096x1x32, .f32⟩
  | .hbm, ⟨50, _⟩ => ⟨S2x4096x1x64, .f32⟩
  | .hbm, ⟨51, _⟩ => ⟨S2x4096x64, .f32⟩
  | .hbm, ⟨52, _⟩ => ⟨S_, .f32⟩
  | .hbm, ⟨53, _⟩ => ⟨S2x4096x64, .f32⟩
  | .hbm, ⟨54, _⟩ => ⟨S8192x512, .f32⟩
  | .hbm, ⟨55, _⟩ => ⟨S8192x512, .bf16⟩
  | .hbm, ⟨56, _⟩ => ⟨S2x4096x128, .f32⟩
  | .hbm, ⟨57, _⟩ => ⟨S8192x128, .f32⟩
  | .hbm, ⟨58, _⟩ => ⟨S8192x128, .bf16⟩
  | _, _ => ⟨S2x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_2 : Ref sig .tc := ⟨.hbm, 26, rfl⟩
abbrev main_v19 : Ref sig .tc := ⟨.hbm, 27, rfl⟩
abbrev main_v20 : Ref sig .tc := ⟨.hbm, 28, rfl⟩
abbrev main_cst_3 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_cst_4 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩

abbrev nD : Nat := 1
abbrev τ : Topo := Topo.v7x

variable {F : FTy → Type} [FloatOps F]
-- ==== Kernel11.lean ====
abbrev S2x4096x512 : Shape := ⟨3, ![2, 4096, 512]⟩
abbrev S2x4096x64 : Shape := ⟨3, ![2, 4096, 64]⟩
abbrev S512x4096 : Shape := ⟨2, ![512, 4096]⟩
abbrev S512x16x256 : Shape := ⟨3, ![512, 16, 256]⟩
abbrev S512x16x128 : Shape := ⟨3, ![512, 16, 128]⟩
abbrev S512x2048 : Shape := ⟨2, ![512, 2048]⟩
abbrev S8192x64 : Shape := ⟨2, ![8192, 64]⟩
abbrev S_ : Shape := ⟨0, ![]⟩
abbrev S8192x128 : Shape := ⟨2, ![8192, 128]⟩
abbrev S8192x512 : Shape := ⟨2, ![8192, 512]⟩
abbrev S8192x4096 : Shape := ⟨2, ![8192, 4096]⟩
abbrev S1024x512 : Shape := ⟨2, ![1024, 512]⟩
abbrev S512x256 : Shape := ⟨2, ![512, 256]⟩
abbrev S1024x128 : Shape := ⟨2, ![1024, 128]⟩
abbrev S1024x256 : Shape := ⟨2, ![1024, 256]⟩

abbrev nBuf : Space → Nat
  | .hbm => 15
  | .vmem => 8
  | .smem => 0
  | _ => 0

abbrev bufTy : (tb : Table) → Fin (tcTables nBuf tb) → BufTy
  | .hbm, ⟨0, _⟩ => ⟨S2x4096x512, .f32⟩
  | .hbm, ⟨1, _⟩ => ⟨S2x4096x64, .f32⟩
  | .hbm, ⟨2, _⟩ => ⟨S512x4096, .f32⟩
  | .hbm, ⟨3, _⟩ => ⟨S512x16x256, .f32⟩
  | .hbm, ⟨4, _⟩ => ⟨S512x16x128, .f32⟩
  | .hbm, ⟨5, _⟩ => ⟨S512x2048, .f32⟩
  | .hbm, ⟨6, _⟩ => ⟨S512x2048, .bf16⟩
  | .hbm, ⟨7, _⟩ => ⟨S8192x64, .f32⟩
  | .hbm, ⟨8, _⟩ => ⟨S_, .i32⟩
  | .hbm, ⟨9, _⟩ => ⟨S_, .f32⟩
  | .hbm, ⟨10, _⟩ => ⟨S8192x128, .f32⟩
  | .hbm, ⟨11, _⟩ => ⟨S8192x128, .bf16⟩
  | .hbm, ⟨12, _⟩ => ⟨S8192x512, .f32⟩
  | .hbm, ⟨13, _⟩ => ⟨S8192x512, .bf16⟩
  | .hbm, ⟨14, _⟩ => ⟨S8192x4096, .bf16⟩
  | .local _ .vmem, ⟨0, _⟩ => ⟨S1024x512, .bf16⟩
  | .local _ .vmem, ⟨1, _⟩ => ⟨S1024x512, .bf16⟩
  | .local _ .vmem, ⟨2, _⟩ => ⟨S512x256, .bf16⟩
  | .local _ .vmem, ⟨3, _⟩ => ⟨S512x256, .bf16⟩
  | .local _ .vmem, ⟨4, _⟩ => ⟨S1024x128, .bf16⟩
  | .local _ .vmem, ⟨5, _⟩ => ⟨S1024x128, .bf16⟩
  | .local _ .vmem, ⟨6, _⟩ => ⟨S1024x512, .bf16⟩
  | .local _ .vmem, ⟨7, _⟩ => ⟨S1024x512, .bf16⟩
  | _, _ => ⟨S2x4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_c : Ref sig .tc := ⟨.hbm, 8, rfl⟩
abbrev main_call0_v0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference11Ideal.lean ====
abbrev S2x4096x512 : Shape := ⟨3, ![2, 4096, 512]⟩
abbrev S2x4096x64 : Shape := ⟨3, ![2, 4096, 64]⟩
abbrev S512x4096 : Shape := ⟨2, ![512, 4096]⟩
abbrev S2x4096x4096 : Shape := ⟨3, ![2, 4096, 4096]⟩
abbrev S2x4096x16x256 : Shape := ⟨4, ![2, 4096, 16, 256]⟩
abbrev S2x4096x1x64 : Shape := ⟨4, ![2, 4096, 1, 64]⟩
abbrev S2x4096x16x64 : Shape := ⟨4, ![2, 4096, 16, 64]⟩
abbrev S_ : Shape := ⟨0, ![]⟩
abbrev S2x4096x16x128 : Shape := ⟨4, ![2, 4096, 16, 128]⟩
abbrev S8192x4096 : Shape := ⟨2, ![8192, 4096]⟩

abbrev nBuf : Space → Nat
  | .hbm => 13
  | .vmem => 0
  | .smem => 0
  | _ => 0

abbrev bufTy : (tb : Table) → Fin (tcTables nBuf tb) → BufTy
  | .hbm, ⟨0, _⟩ => ⟨S2x4096x512, .f32⟩
  | .hbm, ⟨1, _⟩ => ⟨S2x4096x64, .f32⟩
  | .hbm, ⟨2, _⟩ => ⟨S512x4096, .f32⟩
  | .hbm, ⟨3, _⟩ => ⟨S2x4096x4096, .f32⟩
  | .hbm, ⟨4, _⟩ => ⟨S2x4096x16x256, .f32⟩
  | .hbm, ⟨5, _⟩ => ⟨S2x4096x1x64, .f32⟩
  | .hbm, ⟨6, _⟩ => ⟨S2x4096x16x64, .f32⟩
  | .hbm, ⟨7, _⟩ => ⟨S_, .f32⟩
  | .hbm, ⟨8, _⟩ => ⟨S2x4096x16x64, .f32⟩
  | .hbm, ⟨9, _⟩ => ⟨S2x4096x16x128, .f32⟩
  | .hbm, ⟨10, _⟩ => ⟨S2x4096x16x256, .f32⟩
  | .hbm, ⟨11, _⟩ => ⟨S8192x4096, .f32⟩
  | .hbm, ⟨12, _⟩ => ⟨S8192x4096, .bf16⟩
  | _, _ => ⟨S2x4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]
-- ==== Proof.Attn.Online.lean ====
/- The online softmax over the extended reals: a row's running maximum, sum of weights and weighted sum, block of keys by block
   of keys, and the quotient at the end against the softmax taken at once. No program is read here. -/
module

public import Idealize.ShloMosaic.Lib.Pointwise
public import Idealize.ShloMosaic.PureOps.Ideal.Laws
public import Idealize.ShloMosaic.Init

@[expose] public section

noncomputable section

namespace Cert.Attn

open Idealize.ShloMosaic

/-- The inverse root of the head's depth, 192. -/
def rt : ℝ := (Real.sqrt 192)⁻¹

/-- The score factor is positive. -/
theorem rt_pos : 0 < rt := inv_pos.2 (Real.sqrt_pos.2 (by norm_num))

/-- The scale of the base-two exponent: the inverse root over the logarithm of two. -/
def cst : ℝ := (Real.sqrt 192)⁻¹ * (Real.log 2)⁻¹

/-- The factor in the base-two exponent is positive. -/
theorem cst_pos : 0 < cst := mul_pos rt_pos (inv_pos.2 (Real.log_pos (by norm_num)))

/-- The weight of a score `s` against a running maximum `m`. -/
def wt (m s : EReal) : EReal := Ideal.exp2 ((s - m) * (cst : EReal))

/-- A masked score weighs nothing. -/
theorem wt_bot (m : EReal) : wt m ⊥ = 0 := by
  unfold wt
  rw [EReal.bot_sub, EReal.bot_mul_coe_of_pos cst_pos, Ideal.exp2_bot]

/-- The weight of a real score against a real maximum is the natural exponential of the scaled difference. -/
theorem wt_coe (m s : ℝ) : wt m s = ((Real.exp ((s - m) * rt) : ℝ) : EReal) := by
  unfold wt
  rw [← EReal.coe_sub, ← EReal.coe_mul, Ideal.exp2_coe]
  congr 1
  show (2 : ℝ) ^ ((s - m) * cst) = _
  rw [Real.rpow_def_of_pos (by norm_num)]
  congr 1
  have h : Real.log 2 ≠ 0 := (Real.log_pos (by norm_num)).ne'
  unfold cst rt
  field_simp

/-- Weights chain: moving the maximum from `m` to `m'` multiplies the weight by the weight of `m`. -/
theorem wt_mul {m s : EReal} {m' : ℝ} (h : s ≤ m) (hm : m ≤ m') : wt m' m * wt m s = wt m' s := by
  induction m with
  | bot => rw [le_bot_iff.1 h, wt_bot, wt_bot, zero_mul]
  | top => exact absurd hm (by simp)
  | coe m =>
    induction s with
    | bot => rw [wt_bot, wt_bot, mul_zero]
    | top => exact absurd h (by simp)
    | coe s =>
      rw [wt_coe, wt_coe, wt_coe, ← EReal.coe_mul, ← Real.exp_add]
      congr 3
      ring

/-- A weight of a score not above a real maximum is a nonnegative real. -/
theorem wt_real {s : EReal} {m : ℝ} (h : s ≤ m) : ∃ w : ℝ, 0 ≤ w ∧ wt m s = w := by
  induction s with
  | bot => exact ⟨0, le_rfl, wt_bot _⟩
  | top => exact absurd h (by simp)
  | coe s => exact ⟨_, (Real.exp_pos _).le, wt_coe m s⟩

/-- A nonnegative real distributes over a finite sum of extended reals. -/
theorem coe_mul_sum {ι : Type} (t : Finset ι) (f : ι → EReal) {a : ℝ} (ha : 0 ≤ a) :
    (a : EReal) * ∑ k ∈ t, f k = ∑ k ∈ t, (a : EReal) * f k := by
  classical
  induction t using Finset.induction_on with
  | empty => simp
  | insert k t hk ih =>
    rw [Finset.sum_insert hk, Finset.sum_insert hk, ← ih,
      EReal.left_distrib_of_nonneg_of_ne_top (by exact_mod_cast ha) (EReal.coe_ne_top a)]

/-- A finite sum of reals, as extended reals. -/
theorem coe_sum {ι : Type} (t : Finset ι) (f : ι → ℝ) : ((∑ k ∈ t, f k : ℝ) : EReal) = ∑ k ∈ t, (f k : EReal) := by
  classical
  induction t using Finset.induction_on with
  | empty => simp
  | insert k t hk ih => rw [Finset.sum_insert hk, Finset.sum_insert hk, EReal.coe_add, ih]

/-- The maximum after a block of scores. -/
def stepM {b : ℕ} (s : Fin b → EReal) (m : EReal) : EReal := max m (Finset.univ.fold max ⊥ s)

/-- The sum of weights after a block of scores. -/
def stepL {b : ℕ} (s : Fin b → EReal) (m l : EReal) : EReal :=
  wt (stepM s m) m * l + ∑ k : Fin b, wt (stepM s m) (s k)

/-- The weighted sum after a block of scores and values. -/
def stepA {b : ℕ} (s v : Fin b → EReal) (m a : EReal) : EReal :=
  wt (stepM s m) m * a + ∑ k : Fin b, wt (stepM s m) (s k) * v k

/-- The maximum of the first `n` scores. -/
def mx (S : ℕ → EReal) (n : ℕ) : EReal := (Finset.range n).sup S

/-- The sum of the first `n` weights. -/
def sm (S : ℕ → EReal) (n : ℕ) : EReal := ∑ k ∈ Finset.range n, wt (mx S n) (S k)

/-- The weighted sum of the first `n` values. -/
def ac (S V : ℕ → EReal) (n : ℕ) : EReal := ∑ k ∈ Finset.range n, wt (mx S n) (S k) * V k

/-- Folding by maximum from minus infinity is the supremum. -/
theorem fold_max_eq_sup {ι : Type} (t : Finset ι) (s : ι → EReal) : t.fold max ⊥ s = t.sup s := rfl

/-- A score is at most the maximum of those before the bound. -/
theorem le_mx (S : ℕ → EReal) {n k : ℕ} (h : k < n) : S k ≤ mx S n := Finset.le_sup (Finset.mem_range.2 h)

/-- The maximum of the first `n + b` scores, a block after the first `n`. -/
theorem mx_add (S : ℕ → EReal) (n b : ℕ) (s : Fin b → EReal) (hs : ∀ k, s k = S (n + k)) :
    stepM s (mx S n) = mx S (n + b) := by
  unfold stepM mx
  rw [fold_max_eq_sup]
  apply le_antisymm
  · refine max_le (Finset.sup_mono (Finset.range_mono (Nat.le_add_right n b))) (Finset.sup_le fun k _ => ?_)
    rw [hs]
    exact Finset.le_sup (Finset.mem_range.2 (by have := k.isLt; omega))
  · refine Finset.sup_le fun k hk => ?_
    rw [Finset.mem_range] at hk
    by_cases hn : k < n
    · exact le_max_of_le_left (Finset.le_sup (Finset.mem_range.2 hn))
    · refine le_max_of_le_right ?_
      have e : S k = s ⟨k - n, by omega⟩ := by rw [hs]; congr 1; simp; omega
      rw [e]
      exact Finset.le_sup (Finset.mem_univ _)

/-- The running maximum grows. -/
theorem mx_mono (S : ℕ → EReal) {n n' : ℕ} (h : n ≤ n') : mx S n ≤ mx S n' := Finset.sup_mono (Finset.range_mono h)

/-- One block carries the weighted sum of the first `n` values to that of the first `n + b`. -/
theorem ac_add (S V : ℕ → EReal) (n b : ℕ) (s v : Fin b → EReal) (hs : ∀ k, s k = S (n + k)) (hv : ∀ k, v k = V (n + k))
    {M : ℝ} (hM : mx S (n + b) = M) : stepA s v (mx S n) (ac S V n) = ac S V (n + b) := by
  unfold stepA
  rw [mx_add S n b s hs, hM]
  obtain ⟨a, ha, hw⟩ := wt_real (m := M) (s := mx S n) (hM ▸ mx_mono S (Nat.le_add_right n b))
  unfold ac
  rw [hM, hw, coe_mul_sum _ _ ha, Finset.sum_range_add, Finset.sum_range (n := b)]
  congr 1
  · refine Finset.sum_congr rfl fun k hk => ?_
    rw [← mul_assoc, ← hw, wt_mul (le_mx S (Finset.mem_range.1 hk)) (hM ▸ mx_mono S (Nat.le_add_right n b))]
  · exact Finset.sum_congr rfl fun k _ => by rw [hs, hv]

/-- The weighted sum of ones is the sum of weights. -/
theorem sm_eq_ac (S : ℕ → EReal) (n : ℕ) : sm S n = ac S (fun _ => 1) n := by
  unfold sm ac
  simp only [mul_one]

/-- One block carries the sum of the first `n` weights to that of the first `n + b`. -/
theorem sm_add (S : ℕ → EReal) (n b : ℕ) (s : Fin b → EReal) (hs : ∀ k, s k = S (n + k))
    {M : ℝ} (hM : mx S (n + b) = M) : stepL s (mx S n) (sm S n) = sm S (n + b) := by
  have h := ac_add S (fun _ => 1) n b s (fun _ => 1) hs (fun _ => rfl) hM
  unfold stepA at h
  simp only [mul_one] at h
  unfold stepL
  rw [sm_eq_ac, sm_eq_ac, ← h]

/-- The maximum of no scores. -/
theorem mx_zero (S : ℕ → EReal) : mx S 0 = ⊥ := by simp [mx]
/-- The sum of no weights. -/
theorem sm_zero (S : ℕ → EReal) : sm S 0 = 0 := by simp [sm]
/-- The weighted sum of no values. -/
theorem ac_zero (S V : ℕ → EReal) : ac S V 0 = 0 := by simp [ac]

/-- The maximum is one of the scores. -/
theorem exists_mx (S : ℕ → EReal) {n : ℕ} (hn : 0 < n) : ∃ k, k < n ∧ S k = mx S n := by
  obtain ⟨k, hk, e⟩ := Finset.exists_mem_eq_sup (Finset.range n) ⟨0, Finset.mem_range.2 hn⟩ S
  exact ⟨k, Finset.mem_range.1 hk, e.symm⟩

/-- Scores that are real or masked, one of them real, have a real maximum. -/
theorem mx_real (S : ℕ → EReal) {n j : ℕ} (hS : ∀ k, k < n → S k = ⊥ ∨ ∃ x : ℝ, S k = x) (hj : j < n) {y : ℝ} (hy : S j = y) :
    ∃ M : ℝ, mx S n = M := by
  obtain ⟨k, hk, e⟩ := exists_mx S (by omega : 0 < n)
  rcases hS k hk with h | ⟨x, h⟩
  · have := le_mx S hj
    rw [← e, h, hy] at this
    exact absurd this (by simp)
  · exact ⟨x, by rw [← e, h]⟩

/-- THE QUOTIENT IS THE SOFTMAX: the weighted sum of the first `n` values over the sum of weights, the scores from `n` on
    masked, is the sum over all `N` keys of the value weighted by its natural exponential over the exponentials' sum. -/
theorem quotient_eq (S V : ℕ → EReal) {n N : ℕ} (hn : 0 < n) (hN : n ≤ N) (hmask : ∀ k, n ≤ k → k < N → S k = ⊥) {M : ℝ}
    (hM : mx S n = M) (R : Fin N → EReal) (hR : ∀ k : Fin N, R k = S k * (rt : EReal)) :
    Ideal.div (ac S V n) (sm S n)
      = ∑ k : Fin N, Ideal.div (Ideal.exp (R k - Finset.univ.fold max ⊥ R)) (∑ k : Fin N, Ideal.exp (R k - Finset.univ.fold max ⊥ R))
          * V k := by
  have hMN : mx S N = M := by
    rw [← hM]
    refine le_antisymm (Finset.sup_le fun k hk => ?_) (mx_mono S hN)
    by_cases h : k < n
    · exact le_mx S h
    · rw [hmask k (by omega) (Finset.mem_range.1 hk)]; exact bot_le
  have hsup : Finset.univ.fold max ⊥ R = ((M * rt : ℝ) : EReal) := by
    rw [fold_max_eq_sup, EReal.coe_mul, ← hMN]
    apply le_antisymm
    · refine Finset.sup_le fun k _ => ?_
      rw [hR]
      exact mul_le_mul_of_nonneg_right (le_mx S k.isLt) (by exact_mod_cast rt_pos.le)
    · obtain ⟨k, hk, e⟩ := exists_mx S (by omega : 0 < N)
      rw [← e]
      have := Finset.le_sup (f := R) (Finset.mem_univ (⟨k, hk⟩ : Fin N))
      rwa [hR] at this
  have hle : ∀ k, k < N → S k ≤ M := fun k hk => hMN ▸ le_mx S hk
  have hexp : ∀ k : Fin N, Ideal.exp (R k - Finset.univ.fold max ⊥ R) = wt M (S k) := by
    intro k
    rw [hsup, hR]
    have := hle k k.isLt
    induction h : S k with
    | bot => rw [EReal.bot_mul_coe_of_pos rt_pos, EReal.bot_sub, Ideal.exp_bot, wt_bot]
    | top => rw [h] at this; exact absurd this (by simp)
    | coe s =>
      rw [wt_coe, ← EReal.coe_mul, ← EReal.coe_sub, Ideal.exp_coe]
      congr 3
      ring
  simp only [hexp]
  choose! w hw0 hw using fun k (hk : k < N) => wt_real (hle k hk)
  have hsm : sm S n = ((∑ k ∈ Finset.range N, w k : ℝ) : EReal) := by
    unfold sm
    rw [hM, coe_sum, ← Finset.sum_subset (Finset.range_mono hN)]
    · exact Finset.sum_congr rfl fun k hk => hw k (by have := Finset.mem_range.1 hk; omega)
    · intro k hk hk'
      rw [Finset.mem_range] at hk hk'
      rw [← hw k hk, hmask k (by omega) hk, wt_bot]
  have hfin : ∑ k : Fin N, wt M (S k) = sm S n := by
    rw [hsm, coe_sum, Finset.sum_range]
    exact Finset.sum_congr rfl fun k _ => hw k k.isLt
  rw [hfin, hsm]
  generalize hL : (∑ k ∈ Finset.range N, w k) = L
  have hpos : 0 < L := by
    obtain ⟨k, hk, e⟩ := exists_mx S hn
    rw [← hL]
    refine Finset.sum_pos' (fun j hj => hw0 j (Finset.mem_range.1 hj)) ⟨k, Finset.mem_range.2 (by omega), ?_⟩
    have h1 := hw k (by omega)
    rw [e, hM, wt_coe] at h1
    have h2 : Real.exp ((M - M) * rt) = w k := by exact_mod_cast h1
    rw [← h2]
    exact Real.exp_pos _
  rw [Ideal.div_coe hpos.ne']
  simp only [Ideal.div_coe hpos.ne']
  rw [mul_comm (ac S V n), ac, hM, coe_mul_sum _ _ (by positivity)]
  rw [← Finset.sum_range (f := fun k => wt M (S k) * ((1 / L : ℝ) : EReal) * V k)]
  rw [Finset.sum_subset (Finset.range_mono hN)]
  · exact Finset.sum_congr rfl fun k _ => by rw [mul_left_comm, mul_assoc]
  · intro k hk hk'
    rw [Finset.mem_range] at hk hk'
    rw [hmask k (by omega) hk, wt_bot, zero_mul, mul_zero]

end Cert.Attn

end
-- ==== Proof.Attn.Payloads.lean ====
/- The kernel's vector operations on a block, read at an index: scores, masked scores, and the three carried values' updates. -/
module

public import proofs.«01_k».proof.Proof.Gen.KernelIdeal.Skeleton
public import proofs.«01_k».proof.Proof.Attn.Online

@[expose] public section

set_option maxRecDepth 16384

noncomputable section

namespace Cert.Attn

open Idealize.ShloMosaic Cert.KernelIdeal Cert.KernelIdeal.Gen

/-- The score of query row `r` against key row `c` of a block. -/
def sc (q k : FVec Ideal S1024x256 .bf16) (r c : Fin 1024) : EReal :=
  ∑ d : Fin 256, q (ix2 r d) * k (ix2 c d)

/-- The score within the diagonal block: masked when the key's chunk of 64 lies after the query's. -/
def msc (q k : FVec Ideal S1024x256 .bf16) (r c : Fin 1024) : EReal :=
  if c.val / 64 ≤ r.val / 64 then sc q k r c else ⊥

/-- The named scale is the scale of the base-two exponent. -/
theorem named_cst : (Named.named κ "scale_log2e" 0x3DD53B95#32 : Ideal .f32) = (cst : EReal) :=
  IdealRules.named_const.ideal_named_scalar _ _ _ _ rfl

/-- The word of minus infinity. -/
theorem ofBits_ninf : Ideal.ofBits .f32 4286578688#32 = ⊥ := by simp [Ideal.ofBits, Ideal.ieee]

/-- The word of zero. -/
theorem ofBits_zero : Ideal.ofBits .f32 0#32 = 0 := by simp [Ideal.ofBits, Ideal.ieee]

/-! ## Rows of a block -/

/-- The maximum of each row, kept as a column. -/
theorem rowMax_apply (s : FVec Ideal S1024x1024 .f32) (r : Fin 1024) :
    shapeCast S1024x1 (multiReduction (F := Ideal) .maximumf [1] S1024 s 0xFF800000#32 reduces_S1024x1024_S1024 (.inl rfl) rfl)
      shapeCasts_S1024_S1024x1 (ix2 r 0) = Finset.univ.fold max ⊥ fun k => s (ix2 r k) := by
  pointwise
  simp only [ofBits_ninf]

/-- The sum of each row, kept as a column. -/
theorem rowSum_apply (s : FVec Ideal S1024x1024 .f32) (r : Fin 1024) :
    shapeCast S1024x1 (multiReduction (F := Ideal) .add [1] S1024 s 0x00000000#32 reduces_S1024x1024_S1024 (.inl rfl) rfl)
      shapeCasts_S1024_S1024x1 (ix2 r 0) = ∑ k, s (ix2 r k) := by
  pointwise

/-- The weights against the values. -/
theorem dotPV_apply (s : FVec Ideal S1024x1024 .bf16) (v : FVec Ideal S1024x128 .bf16) (r : Fin 1024) (d : Fin 128) :
    matmul dot_S1024x1024_S1024x128_S1024x128_1_0_0_1_n_n none s v (constant S1024x128 .f32 0x00000000#32) (ix2 r d)
      = ∑ k, s (ix2 r k) * v (ix2 k d) := by
  pointwise

/-! ## The first head's block -/

/-- First head, block before the diagonal: the tile of products holds the rows' dot products. -/
theorem pay3_apply (q k : FVec Ideal S1024x256 .bf16) (r c : Fin 1024) : k0_pay3 (F := Ideal) q k (ix2 r c) = sc q k r c := by
  unfold k0_pay3 sc
  pointwise

/-- First head, block before the diagonal: the new row maximum. -/
theorem pay4_apply (m : FVec Ideal S1024x1 .f32) (q k : FVec Ideal S1024x256 .bf16) (r : Fin 1024) :
    k0_pay4 m q k (ix2 r 0) = stepM (sc q k r) (m (ix2 r 0)) := by
  unfold k0_pay4 stepM
  refine congrArg (max (m (ix2 r 0))) ((rowMax_apply _ r).trans ?_)
  simp only [pay3_apply]

/-- First head, block before the diagonal: the weight by which the old sums are rescaled. -/
theorem pay5_apply (m : FVec Ideal S1024x1 .f32) (q k : FVec Ideal S1024x256 .bf16) (r : Fin 1024) :
    k0_pay5 m q k (ix2 r 0) = wt (stepM (sc q k r) (m (ix2 r 0))) (m (ix2 r 0)) := by
  unfold k0_pay5 wt
  rw [← pay4_apply]
  generalize k0_pay4 (F := Ideal) m q k = s
  pointwise
  rw [named_cst]
  rfl

/-- First head, block before the diagonal: the weight of one key. -/
theorem pay6_apply (m : FVec Ideal S1024x1 .f32) (q k : FVec Ideal S1024x256 .bf16) (r c : Fin 1024) :
    k0_pay6 m q k (ix2 r c) = wt (stepM (sc q k r) (m (ix2 r 0))) (sc q k r c) := by
  unfold k0_pay6 wt
  rw [← pay4_apply, ← pay3_apply]
  generalize k0_pay4 (F := Ideal) m q k = s
  generalize k0_pay3 (F := Ideal) q k = s'
  pointwise
  rw [named_cst]
  rfl

/-- First head, block before the diagonal: the new sum of weights. -/
theorem pay7_apply (m l : FVec Ideal S1024x1 .f32) (q k : FVec Ideal S1024x256 .bf16) (r : Fin 1024) :
    k0_pay7 m l q k (ix2 r 0) = stepL (sc q k r) (m (ix2 r 0)) (l (ix2 r 0)) := by
  unfold k0_pay7 stepL
  rw [← pay5_apply]
  simp only [← pay6_apply]
  generalize k0_pay5 (F := Ideal) m q k = s
  generalize k0_pay6 (F := Ideal) m q k = s'
  pointwise

/-- First head, block before the diagonal: the new weighted sum of the values. -/
theorem pay8_apply (m : FVec Ideal S1024x1 .f32) (a : FVec Ideal S1024x128 .f32) (q k : FVec Ideal S1024x256 .bf16)
    (v : FVec Ideal S1024x128 .bf16) (r : Fin 1024) (d : Fin 128) :
    k0_pay8 m a q k v (ix2 r d) = stepA (sc q k r) (fun c => v (ix2 c d)) (m (ix2 r 0)) (a (ix2 r d)) := by
  unfold k0_pay8 stepA
  rw [← pay5_apply]
  simp only [← pay6_apply]
  generalize k0_pay5 (F := Ideal) m q k = s
  generalize k0_pay6 (F := Ideal) m q k = s'
  pointwise

/-! ## The second head's block -/

/-- The value tile of the second head is read as it is. -/
theorem pay9_apply (v : FVec Ideal S1024x128 .bf16) : k0_pay9 (F := Ideal) v = v := by
  unfold k0_pay9
  exact shapeCast_self _ _

/-- Second head, block before the diagonal: the tile of products holds the rows' dot products. -/
theorem pay10_apply (q k : FVec Ideal S1024x256 .bf16) (r c : Fin 1024) : k0_pay10 (F := Ideal) q k (ix2 r c) = sc q k r c := by
  unfold k0_pay10 sc
  pointwise

/-- Second head, block before the diagonal: the new row maximum. -/
theorem pay27_apply (m : FVec Ideal S1024x1 .f32) (q k : FVec Ideal S1024x256 .bf16) (r : Fin 1024) :
    k0_pay27 m (k0_pay11 q k) (ix2 r 0) = stepM (sc q k r) (m (ix2 r 0)) := by
  unfold k0_pay27 k0_pay11 stepM
  refine congrArg (max (m (ix2 r 0))) ((rowMax_apply _ r).trans ?_)
  simp only [pay10_apply]

/-- Second head, block before the diagonal: the weight by which the old sums are rescaled. -/
theorem pay28_apply (m : FVec Ideal S1024x1 .f32) (q k : FVec Ideal S1024x256 .bf16) (r : Fin 1024) :
    k0_pay28 m (k0_pay11 q k) (ix2 r 0) = wt (stepM (sc q k r) (m (ix2 r 0))) (m (ix2 r 0)) := by
  unfold k0_pay28 wt
  rw [← pay27_apply]
  generalize k0_pay27 (F := Ideal) m (k0_pay11 q k) = s
  pointwise
  rw [named_cst]
  rfl

/-- Second head, block before the diagonal: the weight of one key. -/
theorem pay29_apply (m : FVec Ideal S1024x1 .f32) (q k : FVec Ideal S1024x256 .bf16) (r c : Fin 1024) :
    k0_pay29 m (k0_pay10 q k) (k0_pay11 q k) (ix2 r c) = wt (stepM (sc q k r) (m (ix2 r 0))) (sc q k r c) := by
  unfold k0_pay29 wt
  rw [← pay27_apply, ← pay10_apply]
  generalize k0_pay27 (F := Ideal) m (k0_pay11 q k) = s
  generalize k0_pay10 (F := Ideal) q k = s'
  pointwise
  rw [named_cst]
  rfl

/-- Second head, block before the diagonal: the new sum of weights. -/
theorem pay30_apply (m l : FVec Ideal S1024x1 .f32) (q k : FVec Ideal S1024x256 .bf16) (r : Fin 1024) :
    k0_pay30 m l (k0_pay10 q k) (k0_pay11 q k) (ix2 r 0) = stepL (sc q k r) (m (ix2 r 0)) (l (ix2 r 0)) := by
  unfold k0_pay30 stepL
  rw [← pay28_apply]
  simp only [← pay29_apply]
  generalize k0_pay28 (F := Ideal) m (k0_pay11 q k) = s
  generalize k0_pay29 (F := Ideal) m (k0_pay10 q k) (k0_pay11 q k) = s'
  pointwise

/-- Second head, block before the diagonal: the new weighted sum of the values. -/
theorem pay31_apply (m : FVec Ideal S1024x1 .f32) (a : FVec Ideal S1024x128 .f32) (q k : FVec Ideal S1024x256 .bf16)
    (v : FVec Ideal S1024x128 .bf16) (r : Fin 1024) (d : Fin 128) :
    k0_pay31 m a (k0_pay9 v) (k0_pay10 q k) (k0_pay11 q k) (ix2 r d)
      = stepA (sc q k r) (fun c => v (ix2 c d)) (m (ix2 r 0)) (a (ix2 r d)) := by
  unfold k0_pay31 stepA
  rw [← pay28_apply, pay9_apply]
  simp only [← pay29_apply]
  generalize k0_pay28 (F := Ideal) m (k0_pay11 q k) = s
  generalize k0_pay29 (F := Ideal) m (k0_pay10 q k) (k0_pay11 q k) = s'
  pointwise

/-! ## The diagonal block -/

/-- The block's mask compares the chunks of 64 rows. -/
theorem mask_iff (c r : Fin 1024) :
    IntOp.cmpi .sle (IntOp.shrui .vector (BitVec.ofNat 32 c.val) 6#32) (IntOp.shrui .vector (BitVec.ofNat 32 r.val) 6#32)
      = if c.val / 64 ≤ r.val / 64 then 1#1 else 0#1 := by
  have h : ∀ x : Fin 1024, IntOp.shrui .vector (BitVec.ofNat 32 x.val) 6#32 = BitVec.ofNat 32 (x.val / 64) := by decide +kernel
  have h' : ∀ x y : Fin 16, IntOp.cmpi .sle (BitVec.ofNat 32 x.val) (BitVec.ofNat 32 y.val)
      = if x.val ≤ y.val then 1#1 else 0#1 := by decide +kernel
  rw [h, h]
  exact h' ⟨c.val / 64, by omega⟩ ⟨r.val / 64, by omega⟩

/-- First head, diagonal block: the tile holds the dot products, and minus infinity past the row's chunk. -/
theorem pay38_apply (q k : FVec Ideal S1024x256 .bf16) (r c : Fin 1024) : k0_pay38 (F := Ideal) q k (ix2 r c) = msc q k r c := by
  unfold k0_pay38 msc sc
  pointwise
  rw [mask_iff, ofBits_ninf]
  split_ifs <;> rfl

/-- First head, diagonal block: the new row maximum. -/
theorem pay39_apply (m : FVec Ideal S1024x1 .f32) (q k : FVec Ideal S1024x256 .bf16) (r : Fin 1024) :
    k0_pay39 m q k (ix2 r 0) = stepM (msc q k r) (m (ix2 r 0)) := by
  unfold k0_pay39 stepM
  refine congrArg (max (m (ix2 r 0))) ((rowMax_apply _ r).trans ?_)
  simp only [pay38_apply]

/-- First head, diagonal block: the weight by which the old sums are rescaled. -/
theorem pay41_apply (m : FVec Ideal S1024x1 .f32) (q k : FVec Ideal S1024x256 .bf16) (r : Fin 1024) :
    k0_pay41 (k0_pay40 m q k) (ix2 r 0) = wt (stepM (msc q k r) (m (ix2 r 0))) (m (ix2 r 0)) := by
  unfold k0_pay41 k0_pay40 wt
  rw [← pay39_apply]
  generalize k0_pay39 (F := Ideal) m q k = s
  pointwise
  rw [named_cst]
  rfl

/-- First head, diagonal block: the weight of one key. -/
theorem pay42_apply (m : FVec Ideal S1024x1 .f32) (q k : FVec Ideal S1024x256 .bf16) (r c : Fin 1024) :
    k0_pay42 (k0_pay38 q k) (k0_pay39 m q k) (ix2 r c) = wt (stepM (msc q k r) (m (ix2 r 0))) (msc q k r c) := by
  unfold k0_pay42 wt
  rw [← pay39_apply, ← pay38_apply]
  generalize k0_pay39 (F := Ideal) m q k = s
  generalize k0_pay38 (F := Ideal) q k = s'
  pointwise
  rw [named_cst]
  rfl

/-- First head, diagonal block: the new sum of weights. -/
theorem pay43_apply (m l : FVec Ideal S1024x1 .f32) (q k : FVec Ideal S1024x256 .bf16) (r : Fin 1024) :
    k0_pay43 l (k0_pay38 q k) (k0_pay39 m q k) (k0_pay40 m q k) (ix2 r 0) = stepL (msc q k r) (m (ix2 r 0)) (l (ix2 r 0)) := by
  unfold k0_pay43 stepL
  rw [← pay41_apply]
  simp only [← pay42_apply]
  generalize k0_pay41 (F := Ideal) (k0_pay40 m q k) = s
  generalize k0_pay42 (F := Ideal) (k0_pay38 q k) (k0_pay39 m q k) = s'
  pointwise

/-- First head, diagonal block: the new weighted sum of the values. -/
theorem pay44_apply (m : FVec Ideal S1024x1 .f32) (a : FVec Ideal S1024x128 .f32) (q k : FVec Ideal S1024x256 .bf16)
    (v : FVec Ideal S1024x128 .bf16) (r : Fin 1024) (d : Fin 128) :
    k0_pay44 a (k0_pay37 v) (k0_pay38 q k) (k0_pay39 m q k) (k0_pay40 m q k) (ix2 r d)
      = stepA (msc q k r) (fun c => v (ix2 c d)) (m (ix2 r 0)) (a (ix2 r d)) := by
  unfold k0_pay44 k0_pay37 stepA
  rw [← pay41_apply]
  simp only [← pay42_apply]
  generalize k0_pay41 (F := Ideal) (k0_pay40 m q k) = s
  generalize k0_pay42 (F := Ideal) (k0_pay38 q k) (k0_pay39 m q k) = s'
  pointwise

/-- Second head, diagonal block: the tile holds the dot products, and minus infinity past the row's chunk. -/
theorem pay46_apply (q k : FVec Ideal S1024x256 .bf16) (r c : Fin 1024) : k0_pay46 (F := Ideal) q k (ix2 r c) = msc q k r c := by
  unfold k0_pay46 msc sc
  pointwise
  rw [mask_iff, ofBits_ninf]
  split_ifs <;> rfl

/-- Second head, diagonal block: the new row maximum. -/
theorem pay47_apply (m : FVec Ideal S1024x1 .f32) (q k : FVec Ideal S1024x256 .bf16) (r : Fin 1024) :
    k0_pay47 m q k (ix2 r 0) = stepM (msc q k r) (m (ix2 r 0)) := by
  unfold k0_pay47 stepM
  refine congrArg (max (m (ix2 r 0))) ((rowMax_apply _ r).trans ?_)
  simp only [pay46_apply]

/-- Second head, diagonal block: the weight by which the old sums are rescaled. -/
theorem pay48_apply (m : FVec Ideal S1024x1 .f32) (q k : FVec Ideal S1024x256 .bf16) (r : Fin 1024) :
    k0_pay48 m q k (ix2 r 0) = wt (stepM (msc q k r) (m (ix2 r 0))) (m (ix2 r 0)) := by
  unfold k0_pay48 wt
  rw [← pay47_apply]
  generalize k0_pay47 (F := Ideal) m q k = s
  pointwise
  rw [named_cst]
  rfl

/-- Second head, diagonal block: the weight of one key. -/
theorem pay49_apply (m : FVec Ideal S1024x1 .f32) (q k : FVec Ideal S1024x256 .bf16) (r c : Fin 1024) :
    exp2 (mulf (k0_pay49 m q k) (k0_pay50 (F := Ideal))) (ix2 r c) = wt (stepM (msc q k r) (m (ix2 r 0))) (msc q k r c) := by
  unfold k0_pay49 k0_pay50 wt
  rw [← pay47_apply, ← pay46_apply]
  generalize k0_pay47 (F := Ideal) m q k = s
  generalize k0_pay46 (F := Ideal) q k = s'
  pointwise
  rw [named_cst]
  rfl

/-! ## The quotients -/

/-- What is stored for the first head: the weighted sum over the sum of weights. -/
theorem pay1_apply (l : FVec Ideal S1024x1 .f32) (a : FVec Ideal S1024x128 .f32) (r : Fin 1024) (d : Fin 128) :
    k0_pay1 l a (ix2 r d) = Ideal.div (a (ix2 r d)) (l (ix2 r 0)) := by
  unfold k0_pay1
  pointwise

/-- What is stored for the second head, its diagonal step taken at the store. -/
theorem pay2_apply (m l : FVec Ideal S1024x1 .f32) (a : FVec Ideal S1024x128 .f32) (q k : FVec Ideal S1024x256 .bf16)
    (v : FVec Ideal S1024x128 .bf16) (r : Fin 1024) (d : Fin 128) :
    k0_pay2 l a (k0_pay45 v) (k0_pay48 m q k) (k0_pay49 m q k) k0_pay50 (ix2 r d)
      = Ideal.div (stepA (msc q k r) (fun c => v (ix2 c d)) (m (ix2 r 0)) (a (ix2 r d)))
          (stepL (msc q k r) (m (ix2 r 0)) (l (ix2 r 0))) := by
  unfold k0_pay2 k0_pay45 stepA stepL
  rw [← pay48_apply]
  simp only [← pay49_apply]
  generalize k0_pay48 (F := Ideal) m q k = s
  generalize exp2 (mulf (k0_pay49 (F := Ideal) m q k) k0_pay50) = s'
  pointwise

/-! ## The carried values at the start -/

/-- The row maxima start at minus infinity. -/
theorem pay21_apply (r : Fin 1024) : k0_pay21 (F := Ideal) (ix2 r 0) = ⊥ := ofBits_ninf
/-- The sums of weights start at zero. -/
theorem pay22_apply (r : Fin 1024) : k0_pay22 (F := Ideal) (ix2 r 0) = 0 := ofBits_zero
/-- The weighted sums start at zero. -/
theorem pay23_apply (r : Fin 1024) (d : Fin 128) : k0_pay23 (F := Ideal) (ix2 r d) = 0 := ofBits_zero
/-- The row maxima start at minus infinity. -/
theorem pay24_apply (r : Fin 1024) : k0_pay24 (F := Ideal) (ix2 r 0) = ⊥ := ofBits_ninf
/-- The sums of weights start at zero. -/
theorem pay25_apply (r : Fin 1024) : k0_pay25 (F := Ideal) (ix2 r 0) = 0 := ofBits_zero
/-- The weighted sums start at zero. -/
theorem pay26_apply (r : Fin 1024) (d : Fin 128) : k0_pay26 (F := Ideal) (ix2 r d) = 0 := ofBits_zero

end Cert.Attn

end
-- ==== Proof.Attn.Blocks.lean ====
/- One grid point of the attention call: the carried values block by block, and what the point writes, in terms of the scores
   and values of its operands' blocks. -/
module

public import proofs.«01_k».proof.Proof.Gen.KernelIdeal.Value
public import proofs.«01_k».proof.Proof.Attn.Payloads
public import Idealize.ShloMosaic.Lib.Pipeline.ValueKit.Tiles

@[expose] public section

set_option maxRecDepth 16384

noncomputable section

namespace Cert.Attn

open Idealize.ShloMosaic Cert.KernelIdeal Cert.KernelIdeal.Gen Idealize.SL.Sem

/-- A rectangle of a matrix, loaded and read at an entry. -/
theorem ld_ix2 {R C R' C' : ℕ} {e : EltTy} (X : (⟨2, ![R, C]⟩ : Shape).Idx → Elt Ideal e) (o p : ℕ) (inb) (r : Fin R') (c : Fin C')
    (r' : Fin R) (c' : Fin C) (hr : r'.val = o + r) (hc : c'.val = p + c) :
    View.ld X (Rect.unit (s := ⟨2, ![R, C]⟩) ![o, p] ![R', C'] inb) (ix2 r c) = X (ix2 r' c') := by
  refine View.ld_unit_apply_of X _ _ _ _ _ fun a => ?_
  fin_cases a
  · exact hr
  · exact hc

/-- The dot product of query row `r` and key row `k` of head `hh` of the pair. -/
def dotb (x0 : FVec Ideal S1024x512 .bf16) (x1 : FVec Ideal S4096x512 .bf16) (hh : Fin 2) (r : Fin 1024) (k : Fin 4096) : EReal :=
  ∑ d : Fin 256, x0 (ix2 r ⟨256 * hh.val + d.val, by omega⟩) * x1 (ix2 k ⟨256 * hh.val + d.val, by omega⟩)

/-- The masked scores of row `r` of query block `n`, key by key. -/
def scb (x0 : FVec Ideal S1024x512 .bf16) (x1 : FVec Ideal S4096x512 .bf16) (hh : Fin 2) (n : ℕ) (r : Fin 1024) (k : ℕ) : EReal :=
  if h : k < 4096 then if k / 64 ≤ (1024 * n + r.val) / 64 then dotb x0 x1 hh r ⟨k, h⟩ else ⊥ else ⊥

/-- Column `d` of the values of head `hh` of the pair, key by key. -/
def vb (x2 : FVec Ideal S4096x256 .bf16) (hh : Fin 2) (d : Fin 128) (k : ℕ) : EReal :=
  if h : k < 4096 then x2 (ix2 ⟨k, h⟩ ⟨128 * hh.val + d.val, by omega⟩) else 0

/-- The scores are real or masked. -/
theorem scb_real {x0 : FVec Ideal S1024x512 .bf16} {x1 : FVec Ideal S4096x512 .bf16} {hh : Fin 2} {r : Fin 1024}
    (hR : ∀ k, ∃ x : ℝ, dotb x0 x1 hh r k = x) (n k : ℕ) : scb x0 x1 hh n r k = ⊥ ∨ ∃ x : ℝ, scb x0 x1 hh n r k = x := by
  unfold scb
  split_ifs
  · exact Or.inr (hR _)
  · exact Or.inl rfl
  · exact Or.inl rfl

/-- The running maximum past the first key is real. -/
theorem mx_scb_real {x0 : FVec Ideal S1024x512 .bf16} {x1 : FVec Ideal S4096x512 .bf16} {hh : Fin 2} {r : Fin 1024}
    (hR : ∀ k, ∃ x : ℝ, dotb x0 x1 hh r k = x) (n m : ℕ) (hm : 0 < m) : ∃ M : ℝ, mx (scb x0 x1 hh n r) m = M := by
  obtain ⟨y, hy⟩ := hR 0
  refine mx_real _ (fun k _ => scb_real hR n k) hm (y := y) ?_
  unfold scb
  rw [dif_pos (by omega), if_pos (by omega)]
  exact hy

/-! ## Blocks of scores and values -/

/-- A block's load of queries, keys and values for head `hh`. -/
theorem sc_block (x0 : FVec Ideal S1024x512 .bf16) (x1 : FVec Ideal S4096x512 .bf16) (hh : Fin 2) (o : ℕ) (q k : FVec Ideal S1024x256 .bf16)
    (hq : ∀ r d, q (ix2 r d) = x0 (ix2 r ⟨256 * hh.val + d.val, by omega⟩)) (ho : o + 1024 ≤ 4096)
    (hk : ∀ c d, k (ix2 c d) = x1 (ix2 ⟨o + c.val, by omega⟩ ⟨256 * hh.val + d.val, by omega⟩)) (r c : Fin 1024) :
    sc q k r c = dotb x0 x1 hh r ⟨o + c.val, by omega⟩ := by
  unfold sc dotb
  exact Finset.sum_congr rfl fun d _ => by rw [hq, hk]

/-- A block before the diagonal is not masked. -/
theorem sc_scb (x0 : FVec Ideal S1024x512 .bf16) (x1 : FVec Ideal S4096x512 .bf16) (hh : Fin 2) (n j : ℕ) (hj : j < n) (hn : n < 4)
    (q k : FVec Ideal S1024x256 .bf16) (hq : ∀ r d, q (ix2 r d) = x0 (ix2 r ⟨256 * hh.val + d.val, by omega⟩))
    (hk : ∀ c d, k (ix2 c d) = x1 (ix2 ⟨1024 * j + c.val, by omega⟩ ⟨256 * hh.val + d.val, by omega⟩)) (r c : Fin 1024) :
    sc q k r c = scb x0 x1 hh n r (1024 * j + c.val) := by
  rw [sc_block x0 x1 hh (1024 * j) q k hq (by omega) hk]
  unfold scb
  rw [dif_pos (by omega), if_pos (by omega)]

/-- The diagonal block is masked by chunks of its own rows. -/
theorem msc_scb (x0 : FVec Ideal S1024x512 .bf16) (x1 : FVec Ideal S4096x512 .bf16) (hh : Fin 2) (n : ℕ) (hn : n < 4)
    (q k : FVec Ideal S1024x256 .bf16) (hq : ∀ r d, q (ix2 r d) = x0 (ix2 r ⟨256 * hh.val + d.val, by omega⟩))
    (hk : ∀ c d, k (ix2 c d) = x1 (ix2 ⟨1024 * n + c.val, by omega⟩ ⟨256 * hh.val + d.val, by omega⟩)) (r c : Fin 1024) :
    msc q k r c = scb x0 x1 hh n r (1024 * n + c.val) := by
  unfold msc scb
  rw [sc_block x0 x1 hh (1024 * n) q k hq (by omega) hk, dif_pos (by omega)]
  by_cases h : c.val / 64 ≤ r.val / 64
  · rw [if_pos h, if_pos (by omega)]
  · rw [if_neg h, if_neg (by omega)]

/-! ## The loop over the blocks before the diagonal -/

/-- The six carried values: per head of the pair the running maximum, the sum of weights and the weighted sum. -/
abbrev Car : Type :=
  FVec Ideal S1024x1 .f32 × FVec Ideal S1024x1 .f32 × FVec Ideal S1024x128 .f32 × FVec Ideal S1024x1 .f32 × FVec Ideal S1024x1 .f32
    × FVec Ideal S1024x128 .f32

/-- The carried values after `j` blocks of keys. -/
def Inv (x0 : FVec Ideal S1024x512 .bf16) (x1 : FVec Ideal S4096x512 .bf16) (x2 : FVec Ideal S4096x256 .bf16) (n j : ℕ) (a : Car) : Prop :=
  ∀ r : Fin 1024,
    a.1 (ix2 r 0) = mx (scb x0 x1 0 n r) (1024 * j) ∧ a.2.1 (ix2 r 0) = sm (scb x0 x1 0 n r) (1024 * j)
      ∧ (∀ d, a.2.2.1 (ix2 r d) = ac (scb x0 x1 0 n r) (vb x2 0 d) (1024 * j))
      ∧ a.2.2.2.1 (ix2 r 0) = mx (scb x0 x1 1 n r) (1024 * j) ∧ a.2.2.2.2.1 (ix2 r 0) = sm (scb x0 x1 1 n r) (1024 * j)
      ∧ ∀ d, a.2.2.2.2.2 (ix2 r d) = ac (scb x0 x1 1 n r) (vb x2 1 d) (1024 * j)

/-- The carried values at the start. -/
theorem inv_init (x0 : FVec Ideal S1024x512 .bf16) (x1 : FVec Ideal S4096x512 .bf16) (x2 : FVec Ideal S4096x256 .bf16) (n : ℕ) :
    Inv x0 x1 x2 n 0 (k0_pay21, k0_pay22, k0_pay23, k0_pay24, k0_pay25, k0_pay26) := by
  intro r
  simp only [Nat.mul_zero, mx_zero, sm_zero, ac_zero]
  exact ⟨pay21_apply r, pay22_apply r, pay23_apply r, pay24_apply r, pay25_apply r, pay26_apply r⟩

/-- One block of keys before the diagonal. -/
theorem inv_step (x0 : FVec Ideal S1024x512 .bf16) (x1 : FVec Ideal S4096x512 .bf16) (x2 : FVec Ideal S4096x256 .bf16)
    (hR : ∀ hh r k, ∃ x : ℝ, dotb x0 x1 hh r k = x) (n j : ℕ) (hj : j < n) (hn : n < 4) (a : Car) (ha : Inv x0 x1 x2 n j a)
    (q0 k0 q1 k1 : FVec Ideal S1024x256 .bf16) (v0 v1 : FVec Ideal S1024x128 .bf16)
    (hq0 : ∀ r d, q0 (ix2 r d) = x0 (ix2 r ⟨256 * (0 : Fin 2).val + d.val, by omega⟩))
    (hk0 : ∀ c d, k0 (ix2 c d) = x1 (ix2 ⟨1024 * j + c.val, by omega⟩ ⟨256 * (0 : Fin 2).val + d.val, by omega⟩))
    (hv0 : ∀ c d, v0 (ix2 c d) = x2 (ix2 ⟨1024 * j + c.val, by omega⟩ ⟨128 * (0 : Fin 2).val + d.val, by omega⟩))
    (hq1 : ∀ r d, q1 (ix2 r d) = x0 (ix2 r ⟨256 * (1 : Fin 2).val + d.val, by omega⟩))
    (hk1 : ∀ c d, k1 (ix2 c d) = x1 (ix2 ⟨1024 * j + c.val, by omega⟩ ⟨256 * (1 : Fin 2).val + d.val, by omega⟩))
    (hv1 : ∀ c d, v1 (ix2 c d) = x2 (ix2 ⟨1024 * j + c.val, by omega⟩ ⟨128 * (1 : Fin 2).val + d.val, by omega⟩)) :
    Inv x0 x1 x2 n (j + 1)
      (k0_pay4 a.1 q0 k0, k0_pay7 a.1 a.2.1 q0 k0, k0_pay8 a.1 a.2.2.1 q0 k0 v0, k0_pay27 a.2.2.2.1 (k0_pay11 q1 k1),
        k0_pay30 a.2.2.2.1 a.2.2.2.2.1 (k0_pay10 q1 k1) (k0_pay11 q1 k1),
        k0_pay31 a.2.2.2.1 a.2.2.2.2.2 (k0_pay9 v1) (k0_pay10 q1 k1) (k0_pay11 q1 k1)) := by
  intro r
  obtain ⟨a1, a2, a3, a4, a5, a6⟩ := ha r
  obtain ⟨M0, hM0⟩ := mx_scb_real (hR 0 r) n (1024 * j + 1024) (by omega)
  obtain ⟨M1, hM1⟩ := mx_scb_real (hR 1 r) n (1024 * j + 1024) (by omega)
  have s0 := sc_scb x0 x1 0 n j hj hn q0 k0 hq0 hk0 r
  have s1 := sc_scb x0 x1 1 n j hj hn q1 k1 hq1 hk1 r
  rw [show 1024 * (j + 1) = 1024 * j + 1024 by ring]
  refine ⟨(pay4_apply ..).trans ?_, (pay7_apply ..).trans ?_, fun d => (pay8_apply ..).trans ?_, (pay27_apply ..).trans ?_,
    (pay30_apply ..).trans ?_, fun d => (pay31_apply ..).trans ?_⟩
  · rw [a1, mx_add _ _ 1024 _ s0]
  · rw [a1, a2, sm_add _ _ 1024 _ s0 hM0]
  · rw [a1, a3, ac_add _ (vb x2 0 d) _ 1024 _ _ s0 _ hM0]
    intro k
    rw [hv0]; unfold vb; rw [dif_pos (by omega)]
  · rw [a4, mx_add _ _ 1024 _ s1]
  · rw [a4, a5, sm_add _ _ 1024 _ s1 hM1]
  · rw [a4, a6, ac_add _ (vb x2 1 d) _ 1024 _ _ s1 _ hM1]
    intro k
    rw [hv1]; unfold vb; rw [dif_pos (by omega)]

/-! ## The loop's words -/

/-- The loop over the blocks before the diagonal runs once for each of them. -/
theorem trips1 (i : grid0.Coords) : (k0_t1_loop i).trips = (i 2).val := by
  have h : ∀ a : Fin 4, Scf.trips (0#32)
      (Scalar.addi (0#32) (Scalar.muli (Scalar.divsi (Scalar.subi (BitVec.ofNat 32 a.val) 0#32) 1#32) 1#32)) 1#32 = a.val := by
    decide +kernel
  exact h (i 2)

/-- The loop over the remaining blocks is empty. -/
theorem trips2 (i : grid0.Coords) : (k0_t2_loop i).trips = 0 := by
  have := (k0_t2_abs i).2.1
  omega

/-- The row at which the loop reads the key block of its turn. -/
theorem off_iv (k : Fin 4) : BitVec.toNat (Scalar.indexCast (Scalar.muli (Scf.iv 0#32 1#32 k.val) 1024#32)) = 1024 * k.val := by
  revert k
  decide +kernel

/-- The row at which the diagonal key block is read. -/
theorem off_i (k : Fin 4) : BitVec.toNat (Scalar.indexCast (Scalar.muli (BitVec.ofNat 32 k.val) 1024#32)) = 1024 * k.val := by
  revert k
  decide +kernel

section Point

variable (c : Dev nD) (i : grid0.Coords) (arg3 : Memref sig .tc .vmem S1024x512 .bf16) (harg3 : arg3.IsWhole)
  (arg4 : Memref sig .tc .vmem S4096x512 .bf16) (harg4 : arg4.IsWhole) (arg5 : Memref sig .tc .vmem S4096x256 .bf16) (harg5 : arg5.IsWhole)
  (arg6 : Memref sig .tc .vmem S1024x256 .bf16) (harg6 : arg6.IsWhole)
  (x0 : FVec Ideal S1024x512 .bf16) (x1 : FVec Ideal S4096x512 .bf16) (x2 : FVec Ideal S4096x256 .bf16)

/-- The carried values after `j` trips of the loop. -/
theorem inv_loop (hR : ∀ hh r k, ∃ x : ℝ, dotb x0 x1 hh r k = x) (j : ℕ) (hj : j ≤ (i 2).val) :
    Inv x0 x1 x2 (i 2).val j
      (st_k0_t1 (F := Ideal) Variants.none c none i arg3 harg3 arg4 harg4 arg5 harg5 arg6 harg6 (harg3.unread x0) (harg4.unread x1)
        (harg5.unread x2) (k0_pay21, k0_pay22, k0_pay23, k0_pay24, k0_pay25, k0_pay26) j) := by
  have hn : (i 2).val < 4 := (i 2).isLt
  induction j with
  | zero => exact inv_init x0 x1 x2 _
  | succ j ih =>
    have hlt : j < (k0_t1_loop i).trips := by rw [trips1]; omega
    rw [st_k0_t1_succ Variants.none c none i arg3 harg3 arg4 harg4 arg5 harg5 arg6 harg6 _ _ _ _ ⟨j, hlt⟩]
    generalize st_k0_t1 (F := Ideal) Variants.none c none i arg3 harg3 arg4 harg4 arg5 harg5 arg6 harg6 (harg3.unread x0)
        (harg4.unread x1) (harg5.unread x2) (k0_pay21, k0_pay22, k0_pay23, k0_pay24, k0_pay25, k0_pay26) j = a at ih ⊢
    have ih := ih (by omega)
    delta tripR_k0_t1
    unfold trip_k0_t1
    sl_unfold_words
    simp only [View.readAt_eq_ld, harg3.read_unread, harg4.read_unread, harg5.read_unread]
    have ho := off_iv ⟨j, by omega⟩
    refine inv_step x0 x1 x2 hR _ j (by omega) hn a ih _ _ _ _ _ _ ?_ ?_ ?_ ?_ ?_ ?_
    all_goals
      intro r d
      exact ld_ix2 _ _ _ _ r d _ _ (by simp [ho]) (by simp)

/-- WHAT A GRID POINT WRITES, read at head `hh` of the pair, row `r`, column `d`: the weighted sum of the values over the sum of
    the weights, of the keys up to the end of the diagonal block. -/
theorem out_apply (hR : ∀ hh r k, ∃ x : ℝ, dotb x0 x1 hh r k = x) (hh : Fin 2) (r : Fin 1024) (d : Fin 128) :
    out0_A_3 (F := Ideal) c i arg3 harg3 arg4 harg4 arg5 harg5 arg6 harg6 x0 x1 x2 (ix2 r ⟨128 * hh.val + d.val, by omega⟩)
      = Ideal.div (ac (scb x0 x1 hh (i 2).val r) (vb x2 hh d) (1024 * (i 2).val + 1024))
          (sm (scb x0 x1 hh (i 2).val r) (1024 * (i 2).val + 1024)) := by
  have hn : (i 2).val < 4 := (i 2).isLt
  have ih := inv_loop c i arg3 harg3 arg4 harg4 arg5 harg5 arg6 harg6 x0 x1 x2 hR (i 2).val le_rfl
  have h1 := trips1 i
  have h2 := trips2 i
  have ho := off_i (i 2)
  unfold out0_A_3
  rw [View.read_writes_eq_canon _ _ _ (cover0_A_3 (F := Ideal) c i arg3 harg3 arg4 harg4 arg5 harg5 arg6 harg6 x0 x1 x2)]
  unfold kernelRun0_A
  dsimp only
  sl_unfold_words
  simp only [View.readAt_eq_ld, harg3.read_unread, harg4.read_unread, harg5.read_unread]
  dsimp only [k0_t1_loop, k0_t2_loop] at h1 h2
  simp only [h2, st_k0_t2_zero, h1]
  generalize st_k0_t1 (F := Ideal) Variants.none c none i arg3 harg3 arg4 harg4 arg5 harg5 arg6 harg6 (harg3.unread x0)
        (harg4.unread x1) (harg5.unread x2) (k0_pay21, k0_pay22, k0_pay23, k0_pay24, k0_pay25, k0_pay26) (i 2).val = a at ih ⊢
  obtain ⟨a1, a2, a3, a4, a5, a6⟩ := ih r
  obtain ⟨M0, hM0⟩ := mx_scb_real (hR 0 r) (i 2).val (1024 * (i 2).val + 1024) (by omega)
  obtain ⟨M1, hM1⟩ := mx_scb_real (hR 1 r) (i 2).val (1024 * (i 2).val + 1024) (by omega)
  obtain rfl | rfl : hh = 0 ∨ hh = 1 := by omega
  · rw [View.canon_cons_of_not_mem, show (ix2 r (⟨128 * (0 : Fin 2).val + d.val, by omega⟩ : Fin 256))
        = (Rect.unit (s := S1024x256) ![0, 0] ![1024, 128] inb_S1024x256_S1024x128_0_0).emb (ix2 r d) from ?_, View.canon_cons_emb]
    · rw [pay1_apply, pay44_apply, pay43_apply, a1, a2, a3]
      rw [ac_add _ (vb x2 0 d) _ 1024 _ _ _ _ hM0, sm_add _ _ 1024 _ _ hM0]
      · refine msc_scb x0 x1 0 _ hn _ _ ?_ ?_ r <;> intro r d <;> exact ld_ix2 _ _ _ _ r d _ _ (by simp [ho]) (by simp)
      · refine msc_scb x0 x1 0 _ hn _ _ ?_ ?_ r <;> intro r d <;> exact ld_ix2 _ _ _ _ r d _ _ (by simp [ho]) (by simp)
      · intro k
        unfold vb
        rw [dif_pos (by omega)]
        exact ld_ix2 _ _ _ _ k d _ _ (by simp [ho]) (by simp)
    · funext a
      fin_cases a <;> exact Fin.ext (by simp [Rect.emb_apply])
    · rw [Rect.mem_set_unit]
      intro h
      have h := (h 1).1
      simp at h
      omega
  · rw [show (ix2 r (⟨128 * (1 : Fin 2).val + d.val, by omega⟩ : Fin 256))
        = (Rect.unit (s := S1024x256) ![0, 128] ![1024, 128] inb_S1024x256_S1024x128_0_128).emb (ix2 r d) from ?_, View.canon_cons_emb]
    · rw [pay2_apply, a4, a5, a6]
      rw [ac_add _ (vb x2 1 d) _ 1024 _ _ _ _ hM1, sm_add _ _ 1024 _ _ hM1]
      · refine msc_scb x0 x1 1 _ hn _ _ ?_ ?_ r <;> intro r d <;> exact ld_ix2 _ _ _ _ r d _ _ (by simp [ho]) (by simp)
      · refine msc_scb x0 x1 1 _ hn _ _ ?_ ?_ r <;> intro r d <;> exact ld_ix2 _ _ _ _ r d _ _ (by simp [ho]) (by simp)
      · intro k
        unfold vb
        rw [dif_pos (by omega)]
        exact ld_ix2 _ _ _ _ k d _ _ (by simp [ho]) (by simp)
    · funext a
      fin_cases a <;> exact Fin.ext (by simp [Rect.emb_apply])

end Point

end Cert.Attn

end
-- ==== Proof.Attn.Host.lean ====
module
public import proofs.«01_k».proof.Proof.Gen.KernelIdeal.Value
public import proofs.«01_k».proof.Proof.Attn.Payloads
@[expose] public section
set_option maxRecDepth 16384
noncomputable section
namespace Cert.Attn
open Idealize.ShloMosaic Cert.KernelIdeal Cert.KernelIdeal.Gen Idealize.SL.Sem

/-- The block of zeros that fills a head up to 256 columns. -/
def padz : FVec Ideal S2x4096x16x64 .f32 :=
  broadcastInDim S2x4096x16x64 ![] bcast_S_S2x4096x16x64 (constant (F := Ideal) S_ .f32 0#32)

/-- Queries (or keys) as the kernel takes them: the plain part, the rotary part and zeros of each head side by side, heads side by side, batches one under the other. -/
def packh (a : FVec Ideal S2x4096x16x128 .f32) (b : FVec Ideal S2x4096x16x64 .f32) : FVec Ideal S8192x4096 .bf16 :=
  truncf .bf16 (shapeCast S8192x4096 (concatenate S2x4096x16x256 3
    [⟨S2x4096x16x128, a⟩, ⟨S2x4096x16x64, b⟩, ⟨S2x4096x16x64, padz⟩]
    concatenates_S2x4096x16x128_S2x4096x16x64_S2x4096x16x64_S2x4096x16x256_d3)
    shapeCasts_S2x4096x16x256_S8192x4096) bitsLt_bf16_f32

/-- One rotary key for all the heads, written out for each. -/
def allh (b : FVec Ideal S2x4096x64 .f32) : FVec Ideal S2x4096x16x64 .f32 :=
  broadcastInDim S2x4096x16x64 ![0, 1, 2, 3] bcast_S2x4096x1x64_S2x4096x16x64_0_1_2_3
    (broadcastInDim S2x4096x1x64 ![0, 1, 3] bcast_S2x4096x64_S2x4096x1x64_0_1_3 b)

/-- The values as the kernel takes them. -/
def packv (a : FVec Ideal S2x4096x16x128 .f32) : FVec Ideal S8192x2048 .bf16 :=
  truncf .bf16 (shapeCast S8192x2048 a shapeCasts_S2x4096x16x128_S8192x2048) bitsLt_bf16_f32

variable (m : (ℓ : Loc nD τ sig) → Buf (Elt Ideal) ℓ) (c : Dev nD)

/-- The first window's array is the packed queries. -/
theorem v5_eq : V m c main_v5 = packh (m (c, Proc.tc.devRef main_arg0)) (m (c, Proc.tc.devRef main_arg1)) := by
  dsimp only [V, hostOps0]
  after_results
  rfl

/-- The second window's array is the packed keys. -/
theorem v8_eq : V m c main_v8 = packh (m (c, Proc.tc.devRef main_arg2)) (allh (m (c, Proc.tc.devRef main_arg3))) := by
  dsimp only [V, hostOps0]
  after_results
  rfl

/-- The third window's array is the packed values. -/
theorem v10_eq : V m c main_v10 = packv (m (c, Proc.tc.devRef main_arg4)) := by
  dsimp only [V, hostOps0]
  after_results
  rfl

/-- One entry of the packed queries or keys. -/
theorem packh_apply (a b) (r : Fin 8192) (d : Fin 4096) :
    packh a b (ix2 r d) =
      if h : d.val % 256 < 128 then
        a (ix4 ⟨r.val / 4096, by omega⟩ ⟨r.val % 4096, by omega⟩ ⟨d.val / 256, by omega⟩ ⟨d.val % 256, h⟩)
      else if h : d.val % 256 - 128 < 64 then
        b (ix4 ⟨r.val / 4096, by omega⟩ ⟨r.val % 4096, by omega⟩ ⟨d.val / 256, by omega⟩ ⟨d.val % 256 - 128, h⟩)
      else 0 := by
  unfold packh padz
  pointwise

/-- One entry of the rotary key written out for all the heads. -/
theorem allh_apply (b) (i : Fin 2) (j : Fin 4096) (r : Fin 16) (d : Fin 64) : allh b (ix4 i j r d) = b (ix3 i j d) := by
  unfold allh
  pointwise

/-- One entry of the packed values. -/
theorem packv_apply (b) (r : Fin 8192) (d : Fin 2048) :
    packv b (ix2 r d) =
      b (ix4 ⟨r.val / 4096, by omega⟩ ⟨r.val % 4096, by omega⟩ ⟨d.val / 128, by omega⟩ ⟨d.val % 128, by omega⟩) := by
  unfold packv
  pointwise

/-- A score of a head: the plain parts' product plus the rotary parts'. -/
def qk (a0 : FVec Ideal S2x4096x16x128 .f32) (a1 : FVec Ideal S2x4096x16x64 .f32) (a2 : FVec Ideal S2x4096x16x128 .f32)
    (a3 : FVec Ideal S2x4096x64 .f32) (b : Fin 2) (h : Fin 16) (s k : Fin 4096) : EReal :=
  (∑ d : Fin 128, a0 (ix4 b s h d) * a2 (ix4 b k h d)) + ∑ d : Fin 64, a1 (ix4 b s h d) * a3 (ix3 b k d)

/-- The 256 products of a packed head add up to the head's score. -/
theorem pack_dot (a0 a1 a2 a3) (b : Fin 2) (h : Fin 16) (s k : Fin 4096) :
    (∑ d : Fin 256, packh a0 a1 (ix2 ⟨4096 * b.val + s.val, by omega⟩ ⟨256 * h.val + d.val, by omega⟩)
      * packh a2 (allh a3) (ix2 ⟨4096 * b.val + k.val, by omega⟩ ⟨256 * h.val + d.val, by omega⟩))
      = qk a0 a1 a2 a3 b h s k := by
  unfold qk
  have hs : ∀ f : Fin 256 → EReal, ∑ d, f d = ∑ d : Fin 128, f (Fin.castAdd 128 d)
      + (∑ d : Fin 64, f (Fin.natAdd 128 (Fin.castAdd 64 d)) + ∑ d : Fin 64, f (Fin.natAdd 128 (Fin.natAdd 64 d))) := fun f =>
    (Fin.sum_univ_add (a := 128) (b := 128) f).trans
      (congrArg (_ + ·) (Fin.sum_univ_add (a := 64) (b := 64) fun d => f (Fin.natAdd 128 d)))
  rw [hs]
  have e1 : ∀ x : Fin 4096, (4096 * b.val + x.val) / 4096 = b.val := fun x => by omega
  have e2 : ∀ x : Fin 4096, (4096 * b.val + x.val) % 4096 = x.val := fun x => by omega
  refine congrArg₂ (· + ·) (Finset.sum_congr rfl fun d _ => ?_) ?_
  · have e3 : (256 * h.val + d.val) / 256 = h.val := by omega
    have e4 : (256 * h.val + d.val) % 256 = d.val := by omega
    have e5 : d.val < 128 := d.isLt
    simp only [packh_apply, Fin.val_castAdd, e1, e2, e3, e4, e5, dif_pos, Fin.eta]
  · refine (congrArg (_ + ·) (Finset.sum_eq_zero ?_)).trans ((add_zero _).trans ?_)
    · intro d _
      have e4 : (256 * h.val + (128 + (64 + d.val))) % 256 = 128 + (64 + d.val) := by omega
      have e5 : ¬ 128 + (64 + d.val) < 128 := by omega
      have e6 : ¬ 128 + (64 + d.val) - 128 < 64 := by omega
      simp only [packh_apply, Fin.val_natAdd, e4, e5, e6, dif_neg, not_false_eq_true, mul_zero]
    · refine Finset.sum_congr rfl fun d _ => ?_
      have e3 : (256 * h.val + (128 + d.val)) / 256 = h.val := by omega
      have e4 : (256 * h.val + (128 + d.val)) % 256 = 128 + d.val := by omega
      have e5 : ¬ 128 + d.val < 128 := by omega
      have e6 : 128 + d.val - 128 = d.val := by omega
      have e7 : d.val < 64 := d.isLt
      simp only [packh_apply, Fin.val_castAdd, Fin.val_natAdd, e1, e2, e3, e4, e5, e6, e7, dif_pos, dif_neg, not_false_eq_true, Fin.eta, allh_apply]

end Cert.Attn
-- ==== Proof.Attn.Array.lean ====
module
public import proofs.«01_k».proof.Proof.Attn.Blocks
public import proofs.«01_k».proof.Proof.Attn.Host
public import Idealize.ShloMosaic.Lib.Pipeline.ValueKit
@[expose] public section
set_option maxRecDepth 16384
noncomputable section
namespace Cert.Attn
open Idealize.ShloMosaic Cert.KernelIdeal Cert.KernelIdeal.Gen Idealize.SL.Sem

/-- Where each window's block lies at a grid point (batch, pair of heads, block of queries). -/
theorem idx_facts : ∀ t : Fin cfg0.N,
    win0_0.index t (0 : Fin 2) = 4 * (grid0.coords t 0).val + (grid0.coords t 2).val ∧ win0_0.index t (1 : Fin 2) = (grid0.coords t 1).val
    ∧ win0_1.index t (0 : Fin 2) = (grid0.coords t 0).val ∧ win0_1.index t (1 : Fin 2) = (grid0.coords t 1).val
    ∧ win0_2.index t (0 : Fin 2) = (grid0.coords t 0).val ∧ win0_2.index t (1 : Fin 2) = (grid0.coords t 1).val
    ∧ win0_3.index t (0 : Fin 2) = 4 * (grid0.coords t 0).val + (grid0.coords t 2).val ∧ win0_3.index t (1 : Fin 2) = (grid0.coords t 1).val :=
  (by decide +kernel : ∀ t : Fin grid0.N,
    win0_0.index t (0 : Fin 2) = 4 * (grid0.coords t 0).val + (grid0.coords t 2).val ∧ win0_0.index t (1 : Fin 2) = (grid0.coords t 1).val
    ∧ win0_1.index t (0 : Fin 2) = (grid0.coords t 0).val ∧ win0_1.index t (1 : Fin 2) = (grid0.coords t 1).val
    ∧ win0_2.index t (0 : Fin 2) = (grid0.coords t 0).val ∧ win0_2.index t (1 : Fin 2) = (grid0.coords t 1).val
    ∧ win0_3.index t (0 : Fin 2) = 4 * (grid0.coords t 0).val + (grid0.coords t 2).val ∧ win0_3.index t (1 : Fin 2) = (grid0.coords t 1).val)

/-- Every batch, pair of heads and block of queries has its grid point. -/
theorem exists_point : ∀ (b : Fin 2) (p : Fin 8) (i : Fin 4), ∃ t : Fin cfg0.N,
    (grid0.coords t 0).val = b.val ∧ (grid0.coords t 1).val = p.val ∧ (grid0.coords t 2).val = i.val :=
  (by decide +kernel : ∀ (b : Fin 2) (p : Fin 8) (i : Fin 4), ∃ t : Fin grid0.N,
    (grid0.coords t 0).val = b.val ∧ (grid0.coords t 1).val = p.val ∧ (grid0.coords t 2).val = i.val)

variable (m : (ℓ : Loc nD τ sig) → Buf (Elt Ideal) ℓ) (c : Dev nD)

/-- The queries' block at a point, out of the packed queries. -/
theorem iblk0_apply (t : Fin cfg0.N) (r : Fin 1024) (d : Fin 512) (R : Fin 8192) (D : Fin 4096)
    (hR : R.val = 4096 * (grid0.coords t 0).val + 1024 * (grid0.coords t 2).val + r.val) (hD : D.val = 512 * (grid0.coords t 1).val + d.val) :
    iblk m c 0 t (ix2 r d) = V m c main_v5 (ix2 R D) := by
  obtain ⟨h0, h1, -⟩ := idx_facts t
  unfold iblk
  blk_ext [h0, h1]

/-- The keys' block at a point, out of the packed keys. -/
theorem iblk1_apply (t : Fin cfg0.N) (r : Fin 4096) (d : Fin 512) (R : Fin 8192) (D : Fin 4096)
    (hR : R.val = 4096 * (grid0.coords t 0).val + r.val) (hD : D.val = 512 * (grid0.coords t 1).val + d.val) :
    iblk m c 1 t (ix2 r d) = V m c main_v8 (ix2 R D) := by
  obtain ⟨-, -, h0, h1, -⟩ := idx_facts t
  unfold iblk
  blk_ext [h0, h1]

/-- The values' block at a point, out of the packed values. -/
theorem iblk2_apply (t : Fin cfg0.N) (r : Fin 4096) (d : Fin 256) (R : Fin 8192) (D : Fin 2048)
    (hR : R.val = 4096 * (grid0.coords t 0).val + r.val) (hD : D.val = 256 * (grid0.coords t 1).val + d.val) :
    iblk m c 2 t (ix2 r d) = V m c main_v10 (ix2 R D) := by
  obtain ⟨-, -, -, -, h0, h1, -⟩ := idx_facts t
  unfold iblk
  blk_ext [h0, h1]

/-- One entry of the array the call leaves, as the entry of the block that was written there. -/
theorem arr_block (t : Fin cfg0.N) (r : Fin 1024) (d : Fin 256) (R : Fin 8192) (D : Fin 2048)
    (hR : R.val = 4096 * (grid0.coords t 0).val + 1024 * (grid0.coords t 2).val + r.val) (hD : D.val = 256 * (grid0.coords t 1).val + d.val) :
    (dats m 0 c).arrAt 3 cfg0.N (ix2 R D)
      = out0_A_3 c (grid0.coords t) (ms0_0 t) (hs0_0 t) (ms0_1 t) (hs0_1 t) (ms0_2 t) (hs0_2 t) (ms0_3 t) (hs0_3 t)
          (iblk m c 0 t) (iblk m c 1 t) (iblk m c 2 t) (ix2 r d) := by
  obtain ⟨-, -, -, -, -, -, h0, h1⟩ := idx_facts t
  have hb := congrFun (Cert.KernelIdeal.Value.blocks3 m c t (flush0_3 t)) (ix2 r d)
  rw [Cert.KernelIdeal.Value.flushed3_A] at hb
  refine Eq.trans ?_ (hb.trans ?_)
  · blk_ext [h0, h1]
  · blk_ext [h0, h1]

end Cert.Attn
-- ==== Proof.Attn.KernelSide.lean ====
module
public import proofs.«01_k».proof.Proof.Attn.Array
@[expose] public section
set_option maxRecDepth 16384
noncomputable section
namespace Cert.Attn
open Idealize.ShloMosaic Cert.KernelIdeal Cert.KernelIdeal.Gen Idealize.SL.Sem

/-- A query's scores by key number: the head's score for a key of the query's block of 64 or an earlier one, minus infinity for the others. -/
def row (a0 : FVec Ideal S2x4096x16x128 .f32) (a1 : FVec Ideal S2x4096x16x64 .f32) (a2 : FVec Ideal S2x4096x16x128 .f32)
    (a3 : FVec Ideal S2x4096x64 .f32) (b : Fin 2) (h : Fin 16) (s : Fin 4096) : ℕ → EReal := fun k =>
  if hk : k < 4096 then if k / 64 ≤ s.val / 64 then qk a0 a1 a2 a3 b h s ⟨k, hk⟩ else ⊥ else ⊥

/-- A column of a head's values by key number. -/
def col (a4 : FVec Ideal S2x4096x16x128 .f32) (b : Fin 2) (h : Fin 16) (d : Fin 128) : ℕ → EReal := fun k =>
  if hk : k < 4096 then a4 (ix4 b ⟨k, hk⟩ h d) else 0

variable (m : (ℓ : Loc nD τ sig) → Buf (Elt Ideal) ℓ) (c : Dev nD)

/-- The kernel's score for a query and a key, out of the arguments. -/
def qkm (b : Fin 2) (h : Fin 16) (s k : Fin 4096) : EReal :=
  qk (m (c, Proc.tc.devRef main_arg0)) (m (c, Proc.tc.devRef main_arg1)) (m (c, Proc.tc.devRef main_arg2))
    (m (c, Proc.tc.devRef main_arg3)) b h s k

/-- The product of a block's query and key is the head's score. -/
theorem dotb_eq (t : Fin cfg0.N) (b : Fin 2) (h : Fin 16) (s : Fin 4096) (hb : (grid0.coords t 0).val = b.val)
    (hp : (grid0.coords t 1).val = h.val / 2) (hi : (grid0.coords t 2).val = s.val / 1024) (k : Fin 4096) :
    dotb (iblk m c 0 t) (iblk m c 1 t) ⟨h.val % 2, by omega⟩ ⟨s.val % 1024, by omega⟩ k = qkm m c b h s k := by
  unfold dotb qkm
  rw [← pack_dot, ← v5_eq, ← v8_eq]
  refine Finset.sum_congr rfl fun d _ => ?_
  rw [iblk0_apply m c t _ _ ⟨4096 * b.val + s.val, by omega⟩ ⟨256 * h.val + d.val, by omega⟩
      (by rw [hb, hi]; dsimp only; omega) (by rw [hp]; dsimp only; omega),
    iblk1_apply m c t _ _ ⟨4096 * b.val + k.val, by omega⟩ ⟨256 * h.val + d.val, by omega⟩
      (by rw [hb]) (by rw [hp]; dsimp only; omega)]

/-- The values' block at a point holds the head's values. -/
theorem vb_eq (t : Fin cfg0.N) (b : Fin 2) (h : Fin 16) (hb : (grid0.coords t 0).val = b.val)
    (hp : (grid0.coords t 1).val = h.val / 2) (d : Fin 128) :
    vb (iblk m c 2 t) ⟨h.val % 2, by omega⟩ d = col (m (c, Proc.tc.devRef main_arg4)) b h d := by
  funext k
  unfold vb col
  by_cases hk : k < 4096
  · rw [dif_pos hk, dif_pos hk, iblk2_apply m c t _ _ ⟨4096 * b.val + k, by omega⟩ ⟨128 * h.val + d.val, by omega⟩
      (by rw [hb]) (by rw [hp]; dsimp only; omega), v10_eq, packv_apply]
    have e1 : (4096 * b.val + k) / 4096 = b.val := by omega
    have e2 : (4096 * b.val + k) % 4096 = k := by omega
    have e3 : (128 * h.val + d.val) / 128 = h.val := by omega
    have e4 : (128 * h.val + d.val) % 128 = d.val := by omega
    simp only [e1, e2, e3, e4, Fin.eta]
  · rw [dif_neg hk, dif_neg hk]

/-- The scores a point works on are the query's scores. -/
theorem scb_eq (t : Fin cfg0.N) (b : Fin 2) (h : Fin 16) (s : Fin 4096) (hb : (grid0.coords t 0).val = b.val)
    (hp : (grid0.coords t 1).val = h.val / 2) (hi : (grid0.coords t 2).val = s.val / 1024) :
    scb (iblk m c 0 t) (iblk m c 1 t) ⟨h.val % 2, by omega⟩ (grid0.coords t 2).val ⟨s.val % 1024, by omega⟩
      = row (m (c, Proc.tc.devRef main_arg0)) (m (c, Proc.tc.devRef main_arg1)) (m (c, Proc.tc.devRef main_arg2))
          (m (c, Proc.tc.devRef main_arg3)) b h s := by
  funext k
  unfold scb row
  by_cases hk : k < 4096
  · have e : 1024 * (grid0.coords t 2).val + s.val % 1024 = s.val := by omega
    rw [dif_pos hk, dif_pos hk, dotb_eq m c t b h s hb hp hi]
    simp only [e]
    rfl
  · rw [dif_neg hk, dif_neg hk]

/-- WHAT THE CALL LEAVES: at a query and a column of a head, the weighted sum of the values over the sum of the weights, both over the keys up to the
    end of the query's block of 1024. -/
theorem arr_apply (hR : ∀ b h s k, ∃ x : ℝ, qkm m c b h s k = x) (b : Fin 2) (h : Fin 16) (s : Fin 4096) (d : Fin 128) :
    (dats m 0 c).arrAt 3 cfg0.N (ix2 ⟨4096 * b.val + s.val, by omega⟩ ⟨128 * h.val + d.val, by omega⟩)
      = Ideal.div
          (ac (row (m (c, Proc.tc.devRef main_arg0)) (m (c, Proc.tc.devRef main_arg1)) (m (c, Proc.tc.devRef main_arg2))
            (m (c, Proc.tc.devRef main_arg3)) b h s) (col (m (c, Proc.tc.devRef main_arg4)) b h d) (1024 * (s.val / 1024) + 1024))
          (sm (row (m (c, Proc.tc.devRef main_arg0)) (m (c, Proc.tc.devRef main_arg1)) (m (c, Proc.tc.devRef main_arg2))
            (m (c, Proc.tc.devRef main_arg3)) b h s) (1024 * (s.val / 1024) + 1024)) := by
  obtain ⟨t, hb, hp, hi⟩ := exists_point b ⟨h.val / 2, by omega⟩ ⟨s.val / 1024, by omega⟩
  dsimp only at hp hi
  have hB := (grid0.coords t 0).isLt
  have hP := (grid0.coords t 1).isLt
  have hI := (grid0.coords t 2).isLt
  have hreal : ∀ (hh : Fin 2) (r : Fin 1024) (k : Fin 4096), ∃ x : ℝ, dotb (iblk m c 0 t) (iblk m c 1 t) hh r k = x := by
    intro hh r k
    have hh2 := hh.isLt
    have := dotb_eq m c t b ⟨2 * (h.val / 2) + hh.val, by omega⟩ ⟨1024 * (s.val / 1024) + r.val, by omega⟩ hb
      (by rw [hp]; dsimp only; omega) (by rw [hi]; dsimp only; omega) k
    have e1 : (⟨(2 * (h.val / 2) + hh.val) % 2, by omega⟩ : Fin 2) = hh := Fin.ext (by dsimp only; omega)
    have e2 : (⟨(1024 * (s.val / 1024) + r.val) % 1024, by omega⟩ : Fin 1024) = r := Fin.ext (by dsimp only; omega)
    dsimp only at this
    rw [e1, e2] at this
    rw [this]
    exact hR _ _ _ _
  rw [arr_block m c t ⟨s.val % 1024, by omega⟩ ⟨128 * (h.val % 2) + d.val, by omega⟩ _ _
    (by rw [hb, hi]; dsimp only; omega) (by rw [hp]; dsimp only; omega)]
  refine (out_apply c _ _ _ _ _ _ _ _ _ _ _ _ hreal ⟨h.val % 2, by omega⟩ ⟨s.val % 1024, by omega⟩ d).trans ?_
  rw [vb_eq m c t b h hb hp d, scb_eq m c t b h s hb hp hi, hi]

end Cert.Attn
-- ==== Proof.Attn.RefSide.lean ====
module
public import proofs.«01_k».proof.Proof.Gen.ReferenceIdeal.Read
public import proofs.«01_k».proof.Proof.Attn.KernelSide
@[expose] public section
set_option maxRecDepth 16384
noncomputable section
namespace Cert.Attn
open Idealize.ShloMosaic Cert.ReferenceIdeal Cert.ReferenceIdeal.Gen Cert.ReferenceIdeal.Read Idealize.SL.Sem

/-- The sign of a word. -/
def signOf (x : BitVec 32) : BitVec 32 := if x = 0 then 0 else if x.msb then -1 else 1

/-- A key's number divided by 64, as the reference's floor division computes it on words. -/
def blockOf (x : BitVec 32) : BitVec 32 :=
  Scalar.select (IntOp.andi (IntOp.cmpi .ne (signOf x) (signOf 64#32)) (IntOp.cmpi .ne (IntOp.remsi .host x 64#32) 0#32))
    (IntOp.subi (IntOp.divsi .host x 64#32) 1#32) (IntOp.divsi .host x 64#32)

/-- On the numbers below 4096 it is the quotient. -/
theorem blockOf_eq : ∀ k : Fin 4096, blockOf (BitVec.ofNat 32 k.val) = BitVec.ofNat 32 (k.val / 64) := by decide +kernel

/-- Comparing two block numbers as words is comparing them. -/
theorem sle_block : ∀ a b : Fin 64, IntOp.cmpi .sle (BitVec.ofNat 32 a.val) (BitVec.ofNat 32 b.val) = if a.val ≤ b.val then 1#1 else 0#1 := by
  decide +kernel

/-- The block number of a position. -/
theorem ref_block (k : Fin 4096) : val_main_v8 (F := Ideal) (ix1 k) = BitVec.ofNat 32 (k.val / 64) := by
  rw [← blockOf_eq k, val_main_v8_apply, val_main_call0_v11_apply, val_main_call0_v13_apply, val_main_call0_v2_apply, val_main_call0_v6_apply,
    val_main_call0_v10_apply, val_main_call0_v8_apply, val_main_call0_v1_apply, val_main_call0_v7_apply, val_main_call0_v9_apply,
    val_main_call0_v12_apply, val_main_call0_v5_apply]
  rfl

/-- The mask at a query and a key. -/
theorem ref_mask (b : Fin 2) (h : Fin 16) (s k : Fin 4096) :
    val_main_call1_v1 (F := Ideal) (ix4 b h s k) = if k.val / 64 ≤ s.val / 64 then 1#1 else 0#1 := by
  rw [val_main_call1_v1_apply, val_main_v14_apply, val_main_v13_apply, val_main_v11_apply, val_main_v12_apply, val_main_v9_apply, val_main_v10_apply]
  refine Eq.trans (congrArg₂ (IntOp.cmpi .sle) ?_ ?_) (sle_block ⟨k.val / 64, by omega⟩ ⟨s.val / 64, by omega⟩)
  · refine Eq.trans (congrArg (val_main_v8 (F := Ideal)) ?_) (ref_block k)
    funext a; match a with | ⟨0, _⟩ => rfl
  · refine Eq.trans (congrArg (val_main_v8 (F := Ideal)) ?_) (ref_block s)
    funext a; match a with | ⟨0, _⟩ => rfl

/-- The square root of 192. -/
theorem ref_root (i) : val_main_v5 (F := Ideal) i = ((Real.sqrt 192 : ℝ) : EReal) := by
  rw [val_main_v5_apply, val_main_v4_apply, val_main_cst_apply]
  have : (FloatOps.ofBits .f32 0x43400000#32 : Ideal .f32) = ((192 : ℝ) : EReal) := by
    show Ideal.ofBits .f32 1128267776#32 = _
    simp [Ideal.ofBits, Ideal.ieee]
    rw [← EReal.coe_mul]
    norm_num
  rw [this]
  refine (Ideal.hostUnary_sqrt_def _).trans ?_
  rw [Ideal.sqrt_coe, if_neg (by norm_num)]

variable (x0 : FVec Ideal S2x4096x16x128 .f32) (x1 : FVec Ideal S2x4096x16x64 .f32) (x2 : FVec Ideal S2x4096x16x128 .f32)
  (x3 : FVec Ideal S2x4096x64 .f32) (x4 : FVec Ideal S2x4096x16x128 .f32)

/-- The reference's unscaled score. -/
theorem ref_score (b : Fin 2) (h : Fin 16) (s k : Fin 4096) :
    val_main_v3 (F := Ideal) x0 x1 x2 x3 (ix4 b h s k) = qk x0 x1 x2 x3 b h s k := by
  rw [val_main_v3_apply, val_main_v2_apply, val_main_v1_apply, val_main_v0_apply]
  unfold qk
  refine congrArg₂ (fun p q : EReal => p + q) (Finset.sum_congr rfl fun d _ => ?_) (Finset.sum_congr rfl fun d _ => ?_)
  · refine congrArg₂ (fun p q : EReal => p * q) (congrArg x0 ?_) (congrArg x2 ?_) <;>
      (funext a; match a with | ⟨0, _⟩ => rfl | ⟨1, _⟩ => rfl | ⟨2, _⟩ => rfl | ⟨3, _⟩ => rfl)
  · rw [mul_comm]
    refine congrArg₂ (fun p q : EReal => p * q) (congrArg x1 ?_) (congrArg x3 ?_)
    · funext a; match a with | ⟨0, _⟩ => rfl | ⟨1, _⟩ => rfl | ⟨2, _⟩ => rfl | ⟨3, _⟩ => rfl
    · funext a; match a with | ⟨0, _⟩ => rfl | ⟨1, _⟩ => rfl | ⟨2, _⟩ => rfl

/-- The reference's masked score is the query's score times the inverse root. -/
theorem ref_masked (b : Fin 2) (h : Fin 16) (s k : Fin 4096) :
    val_main_v15 (F := Ideal) x0 x1 x2 x3 (ix4 b h s k) = row x0 x1 x2 x3 b h s k.val * (rt : EReal) := by
  rw [val_main_v15_apply, ref_mask, val_main_v6_apply, ref_root, ref_score]
  unfold row
  rw [dif_pos k.isLt]
  by_cases hk : k.val / 64 ≤ s.val / 64
  · rw [if_pos hk, if_pos hk]
    show Ideal.div _ _ = _
    rw [Ideal.div_coe (by positivity), one_div]
    rfl
  · rw [if_neg hk, if_neg hk, EReal.bot_mul_coe_of_pos rt_pos]
    exact ofBits_ninf

/-- The reference's row maximum. -/
theorem ref_max (b : Fin 2) (h : Fin 16) (s : Fin 4096) (k : Fin 4096) :
    val_main_v20 (F := Ideal) x0 x1 x2 x3 (ix4 b h s k)
      = Finset.univ.fold max ⊥ (fun k : Fin 4096 => val_main_v15 (F := Ideal) x0 x1 x2 x3 (ix4 b h s k)) := by
  rw [val_main_v20_apply, val_main_v19_apply, val_main_v18_apply]
  show max _ _ = _
  have e : val_main_v17 (F := Ideal) (idx_main_v19 (idx_main_v20 (ix4 b h s k))) = ⊥ := by
    rw [val_main_v17_apply]; exact ofBits_ninf
  rw [e, max_eq_right bot_le]
  unfold val_main_v16
  generalize val_main_v15 (F := Ideal) x0 x1 x2 x3 = y
  refine (Host.reduce_eq_fold_single (a := 3) _ y _ reducesTo_S2x16x4096x4096_S2x16x4096_d3 (by decide) h_S_ _).trans ?_
  refine congrArg₂ (Finset.univ.fold (max : EReal → EReal → EReal)) ofBits_ninf (funext fun k => congrArg y ?_)
  funext a
  match a with | ⟨0, _⟩ => rfl | ⟨1, _⟩ => rfl | ⟨2, _⟩ => rfl | ⟨3, _⟩ => rfl

/-- WHAT THE REFERENCE COMPUTES at a query and a column of a head. -/
theorem ref_apply (b : Fin 2) (h : Fin 16) (s : Fin 4096) (d : Fin 128) :
    val_main_v30 (F := Ideal) x0 x1 x2 x3 x4 (ix2 ⟨4096 * b.val + s.val, by omega⟩ ⟨128 * h.val + d.val, by omega⟩)
      = ∑ k : Fin 4096, Ideal.div
          (Ideal.exp (row x0 x1 x2 x3 b h s k.val * (rt : EReal) - Finset.univ.fold max ⊥ fun k : Fin 4096 => row x0 x1 x2 x3 b h s k.val * (rt : EReal)))
          (∑ k : Fin 4096, Ideal.exp (row x0 x1 x2 x3 b h s k.val * (rt : EReal)
            - Finset.univ.fold max ⊥ fun k : Fin 4096 => row x0 x1 x2 x3 b h s k.val * (rt : EReal)))
          * col x4 b h d k.val := by
  have hexp : ∀ k : Fin 4096, val_main_v22 (F := Ideal) x0 x1 x2 x3 (ix4 b h s k)
      = Ideal.exp (row x0 x1 x2 x3 b h s k.val * (rt : EReal) - Finset.univ.fold max ⊥ fun k : Fin 4096 => row x0 x1 x2 x3 b h s k.val * (rt : EReal)) := by
    intro k
    rw [val_main_v22_apply, val_main_v21_apply, ref_max]
    simp only [ref_masked]
    rfl
  rw [val_main_v30_apply]
  refine Eq.trans (b := val_main_v29 (F := Ideal) x0 x1 x2 x3 x4 _) rfl ?_
  rw [val_main_v29_apply, val_main_v28_apply, val_main_v27_apply]
  refine Finset.sum_congr rfl fun k _ => ?_
  have hb := b.isLt
  have hh := h.isLt
  have hs := s.isLt
  have hd := d.isLt
  have e1 : ((4096 * b.val + s.val) * 2048 + (128 * h.val + d.val)) / 8388608 = b.val := by omega
  have e2 : ((4096 * b.val + s.val) * 2048 + (128 * h.val + d.val)) / 2048 % 4096 = s.val := by omega
  have e3 : ((4096 * b.val + s.val) * 2048 + (128 * h.val + d.val)) / 128 % 16 = h.val := by omega
  have e4 : ((4096 * b.val + s.val) * 2048 + (128 * h.val + d.val)) % 128 = d.val := by omega
  rw [mul_comm]
  refine congrArg₂ (fun p q : EReal => p * q) ?_ ?_
  · refine Eq.trans (congrArg (val_main_v26 (F := Ideal) x0 x1 x2 x3) (a₂ := ix4 b h s k) ?_) ?_
    · funext a
      match a with
      | ⟨0, _⟩ => exact Fin.ext e1
      | ⟨1, _⟩ => exact Fin.ext e3
      | ⟨2, _⟩ => exact Fin.ext e2
      | ⟨3, _⟩ => rfl
    · rw [val_main_v26_apply, val_main_v25_apply, val_main_v24_apply, val_main_v23_apply]
      refine congrArg₂ Ideal.div (hexp k) ?_
      refine (congrArg (· + _) ofBits_zero).trans ((zero_add _).trans (Finset.sum_congr rfl fun j _ => ?_))
      refine Eq.trans (congrArg (val_main_v22 (F := Ideal) x0 x1 x2 x3) ?_) (hexp j)
      funext a
      match a with | ⟨0, _⟩ => rfl | ⟨1, _⟩ => rfl | ⟨2, _⟩ => rfl | ⟨3, _⟩ => rfl
  · unfold col
    rw [dif_pos k.isLt]
    refine congrArg x4 ?_
    funext a
    match a with
    | ⟨0, _⟩ => exact Fin.ext e1
    | ⟨1, _⟩ => rfl
    | ⟨2, _⟩ => exact Fin.ext e3
    | ⟨3, _⟩ => exact Fin.ext e4

/-- The kernel's quotient of sums is the reference's attention. -/
theorem ref_eq (hR : ∀ b h s k, ∃ x : ℝ, qk x0 x1 x2 x3 b h s k = x) (b : Fin 2) (h : Fin 16) (s : Fin 4096) (d : Fin 128) :
    Ideal.div (ac (row x0 x1 x2 x3 b h s) (col x4 b h d) (1024 * (s.val / 1024) + 1024)) (sm (row x0 x1 x2 x3 b h s) (1024 * (s.val / 1024) + 1024))
      = val_main_v30 (F := Ideal) x0 x1 x2 x3 x4 (ix2 ⟨4096 * b.val + s.val, by omega⟩ ⟨128 * h.val + d.val, by omega⟩) := by
  have hM : ∃ M : ℝ, mx (row x0 x1 x2 x3 b h s) (1024 * (s.val / 1024) + 1024) = M := by
    obtain ⟨y, hy⟩ := hR b h s 0
    refine mx_real _ (j := 0) (y := y) (fun k _ => ?_) (by omega) ?_
    · unfold row
      by_cases hk : k < 4096
      · rw [dif_pos hk]
        by_cases hc : k / 64 ≤ s.val / 64
        · rw [if_pos hc]; exact .inr (hR _ _ _ _)
        · rw [if_neg hc]; exact .inl rfl
      · rw [dif_neg hk]; exact .inl rfl
    · unfold row
      rw [dif_pos (by omega), if_pos (by omega)]
      exact hy
  obtain ⟨M, hM⟩ := hM
  rw [ref_apply]
  refine quotient_eq (N := 4096) _ _ (by omega) (by omega) (fun k h1 h2 => ?_) hM _ fun k => rfl
  unfold row
  rw [dif_pos h2, if_neg (by omega)]

end Cert.Attn
-- ==== Proof.Attn.Finite.lean ====
module
public import proofs.«01_k».proof.Proof.Gen.Pre_finite_qk
public import proofs.«01_k».proof.Proof.Attn.RefSide
public import Idealize.ShloMosaic.Lib.ReduceAll
@[expose] public section
set_option maxRecDepth 16384
noncomputable section
namespace Cert.Attn
open Idealize.ShloMosaic Cert.Pre_finite_qk Cert.Pre_finite_qk.Gen

/-- Both of two bits are one where their conjunction is. -/
theorem andi_both : ∀ a b : BitVec 1, IntOp.andi a b = 1#1 → a = 1#1 ∧ b = 1#1 := by decide

/-- The word of plus infinity. -/
theorem ofBits_inf : Ideal.ofBits .f32 2139095040#32 = ⊤ := by simp [Ideal.ofBits, Ideal.ieee]

/-- A value whose magnitude is below infinity is a real number. -/
theorem real_of_lt {x : EReal} (h : Ideal.cmp .olt (max x (-x)) (Ideal.ofBits .f32 2139095040#32) = 1#1) : ∃ r : ℝ, x = r := by
  rw [ofBits_inf] at h
  induction x with
  | bot => exfalso; revert h; simp [Ideal.cmp]
  | top => exfalso; revert h; simp [Ideal.cmp]
  | coe r => exact ⟨r, rfl⟩

/-- The precondition: every query and key is a real number. -/
theorem finite_args (x0 : FVec Ideal S2x4096x16x128 .f32) (x1 : FVec Ideal S2x4096x16x64 .f32) (x2 : FVec Ideal S2x4096x16x128 .f32)
    (x3 : FVec Ideal S2x4096x64 .f32) (x4 : FVec Ideal S2x4096x16x128 .f32)
    (h : Cert.Pre_finite_qk.fn (F := Ideal) x0 x1 x2 x3 x4 = fun _ => 1#1) :
    (∀ i, ∃ r : ℝ, x0 i = r) ∧ (∀ i, ∃ r : ℝ, x1 i = r) ∧ (∀ i, ∃ r : ℝ, x2 i = r) ∧ ∀ i, ∃ r : ℝ, x3 i = r := by
  have h := congrFun h (fun a => a.elim0)
  unfold fn fn_part1 at h
  dsimp only [] at h
  haveI : Subsingleton S_.Idx := ⟨fun a b => funext fun i => i.elim0⟩
  obtain ⟨h, h3⟩ := andi_both _ _ h
  obtain ⟨h, h2⟩ := andi_both _ _ h
  obtain ⟨h0, h1⟩ := andi_both _ _ h
  exact ⟨fun i => real_of_lt (Host.reduce_andi_all _ _ _ _ _ h0 i), fun i => real_of_lt (Host.reduce_andi_all _ _ _ _ _ h1 i),
    fun i => real_of_lt (Host.reduce_andi_all _ _ _ _ _ h2 i), fun i => real_of_lt (Host.reduce_andi_all _ _ _ _ _ h3 i)⟩

/-- A sum of products of real numbers is a real number. -/
theorem sum_real {ι : Type} [Fintype ι] {f g : ι → EReal} (hf : ∀ i, ∃ r : ℝ, f i = r) (hg : ∀ i, ∃ r : ℝ, g i = r) :
    ∃ r : ℝ, ∑ i, f i * g i = r := by
  choose p hp using hf
  choose q hq using hg
  refine ⟨∑ i, p i * q i, ?_⟩
  rw [coe_sum]
  exact Finset.sum_congr rfl fun i _ => by rw [hp, hq, EReal.coe_mul]

/-- So every score is a real number. -/
theorem qk_real {x0 : FVec Ideal S2x4096x16x128 .f32} {x1 : FVec Ideal S2x4096x16x64 .f32} {x2 : FVec Ideal S2x4096x16x128 .f32}
    {x3 : FVec Ideal S2x4096x64 .f32} (h0 : ∀ i, ∃ r : ℝ, x0 i = r) (h1 : ∀ i, ∃ r : ℝ, x1 i = r) (h2 : ∀ i, ∃ r : ℝ, x2 i = r)
    (h3 : ∀ i, ∃ r : ℝ, x3 i = r) (b : Fin 2) (h : Fin 16) (s k : Fin 4096) : ∃ r : ℝ, qk x0 x1 x2 x3 b h s k = r := by
  obtain ⟨p, hp⟩ := sum_real (f := fun d : Fin 128 => x0 (ix4 b s h d)) (g := fun d => x2 (ix4 b k h d)) (fun _ => h0 _) (fun _ => h2 _)
  obtain ⟨q, hq⟩ := sum_real (f := fun d : Fin 64 => x1 (ix4 b s h d)) (g := fun d => x3 (ix3 b k d)) (fun _ => h1 _) (fun _ => h3 _)
  exact ⟨p + q, (congrArg₂ (fun a c : EReal => a + c) hp hq).trans (EReal.coe_add p q).symm⟩

end Cert.Attn
-- ==== Proof.Lin.Join.lean ====
module
public import Idealize.ShloMosaic.Lib.ValueIdx
public import Idealize.ShloMosaic.PureOps.Ideal.Laws
@[expose] public section
noncomputable section
namespace Cert.Lin

/-- Four runs of 512 entries laid end to end, read at a place. -/
def join (x0 x1 x2 x3 : Fin 512 → EReal) (k : Fin 2048) : EReal :=
  if h : k.val < 512 then x0 ⟨k.val, h⟩
  else if h : k.val - 512 < 512 then x1 ⟨k.val - 512, h⟩
  else if h : k.val - 512 - 512 < 512 then x2 ⟨k.val - 512 - 512, h⟩
  else x3 ⟨k.val - 512 - 512 - 512, by omega⟩

/-- Four quarters of a row laid end to end are the row. -/
theorem join_eq (g : Fin 2048 → EReal) (x0 x1 x2 x3 : Fin 512 → EReal)
    (h0 : ∀ k : Fin 512, x0 k = g ⟨k.val, by omega⟩) (h1 : ∀ k : Fin 512, x1 k = g ⟨512 + k.val, by omega⟩)
    (h2 : ∀ k : Fin 512, x2 k = g ⟨1024 + k.val, by omega⟩) (h3 : ∀ k : Fin 512, x3 k = g ⟨1536 + k.val, by omega⟩)
    (k : Fin 2048) : join x0 x1 x2 x3 k = g k := by
  unfold join
  split_ifs
  · exact h0 _
  · exact (h1 _).trans (congrArg g (Fin.ext (by dsimp only; omega)))
  · exact (h2 _).trans (congrArg g (Fin.ext (by dsimp only; omega)))
  · exact (h3 _).trans (congrArg g (Fin.ext (by dsimp only; omega)))

/-- Two runs of 512 entries laid end to end, read at a place. -/
def join2 (x0 x1 : Fin 512 → EReal) (k : Fin 1024) : EReal :=
  if h : k.val < 512 then x0 ⟨k.val, h⟩ else x1 ⟨k.val - 512, by omega⟩

/-- Two halves of a row laid end to end are the row. -/
theorem join2_eq (g : Fin 1024 → EReal) (x0 x1 : Fin 512 → EReal) (h0 : ∀ k : Fin 512, x0 k = g ⟨k.val, by omega⟩)
    (h1 : ∀ k : Fin 512, x1 k = g ⟨512 + k.val, by omega⟩) (k : Fin 1024) : join2 x0 x1 k = g k := by
  unfold join2
  split_ifs
  · exact h0 _
  · exact (h1 _).trans (congrArg g (Fin.ext (by dsimp only; omega)))

/-- The origin of a matrix. -/
theorem origin : (![0, 0] : Fin 2 → ℕ) = fun _ => 0 := funext fun a => match a with
  | ⟨0, _⟩ => rfl
  | ⟨1, _⟩ => rfl

end Cert.Lin
-- ==== Proof.Lin.QkBlock.lean ====
module
public import proofs.«01_k».proof.Proof.Gen.Kernel2Ideal.Value
public import proofs.«01_k».proof.Proof.Lin.Join
public import Idealize.ShloMosaic.Lib.Pipeline.ValueKit
public import Idealize.ShloMosaic.Lib.Pointwise
@[expose] public section
set_option maxRecDepth 16384
noncomputable section
namespace Cert.Qk
open Idealize.ShloMosaic Cert.Kernel2Ideal Cert.Kernel2Ideal.Gen Idealize.SL.Sem

/-- One entry of the block that a grid point stores: a row of the four windows, laid end to end, times a column of the weights. -/
theorem pay_apply (x0 x1 x2 x3 : FVec Ideal S1024x512 .bf16) (w : FVec Ideal S2048x512 .bf16) (r : Fin 1024) (c : Fin 512) :
    k0_pay5 (F := Ideal) x0 x1 x2 x3 w (ix2 r c)
      = ∑ k : Fin 2048, Cert.Lin.join (fun k => x0 (ix2 r k)) (fun k => x1 (ix2 r k)) (fun k => x2 (ix2 r k)) (fun k => x3 (ix2 r k)) k
          * w (ix2 k c) := by
  unfold k0_pay5 Cert.Lin.join
  pointwise

/-- Where each window's block lies at a grid point (block of rows, block of columns). -/
theorem idx_facts : ∀ t : Fin cfg0.N,
    win0_0.index t (0 : Fin 2) = (grid0.coords t 0).val ∧ win0_0.index t (1 : Fin 2) = 0
    ∧ win0_1.index t (0 : Fin 2) = (grid0.coords t 0).val ∧ win0_1.index t (1 : Fin 2) = 1
    ∧ win0_2.index t (0 : Fin 2) = (grid0.coords t 0).val ∧ win0_2.index t (1 : Fin 2) = 2
    ∧ win0_3.index t (0 : Fin 2) = (grid0.coords t 0).val ∧ win0_3.index t (1 : Fin 2) = 3
    ∧ win0_4.index t (0 : Fin 2) = 0 ∧ win0_4.index t (1 : Fin 2) = (grid0.coords t 1).val
    ∧ win0_5.index t (0 : Fin 2) = (grid0.coords t 0).val ∧ win0_5.index t (1 : Fin 2) = 0
    ∧ win0_6.index t (0 : Fin 2) = (grid0.coords t 0).val ∧ win0_6.index t (1 : Fin 2) = 0
    ∧ win0_7.index t (0 : Fin 2) = (grid0.coords t 0).val ∧ win0_7.index t (1 : Fin 2) = (grid0.coords t 1).val :=
  (by decide +kernel : ∀ t : Fin grid0.N,
    win0_0.index t (0 : Fin 2) = (grid0.coords t 0).val ∧ win0_0.index t (1 : Fin 2) = 0
    ∧ win0_1.index t (0 : Fin 2) = (grid0.coords t 0).val ∧ win0_1.index t (1 : Fin 2) = 1
    ∧ win0_2.index t (0 : Fin 2) = (grid0.coords t 0).val ∧ win0_2.index t (1 : Fin 2) = 2
    ∧ win0_3.index t (0 : Fin 2) = (grid0.coords t 0).val ∧ win0_3.index t (1 : Fin 2) = 3
    ∧ win0_4.index t (0 : Fin 2) = 0 ∧ win0_4.index t (1 : Fin 2) = (grid0.coords t 1).val
    ∧ win0_5.index t (0 : Fin 2) = (grid0.coords t 0).val ∧ win0_5.index t (1 : Fin 2) = 0
    ∧ win0_6.index t (0 : Fin 2) = (grid0.coords t 0).val ∧ win0_6.index t (1 : Fin 2) = 0
    ∧ win0_7.index t (0 : Fin 2) = (grid0.coords t 0).val ∧ win0_7.index t (1 : Fin 2) = (grid0.coords t 1).val)

/-- Every block of rows and block of columns has its grid point. -/
theorem exists_point : ∀ (i : Fin 8) (j : Fin 8), ∃ t : Fin cfg0.N, (grid0.coords t 0).val = i.val ∧ (grid0.coords t 1).val = j.val :=
  (by decide +kernel : ∀ (i : Fin 8) (j : Fin 8), ∃ t : Fin grid0.N, (grid0.coords t 0).val = i.val ∧ (grid0.coords t 1).val = j.val)

variable (m : (ℓ : Loc nD τ sig) → Buf (Elt Ideal) ℓ) (c : Dev nD)

/-- The first quarter of the rows' block. -/
theorem iblk0_apply (t : Fin cfg0.N) (r : Fin 1024) (d : Fin 512) (R : Fin 8192) (D : Fin 2048)
    (hR : R.val = 1024 * (grid0.coords t 0).val + r.val) (hD : D.val = d.val) : iblk m c 0 t (ix2 r d) = V m c main_v1 (ix2 R D) := by
  obtain ⟨h0, h1, -⟩ := idx_facts t
  unfold iblk
  blk_ext [h0, h1]

/-- The second quarter of the rows' block. -/
theorem iblk1_apply (t : Fin cfg0.N) (r : Fin 1024) (d : Fin 512) (R : Fin 8192) (D : Fin 2048)
    (hR : R.val = 1024 * (grid0.coords t 0).val + r.val) (hD : D.val = 512 + d.val) : iblk m c 1 t (ix2 r d) = V m c main_v1 (ix2 R D) := by
  obtain ⟨-, -, h0, h1, -⟩ := idx_facts t
  unfold iblk
  blk_ext [h0, h1]

/-- The third quarter of the rows' block. -/
theorem iblk2_apply (t : Fin cfg0.N) (r : Fin 1024) (d : Fin 512) (R : Fin 8192) (D : Fin 2048)
    (hR : R.val = 1024 * (grid0.coords t 0).val + r.val) (hD : D.val = 1024 + d.val) : iblk m c 2 t (ix2 r d) = V m c main_v1 (ix2 R D) := by
  obtain ⟨-, -, -, -, h0, h1, -⟩ := idx_facts t
  unfold iblk
  blk_ext [h0, h1]

/-- The fourth quarter of the rows' block. -/
theorem iblk3_apply (t : Fin cfg0.N) (r : Fin 1024) (d : Fin 512) (R : Fin 8192) (D : Fin 2048)
    (hR : R.val = 1024 * (grid0.coords t 0).val + r.val) (hD : D.val = 1536 + d.val) : iblk m c 3 t (ix2 r d) = V m c main_v1 (ix2 R D) := by
  obtain ⟨-, -, -, -, -, -, h0, h1, -⟩ := idx_facts t
  unfold iblk
  blk_ext [h0, h1]

/-- The block of the weights' columns, of queries and keys. -/
theorem iblk4_apply (t : Fin cfg0.N) (k : Fin 2048) (d : Fin 512) (D : Fin 12288)
    (hD : D.val = 512 * (grid0.coords t 1).val + d.val) : iblk m c 4 t (ix2 k d) = V m c main_v14 (ix2 k D) := by
  obtain ⟨-, -, -, -, -, -, -, -, h0, h1, -⟩ := idx_facts t
  unfold iblk
  blk_ext [h0, h1]

/-- The block of the cosines. -/
theorem iblk5_apply (t : Fin cfg0.N) (r : Fin 1024) (e : Fin 128) (R : Fin 8192)
    (hR : R.val = 1024 * (grid0.coords t 0).val + r.val) : iblk m c 5 t (ix2 r e) = V m c main_v15 (ix2 R e) := by
  obtain ⟨-, -, -, -, -, -, -, -, -, -, h0, h1, -⟩ := idx_facts t
  unfold iblk
  blk_ext [h0, h1]

/-- The block of the sines. -/
theorem iblk6_apply (t : Fin cfg0.N) (r : Fin 1024) (e : Fin 128) (R : Fin 8192)
    (hR : R.val = 1024 * (grid0.coords t 0).val + r.val) : iblk m c 6 t (ix2 r e) = V m c main_v16 (ix2 R e) := by
  obtain ⟨-, -, -, -, -, -, -, -, -, -, -, -, h0, h1, -⟩ := idx_facts t
  unfold iblk
  blk_ext [h0, h1]

/-- One entry of the array the call leaves, as the entry of the block that was written there. -/
theorem arr_block (t : Fin cfg0.N) (r : Fin 1024) (d : Fin 512) (R : Fin 8192) (D : Fin 4096)
    (hR : R.val = 1024 * (grid0.coords t 0).val + r.val) (hD : D.val = 512 * (grid0.coords t 1).val + d.val) :
    (dats m 0 c).arrAt 7 cfg0.N (ix2 R D)
      = out0_7 (grid0.coords t) (iblk m c 0 t) (iblk m c 1 t) (iblk m c 2 t) (iblk m c 3 t) (iblk m c 4 t) (iblk m c 5 t) (iblk m c 6 t) (ix2 r d) := by
  obtain ⟨-, -, -, -, -, -, -, -, -, -, -, -, -, -, h0, h1⟩ := idx_facts t
  have hb := congrFun (Cert.Kernel2Ideal.Value.blocks7 m c t (flush0_7 t)) (ix2 r d)
  rw [Cert.Kernel2Ideal.Value.flushed7] at hb
  refine Eq.trans ?_ (hb.trans ?_)
  · blk_ext [h0, h1]
  · blk_ext [h0, h1]

/-- The rows as the call takes them: the activations, flattened. -/
def rows (a : FVec Ideal S2x4096x2048 .f32) : FVec Ideal S8192x2048 .bf16 :=
  truncf .bf16 (shapeCast S8192x2048 a shapeCasts_S2x4096x2048_S8192x2048) bitsLt_bf16_f32

/-- The weights as the call takes them. -/
def wts (a : FVec Ideal S2048x12288 .f32) : FVec Ideal S2048x12288 .bf16 := truncf .bf16 a bitsLt_bf16_f32

/-- The frequencies of the rotation. -/
def freq : FVec Ideal S128 .f32 :=
  Host.powf (broadcastInDim S128 ![] bcast_S_S128 (constant (F := Ideal) S_ .f32 0x461C4000#32))
    (Host.divf (Host.negf (sitofp (F := Ideal) .f32 (iotaInDim S128 32 0))) (broadcastInDim S128 ![] bcast_S_S128 (constant (F := Ideal) S_ .f32 0x43000000#32)))

/-- The angles, one row for each token. -/
def ang (p : (⟨S2x4096, .i32⟩ : BufTy).Contents (Elt Ideal)) : FVec Ideal S8192x128 .f32 :=
  mulf (broadcastInDim S8192x128 ![0, 1] bcast_S8192x1_S8192x128_0_1 (sitofp (F := Ideal) .f32 (shapeCast S8192x1 p shapeCasts_S2x4096_S8192x1)))
    (broadcastInDim S8192x128 ![0, 1] bcast_S1x128_S8192x128_0_1 (shapeCast S1x128 freq shapeCasts_S128_S1x128))

/-- The first four windows' array is the rows. -/
theorem v1_eq : V m c main_v1 = rows (m (c, Proc.tc.devRef main_arg0)) := by
  dsimp only [V, hostOps0]
  after_results
  rfl

/-- The fifth window's array is the weights. -/
theorem v14_eq : V m c main_v14 = wts (m (c, Proc.tc.devRef main_arg2)) := by
  dsimp only [V, hostOps0]
  after_results
  rfl

/-- The sixth window's array is the cosines. -/
theorem v15_eq : V m c main_v15 = Host.cos (ang (m (c, Proc.tc.devRef main_arg1))) := by
  dsimp only [V, hostOps0]
  after_results
  rfl

/-- The seventh window's array is the sines. -/
theorem v16_eq : V m c main_v16 = Host.sin (ang (m (c, Proc.tc.devRef main_arg1))) := by
  dsimp only [V, hostOps0]
  after_results
  rfl

/-- One entry of a row. -/
theorem rows_apply (a) (R : Fin 8192) (D : Fin 2048) : rows a (ix2 R D) = a (ix3 ⟨R.val / 4096, by omega⟩ ⟨R.val % 4096, by omega⟩ D) := by
  unfold rows
  pointwise

/-- The angle of a position at a frequency. -/
def angE (p : (⟨S2x4096, .i32⟩ : BufTy).Contents (Elt Ideal)) (R : Fin 8192) (e : Fin 128) : EReal :=
  FloatOps.mulf (F := Ideal) (φ := .f32) (FloatOps.sitofp (F := Ideal) .f32 (p (ix2 ⟨R.val / 4096, by omega⟩ ⟨R.val % 4096, by omega⟩))) (freq (ix1 e))

/-- One entry of the angles. -/
theorem ang_apply (p) (R : Fin 8192) (e : Fin 128) : ang p (ix2 R e) = angE p R e := by
  unfold ang angE
  pointwise

/-- The cosine of that angle. -/
def cosE (p : (⟨S2x4096, .i32⟩ : BufTy).Contents (Elt Ideal)) (R : Fin 8192) (e : Fin 128) : EReal :=
  FloatOps.hostUnary (F := Ideal) (φ := .f32) .cos (angE p R e)

/-- The sine of that angle. -/
def sinE (p : (⟨S2x4096, .i32⟩ : BufTy).Contents (Elt Ideal)) (R : Fin 8192) (e : Fin 128) : EReal :=
  FloatOps.hostUnary (F := Ideal) (φ := .f32) .sin (angE p R e)

/-- One entry of the cosines. -/
theorem cos_apply (p) (R : Fin 8192) (e : Fin 128) : Host.cos (ang p) (ix2 R e) = cosE p R e :=
  congrArg (FloatOps.hostUnary (F := Ideal) (φ := .f32) .cos) (ang_apply p R e)

/-- One entry of the sines. -/
theorem sin_apply (p) (R : Fin 8192) (e : Fin 128) : Host.sin (ang p) (ix2 R e) = sinE p R e :=
  congrArg (FloatOps.hostUnary (F := Ideal) (φ := .f32) .sin) (ang_apply p R e)

/-- One row of the activations times one column of the weights. -/
def prod (a : FVec Ideal S2x4096x2048 .f32) (w : FVec Ideal S2048x12288 .f32) (R : Fin 8192) (D : Fin 12288) : EReal :=
  ∑ k : Fin 2048, a (ix3 ⟨R.val / 4096, by omega⟩ ⟨R.val % 4096, by omega⟩ k) * w (ix2 k D)

/-- The scale of a column: one for the queries, a sixteenth for the keys. -/
def scE (D : Fin 4096) : EReal := if D.val < 2048 then 1 else Ideal.ofBits .f32 0x3D800000#32

/-- The comparison of the column block with the first key column, as the kernel makes it. -/
theorem sel_iff : ∀ j : Fin 8, Scalar.cmpi .sge (Scalar.muli (BitVec.ofNat 32 j.val) 512#32) 2048#32 = (if j.val < 4 then 0#1 else 1#1) := by
  decide

/-- The scale as the kernel chooses it at a grid point. -/
theorem scale_eq (i : grid0.Coords) : k0_pay8 (F := Ideal) i = if (i 1).val < 4 then 1 else Ideal.ofBits .f32 0x3D800000#32 := by
  have h := sel_iff (i 1)
  unfold k0_pay8
  dsimp only
  rw [h]
  split_ifs
  · show Ideal.ofBits .f32 0x3F800000#32 = 1
    simp [Ideal.ofBits, Ideal.ieee]
    rw [← EReal.coe_mul, ← EReal.coe_one]
    norm_num
  · rfl

/-- The first quarter of the columns that a grid point stores: first half of a rotated head. -/
theorem quarter0 (i : grid0.Coords) (x0 x1 x2 x3 : FVec Ideal S1024x512 .bf16) (x4 : FVec Ideal S2048x512 .bf16) (x5 x6 : FVec Ideal S1024x128 .f32) (r : Fin 1024) (e : Fin 128) :
    k0_pay11 (F := Ideal) i x0 x1 x2 x3 x4 x5 x6 (ix2 r e)
      = (k0_pay5 (F := Ideal) x0 x1 x2 x3 x4 (ix2 r ⟨0 + e.val, by omega⟩) * x5 (ix2 r e)
        - k0_pay5 (F := Ideal) x0 x1 x2 x3 x4 (ix2 r ⟨128 + e.val, by omega⟩) * x6 (ix2 r e)) * k0_pay8 (F := Ideal) i := by
  unfold k0_pay11 k0_pay9 k0_pay10 k0_pay6 k0_pay7
  pointwise

/-- Where the first quarter lies in the block. -/
theorem out0 (i : grid0.Coords) (x0 x1 x2 x3 : FVec Ideal S1024x512 .bf16) (x4 : FVec Ideal S2048x512 .bf16) (x5 x6 : FVec Ideal S1024x128 .f32) (r : Fin 1024) (e : Fin 128) :
    out0_7 (F := Ideal) i x0 x1 x2 x3 x4 x5 x6 (ix2 r ⟨0 + e.val, by omega⟩)
      = (k0_pay5 (F := Ideal) x0 x1 x2 x3 x4 (ix2 r ⟨0 + e.val, by omega⟩) * x5 (ix2 r e)
        - k0_pay5 (F := Ideal) x0 x1 x2 x3 x4 (ix2 r ⟨128 + e.val, by omega⟩) * x6 (ix2 r e)) * k0_pay8 (F := Ideal) i := by
  refine Eq.trans ?_ (quarter0 i x0 x1 x2 x3 x4 x5 x6 r e)
  unfold_out out0_7
  rw [View.ld_unit_zero, View.ld_unit_zero, View.ld_unit_zero, View.ld_unit_zero, View.ld_unit_zero, View.ld_unit_zero, View.ld_unit_zero]
  rw [View.canon_cons_of_not_mem, View.canon_cons_of_not_mem, View.canon_cons_of_not_mem, show (ix2 r (⟨0 + e.val, by omega⟩ : Fin 512)) = (Rect.unit (s := S1024x512) ![0, 0] S1024x128.size inb_S1024x512_S1024x128_0_0).emb (ix2 r e) from ?_, View.canon_cons_emb]
  · funext a
    fin_cases a <;> exact Fin.ext (by simp [Rect.emb_apply])
  all_goals first
    | exact Cert.Lin.origin
    | (rw [Rect.mem_set_unit]
       intro h
       have h := (h 1).1
       simp at h
       omega)

/-- The second quarter of the columns that a grid point stores: second half of a rotated head. -/
theorem quarter1 (i : grid0.Coords) (x0 x1 x2 x3 : FVec Ideal S1024x512 .bf16) (x4 : FVec Ideal S2048x512 .bf16) (x5 x6 : FVec Ideal S1024x128 .f32) (r : Fin 1024) (e : Fin 128) :
    k0_pay12 (F := Ideal) i x0 x1 x2 x3 x4 x5 x6 (ix2 r e)
      = (k0_pay5 (F := Ideal) x0 x1 x2 x3 x4 (ix2 r ⟨128 + e.val, by omega⟩) * x5 (ix2 r e)
        + k0_pay5 (F := Ideal) x0 x1 x2 x3 x4 (ix2 r ⟨0 + e.val, by omega⟩) * x6 (ix2 r e)) * k0_pay8 (F := Ideal) i := by
  unfold k0_pay12 k0_pay9 k0_pay10 k0_pay6 k0_pay7
  pointwise

/-- Where the second quarter lies in the block. -/
theorem out1 (i : grid0.Coords) (x0 x1 x2 x3 : FVec Ideal S1024x512 .bf16) (x4 : FVec Ideal S2048x512 .bf16) (x5 x6 : FVec Ideal S1024x128 .f32) (r : Fin 1024) (e : Fin 128) :
    out0_7 (F := Ideal) i x0 x1 x2 x3 x4 x5 x6 (ix2 r ⟨128 + e.val, by omega⟩)
      = (k0_pay5 (F := Ideal) x0 x1 x2 x3 x4 (ix2 r ⟨128 + e.val, by omega⟩) * x5 (ix2 r e)
        + k0_pay5 (F := Ideal) x0 x1 x2 x3 x4 (ix2 r ⟨0 + e.val, by omega⟩) * x6 (ix2 r e)) * k0_pay8 (F := Ideal) i := by
  refine Eq.trans ?_ (quarter1 i x0 x1 x2 x3 x4 x5 x6 r e)
  unfold_out out0_7
  rw [View.ld_unit_zero, View.ld_unit_zero, View.ld_unit_zero, View.ld_unit_zero, View.ld_unit_zero, View.ld_unit_zero, View.ld_unit_zero]
  rw [View.canon_cons_of_not_mem, View.canon_cons_of_not_mem, show (ix2 r (⟨128 + e.val, by omega⟩ : Fin 512)) = (Rect.unit (s := S1024x512) ![0, 128] S1024x128.size inb_S1024x512_S1024x128_0_128).emb (ix2 r e) from ?_, View.canon_cons_emb]
  · funext a
    fin_cases a <;> exact Fin.ext (by simp [Rect.emb_apply])
  all_goals first
    | exact Cert.Lin.origin
    | (rw [Rect.mem_set_unit]
       intro h
       have h := (h 1).1
       simp at h
       omega)

/-- The third quarter of the columns that a grid point stores: first half of a rotated head. -/
theorem quarter2 (i : grid0.Coords) (x0 x1 x2 x3 : FVec Ideal S1024x512 .bf16) (x4 : FVec Ideal S2048x512 .bf16) (x5 x6 : FVec Ideal S1024x128 .f32) (r : Fin 1024) (e : Fin 128) :
    k0_pay3 (F := Ideal) (k0_pay5 x0 x1 x2 x3 x4) (k0_pay6 x5) (k0_pay7 x6) (k0_pay8 (F := Ideal) i) (ix2 r e)
      = (k0_pay5 (F := Ideal) x0 x1 x2 x3 x4 (ix2 r ⟨256 + e.val, by omega⟩) * x5 (ix2 r e)
        - k0_pay5 (F := Ideal) x0 x1 x2 x3 x4 (ix2 r ⟨384 + e.val, by omega⟩) * x6 (ix2 r e)) * k0_pay8 (F := Ideal) i := by
  unfold k0_pay3 k0_pay1 k0_pay2 k0_pay6 k0_pay7
  pointwise

/-- Where the third quarter lies in the block. -/
theorem out2 (i : grid0.Coords) (x0 x1 x2 x3 : FVec Ideal S1024x512 .bf16) (x4 : FVec Ideal S2048x512 .bf16) (x5 x6 : FVec Ideal S1024x128 .f32) (r : Fin 1024) (e : Fin 128) :
    out0_7 (F := Ideal) i x0 x1 x2 x3 x4 x5 x6 (ix2 r ⟨256 + e.val, by omega⟩)
      = (k0_pay5 (F := Ideal) x0 x1 x2 x3 x4 (ix2 r ⟨256 + e.val, by omega⟩) * x5 (ix2 r e)
        - k0_pay5 (F := Ideal) x0 x1 x2 x3 x4 (ix2 r ⟨384 + e.val, by omega⟩) * x6 (ix2 r e)) * k0_pay8 (F := Ideal) i := by
  refine Eq.trans ?_ (quarter2 i x0 x1 x2 x3 x4 x5 x6 r e)
  unfold_out out0_7
  rw [View.ld_unit_zero, View.ld_unit_zero, View.ld_unit_zero, View.ld_unit_zero, View.ld_unit_zero, View.ld_unit_zero, View.ld_unit_zero]
  rw [View.canon_cons_of_not_mem, show (ix2 r (⟨256 + e.val, by omega⟩ : Fin 512)) = (Rect.unit (s := S1024x512) ![0, 256] S1024x128.size inb_S1024x512_S1024x128_0_256).emb (ix2 r e) from ?_, View.canon_cons_emb]
  · funext a
    fin_cases a <;> exact Fin.ext (by simp [Rect.emb_apply])
  all_goals first
    | exact Cert.Lin.origin
    | (rw [Rect.mem_set_unit]
       intro h
       have h := (h 1).1
       simp at h
       omega)

/-- The fourth quarter of the columns that a grid point stores: second half of a rotated head. -/
theorem quarter3 (i : grid0.Coords) (x0 x1 x2 x3 : FVec Ideal S1024x512 .bf16) (x4 : FVec Ideal S2048x512 .bf16) (x5 x6 : FVec Ideal S1024x128 .f32) (r : Fin 1024) (e : Fin 128) :
    k0_pay4 (F := Ideal) (k0_pay5 x0 x1 x2 x3 x4) (k0_pay6 x5) (k0_pay7 x6) (k0_pay8 (F := Ideal) i) (ix2 r e)
      = (k0_pay5 (F := Ideal) x0 x1 x2 x3 x4 (ix2 r ⟨384 + e.val, by omega⟩) * x5 (ix2 r e)
        + k0_pay5 (F := Ideal) x0 x1 x2 x3 x4 (ix2 r ⟨256 + e.val, by omega⟩) * x6 (ix2 r e)) * k0_pay8 (F := Ideal) i := by
  unfold k0_pay4 k0_pay1 k0_pay2 k0_pay6 k0_pay7
  pointwise

/-- Where the fourth quarter lies in the block. -/
theorem out3 (i : grid0.Coords) (x0 x1 x2 x3 : FVec Ideal S1024x512 .bf16) (x4 : FVec Ideal S2048x512 .bf16) (x5 x6 : FVec Ideal S1024x128 .f32) (r : Fin 1024) (e : Fin 128) :
    out0_7 (F := Ideal) i x0 x1 x2 x3 x4 x5 x6 (ix2 r ⟨384 + e.val, by omega⟩)
      = (k0_pay5 (F := Ideal) x0 x1 x2 x3 x4 (ix2 r ⟨384 + e.val, by omega⟩) * x5 (ix2 r e)
        + k0_pay5 (F := Ideal) x0 x1 x2 x3 x4 (ix2 r ⟨256 + e.val, by omega⟩) * x6 (ix2 r e)) * k0_pay8 (F := Ideal) i := by
  refine Eq.trans ?_ (quarter3 i x0 x1 x2 x3 x4 x5 x6 r e)
  unfold_out out0_7
  rw [View.ld_unit_zero, View.ld_unit_zero, View.ld_unit_zero, View.ld_unit_zero, View.ld_unit_zero, View.ld_unit_zero, View.ld_unit_zero]
  rw [show (ix2 r (⟨384 + e.val, by omega⟩ : Fin 512)) = (Rect.unit (s := S1024x512) ![0, 384] S1024x128.size inb_S1024x512_S1024x128_0_384).emb (ix2 r e) from ?_, View.canon_cons_emb]
  · funext a
    fin_cases a <;> exact Fin.ext (by simp [Rect.emb_apply])
  all_goals first
    | exact Cert.Lin.origin
    | (rw [Rect.mem_set_unit]
       intro h
       have h := (h 1).1
       simp at h
       omega)

/-- One column of the rotated product. -/
def rotE (a : FVec Ideal S2x4096x2048 .f32) (p : (⟨S2x4096, .i32⟩ : BufTy).Contents (Elt Ideal)) (w : FVec Ideal S2048x12288 .f32)
    (R : Fin 8192) (D : Fin 4096) : EReal :=
  (if h : D.val % 256 < 128 then
      prod a w R ⟨D.val, by omega⟩ * cosE p R ⟨D.val % 256, h⟩ - prod a w R ⟨D.val + 128, by omega⟩ * sinE p R ⟨D.val % 256, h⟩
    else prod a w R ⟨D.val, by omega⟩ * cosE p R ⟨D.val % 256 - 128, by omega⟩
      + prod a w R ⟨D.val - 128, by omega⟩ * sinE p R ⟨D.val % 256 - 128, by omega⟩)

/-- One column of the array: queries and keys of the retention, rotated, the keys scaled. -/
def rot (a : FVec Ideal S2x4096x2048 .f32) (p : (⟨S2x4096, .i32⟩ : BufTy).Contents (Elt Ideal)) (w : FVec Ideal S2048x12288 .f32)
    (R : Fin 8192) (D : Fin 4096) : EReal := rotE a p w R D * scE D

/-- One entry of the product at a grid point. -/
theorem blk_apply (t : Fin cfg0.N) (r : Fin 1024) (d : Fin 512) (R : Fin 8192) (D : Fin 12288)
    (hr : R.val = 1024 * (grid0.coords t 0).val + r.val) (hD : D.val = 512 * (grid0.coords t 1).val + d.val) :
    k0_pay5 (F := Ideal) (iblk m c 0 t) (iblk m c 1 t) (iblk m c 2 t) (iblk m c 3 t) (iblk m c 4 t) (ix2 r d)
      = prod (m (c, Proc.tc.devRef main_arg0)) (m (c, Proc.tc.devRef main_arg2)) R D := by
  refine (pay_apply _ _ _ _ _ _ _).trans (Finset.sum_congr rfl fun k _ => congrArg₂ (· * ·) ?_ ?_)
  · refine (Cert.Lin.join_eq (fun k => rows (m (c, Proc.tc.devRef main_arg0)) (ix2 R k)) _ _ _ _
      (fun d => ?_) (fun d => ?_) (fun d => ?_) (fun d => ?_) k).trans (rows_apply _ _ _)
    · exact (iblk0_apply m c t _ d R ⟨d.val, by omega⟩ hr rfl).trans (congrFun (v1_eq m c) _)
    · exact (iblk1_apply m c t _ d R ⟨512 + d.val, by omega⟩ hr rfl).trans (congrFun (v1_eq m c) _)
    · exact (iblk2_apply m c t _ d R ⟨1024 + d.val, by omega⟩ hr rfl).trans (congrFun (v1_eq m c) _)
    · exact (iblk3_apply m c t _ d R ⟨1536 + d.val, by omega⟩ hr rfl).trans (congrFun (v1_eq m c) _)
  · exact (iblk4_apply m c t k _ D hD).trans (congrFun (v14_eq m c) _)

/-- The scale at a grid point is the scale of each of its columns. -/
theorem sc_eq (t : Fin cfg0.N) (d : Fin 512) (D : Fin 4096) (hD : D.val = 512 * (grid0.coords t 1).val + d.val) :
    k0_pay8 (F := Ideal) (grid0.coords t) = scE D := by
  rw [scale_eq]
  unfold scE
  exact if_congr (by omega) rfl rfl

/-- WHAT THE CALL LEAVES: the rotated queries and the rotated, scaled keys. -/
theorem arr_apply (R : Fin 8192) (D : Fin 4096) :
    (dats m 0 c).arrAt 7 cfg0.N (ix2 R D)
      = rot (m (c, Proc.tc.devRef main_arg0)) (m (c, Proc.tc.devRef main_arg1)) (m (c, Proc.tc.devRef main_arg2)) R D := by
  obtain ⟨t, hi, hj⟩ := exists_point ⟨R.val / 1024, by omega⟩ ⟨D.val / 512, by omega⟩
  dsimp only at hi hj
  have hr : R.val = 1024 * (grid0.coords t 0).val + R.val % 1024 := by omega
  have hd : D.val = 512 * (grid0.coords t 1).val + D.val % 512 := by omega
  have hc : ∀ e : Fin 128, iblk m c 5 t (ix2 (⟨R.val % 1024, by omega⟩ : Fin 1024) e) = cosE (m (c, Proc.tc.devRef main_arg1)) R e := fun e =>
    (iblk5_apply m c t ⟨R.val % 1024, by omega⟩ e R hr).trans ((congrFun (v15_eq m c) _).trans (cos_apply _ R e))
  have hs : ∀ e : Fin 128, iblk m c 6 t (ix2 (⟨R.val % 1024, by omega⟩ : Fin 1024) e) = sinE (m (c, Proc.tc.devRef main_arg1)) R e := fun e =>
    (iblk6_apply m c t ⟨R.val % 1024, by omega⟩ e R hr).trans ((congrFun (v16_eq m c) _).trans (sin_apply _ R e))
  have hb := fun d D h => blk_apply m c t ⟨R.val % 1024, by omega⟩ d R D hr h
  rw [arr_block m c t ⟨R.val % 1024, by omega⟩ ⟨D.val % 512, by omega⟩ R D hr hd]
  unfold rot rotE
  rw [← sc_eq t ⟨D.val % 512, by omega⟩ D hd]
  have hq : D.val % 512 / 128 = 0 ∨ D.val % 512 / 128 = 1 ∨ D.val % 512 / 128 = 2 ∨ D.val % 512 / 128 = 3 := by omega
  rcases hq with h | h | h | h
  · have e : (⟨D.val % 512, by omega⟩ : Fin 512) = ⟨0 + (⟨D.val % 512 - 0, by omega⟩ : Fin 128).val, by dsimp only; omega⟩ := Fin.ext (by dsimp only; omega)
    have e2 : (⟨D.val % 512 - 0, by omega⟩ : Fin 128) = ⟨D.val % 256, by omega⟩ := Fin.ext (by dsimp only; omega)
    rw [dif_pos (by omega), e, out0, hb _ ⟨D.val, by omega⟩ (by dsimp only; omega), hb _ ⟨D.val + 128, by omega⟩ (by dsimp only; omega)]
    refine congrArg (· * k0_pay8 (F := Ideal) (grid0.coords t)) (congrArg₂ HSub.hSub (congrArg (_ * ·) ?_) (congrArg (_ * ·) ?_))
    · exact (hc _).trans (congrArg _ e2)
    · exact (hs _).trans (congrArg _ e2)
  · have e : (⟨D.val % 512, by omega⟩ : Fin 512) = ⟨128 + (⟨D.val % 512 - 128, by omega⟩ : Fin 128).val, by dsimp only; omega⟩ := Fin.ext (by dsimp only; omega)
    have e2 : (⟨D.val % 512 - 128, by omega⟩ : Fin 128) = ⟨D.val % 256 - 128, by omega⟩ := Fin.ext (by dsimp only; omega)
    rw [dif_neg (by omega), e, out1, hb _ ⟨D.val, by omega⟩ (by dsimp only; omega), hb _ ⟨D.val - 128, by omega⟩ (by dsimp only; omega)]
    refine congrArg (· * k0_pay8 (F := Ideal) (grid0.coords t)) (congrArg₂ HAdd.hAdd (congrArg (_ * ·) ?_) (congrArg (_ * ·) ?_))
    · exact (hc _).trans (congrArg _ e2)
    · exact (hs _).trans (congrArg _ e2)
  · have e : (⟨D.val % 512, by omega⟩ : Fin 512) = ⟨256 + (⟨D.val % 512 - 256, by omega⟩ : Fin 128).val, by dsimp only; omega⟩ := Fin.ext (by dsimp only; omega)
    have e2 : (⟨D.val % 512 - 256, by omega⟩ : Fin 128) = ⟨D.val % 256, by omega⟩ := Fin.ext (by dsimp only; omega)
    rw [dif_pos (by omega), e, out2, hb _ ⟨D.val, by omega⟩ (by dsimp only; omega), hb _ ⟨D.val + 128, by omega⟩ (by dsimp only; omega)]
    refine congrArg (· * k0_pay8 (F := Ideal) (grid0.coords t)) (congrArg₂ HSub.hSub (congrArg (_ * ·) ?_) (congrArg (_ * ·) ?_))
    · exact (hc _).trans (congrArg _ e2)
    · exact (hs _).trans (congrArg _ e2)
  · have e : (⟨D.val % 512, by omega⟩ : Fin 512) = ⟨384 + (⟨D.val % 512 - 384, by omega⟩ : Fin 128).val, by dsimp only; omega⟩ := Fin.ext (by dsimp only; omega)
    have e2 : (⟨D.val % 512 - 384, by omega⟩ : Fin 128) = ⟨D.val % 256 - 128, by omega⟩ := Fin.ext (by dsimp only; omega)
    rw [dif_neg (by omega), e, out3, hb _ ⟨D.val, by omega⟩ (by dsimp only; omega), hb _ ⟨D.val - 128, by omega⟩ (by dsimp only; omega)]
    refine congrArg (· * k0_pay8 (F := Ideal) (grid0.coords t)) (congrArg₂ HAdd.hAdd (congrArg (_ * ·) ?_) (congrArg (_ * ·) ?_))
    · exact (hc _).trans (congrArg _ e2)
    · exact (hs _).trans (congrArg _ e2)

end Cert.Qk
-- ==== Proof.Lin.QkRef.lean ====
module
public import proofs.«01_k».proof.Proof.Gen.Reference2Ideal.Read
public import proofs.«01_k».proof.Proof.Lin.QkBlock
@[expose] public section
set_option maxRecDepth 16384
noncomputable section
namespace Cert.Qk
open Idealize.ShloMosaic Cert.Reference2Ideal Cert.Reference2Ideal.Gen Cert.Reference2Ideal.Read Idealize.SL.Sem

variable (a : FVec Ideal S2x4096x2048 .f32) (p : (⟨S2x4096, .i32⟩ : BufTy).Contents (Elt Ideal)) (w : FVec Ideal S2048x12288 .f32)

/-- The reference's frequencies. -/
theorem v8_eq : val_main_v8 (F := Ideal) = freq := rfl

/-- The product, one entry. -/
theorem v0_apply (R : Fin 8192) (D : Fin 12288) :
    val_main_v0 (F := Ideal) a w (ix3 ⟨R.val / 4096, by omega⟩ ⟨R.val % 4096, by omega⟩ D) = prod a w R D := by
  unfold val_main_v0 prod
  pointwise

/-- The angles, one entry. -/
theorem v14_apply (R : Fin 8192) (e : Fin 128) : val_main_v14 (F := Ideal) p (ix3 ⟨R.val / 4096, by omega⟩ ⟨R.val % 4096, by omega⟩ e) = angE p R e := by
  unfold val_main_v14 val_main_v12 val_main_v13 val_main_v10 val_main_v11 val_main_v9 angE
  rw [v8_eq]
  pointwise

/-- The cosines for the keys are those for the queries. -/
theorem v46_eq : val_main_v46 (F := Ideal) p = val_main_v15 (F := Ideal) p := rfl

/-- The sines for the keys are those for the queries. -/
theorem v48_eq : val_main_v48 (F := Ideal) p = val_main_v17 (F := Ideal) p := rfl

/-- The cosines, one entry. -/
theorem v15_apply (R : Fin 8192) (e : Fin 128) : val_main_v15 (F := Ideal) p (ix3 ⟨R.val / 4096, by omega⟩ ⟨R.val % 4096, by omega⟩ e) = cosE p R e :=
  congrArg (FloatOps.hostUnary (F := Ideal) (φ := .f32) .cos) (v14_apply p R e)

/-- The sines, one entry. -/
theorem v17_apply (R : Fin 8192) (e : Fin 128) : val_main_v17 (F := Ideal) p (ix3 ⟨R.val / 4096, by omega⟩ ⟨R.val % 4096, by omega⟩ e) = sinE p R e :=
  congrArg (FloatOps.hostUnary (F := Ideal) (φ := .f32) .sin) (v14_apply p R e)

/-- The queries, rotated. -/
theorem v31_apply (R : Fin 8192) (hh : Fin 8) (d : Fin 256) (D : Fin 4096) (hD : D.val = 256 * hh.val + d.val) :
    val_main_v31 (F := Ideal) a p w (ix4 ⟨R.val / 4096, by omega⟩ ⟨R.val % 4096, by omega⟩ hh d) = rotE a p w R D := by
  unfold val_main_v31 val_main_v25 val_main_v30 val_main_v22 val_main_v24 val_main_v27 val_main_v29 val_main_v21 val_main_v23 val_main_v26 val_main_v28 val_main_v19 val_main_v20 val_main_v16 val_main_v18 val_main_v2 val_main_v1
  pointwise
  simp only [v0_apply, v15_apply, v17_apply]
  unfold rotE
  by_cases h : d.val < 128
  · rw [dif_pos h, dif_pos (by omega)]
    exact congrArg₂ _ (congrArg₂ _ (congrArg (prod a w R) (Fin.ext (by dsimp only; omega))) (congrArg (cosE p R) (Fin.ext (by dsimp only; omega))))
      (congrArg₂ _ (congrArg (prod a w R) (Fin.ext (by dsimp only; omega))) (congrArg (sinE p R) (Fin.ext (by dsimp only; omega))))
  · rw [dif_neg h, dif_neg (by omega)]
    exact congrArg₂ _ (congrArg₂ _ (congrArg (prod a w R) (Fin.ext (by dsimp only; omega))) (congrArg (cosE p R) (Fin.ext (by dsimp only; omega))))
      (congrArg₂ _ (congrArg (prod a w R) (Fin.ext (by dsimp only; omega))) (congrArg (sinE p R) (Fin.ext (by dsimp only; omega))))

/-- The keys, rotated, before they are scaled. -/
theorem v62_apply (R : Fin 8192) (hh : Fin 8) (d : Fin 256) (D : Fin 4096) (hD : D.val = 2048 + 256 * hh.val + d.val) :
    val_main_v62 (F := Ideal) a p w (ix4 ⟨R.val / 4096, by omega⟩ ⟨R.val % 4096, by omega⟩ hh d) = rotE a p w R D := by
  unfold val_main_v62 val_main_v56 val_main_v61 val_main_v53 val_main_v55 val_main_v58 val_main_v60 val_main_v52 val_main_v54 val_main_v57 val_main_v59 val_main_v50 val_main_v51 val_main_v47 val_main_v49 val_main_v33 val_main_v32
  pointwise
  simp only [v46_eq, v48_eq, v0_apply, v15_apply, v17_apply]
  unfold rotE
  by_cases h : d.val < 128
  · rw [dif_pos h, dif_pos (by omega)]
    exact congrArg₂ _ (congrArg₂ _ (congrArg (prod a w R) (Fin.ext (by dsimp only; omega))) (congrArg (cosE p R) (Fin.ext (by dsimp only; omega))))
      (congrArg₂ _ (congrArg (prod a w R) (Fin.ext (by dsimp only; omega))) (congrArg (sinE p R) (Fin.ext (by dsimp only; omega))))
  · rw [dif_neg h, dif_neg (by omega)]
    exact congrArg₂ _ (congrArg₂ _ (congrArg (prod a w R) (Fin.ext (by dsimp only; omega))) (congrArg (cosE p R) (Fin.ext (by dsimp only; omega))))
      (congrArg₂ _ (congrArg (prod a w R) (Fin.ext (by dsimp only; omega))) (congrArg (sinE p R) (Fin.ext (by dsimp only; omega))))

/-- The reference's array: the rotated queries and the rotated, scaled keys. -/
theorem ref_apply (R : Fin 8192) (D : Fin 4096) : val_main_v68 (F := Ideal) a p w (ix2 R D) = rot a p w R D := by
  unfold val_main_v68 val_main_v67 val_main_v66 val_main_v65 val_main_v64 val_main_v63
  pointwise
  unfold rot scE
  by_cases h : D.val < 2048
  · rw [dif_pos h, if_pos h, mul_one]
    exact v31_apply a p w R _ _ D (by dsimp only; omega)
  · rw [dif_neg h, if_neg h]
    exact congrArg₂ _ (v62_apply a p w R _ _ D (by dsimp only; omega)) rfl

end Cert.Qk
-- ==== Proof.Lin.QkClaim.lean ====
module
public import proofs.«01_k».proof.Defs
public import proofs.«01_k».proof.Proof.Gen.Kernel2Ideal.Value
public import proofs.«01_k».proof.Proof.Gen.Reference2Ideal.Run
public import proofs.«01_k».proof.Proof.Lin.QkRef
public import Idealize.ShloMosaic.Adequacy
public import Idealize.ShloMosaic.Init
@[expose] public section
noncomputable section
namespace Cert.Qk
open Idealize.ShloMosaic Idealize.SL.Sem

/-- The reference of the queries and keys of the retention ends with its arguments unchanged and every counter at zero. -/
theorem frame_ref (m : (ℓ : Loc Cert.Reference2Ideal.nD Cert.Reference2Ideal.τ Cert.Reference2Ideal.sig) → Buf (Elt Ideal) ℓ) (g : Dev Cert.Reference2Ideal.nD → PrngReg) :
    θ_run (Cert.Reference2Ideal.defs (F := Ideal)) (onTc (τ := Cert.Reference2Ideal.τ) (Cert.Reference2Ideal.main (F := Ideal))) ⟨m, fun _ => 0, g⟩
      (fun r => (∀ c : Dev Cert.Reference2Ideal.nD,
        r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
        ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
        ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
        ∧ r.2.sem = fun _ => 0) :=
  (θ_run Cert.Reference2Ideal.defs _ _).mono
    (fun r h => ⟨fun c => (h c).2, sem_eq_zero_of_no_sems (by decide) r.2⟩)
    (Cert.Reference2Ideal.Value.run m g)

/-- The array of the queries and keys of the retention is the reference's. -/
theorem arr_eq (m : (ℓ : Loc Cert.Kernel2Ideal.nD Cert.Kernel2Ideal.τ Cert.Kernel2Ideal.sig) → Buf (Elt Ideal) ℓ) (c : Dev Cert.Kernel2Ideal.nD) :
    (Cert.Kernel2Ideal.Gen.dats m 0 c).arrAt 7 Cert.Kernel2Ideal.cfg0.N
      = Cert.Reference2Ideal.Read.val_main_v68 (F := Ideal) (m (c, Proc.tc.devRef Cert.Kernel2Ideal.main_arg0)) (m (c, Proc.tc.devRef Cert.Kernel2Ideal.main_arg1)) (m (c, Proc.tc.devRef Cert.Kernel2Ideal.main_arg2)) := by
  funext i
  have e : i = ix2 (⟨(i 0).val, (i 0).isLt⟩ : Fin 8192) (⟨(i 1).val, (i 1).isLt⟩ : Fin 4096) := by
    funext a
    match a with
    | ⟨0, _⟩ => rfl
    | ⟨1, _⟩ => rfl
  rw [e]
  exact (arr_apply m c _ _).trans (ref_apply _ _ _ _ _).symm

/-- Kernel and reference of the queries and keys of the retention compute one function. -/
theorem algebraic : Cert.algebraic_Kernel2Ideal_Reference2Ideal (hKernel2Ideal := Cert.Kernel2Ideal.Gen.facts)
    (hReference2Ideal := Cert.Reference2Ideal.Gen.facts) := by
  intro m g m' g' _ hargs
  refine ⟨fun c => (Cert.Kernel2Ideal.Gen.dats m 0 c).arrAt 7 Cert.Kernel2Ideal.cfg0.N, Cert.Kernel2Ideal.Value.run_blocks m g, ?_⟩
  refine (θ_run Cert.Reference2Ideal.defs _ _).mono (fun r h c => ⟨(h c).1.trans ?_, (h c).2⟩) (Cert.Reference2Ideal.Value.run m' g')
  obtain ⟨e0, e1, e2⟩ := hargs c
  rw [Cert.Reference2Ideal.Read.val_main_v68_eq, e0, e1, e2]
  exact (arr_eq m c).symm

end Cert.Qk
-- ==== Proof.Lin.VgBlock.lean ====
module
public import proofs.«01_k».proof.Proof.Gen.Kernel3Ideal.Value
public import proofs.«01_k».proof.Proof.Lin.Join
public import Idealize.ShloMosaic.Lib.Pipeline.ValueKit
public import Idealize.ShloMosaic.Lib.Pointwise
@[expose] public section
set_option maxRecDepth 16384
noncomputable section
namespace Cert.Vg
open Idealize.ShloMosaic Cert.Kernel3Ideal Cert.Kernel3Ideal.Gen Idealize.SL.Sem

/-- One entry of the block that a grid point stores: a row of the four windows, laid end to end, times a column of the weights. -/
theorem pay_apply (x0 x1 x2 x3 : FVec Ideal S1024x512 .bf16) (w : FVec Ideal S2048x512 .bf16) (r : Fin 1024) (c : Fin 512) :
    k0_pay1 (F := Ideal) x0 x1 x2 x3 w (ix2 r c)
      = ∑ k : Fin 2048, Cert.Lin.join (fun k => x0 (ix2 r k)) (fun k => x1 (ix2 r k)) (fun k => x2 (ix2 r k)) (fun k => x3 (ix2 r k)) k
          * w (ix2 k c) := by
  unfold k0_pay1 Cert.Lin.join
  pointwise

/-- Where each window's block lies at a grid point (block of rows, block of columns). -/
theorem idx_facts : ∀ t : Fin cfg0.N,
    win0_0.index t (0 : Fin 2) = (grid0.coords t 0).val ∧ win0_0.index t (1 : Fin 2) = 0
    ∧ win0_1.index t (0 : Fin 2) = (grid0.coords t 0).val ∧ win0_1.index t (1 : Fin 2) = 1
    ∧ win0_2.index t (0 : Fin 2) = (grid0.coords t 0).val ∧ win0_2.index t (1 : Fin 2) = 2
    ∧ win0_3.index t (0 : Fin 2) = (grid0.coords t 0).val ∧ win0_3.index t (1 : Fin 2) = 3
    ∧ win0_4.index t (0 : Fin 2) = 0 ∧ win0_4.index t (1 : Fin 2) = (grid0.coords t 1).val + 8
    ∧ win0_5.index t (0 : Fin 2) = (grid0.coords t 0).val ∧ win0_5.index t (1 : Fin 2) = (grid0.coords t 1).val :=
  (by decide +kernel : ∀ t : Fin grid0.N,
    win0_0.index t (0 : Fin 2) = (grid0.coords t 0).val ∧ win0_0.index t (1 : Fin 2) = 0
    ∧ win0_1.index t (0 : Fin 2) = (grid0.coords t 0).val ∧ win0_1.index t (1 : Fin 2) = 1
    ∧ win0_2.index t (0 : Fin 2) = (grid0.coords t 0).val ∧ win0_2.index t (1 : Fin 2) = 2
    ∧ win0_3.index t (0 : Fin 2) = (grid0.coords t 0).val ∧ win0_3.index t (1 : Fin 2) = 3
    ∧ win0_4.index t (0 : Fin 2) = 0 ∧ win0_4.index t (1 : Fin 2) = (grid0.coords t 1).val + 8
    ∧ win0_5.index t (0 : Fin 2) = (grid0.coords t 0).val ∧ win0_5.index t (1 : Fin 2) = (grid0.coords t 1).val)

/-- Every block of rows and block of columns has its grid point. -/
theorem exists_point : ∀ (i : Fin 8) (j : Fin 16), ∃ t : Fin cfg0.N, (grid0.coords t 0).val = i.val ∧ (grid0.coords t 1).val = j.val :=
  (by decide +kernel : ∀ (i : Fin 8) (j : Fin 16), ∃ t : Fin grid0.N, (grid0.coords t 0).val = i.val ∧ (grid0.coords t 1).val = j.val)

variable (m : (ℓ : Loc nD τ sig) → Buf (Elt Ideal) ℓ) (c : Dev nD)

/-- The first quarter of the rows' block. -/
theorem iblk0_apply (t : Fin cfg0.N) (r : Fin 1024) (d : Fin 512) (R : Fin 8192) (D : Fin 2048)
    (hR : R.val = 1024 * (grid0.coords t 0).val + r.val) (hD : D.val = d.val) : iblk m c 0 t (ix2 r d) = V m c main_v1 (ix2 R D) := by
  obtain ⟨h0, h1, -⟩ := idx_facts t
  unfold iblk
  blk_ext [h0, h1]

/-- The second quarter of the rows' block. -/
theorem iblk1_apply (t : Fin cfg0.N) (r : Fin 1024) (d : Fin 512) (R : Fin 8192) (D : Fin 2048)
    (hR : R.val = 1024 * (grid0.coords t 0).val + r.val) (hD : D.val = 512 + d.val) : iblk m c 1 t (ix2 r d) = V m c main_v1 (ix2 R D) := by
  obtain ⟨-, -, h0, h1, -⟩ := idx_facts t
  unfold iblk
  blk_ext [h0, h1]

/-- The third quarter of the rows' block. -/
theorem iblk2_apply (t : Fin cfg0.N) (r : Fin 1024) (d : Fin 512) (R : Fin 8192) (D : Fin 2048)
    (hR : R.val = 1024 * (grid0.coords t 0).val + r.val) (hD : D.val = 1024 + d.val) : iblk m c 2 t (ix2 r d) = V m c main_v1 (ix2 R D) := by
  obtain ⟨-, -, -, -, h0, h1, -⟩ := idx_facts t
  unfold iblk
  blk_ext [h0, h1]

/-- The fourth quarter of the rows' block. -/
theorem iblk3_apply (t : Fin cfg0.N) (r : Fin 1024) (d : Fin 512) (R : Fin 8192) (D : Fin 2048)
    (hR : R.val = 1024 * (grid0.coords t 0).val + r.val) (hD : D.val = 1536 + d.val) : iblk m c 3 t (ix2 r d) = V m c main_v1 (ix2 R D) := by
  obtain ⟨-, -, -, -, -, -, h0, h1, -⟩ := idx_facts t
  unfold iblk
  blk_ext [h0, h1]

/-- The block of the weights' columns, past the 4096 columns of queries and keys. -/
theorem iblk4_apply (t : Fin cfg0.N) (k : Fin 2048) (d : Fin 512) (D : Fin 12288)
    (hD : D.val = 4096 + 512 * (grid0.coords t 1).val + d.val) : iblk m c 4 t (ix2 k d) = V m c main_v2 (ix2 k D) := by
  obtain ⟨-, -, -, -, -, -, -, -, h0, h1, -⟩ := idx_facts t
  unfold iblk
  blk_ext [h0, h1]

/-- One entry of the array the call leaves, as the entry of the block that was written there. -/
theorem arr_block (t : Fin cfg0.N) (r : Fin 1024) (d : Fin 512) (R : Fin 8192) (D : Fin 8192)
    (hR : R.val = 1024 * (grid0.coords t 0).val + r.val) (hD : D.val = 512 * (grid0.coords t 1).val + d.val) :
    (dats m 0 c).arrAt 5 cfg0.N (ix2 R D)
      = out0_5 (iblk m c 0 t) (iblk m c 1 t) (iblk m c 2 t) (iblk m c 3 t) (iblk m c 4 t) (ix2 r d) := by
  obtain ⟨-, -, -, -, -, -, -, -, -, -, h0, h1⟩ := idx_facts t
  have hb := congrFun (Cert.Kernel3Ideal.Value.blocks5 m c t (flush0_5 t)) (ix2 r d)
  rw [Cert.Kernel3Ideal.Value.flushed5] at hb
  refine Eq.trans ?_ (hb.trans ?_)
  · blk_ext [h0, h1]
  · blk_ext [h0, h1]

/-- The rows as the call takes them: the activations, flattened. -/
def rows (a : FVec Ideal S2x4096x2048 .f32) : FVec Ideal S8192x2048 .bf16 :=
  truncf .bf16 (shapeCast S8192x2048 a shapeCasts_S2x4096x2048_S8192x2048) bitsLt_bf16_f32

/-- The weights as the call takes them. -/
def wts (a : FVec Ideal S2048x12288 .f32) : FVec Ideal S2048x12288 .bf16 := truncf .bf16 a bitsLt_bf16_f32

/-- The first four windows' array is the rows. -/
theorem v1_eq : V m c main_v1 = rows (m (c, Proc.tc.devRef main_arg0)) := by
  dsimp only [V, hostOps0]
  after_results
  rfl

/-- The fifth window's array is the weights. -/
theorem v2_eq : V m c main_v2 = wts (m (c, Proc.tc.devRef main_arg1)) := by
  dsimp only [V, hostOps0]
  after_results
  rfl

/-- One entry of a row. -/
theorem rows_apply (a) (R : Fin 8192) (D : Fin 2048) : rows a (ix2 R D) = a (ix3 ⟨R.val / 4096, by omega⟩ ⟨R.val % 4096, by omega⟩ D) := by
  unfold rows
  pointwise

/-- One row of the activations times one column of the weights. -/
def prod (a : FVec Ideal S2x4096x2048 .f32) (w : FVec Ideal S2048x12288 .f32) (R : Fin 8192) (D : Fin 12288) : EReal :=
  ∑ k : Fin 2048, a (ix3 ⟨R.val / 4096, by omega⟩ ⟨R.val % 4096, by omega⟩ k) * w (ix2 k D)

/-- WHAT THE CALL LEAVES: each row of the activations times each column of the weights past the first 4096. -/
theorem arr_apply (R D : Fin 8192) :
    (dats m 0 c).arrAt 5 cfg0.N (ix2 R D)
      = prod (m (c, Proc.tc.devRef main_arg0)) (m (c, Proc.tc.devRef main_arg1)) R ⟨4096 + D.val, by omega⟩ := by
  obtain ⟨t, hi, hj⟩ := exists_point ⟨R.val / 1024, by omega⟩ ⟨D.val / 512, by omega⟩
  dsimp only at hi hj
  have hr : R.val = 1024 * (grid0.coords t 0).val + R.val % 1024 := by omega
  rw [arr_block m c t ⟨R.val % 1024, by omega⟩ ⟨D.val % 512, by omega⟩ R D hr (by dsimp only; omega)]
  unfold out0_5
  rw [View.canon_unit_zero, View.ld_unit_zero, View.ld_unit_zero, View.ld_unit_zero, View.ld_unit_zero, View.ld_unit_zero]
  refine (pay_apply _ _ _ _ _ _ _).trans (Finset.sum_congr rfl fun k _ => congrArg₂ (· * ·) ?_ ?_)
  · refine (Cert.Lin.join_eq (fun k => rows (m (c, Proc.tc.devRef main_arg0)) (ix2 R k)) _ _ _ _
      (fun d => ?_) (fun d => ?_) (fun d => ?_) (fun d => ?_) k).trans (rows_apply _ _ _)
    · exact (iblk0_apply m c t _ d R ⟨d.val, by omega⟩ hr rfl).trans (congrFun (v1_eq m c) _)
    · exact (iblk1_apply m c t _ d R ⟨512 + d.val, by omega⟩ hr rfl).trans (congrFun (v1_eq m c) _)
    · exact (iblk2_apply m c t _ d R ⟨1024 + d.val, by omega⟩ hr rfl).trans (congrFun (v1_eq m c) _)
    · exact (iblk3_apply m c t _ d R ⟨1536 + d.val, by omega⟩ hr rfl).trans (congrFun (v1_eq m c) _)
  · exact (iblk4_apply m c t k _ ⟨4096 + D.val, by omega⟩ (by dsimp only; omega)).trans (congrFun (v2_eq m c) _)
  all_goals exact Cert.Lin.origin

end Cert.Vg
-- ==== Proof.Lin.VgRef.lean ====
module
public import proofs.«01_k».proof.Proof.Gen.Reference3Ideal.Read
public import proofs.«01_k».proof.Proof.Lin.VgBlock
@[expose] public section
set_option maxRecDepth 16384
noncomputable section
namespace Cert.Vg
open Idealize.ShloMosaic Cert.Reference3Ideal Cert.Reference3Ideal.Gen Cert.Reference3Ideal.Read Idealize.SL.Sem

/-- The reference's array: values and gate side by side are the columns past the first 4096. -/
theorem ref_apply (a : FVec Ideal S2x4096x2048 .f32) (w : FVec Ideal S2048x12288 .f32) (R D : Fin 8192) :
    val_main_v6 (F := Ideal) a w (ix2 R D) = prod a w R ⟨4096 + D.val, by omega⟩ := by
  unfold val_main_v6 val_main_v5 val_main_v4 val_main_v3 val_main_v2 val_main_v1 val_main_v0 prod
  pointwise
  by_cases h : D.val < 4096
  · rw [dif_pos h]
  · have e : 8192 + (D.val - 4096) = 4096 + D.val := by omega
    rw [dif_neg h]
    simp only [e]

end Cert.Vg
-- ==== Proof.Lin.VgClaim.lean ====
module
public import proofs.«01_k».proof.Defs
public import proofs.«01_k».proof.Proof.Gen.Kernel3Ideal.Value
public import proofs.«01_k».proof.Proof.Gen.Reference3Ideal.Run
public import proofs.«01_k».proof.Proof.Lin.VgRef
public import Idealize.ShloMosaic.Adequacy
public import Idealize.ShloMosaic.Init
@[expose] public section
noncomputable section
namespace Cert.Vg
open Idealize.ShloMosaic Idealize.SL.Sem

/-- The reference of the values and gates of the retention ends with its arguments unchanged and every counter at zero. -/
theorem frame_ref (m : (ℓ : Loc Cert.Reference3Ideal.nD Cert.Reference3Ideal.τ Cert.Reference3Ideal.sig) → Buf (Elt Ideal) ℓ) (g : Dev Cert.Reference3Ideal.nD → PrngReg) :
    θ_run (Cert.Reference3Ideal.defs (F := Ideal)) (onTc (τ := Cert.Reference3Ideal.τ) (Cert.Reference3Ideal.main (F := Ideal))) ⟨m, fun _ => 0, g⟩
      (fun r => (∀ c : Dev Cert.Reference3Ideal.nD,
        r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
        ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
        ∧ r.2.sem = fun _ => 0) :=
  (θ_run Cert.Reference3Ideal.defs _ _).mono
    (fun r h => ⟨fun c => (h c).2, sem_eq_zero_of_no_sems (by decide) r.2⟩)
    (Cert.Reference3Ideal.Value.run m g)

/-- The array of the values and gates of the retention is the reference's. -/
theorem arr_eq (m : (ℓ : Loc Cert.Kernel3Ideal.nD Cert.Kernel3Ideal.τ Cert.Kernel3Ideal.sig) → Buf (Elt Ideal) ℓ) (c : Dev Cert.Kernel3Ideal.nD) :
    (Cert.Kernel3Ideal.Gen.dats m 0 c).arrAt 5 Cert.Kernel3Ideal.cfg0.N
      = Cert.Reference3Ideal.Read.val_main_v6 (F := Ideal) (m (c, Proc.tc.devRef Cert.Kernel3Ideal.main_arg0)) (m (c, Proc.tc.devRef Cert.Kernel3Ideal.main_arg1)) := by
  funext i
  have e : i = ix2 (⟨(i 0).val, (i 0).isLt⟩ : Fin 8192) (⟨(i 1).val, (i 1).isLt⟩ : Fin 8192) := by
    funext a
    match a with
    | ⟨0, _⟩ => rfl
    | ⟨1, _⟩ => rfl
  rw [e]
  exact (arr_apply m c _ _).trans (ref_apply _ _ _ _).symm

/-- Kernel and reference of the values and gates of the retention compute one function. -/
theorem algebraic : Cert.algebraic_Kernel3Ideal_Reference3Ideal (hKernel3Ideal := Cert.Kernel3Ideal.Gen.facts)
    (hReference3Ideal := Cert.Reference3Ideal.Gen.facts) := by
  intro m g m' g' _ hargs
  refine ⟨fun c => (Cert.Kernel3Ideal.Gen.dats m 0 c).arrAt 5 Cert.Kernel3Ideal.cfg0.N, Cert.Kernel3Ideal.Value.run_blocks m g, ?_⟩
  refine (θ_run Cert.Reference3Ideal.defs _ _).mono (fun r h c => ⟨(h c).1.trans ?_, (h c).2⟩) (Cert.Reference3Ideal.Value.run m' g')
  obtain ⟨e0, e1⟩ := hargs c
  rw [Cert.Reference3Ideal.Read.val_main_v6_eq, e0, e1]
  exact (arr_eq m c).symm

end Cert.Vg
-- ==== Proof.Lin.PqBlock.lean ====
module
public import proofs.«01_k».proof.Proof.Gen.Kernel4Ideal.Value
public import proofs.«01_k».proof.Proof.Lin.Join
public import Idealize.ShloMosaic.Lib.Pipeline.ValueKit
public import Idealize.ShloMosaic.Lib.Pointwise
@[expose] public section
set_option maxRecDepth 16384
noncomputable section
namespace Cert.Pq
open Idealize.ShloMosaic Cert.Kernel4Ideal Cert.Kernel4Ideal.Gen Idealize.SL.Sem

/-- One entry of the block that a grid point stores: a row of the four windows, laid end to end, times a column of the weights. -/
theorem pay_apply (x0 x1 x2 x3 : FVec Ideal S1024x512 .bf16) (w : FVec Ideal S2048x512 .bf16) (r : Fin 1024) (c : Fin 512) :
    k0_pay1 (F := Ideal) x0 x1 x2 x3 w (ix2 r c)
      = ∑ k : Fin 2048, Cert.Lin.join (fun k => x0 (ix2 r k)) (fun k => x1 (ix2 r k)) (fun k => x2 (ix2 r k)) (fun k => x3 (ix2 r k)) k
          * w (ix2 k c) := by
  unfold k0_pay1 Cert.Lin.join
  pointwise

/-- Where each window's block lies at a grid point (block of rows, block of columns). -/
theorem idx_facts : ∀ t : Fin cfg0.N,
    win0_0.index t (0 : Fin 2) = (grid0.coords t 0).val ∧ win0_0.index t (1 : Fin 2) = 0
    ∧ win0_1.index t (0 : Fin 2) = (grid0.coords t 0).val ∧ win0_1.index t (1 : Fin 2) = 1
    ∧ win0_2.index t (0 : Fin 2) = (grid0.coords t 0).val ∧ win0_2.index t (1 : Fin 2) = 2
    ∧ win0_3.index t (0 : Fin 2) = (grid0.coords t 0).val ∧ win0_3.index t (1 : Fin 2) = 3
    ∧ win0_4.index t (0 : Fin 2) = 0 ∧ win0_4.index t (1 : Fin 2) = (grid0.coords t 1).val
    ∧ win0_5.index t (0 : Fin 2) = (grid0.coords t 0).val ∧ win0_5.index t (1 : Fin 2) = (grid0.coords t 1).val :=
  (by decide +kernel : ∀ t : Fin grid0.N,
    win0_0.index t (0 : Fin 2) = (grid0.coords t 0).val ∧ win0_0.index t (1 : Fin 2) = 0
    ∧ win0_1.index t (0 : Fin 2) = (grid0.coords t 0).val ∧ win0_1.index t (1 : Fin 2) = 1
    ∧ win0_2.index t (0 : Fin 2) = (grid0.coords t 0).val ∧ win0_2.index t (1 : Fin 2) = 2
    ∧ win0_3.index t (0 : Fin 2) = (grid0.coords t 0).val ∧ win0_3.index t (1 : Fin 2) = 3
    ∧ win0_4.index t (0 : Fin 2) = 0 ∧ win0_4.index t (1 : Fin 2) = (grid0.coords t 1).val
    ∧ win0_5.index t (0 : Fin 2) = (grid0.coords t 0).val ∧ win0_5.index t (1 : Fin 2) = (grid0.coords t 1).val)

/-- Every block of rows and block of columns has its grid point. -/
theorem exists_point : ∀ (i : Fin 2) (j : Fin 16), ∃ t : Fin cfg0.N, (grid0.coords t 0).val = i.val ∧ (grid0.coords t 1).val = j.val :=
  (by decide +kernel : ∀ (i : Fin 2) (j : Fin 16), ∃ t : Fin grid0.N, (grid0.coords t 0).val = i.val ∧ (grid0.coords t 1).val = j.val)

variable (m : (ℓ : Loc nD τ sig) → Buf (Elt Ideal) ℓ) (c : Dev nD)

/-- The first quarter of the rows' block. -/
theorem iblk0_apply (t : Fin cfg0.N) (r : Fin 1024) (d : Fin 512) (R : Fin 2048) (D : Fin 2048)
    (hR : R.val = 1024 * (grid0.coords t 0).val + r.val) (hD : D.val = d.val) : iblk m c 0 t (ix2 r d) = V m c main_v1 (ix2 R D) := by
  obtain ⟨h0, h1, -⟩ := idx_facts t
  unfold iblk
  blk_ext [h0, h1]

/-- The second quarter of the rows' block. -/
theorem iblk1_apply (t : Fin cfg0.N) (r : Fin 1024) (d : Fin 512) (R : Fin 2048) (D : Fin 2048)
    (hR : R.val = 1024 * (grid0.coords t 0).val + r.val) (hD : D.val = 512 + d.val) : iblk m c 1 t (ix2 r d) = V m c main_v1 (ix2 R D) := by
  obtain ⟨-, -, h0, h1, -⟩ := idx_facts t
  unfold iblk
  blk_ext [h0, h1]

/-- The third quarter of the rows' block. -/
theorem iblk2_apply (t : Fin cfg0.N) (r : Fin 1024) (d : Fin 512) (R : Fin 2048) (D : Fin 2048)
    (hR : R.val = 1024 * (grid0.coords t 0).val + r.val) (hD : D.val = 1024 + d.val) : iblk m c 2 t (ix2 r d) = V m c main_v1 (ix2 R D) := by
  obtain ⟨-, -, -, -, h0, h1, -⟩ := idx_facts t
  unfold iblk
  blk_ext [h0, h1]

/-- The fourth quarter of the rows' block. -/
theorem iblk3_apply (t : Fin cfg0.N) (r : Fin 1024) (d : Fin 512) (R : Fin 2048) (D : Fin 2048)
    (hR : R.val = 1024 * (grid0.coords t 0).val + r.val) (hD : D.val = 1536 + d.val) : iblk m c 3 t (ix2 r d) = V m c main_v1 (ix2 R D) := by
  obtain ⟨-, -, -, -, -, -, h0, h1, -⟩ := idx_facts t
  unfold iblk
  blk_ext [h0, h1]

/-- The block of the tokens, one in each column. -/
theorem iblk4_apply (t : Fin cfg0.N) (k : Fin 2048) (d : Fin 512) (D : Fin 8192)
    (hD : D.val = 512 * (grid0.coords t 1).val + d.val) : iblk m c 4 t (ix2 k d) = V m c main_v4 (ix2 k D) := by
  obtain ⟨-, -, -, -, -, -, -, -, h0, h1, -⟩ := idx_facts t
  unfold iblk
  blk_ext [h0, h1]

/-- One entry of the array the call leaves, as the entry of the block that was written there. -/
theorem arr_block (t : Fin cfg0.N) (r : Fin 1024) (d : Fin 512) (R : Fin 2048) (D : Fin 8192)
    (hR : R.val = 1024 * (grid0.coords t 0).val + r.val) (hD : D.val = 512 * (grid0.coords t 1).val + d.val) :
    (dats m 0 c).arrAt 5 cfg0.N (ix2 R D)
      = out0_5 (iblk m c 0 t) (iblk m c 1 t) (iblk m c 2 t) (iblk m c 3 t) (iblk m c 4 t) (ix2 r d) := by
  obtain ⟨-, -, -, -, -, -, -, -, -, -, h0, h1⟩ := idx_facts t
  have hb := congrFun (Cert.Kernel4Ideal.Value.blocks5 m c t (flush0_5 t)) (ix2 r d)
  rw [Cert.Kernel4Ideal.Value.flushed5] at hb
  refine Eq.trans ?_ (hb.trans ?_)
  · blk_ext [h0, h1]
  · blk_ext [h0, h1]

/-- The weights as the call takes them, transposed. -/
def wts (a : FVec Ideal S2048x2048 .f32) : FVec Ideal S2048x2048 .bf16 :=
  truncf .bf16 (transpose S2048x2048 [1, 0] a transposes_S2048x2048_S2048x2048_1_0) bitsLt_bf16_f32

/-- The activations as the call takes them, flattened and transposed. -/
def cols (a : FVec Ideal S2x4096x2048 .f32) : FVec Ideal S2048x8192 .bf16 :=
  truncf .bf16 (transpose S2048x8192 [1, 0] (shapeCast S8192x2048 a shapeCasts_S2x4096x2048_S8192x2048)
    transposes_S8192x2048_S2048x8192_1_0) bitsLt_bf16_f32

/-- The first four windows' array is the transposed weights. -/
theorem v1_eq : V m c main_v1 = wts (m (c, Proc.tc.devRef main_arg1)) := by
  dsimp only [V, hostOps0]
  after_results
  rfl

/-- The fifth window's array is the transposed activations. -/
theorem v4_eq : V m c main_v4 = cols (m (c, Proc.tc.devRef main_arg0)) := by
  dsimp only [V, hostOps0]
  after_results
  rfl

/-- One entry of the transposed weights. -/
theorem wts_apply (a) (R D : Fin 2048) : wts a (ix2 R D) = a (ix2 D R) := by
  unfold wts
  pointwise

/-- One entry of the transposed activations. -/
theorem cols_apply (a) (D : Fin 2048) (R : Fin 8192) : cols a (ix2 D R) = a (ix3 ⟨R.val / 4096, by omega⟩ ⟨R.val % 4096, by omega⟩ D) := by
  unfold cols
  pointwise

/-- One token times one column of the weights. -/
def prod (a : FVec Ideal S2x4096x2048 .f32) (w : FVec Ideal S2048x2048 .f32) (R : Fin 8192) (D : Fin 2048) : EReal :=
  ∑ k : Fin 2048, a (ix3 ⟨R.val / 4096, by omega⟩ ⟨R.val % 4096, by omega⟩ k) * w (ix2 k D)

/-- WHAT THE CALL LEAVES: in column `R` the queries of token `R`. -/
theorem arr_apply (D : Fin 2048) (R : Fin 8192) :
    (dats m 0 c).arrAt 5 cfg0.N (ix2 D R) = prod (m (c, Proc.tc.devRef main_arg0)) (m (c, Proc.tc.devRef main_arg1)) R D := by
  obtain ⟨t, hi, hj⟩ := exists_point ⟨D.val / 1024, by omega⟩ ⟨R.val / 512, by omega⟩
  dsimp only at hi hj
  have hr : D.val = 1024 * (grid0.coords t 0).val + D.val % 1024 := by omega
  rw [arr_block m c t ⟨D.val % 1024, by omega⟩ ⟨R.val % 512, by omega⟩ D R hr (by dsimp only; omega)]
  unfold out0_5
  rw [View.canon_unit_zero, View.ld_unit_zero, View.ld_unit_zero, View.ld_unit_zero, View.ld_unit_zero, View.ld_unit_zero]
  refine (pay_apply _ _ _ _ _ _ _).trans (Finset.sum_congr rfl fun k _ => (congrArg₂ (· * ·) ?_ ?_).trans (mul_comm _ _))
  · refine (Cert.Lin.join_eq (fun k => wts (m (c, Proc.tc.devRef main_arg1)) (ix2 D k)) _ _ _ _
      (fun d => ?_) (fun d => ?_) (fun d => ?_) (fun d => ?_) k).trans (wts_apply _ _ _)
    · exact (iblk0_apply m c t _ d D ⟨d.val, by omega⟩ hr rfl).trans (congrFun (v1_eq m c) _)
    · exact (iblk1_apply m c t _ d D ⟨512 + d.val, by omega⟩ hr rfl).trans (congrFun (v1_eq m c) _)
    · exact (iblk2_apply m c t _ d D ⟨1024 + d.val, by omega⟩ hr rfl).trans (congrFun (v1_eq m c) _)
    · exact (iblk3_apply m c t _ d D ⟨1536 + d.val, by omega⟩ hr rfl).trans (congrFun (v1_eq m c) _)
  · exact (iblk4_apply m c t k _ R (by dsimp only; omega)).trans ((congrFun (v4_eq m c) _).trans (cols_apply _ _ _))
  all_goals exact Cert.Lin.origin

end Cert.Pq
-- ==== Proof.Lin.PqRef.lean ====
module
public import proofs.«01_k».proof.Proof.Gen.Reference4Ideal.Read
public import proofs.«01_k».proof.Proof.Lin.PqBlock
@[expose] public section
set_option maxRecDepth 16384
noncomputable section
namespace Cert.Pq
open Idealize.ShloMosaic Cert.Reference4Ideal Cert.Reference4Ideal.Gen Cert.Reference4Ideal.Read Idealize.SL.Sem

/-- The reference's array: in column `R` the queries of token `R`. -/
theorem ref_apply (a : FVec Ideal S2x4096x2048 .f32) (w : FVec Ideal S2048x2048 .f32) (D : Fin 2048) (R : Fin 8192) :
    val_main_v3 (F := Ideal) a w (ix2 D R) = prod a w R D := by
  unfold val_main_v3 val_main_v2 val_main_v1 val_main_v0 prod
  pointwise

end Cert.Pq
-- ==== Proof.Lin.PqClaim.lean ====
module
public import proofs.«01_k».proof.Defs
public import proofs.«01_k».proof.Proof.Gen.Kernel4Ideal.Value
public import proofs.«01_k».proof.Proof.Gen.Reference4Ideal.Run
public import proofs.«01_k».proof.Proof.Lin.PqRef
public import Idealize.ShloMosaic.Adequacy
public import Idealize.ShloMosaic.Init
@[expose] public section
noncomputable section
namespace Cert.Pq
open Idealize.ShloMosaic Idealize.SL.Sem

/-- The reference of the PEER queries ends with its arguments unchanged and every counter at zero. -/
theorem frame_ref (m : (ℓ : Loc Cert.Reference4Ideal.nD Cert.Reference4Ideal.τ Cert.Reference4Ideal.sig) → Buf (Elt Ideal) ℓ) (g : Dev Cert.Reference4Ideal.nD → PrngReg) :
    θ_run (Cert.Reference4Ideal.defs (F := Ideal)) (onTc (τ := Cert.Reference4Ideal.τ) (Cert.Reference4Ideal.main (F := Ideal))) ⟨m, fun _ => 0, g⟩
      (fun r => (∀ c : Dev Cert.Reference4Ideal.nD,
        r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
        ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
        ∧ r.2.sem = fun _ => 0) :=
  (θ_run Cert.Reference4Ideal.defs _ _).mono
    (fun r h => ⟨fun c => (h c).2, sem_eq_zero_of_no_sems (by decide) r.2⟩)
    (Cert.Reference4Ideal.Value.run m g)

/-- The array of the PEER queries is the reference's. -/
theorem arr_eq (m : (ℓ : Loc Cert.Kernel4Ideal.nD Cert.Kernel4Ideal.τ Cert.Kernel4Ideal.sig) → Buf (Elt Ideal) ℓ) (c : Dev Cert.Kernel4Ideal.nD) :
    (Cert.Kernel4Ideal.Gen.dats m 0 c).arrAt 5 Cert.Kernel4Ideal.cfg0.N
      = Cert.Reference4Ideal.Read.val_main_v3 (F := Ideal) (m (c, Proc.tc.devRef Cert.Kernel4Ideal.main_arg0)) (m (c, Proc.tc.devRef Cert.Kernel4Ideal.main_arg1)) := by
  funext i
  have e : i = ix2 (⟨(i 0).val, (i 0).isLt⟩ : Fin 2048) (⟨(i 1).val, (i 1).isLt⟩ : Fin 8192) := by
    funext a
    match a with
    | ⟨0, _⟩ => rfl
    | ⟨1, _⟩ => rfl
  rw [e]
  exact (arr_apply m c _ _).trans (ref_apply _ _ _ _).symm

/-- Kernel and reference of the PEER queries compute one function. -/
theorem algebraic : Cert.algebraic_Kernel4Ideal_Reference4Ideal (hKernel4Ideal := Cert.Kernel4Ideal.Gen.facts)
    (hReference4Ideal := Cert.Reference4Ideal.Gen.facts) := by
  intro m g m' g' _ hargs
  refine ⟨fun c => (Cert.Kernel4Ideal.Gen.dats m 0 c).arrAt 5 Cert.Kernel4Ideal.cfg0.N, Cert.Kernel4Ideal.Value.run_blocks m g, ?_⟩
  refine (θ_run Cert.Reference4Ideal.defs _ _).mono (fun r h c => ⟨(h c).1.trans ?_, (h c).2⟩) (Cert.Reference4Ideal.Value.run m' g')
  obtain ⟨e0, e1⟩ := hargs c
  rw [Cert.Reference4Ideal.Read.val_main_v3_eq, e0, e1]
  exact (arr_eq m c).symm

end Cert.Pq
-- ==== Proof.Lin.RoPieces.lean ====
module
public import proofs.«01_k».proof.Proof.Gen.Kernel5Ideal.Value
public import proofs.«01_k».proof.Proof.Lin.Join
public import Idealize.ShloMosaic.Lib.Pipeline.ValueKit
public import Idealize.ShloMosaic.Lib.Pointwise
@[expose] public section
set_option maxRecDepth 16384
noncomputable section
namespace Cert.Ro
open Idealize.ShloMosaic Cert.Kernel5Ideal Cert.Kernel5Ideal.Gen Idealize.SL.Sem

/-- What one grid step adds to a place of a block: the row of the two windows, laid end to end, times a column of the weights. -/
def part (x0 x1 : FVec Ideal S512x512 .bf16) (w : Fin 1024 → EReal) (r : Fin 512) : EReal :=
  ∑ k : Fin 1024, Cert.Lin.join2 (fun d => x0 (ix2 r d)) (fun d => x1 (ix2 r d)) k * w k

/-- The first quarter's new entry. -/
theorem pay7_apply (x0 x1 : FVec Ideal S512x512 .bf16) (a : FVec Ideal S512x512 .f32) (w : FVec Ideal S1024x512 .bf16) (r d : Fin 512) :
    k0_pay7 (F := Ideal) x0 x1 a w (ix2 r d) = a (ix2 r d) + part x0 x1 (fun k => w (ix2 k d)) r := by
  unfold k0_pay7 k0_pay6 part Cert.Lin.join2
  pointwise

/-- The second quarter's new entry. -/
theorem pay8_apply (x0 x1 : FVec Ideal S512x512 .bf16) (a : FVec Ideal S512x512 .f32) (w : FVec Ideal S1024x512 .bf16) (r d : Fin 512) :
    k0_pay8 (F := Ideal) x0 x1 a w (ix2 r d) = a (ix2 r d) + part x0 x1 (fun k => w (ix2 k d)) r := by
  unfold k0_pay8 k0_pay6 part Cert.Lin.join2
  pointwise

/-- The third quarter's new entry. -/
theorem pay9_apply (x0 x1 : FVec Ideal S512x512 .bf16) (a : FVec Ideal S512x512 .f32) (w : FVec Ideal S1024x512 .bf16) (r d : Fin 512) :
    k0_pay1 (k0_pay9 (F := Ideal) x0 x1 a w) (ix2 r d) = a (ix2 r d) + part x0 x1 (fun k => w (ix2 k d)) r := by
  unfold k0_pay1 k0_pay9 k0_pay6 part Cert.Lin.join2
  pointwise

/-- The fourth quarter's new entry. -/
theorem pay2_apply (x0 x1 : FVec Ideal S512x512 .bf16) (a : FVec Ideal S512x512 .f32) (w : FVec Ideal S1024x512 .bf16) (r d : Fin 512) :
    k0_pay2 (F := Ideal) (k0_pay6 x0 x1) a w (ix2 r d) = a (ix2 r d) + part x0 x1 (fun k => w (ix2 k d)) r := by
  unfold k0_pay2 k0_pay6 part Cert.Lin.join2
  pointwise

/-- The block that a sum starts from is zero. -/
theorem pay5_apply (r : Fin 512) (n : Fin 2048) : k0_pay5 (F := Ideal) (ix2 r n) = 0 := by
  unfold k0_pay5
  pointwise

/-- Four quarters of the block of sums, stored one after the other. -/
abbrev pieces (p0 p1 p2 p3 : FVec Ideal S512x512 .f32) (L : List (View.Piece (Elt Ideal) S512x2048 .f32)) : List (View.Piece (Elt Ideal) S512x2048 .f32) :=
  ⟨Rect.unit (s := S512x2048) ![0, 1536] S512x512.size inb_S512x2048_S512x512_0_1536, p3⟩
  :: ⟨Rect.unit (s := S512x2048) ![0, 1024] S512x512.size inb_S512x2048_S512x512_0_1024, p2⟩
  :: ⟨Rect.unit (s := S512x2048) ![0, 512] S512x512.size inb_S512x2048_S512x512_0_512, p1⟩
  :: ⟨Rect.unit (s := S512x2048) ![0, 0] S512x512.size inb_S512x2048_S512x512_0_0, p0⟩ :: L

/-- The four quarters of the block of sums, as one grid step stores them. -/
abbrev quarters (x0 x1 : FVec Ideal S512x512 .bf16) (a0 a1 a2 a3 : FVec Ideal S512x512 .f32) (w0 w1 w2 w3 : FVec Ideal S1024x512 .bf16)
    (L : List (View.Piece (Elt Ideal) S512x2048 .f32)) : List (View.Piece (Elt Ideal) S512x2048 .f32) :=
  pieces (k0_pay7 (F := Ideal) x0 x1 a0 w0) (k0_pay8 (F := Ideal) x0 x1 a1 w1) (k0_pay1 (k0_pay9 (F := Ideal) x0 x1 a2 w2))
    (k0_pay2 (F := Ideal) (k0_pay6 x0 x1) a3 w3) L

/-- Four quarters stored in a row, read at a place: the quarter the place lies in. -/
theorem canon_quarters (p0 p1 p2 p3 : FVec Ideal S512x512 .f32) (L : List (View.Piece (Elt Ideal) S512x2048 .f32)) (r : Fin 512) (n : Fin 2048) :
    View.canon (pieces p0 p1 p2 p3 L) (ix2 r n)
      = Cert.Lin.join (fun d => p0 (ix2 r d)) (fun d => p1 (ix2 r d)) (fun d => p2 (ix2 r d)) (fun d => p3 (ix2 r d)) n := by
  unfold Cert.Lin.join
  by_cases h0 : n.val < 512
  · rw [dif_pos h0, View.canon_cons_of_not_mem, View.canon_cons_of_not_mem, View.canon_cons_of_not_mem]
    · rw [show ix2 r n = (Rect.unit (s := S512x2048) ![0, 0] S512x512.size inb_S512x2048_S512x512_0_0).emb (ix2 r (⟨n.val, h0⟩ : Fin 512)) from ?_,
        View.canon_cons_emb]
      funext a; fin_cases a <;> exact Fin.ext (by simp [Rect.emb_apply])
    all_goals
      rw [Rect.mem_set_unit]; intro h; have h := (h 1).1; simp at h; omega
  · rw [dif_neg h0]
    by_cases h1 : n.val - 512 < 512
    · rw [dif_pos h1, View.canon_cons_of_not_mem, View.canon_cons_of_not_mem]
      · rw [show ix2 r n = (Rect.unit (s := S512x2048) ![0, 512] S512x512.size inb_S512x2048_S512x512_0_512).emb (ix2 r (⟨n.val - 512, h1⟩ : Fin 512)) from ?_,
          View.canon_cons_emb]
        funext a; fin_cases a <;> exact Fin.ext (by simp [Rect.emb_apply]; try omega)
      all_goals
        rw [Rect.mem_set_unit]; intro h; have h := (h 1).1; simp at h; omega
    · rw [dif_neg h1]
      by_cases h2 : n.val - 512 - 512 < 512
      · rw [dif_pos h2, View.canon_cons_of_not_mem]
        · rw [show ix2 r n = (Rect.unit (s := S512x2048) ![0, 1024] S512x512.size inb_S512x2048_S512x512_0_1024).emb (ix2 r (⟨n.val - 512 - 512, h2⟩ : Fin 512)) from ?_,
            View.canon_cons_emb]
          funext a; fin_cases a <;> exact Fin.ext (by simp [Rect.emb_apply]; try omega)
        all_goals
          rw [Rect.mem_set_unit]; intro h; have h := (h 1).1; simp at h; omega
      · rw [dif_neg h2]
        rw [show ix2 r n = (Rect.unit (s := S512x2048) ![0, 1536] S512x512.size inb_S512x2048_S512x512_0_1536).emb (ix2 r (⟨n.val - 512 - 512 - 512, by omega⟩ : Fin 512)) from ?_,
          View.canon_cons_emb]
        funext a; fin_cases a <;> exact Fin.ext (by simp [Rect.emb_apply]; try omega)

/-- One place of the block of sums after a grid step, whose four quarters held the entries of `g` before it. -/
theorem quarters_apply (g : Fin 2048 → EReal) (x0 x1 : FVec Ideal S512x512 .bf16) (a0 a1 a2 a3 : FVec Ideal S512x512 .f32)
    (w0 w1 w2 w3 : FVec Ideal S1024x512 .bf16) (L : List (View.Piece (Elt Ideal) S512x2048 .f32)) (r : Fin 512) (n : Fin 2048)
    (h0 : ∀ d : Fin 512, a0 (ix2 r d) = g ⟨d.val, by omega⟩) (h1 : ∀ d : Fin 512, a1 (ix2 r d) = g ⟨512 + d.val, by omega⟩)
    (h2 : ∀ d : Fin 512, a2 (ix2 r d) = g ⟨1024 + d.val, by omega⟩) (h3 : ∀ d : Fin 512, a3 (ix2 r d) = g ⟨1536 + d.val, by omega⟩) :
    View.canon (quarters x0 x1 a0 a1 a2 a3 w0 w1 w2 w3 L) (ix2 r n)
      = g n + part x0 x1 (fun k => Cert.Lin.join (fun d => w0 (ix2 k d)) (fun d => w1 (ix2 k d)) (fun d => w2 (ix2 k d)) (fun d => w3 (ix2 k d)) n) r := by
  refine (canon_quarters _ _ _ _ _ _ _).trans ?_
  unfold Cert.Lin.join
  by_cases i0 : n.val < 512
  · simp only [dif_pos i0]
    rw [pay7_apply, h0]
  · simp only [dif_neg i0]
    by_cases i1 : n.val - 512 < 512
    · simp only [dif_pos i1]
      rw [pay8_apply, h1]
      exact congrArg (· + _) (congrArg g (Fin.ext (by dsimp only; omega)))
    · simp only [dif_neg i1]
      by_cases i2 : n.val - 512 - 512 < 512
      · simp only [dif_pos i2]
        rw [pay9_apply, h2]
        exact congrArg (· + _) (congrArg g (Fin.ext (by dsimp only; omega)))
      · simp only [dif_neg i2]
        rw [pay2_apply, h3]
        exact congrArg (· + _) (congrArg g (Fin.ext (by dsimp only; omega)))

end Cert.Ro
-- ==== Proof.Lin.RoSteps.lean ====
module
public import proofs.«01_k».proof.Proof.Lin.RoPieces
public import Idealize.ShloMosaic.Lib.Pipeline.ReadBack
@[expose] public section
set_option maxRecDepth 16384
noncomputable section
namespace Cert.Ro
open Idealize.ShloMosaic Cert.Kernel5Ideal Cert.Kernel5Ideal.Gen Idealize.SL.Sem
variable (m : (ℓ : Loc nD τ sig) → Buf (Elt Ideal) ℓ) (c : Dev nD)

/-- The part that grid step `t` adds to place `n` of row `r` of its block. -/
def stepPart (t : Fin cfg0.N) (r : Fin 512) (n : Fin 2048) : EReal :=
  part (iblk m c 0 t) (iblk m c 1 t) (fun k => Cert.Lin.join (fun d => iblk m c 2 t (ix2 k d)) (fun d => iblk m c 3 t (ix2 k d))
    (fun d => iblk m c 4 t (ix2 k d)) (fun d => iblk m c 5 t (ix2 k d)) n) r

/-- A read through a rectangle of columns. -/
theorem ld_cols (X : FVec Ideal S512x2048 .f32) (o : ℕ) (inb) (r d : Fin 512) (n : Fin 2048) (hn : n.val = o + d.val) :
    View.ld (Val := Elt Ideal) (e' := .f32) X (Rect.unit (s := S512x2048) ![0, o] S512x512.size inb) (ix2 r d) = X (ix2 r n) := by
  refine View.ld_unit_apply_of (Val := Elt Ideal) (e := .f32) X _ _ _ _ _ fun a => ?_
  fin_cases a
  · exact (Nat.zero_add _).symm
  · exact hn

/-- The four quarters cover the block. -/
theorem pieces_cover (p0 p1 p2 p3 : FVec Ideal S512x512 .f32) (L : List (View.Piece (Elt Ideal) S512x2048 .f32)) (y : S512x2048.Idx) :
    ∃ p ∈ pieces p0 p1 p2 p3 L, y ∈ p.1.set := by
  have b0 : (y 0).val < 512 := (y 0).isLt
  have b1 : (y 1).val < 2048 := (y 1).isLt
  by_cases i0 : (y 1).val < 512
  · refine ⟨_, .tail _ (.tail _ (.tail _ (.head _))), ?_⟩
    rw [Rect.mem_set_unit]; intro a; fin_cases a <;> simp <;> omega
  by_cases i1 : (y 1).val < 1024
  · refine ⟨_, .tail _ (.tail _ (.head _)), ?_⟩
    rw [Rect.mem_set_unit]; intro a; fin_cases a <;> simp <;> omega
  by_cases i2 : (y 1).val < 1536
  · refine ⟨_, .tail _ (.head _), ?_⟩
    rw [Rect.mem_set_unit]; intro a; fin_cases a <;> simp <;> omega
  · refine ⟨_, .head _, ?_⟩
    rw [Rect.mem_set_unit]; intro a; fin_cases a <;> simp <;> omega

/-- The whole block, zeroed. -/
abbrev zeroed : View.Piece (Elt Ideal) S512x2048 .f32 :=
  ⟨Rect.unit (s := S512x2048) ![0, 0] S512x2048.size inb_S512x2048_S512x2048_0_0, k0_pay5 (F := Ideal)⟩

/-- The zeroed block covers everything. -/
theorem zeroed_mem (y : S512x2048.Idx) : y ∈ zeroed.1.set := by
  have b0 : (y 0).val < 512 := (y 0).isLt
  have b1 : (y 1).val < 2048 := (y 1).isLt
  rw [Rect.mem_set_unit]; intro a; fin_cases a <;> simp <;> omega

/-- The zeroed block reads zero. -/
theorem zeroed_apply (r : Fin 512) (n : Fin 2048) : View.canon [zeroed] (ix2 r n) = 0 := by
  rw [View.canon_unit_zero Cert.Lin.origin]
  exact pay5_apply r n

/-- A grid step between the first and the last of its block adds its part. -/
theorem accB (t : Fin cfg0.N) (h0 : ¬t.val % 4 = 0) (h1 : ¬t.val % 4 = 3) (r : Fin 512) (n : Fin 2048) (hp) :
    (outsAt0 m c t.val t.isLt).2.2 (ix2 r n) = (outsAt0 m c (t.val - 1) hp).2.2 (ix2 r n) + stepPart m c t r n := by
  rw [outsAt0_B m c t h0 h1]
  frame_out
  simp only [read_unread_whole]
  refine quarters_apply (fun n => (outsAt0 m c (t.val - 1) hp).2.2 (ix2 r n)) _ _ _ _ _ _ _ _ _ _ [] r n ?_ ?_ ?_ ?_
  all_goals intro d
  · exact ld_cols _ 0 _ r d _ (Nat.zero_add _).symm
  all_goals exact ld_cols _ _ _ r d _ rfl

/-- The first grid step of a block leaves its part alone. -/
theorem accA (t : Fin cfg0.N) (h0 : t.val % 4 = 0) (h1 : ¬t.val % 4 = 3) (r : Fin 512) (n : Fin 2048) :
    (outsAt0 m c t.val t.isLt).2.2 (ix2 r n) = 0 + stepPart m c t r n := by
  rw [outsAt0_A m c t h0 h1]
  frame_out
  refine quarters_apply (fun n => 0) _ _ _ _ _ _ _ _ _ _ _ r n ?_ ?_ ?_ ?_
  all_goals intro d
  · rw [View.readCov_eq_canon_ld _ _ _ (fun y => ⟨_, .head _, zeroed_mem y⟩)]
    exact (ld_cols _ 0 _ r d ⟨d.val, by omega⟩ (Nat.zero_add _).symm).trans (zeroed_apply r _)
  · rw [View.readCov_eq_canon_ld _ _ _ (fun y => ⟨_, .tail _ (.head _), zeroed_mem y⟩)]
    refine (ld_cols _ _ _ r d ⟨512 + d.val, by omega⟩ rfl).trans ?_
    rw [View.canon_cons_of_not_mem]
    · exact zeroed_apply r _
    · rw [Rect.mem_set_unit]; intro h; have h := (h 1).2; simp at h
  · rw [View.readCov_eq_canon_ld _ _ _ (fun y => ⟨_, .tail _ (.tail _ (.head _)), zeroed_mem y⟩)]
    refine (ld_cols _ _ _ r d ⟨1024 + d.val, by omega⟩ rfl).trans ?_
    rw [View.canon_cons_of_not_mem, View.canon_cons_of_not_mem]
    · exact zeroed_apply r _
    all_goals
      rw [Rect.mem_set_unit]; intro h; have h := (h 1).2; simp at h; try omega
  · rw [View.readCov_eq_canon_ld _ _ _ (fun y => ⟨_, .tail _ (.tail _ (.tail _ (.head _))), zeroed_mem y⟩)]
    refine (ld_cols _ _ _ r d ⟨1536 + d.val, by omega⟩ rfl).trans ?_
    rw [View.canon_cons_of_not_mem, View.canon_cons_of_not_mem, View.canon_cons_of_not_mem]
    · exact zeroed_apply r _
    all_goals
      rw [Rect.mem_set_unit]; intro h; have h := (h 1).2; simp at h; try omega

/-- The block of sums after the last grid step of a block, from the block `X` before it. -/
def sumsAt (t : Fin cfg0.N) (X : FVec Ideal S512x2048 .f32) : FVec Ideal S512x2048 .f32 :=
  View.canon (quarters (iblk m c 0 t) (iblk m c 1 t)
    (View.ld (Val := Elt Ideal) (e' := .f32) X (Rect.unit (s := S512x2048) ![0, 0] S512x512.size inb_S512x2048_S512x512_0_0))
    (View.ld (Val := Elt Ideal) (e' := .f32) X (Rect.unit (s := S512x2048) ![0, 512] S512x512.size inb_S512x2048_S512x512_0_512))
    (View.ld (Val := Elt Ideal) (e' := .f32) X (Rect.unit (s := S512x2048) ![0, 1024] S512x512.size inb_S512x2048_S512x512_0_1024))
    (View.ld (Val := Elt Ideal) (e' := .f32) X (Rect.unit (s := S512x2048) ![0, 1536] S512x512.size inb_S512x2048_S512x512_0_1536))
    (iblk m c 2 t) (iblk m c 3 t) (iblk m c 4 t) (iblk m c 5 t) [])

/-- The last grid step of a block adds its part. -/
theorem sumsAt_apply (t : Fin cfg0.N) (X : FVec Ideal S512x2048 .f32) (r : Fin 512) (n : Fin 2048) :
    sumsAt m c t X (ix2 r n) = X (ix2 r n) + stepPart m c t r n := by
  refine quarters_apply (fun n => X (ix2 r n)) _ _ _ _ _ _ _ _ _ _ [] r n ?_ ?_ ?_ ?_
  all_goals intro d
  · exact ld_cols _ 0 _ r d _ (Nat.zero_add _).symm
  all_goals exact ld_cols _ _ _ r d _ rfl

/-- The first result's block, as the last grid step stores it. -/
theorem out9 (t : Fin cfg0.N) (h0 : ¬t.val % 4 = 0) (h1 : t.val % 4 = 3) (hp) (r : Fin 512) (n : Fin 2048) :
    (outsAt0 m c t.val t.isLt).1 (ix2 r n)
      = k0_pay3 (F := Ideal) (iblk m c 6 t) (sumsAt m c t (outsAt0 m c (t.val - 1) hp).2.2) (iblk m c 7 t) (iblk m c 8 t) (ix2 r n) := by
  rw [outsAt0_C m c t h0 h1]
  frame_out
  simp only [read_unread_whole]
  rw [View.readCov_eq_canon_ld _ _ _ (pieces_cover _ _ _ _ _), View.ld_unit_zero Cert.Lin.origin]

/-- The second result's block, as the last grid step stores it. -/
theorem out10 (t : Fin cfg0.N) (h0 : ¬t.val % 4 = 0) (h1 : t.val % 4 = 3) (hp) (n : Fin 2048) (r : Fin 512) :
    (outsAt0 m c t.val t.isLt).2.1 (ix2 n r)
      = k0_pay4 (F := Ideal) (iblk m c 6 t) (sumsAt m c t (outsAt0 m c (t.val - 1) hp).2.2) (iblk m c 7 t) (iblk m c 8 t) (ix2 n r) := by
  rw [outsAt0_C m c t h0 h1]
  frame_out
  simp only [read_unread_whole]
  rw [View.readCov_eq_canon_ld _ _ _ (pieces_cover _ _ _ _ _), View.ld_unit_zero Cert.Lin.origin]

end Cert.Ro
-- ==== Proof.Lin.Norm.lean ====
module
public import Idealize.ShloMosaic.Lib.ValueIdx
public import Idealize.ShloMosaic.PureOps.Ideal.Laws
@[expose] public section
noncomputable section
namespace Cert.Lin
open Idealize.ShloMosaic

/-- A row of the residual stream, scaled, plus a row of a projection. -/
def mixed (x z : Fin 2048 → EReal) (k : Fin 2048) : EReal := Ideal.ofBits .f32 0x3FD744FD#32 * x k + z k

/-- A row less its mean. -/
def centred (y : Fin 2048 → EReal) (k : Fin 2048) : EReal := y k - Ideal.div (∑ l, y l) (Ideal.ofBits .f32 0x45000000#32)

/-- The layer norm of a row, with its gains and shifts. -/
def norm (y g b : Fin 2048 → EReal) (n : Fin 2048) : EReal :=
  centred y n
    * Ideal.rsqrt (Ideal.div (∑ k, centred y k * centred y k) (Ideal.ofBits .f32 0x45000000#32) + Ideal.ofBits .f32 0x3727C5AC#32)
    * g n + b n

end Cert.Lin
-- ==== Proof.Lin.RoBlock.lean ====
module
public import proofs.«01_k».proof.Proof.Lin.RoSteps
public import proofs.«01_k».proof.Proof.Lin.Norm
@[expose] public section
set_option maxRecDepth 16384
noncomputable section
namespace Cert.Ro
open Idealize.ShloMosaic Cert.Kernel5Ideal Cert.Kernel5Ideal.Gen Idealize.SL.Sem

/-- One entry of the first result's block: the layer norm of its row. -/
theorem pay3_apply (x z : FVec Ideal S512x2048 .f32) (g b : FVec Ideal S1x2048 .f32) (r : Fin 512) (n : Fin 2048) :
    k0_pay3 (F := Ideal) x z g b (ix2 r n)
      = Cert.Lin.norm (Cert.Lin.mixed (fun k => x (ix2 r k)) (fun k => z (ix2 r k))) (fun k => g (ix2 0 k)) (fun k => b (ix2 0 k)) n := by
  unfold k0_pay3 Cert.Lin.norm Cert.Lin.centred Cert.Lin.mixed
  pointwise

/-- The second result's block is the first's, transposed. -/
theorem pay4_apply (x z : FVec Ideal S512x2048 .f32) (g b : FVec Ideal S1x2048 .f32) (r : Fin 512) (n : Fin 2048) :
    k0_pay4 (F := Ideal) x z g b (ix2 n r) = k0_pay3 (F := Ideal) x z g b (ix2 r n) := by
  unfold k0_pay4
  pointwise

/-- Where each window's block lies at a grid point: its block of rows is `t / 4`, its step along the inner axis `t % 4`. -/
theorem idx_facts : ∀ t : Fin cfg0.N,
    win0_0.index t (0 : Fin 2) = t.val / 4 ∧ win0_0.index t (1 : Fin 2) = 2 * (t.val % 4)
    ∧ win0_1.index t (0 : Fin 2) = t.val / 4 ∧ win0_1.index t (1 : Fin 2) = 2 * (t.val % 4) + 1
    ∧ win0_2.index t (0 : Fin 2) = t.val % 4 ∧ win0_2.index t (1 : Fin 2) = 0
    ∧ win0_3.index t (0 : Fin 2) = t.val % 4 ∧ win0_3.index t (1 : Fin 2) = 1
    ∧ win0_4.index t (0 : Fin 2) = t.val % 4 ∧ win0_4.index t (1 : Fin 2) = 2
    ∧ win0_5.index t (0 : Fin 2) = t.val % 4 ∧ win0_5.index t (1 : Fin 2) = 3
    ∧ win0_6.index t (0 : Fin 2) = t.val / 4 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0 :=
  (by decide +kernel : ∀ t : Fin grid0.N,
    win0_0.index t (0 : Fin 2) = t.val / 4 ∧ win0_0.index t (1 : Fin 2) = 2 * (t.val % 4)
    ∧ win0_1.index t (0 : Fin 2) = t.val / 4 ∧ win0_1.index t (1 : Fin 2) = 2 * (t.val % 4) + 1
    ∧ win0_2.index t (0 : Fin 2) = t.val % 4 ∧ win0_2.index t (1 : Fin 2) = 0
    ∧ win0_3.index t (0 : Fin 2) = t.val % 4 ∧ win0_3.index t (1 : Fin 2) = 1
    ∧ win0_4.index t (0 : Fin 2) = t.val % 4 ∧ win0_4.index t (1 : Fin 2) = 2
    ∧ win0_5.index t (0 : Fin 2) = t.val % 4 ∧ win0_5.index t (1 : Fin 2) = 3
    ∧ win0_6.index t (0 : Fin 2) = t.val / 4 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0)

variable (m : (ℓ : Loc nD τ sig) → Buf (Elt Ideal) ℓ) (c : Dev nD)

/-- The first half of the step's columns of the rows. -/
theorem iblk0_apply (t : Fin cfg0.N) (r d : Fin 512) (R : Fin 8192) (D : Fin 4096)
    (hR : R.val = 512 * (t.val / 4) + r.val) (hD : D.val = 1024 * (t.val % 4) + d.val) : iblk m c 0 t (ix2 r d) = V m c main_v1 (ix2 R D) := by
  obtain ⟨h0, h1, -⟩ := idx_facts t
  unfold iblk
  blk_ext [h0, h1]

/-- The second half of the step's columns of the rows. -/
theorem iblk1_apply (t : Fin cfg0.N) (r d : Fin 512) (R : Fin 8192) (D : Fin 4096)
    (hR : R.val = 512 * (t.val / 4) + r.val) (hD : D.val = 1024 * (t.val % 4) + (512 + d.val)) : iblk m c 1 t (ix2 r d) = V m c main_v1 (ix2 R D) := by
  obtain ⟨-, -, h0, h1, -⟩ := idx_facts t
  unfold iblk
  blk_ext [h0, h1]

/-- The step's rows of the weights, first quarter of the columns. -/
theorem iblk2_apply (t : Fin cfg0.N) (k : Fin 1024) (d : Fin 512) (K : Fin 4096) (D : Fin 2048)
    (hK : K.val = 1024 * (t.val % 4) + k.val) (hD : D.val = d.val) : iblk m c 2 t (ix2 k d) = V m c main_v2 (ix2 K D) := by
  obtain ⟨-, -, -, -, h0, h1, -⟩ := idx_facts t
  unfold iblk
  blk_ext [h0, h1]

/-- The step's rows of the weights, second quarter of the columns. -/
theorem iblk3_apply (t : Fin cfg0.N) (k : Fin 1024) (d : Fin 512) (K : Fin 4096) (D : Fin 2048)
    (hK : K.val = 1024 * (t.val % 4) + k.val) (hD : D.val = 512 + d.val) : iblk m c 3 t (ix2 k d) = V m c main_v2 (ix2 K D) := by
  obtain ⟨-, -, -, -, -, -, h0, h1, -⟩ := idx_facts t
  unfold iblk
  blk_ext [h0, h1]

/-- The step's rows of the weights, third quarter of the columns. -/
theorem iblk4_apply (t : Fin cfg0.N) (k : Fin 1024) (d : Fin 512) (K : Fin 4096) (D : Fin 2048)
    (hK : K.val = 1024 * (t.val % 4) + k.val) (hD : D.val = 1024 + d.val) : iblk m c 4 t (ix2 k d) = V m c main_v2 (ix2 K D) := by
  obtain ⟨-, -, -, -, -, -, -, -, h0, h1, -⟩ := idx_facts t
  unfold iblk
  blk_ext [h0, h1]

/-- The step's rows of the weights, fourth quarter of the columns. -/
theorem iblk5_apply (t : Fin cfg0.N) (k : Fin 1024) (d : Fin 512) (K : Fin 4096) (D : Fin 2048)
    (hK : K.val = 1024 * (t.val % 4) + k.val) (hD : D.val = 1536 + d.val) : iblk m c 5 t (ix2 k d) = V m c main_v2 (ix2 K D) := by
  obtain ⟨-, -, -, -, -, -, -, -, -, -, h0, h1, -⟩ := idx_facts t
  unfold iblk
  blk_ext [h0, h1]

/-- The block of the residual stream's rows. -/
theorem iblk6_apply (t : Fin cfg0.N) (r : Fin 512) (d : Fin 2048) (R : Fin 8192)
    (hR : R.val = 512 * (t.val / 4) + r.val) : iblk m c 6 t (ix2 r d) = V m c main_v3 (ix2 R d) := by
  obtain ⟨-, -, -, -, -, -, -, -, -, -, -, -, h0, h1, -⟩ := idx_facts t
  unfold iblk
  blk_ext [h0, h1]

/-- The gains. -/
theorem iblk7_apply (t : Fin cfg0.N) (d : Fin 2048) : iblk m c 7 t (ix2 0 d) = V m c main_v4 (ix2 0 d) := by
  obtain ⟨-, -, -, -, -, -, -, -, -, -, -, -, -, -, h0, h1, -⟩ := idx_facts t
  unfold iblk
  blk_ext [h0, h1]

/-- The shifts. -/
theorem iblk8_apply (t : Fin cfg0.N) (d : Fin 2048) : iblk m c 8 t (ix2 0 d) = V m c main_v5 (ix2 0 d) := by
  obtain ⟨-, -, -, -, -, -, -, -, -, -, -, -, -, -, -, -, h0, h1⟩ := idx_facts t
  unfold iblk
  blk_ext [h0, h1]

/-- The rows as the call takes them: flattened, in bf16. -/
def rows (a : FVec Ideal S2x4096x4096 .f32) : FVec Ideal S8192x4096 .bf16 :=
  truncf .bf16 (shapeCast S8192x4096 a shapeCasts_S2x4096x4096_S8192x4096) bitsLt_bf16_f32

/-- The weights as the call takes them. -/
def wts (a : FVec Ideal S4096x2048 .f32) : FVec Ideal S4096x2048 .bf16 := truncf .bf16 a bitsLt_bf16_f32

/-- The residual stream as the call takes it: flattened. -/
def flat (a : FVec Ideal S2x4096x2048 .f32) : FVec Ideal S8192x2048 .f32 := shapeCast S8192x2048 a shapeCasts_S2x4096x2048_S8192x2048

/-- A vector as the call takes it: one row. -/
def row (a : FVec Ideal S2048 .f32) : FVec Ideal S1x2048 .f32 := shapeCast S1x2048 a shapeCasts_S2048_S1x2048

/-- The first two windows' array is the rows. -/
theorem v1_eq : V m c main_v1 = rows (m (c, Proc.tc.devRef main_arg1)) := by
  dsimp only [V, hostOps0]
  after_results
  rfl

/-- The next four windows' array is the weights. -/
theorem v2_eq : V m c main_v2 = wts (m (c, Proc.tc.devRef main_arg2)) := by
  dsimp only [V, hostOps0]
  after_results
  rfl

/-- The seventh window's array is the residual stream. -/
theorem v3_eq : V m c main_v3 = flat (m (c, Proc.tc.devRef main_arg0)) := by
  dsimp only [V, hostOps0]
  after_results
  rfl

/-- The eighth window's array is the gains. -/
theorem v4_eq : V m c main_v4 = row (m (c, Proc.tc.devRef main_arg3)) := by
  dsimp only [V, hostOps0]
  after_results
  rfl

/-- The ninth window's array is the shifts. -/
theorem v5_eq : V m c main_v5 = row (m (c, Proc.tc.devRef main_arg4)) := by
  dsimp only [V, hostOps0]
  after_results
  rfl

/-- One entry of a row. -/
theorem rows_apply (a) (R : Fin 8192) (D : Fin 4096) : rows a (ix2 R D) = a (ix3 ⟨R.val / 4096, by omega⟩ ⟨R.val % 4096, by omega⟩ D) := by
  unfold rows
  pointwise

/-- One entry of the residual stream. -/
theorem flat_apply (a) (R : Fin 8192) (D : Fin 2048) : flat a (ix2 R D) = a (ix3 ⟨R.val / 4096, by omega⟩ ⟨R.val % 4096, by omega⟩ D) := by
  unfold flat
  pointwise

/-- One entry of a vector. -/
theorem row_apply (a) (D : Fin 2048) : row a (ix2 0 D) = a (ix1 D) := by
  unfold row
  pointwise

/-- One product of the sum over the rows' columns. -/
def term (a : FVec Ideal S2x4096x4096 .f32) (w : FVec Ideal S4096x2048 .f32) (R : Fin 8192) (n : Fin 2048) (k : Fin 4096) : EReal :=
  a (ix3 ⟨R.val / 4096, by omega⟩ ⟨R.val % 4096, by omega⟩ k) * w (ix2 k n)

/-- The projection's entry: a row times a column of the weights. -/
def prod (a : FVec Ideal S2x4096x4096 .f32) (w : FVec Ideal S4096x2048 .f32) (R : Fin 8192) (n : Fin 2048) : EReal := ∑ k : Fin 4096, term a w R n k

/-- One entry of the result: the layer norm of the scaled residual stream plus the projection. -/
def res (x : FVec Ideal S2x4096x2048 .f32) (a : FVec Ideal S2x4096x4096 .f32) (w : FVec Ideal S4096x2048 .f32) (g b : FVec Ideal S2048 .f32)
    (R : Fin 8192) (n : Fin 2048) : EReal :=
  Cert.Lin.norm (Cert.Lin.mixed (fun k => x (ix3 ⟨R.val / 4096, by omega⟩ ⟨R.val % 4096, by omega⟩ k)) (prod a w R)) (fun k => g (ix1 k)) (fun k => b (ix1 k)) n

/-- A grid step's part is the sum over its 1024 columns. -/
theorem stepPart_eq (t : Fin cfg0.N) (r : Fin 512) (n : Fin 2048) (R : Fin 8192) (hR : R.val = 512 * (t.val / 4) + r.val) (j : Fin 4)
    (hj : t.val % 4 = j.val) :
    stepPart m c t r n = ∑ k : Fin 1024, term (m (c, Proc.tc.devRef main_arg1)) (m (c, Proc.tc.devRef main_arg2)) R n ⟨j.val * 1024 + k.val, by omega⟩ := by
  unfold stepPart part
  refine Finset.sum_congr rfl fun k _ => congrArg₂ (· * ·) ?_ ?_
  · refine (Cert.Lin.join2_eq (fun k => rows (m (c, Proc.tc.devRef main_arg1)) (ix2 R ⟨j.val * 1024 + k.val, by omega⟩)) _ _
      (fun d => ?_) (fun d => ?_) k).trans (rows_apply _ _ _)
    · exact (iblk0_apply m c t r d R ⟨j.val * 1024 + d.val, by omega⟩ hR (by dsimp only; omega)).trans (congrFun (v1_eq m c) _)
    · exact (iblk1_apply m c t r d R ⟨j.val * 1024 + (512 + d.val), by omega⟩ hR (by dsimp only; omega)).trans (congrFun (v1_eq m c) _)
  · refine Cert.Lin.join_eq (fun n => wts (m (c, Proc.tc.devRef main_arg2)) (ix2 ⟨j.val * 1024 + k.val, by omega⟩ n)) _ _ _ _
      (fun d => ?_) (fun d => ?_) (fun d => ?_) (fun d => ?_) n
    · exact (iblk2_apply m c t k d ⟨j.val * 1024 + k.val, by omega⟩ ⟨d.val, by omega⟩ (by dsimp only; omega) rfl).trans (congrFun (v2_eq m c) _)
    · exact (iblk3_apply m c t k d ⟨j.val * 1024 + k.val, by omega⟩ ⟨512 + d.val, by omega⟩ (by dsimp only; omega) rfl).trans (congrFun (v2_eq m c) _)
    · exact (iblk4_apply m c t k d ⟨j.val * 1024 + k.val, by omega⟩ ⟨1024 + d.val, by omega⟩ (by dsimp only; omega) rfl).trans (congrFun (v2_eq m c) _)
    · exact (iblk5_apply m c t k d ⟨j.val * 1024 + k.val, by omega⟩ ⟨1536 + d.val, by omega⟩ (by dsimp only; omega) rfl).trans (congrFun (v2_eq m c) _)

/-- The block of sums after the last step of a block holds the projection. -/
theorem sums_eq (q : ℕ) (hq : q < 16) (ht : 4 * q + 3 < cfg0.N) (hp) (r : Fin 512) (n : Fin 2048) (R : Fin 8192) (hR : R.val = 512 * q + r.val) :
    sumsAt m c ⟨4 * q + 3, ht⟩ (outsAt0 m c (4 * q + 3 - 1) hp).2.2 (ix2 r n)
      = prod (m (c, Proc.tc.devRef main_arg1)) (m (c, Proc.tc.devRef main_arg2)) R n := by
  have e1 := accB m c ⟨4 * q + 2, by omega⟩ (by dsimp only; omega) (by dsimp only; omega) r n (by dsimp only; omega)
  have e2 := accB m c ⟨4 * q + 1, by omega⟩ (by dsimp only; omega) (by dsimp only; omega) r n (by dsimp only; omega)
  have e3 := accA m c ⟨4 * q, by omega⟩ (by dsimp only; omega) (by dsimp only; omega) r n
  refine (sumsAt_apply m c _ _ r n).trans ?_
  refine (congrArg (· + _) (e1.trans (congrArg (· + _) (e2.trans (congrArg (· + _) e3))))).trans ?_
  rw [stepPart_eq m c ⟨4 * q, by omega⟩ r n R (by dsimp only; omega) 0 (by dsimp only; simp),
    stepPart_eq m c ⟨4 * q + 1, by omega⟩ r n R (by dsimp only; omega) 1 (by dsimp only; simp),
    stepPart_eq m c ⟨4 * q + 2, by omega⟩ r n R (by dsimp only; omega) 2 (by dsimp only; simp),
    stepPart_eq m c ⟨4 * q + 3, ht⟩ r n R (by dsimp only; omega) 3 (by dsimp only; simp)]
  unfold prod
  refine Eq.trans ?_ (Fin.sum_mul_add_fin 4 1024 (term (m (c, Proc.tc.devRef main_arg1)) (m (c, Proc.tc.devRef main_arg2)) R n))
  rw [Fin.sum_univ_four, zero_add]

/-- The first result's block, entry by entry. -/
theorem out9_apply (q : ℕ) (hq : q < 16) (ht : 4 * q + 3 < cfg0.N) (r : Fin 512) (n : Fin 2048) (R : Fin 8192) (hR : R.val = 512 * q + r.val) :
    k0_pay3 (F := Ideal) (iblk m c 6 ⟨4 * q + 3, ht⟩) (sumsAt m c ⟨4 * q + 3, ht⟩ (outsAt0 m c (4 * q + 3 - 1) (by omega)).2.2) (iblk m c 7 ⟨4 * q + 3, ht⟩)
        (iblk m c 8 ⟨4 * q + 3, ht⟩) (ix2 r n)
      = res (m (c, Proc.tc.devRef main_arg0)) (m (c, Proc.tc.devRef main_arg1)) (m (c, Proc.tc.devRef main_arg2)) (m (c, Proc.tc.devRef main_arg3))
          (m (c, Proc.tc.devRef main_arg4)) R n := by
  refine (pay3_apply _ _ _ _ r n).trans ?_
  unfold res
  refine congrFun (congr (congr (congrArg Cert.Lin.norm ?_) ?_) ?_) n
  · refine congrArg₂ Cert.Lin.mixed (funext fun k => ?_) (funext fun k => ?_)
    · exact (iblk6_apply m c _ r k R (by dsimp only; omega)).trans ((congrFun (v3_eq m c) _).trans (flat_apply _ _ _))
    · exact sums_eq m c q hq ht _ r k R hR
  · exact funext fun k => (iblk7_apply m c _ k).trans ((congrFun (v4_eq m c) _).trans (row_apply _ _))
  · exact funext fun k => (iblk8_apply m c _ k).trans ((congrFun (v5_eq m c) _).trans (row_apply _ _))

/-- WHAT THE CALL LEAVES in its first result. -/
theorem arr9_apply (R : Fin 8192) (n : Fin 2048) :
    Value.G9 m c (ix2 R n)
      = res (m (c, Proc.tc.devRef main_arg0)) (m (c, Proc.tc.devRef main_arg1)) (m (c, Proc.tc.devRef main_arg2)) (m (c, Proc.tc.devRef main_arg3))
          (m (c, Proc.tc.devRef main_arg4)) R n := by
  have hq : R.val / 512 < 16 := by omega
  have hN : cfg0.N = 64 := N_0
  have ht : 4 * (R.val / 512) + 3 < cfg0.N := by omega
  have hpt : Value.pt9Of (ix2 R n) = 4 * (R.val / 512) + 3 := by
    show 4 * (1 * (R.val / 512 - 0) + 1 * (n.val / 2048 - 0)) + 3 = _
    omega
  have hloc : Value.loc9Of (ix2 R n) = ix2 (⟨R.val % 512, by omega⟩ : Fin 512) n := by
    funext a
    match a with
    | ⟨0, _⟩ => exact Fin.ext (rfl)
    | ⟨1, _⟩ => exact Fin.ext (Nat.mod_eq_of_lt n.isLt)
  unfold Value.G9
  rw [dif_pos (by rw [hpt]; exact ht), hloc]
  have key : ∀ (p : ℕ) (h : p < cfg0.N) (h' : 0 + p < cfg0.N), p = 4 * (R.val / 512) + 3 →
      (Pipeline.accAt (fun n h => Value.stAt0 m c n h Value.junk0) (Value.stAt0 m c) 0 p h').1 (ix2 (⟨R.val % 512, by omega⟩ : Fin 512) n)
        = res (m (c, Proc.tc.devRef main_arg0)) (m (c, Proc.tc.devRef main_arg1)) (m (c, Proc.tc.devRef main_arg2)) (m (c, Proc.tc.devRef main_arg3))
          (m (c, Proc.tc.devRef main_arg4)) R n := by
    rintro p h h' rfl
    rw [← Value.outsAt0_sweep m c _ h]
    refine (out9 m c ⟨4 * (R.val / 512) + 3, h⟩ (by dsimp only; omega) (by dsimp only; omega) (by dsimp only; omega) (⟨R.val % 512, by omega⟩ : Fin 512) n).trans ?_
    exact out9_apply m c (R.val / 512) hq h ⟨R.val % 512, by omega⟩ n R (by dsimp only; omega)
  exact key _ (by rw [hpt]; exact ht) _ hpt

/-- WHAT THE CALL LEAVES in its second result. -/
theorem arr10_apply (R : Fin 8192) (n : Fin 2048) :
    Value.G10 m c (ix2 n R)
      = res (m (c, Proc.tc.devRef main_arg0)) (m (c, Proc.tc.devRef main_arg1)) (m (c, Proc.tc.devRef main_arg2)) (m (c, Proc.tc.devRef main_arg3))
          (m (c, Proc.tc.devRef main_arg4)) R n := by
  have hq : R.val / 512 < 16 := by omega
  have hN : cfg0.N = 64 := N_0
  have ht : 4 * (R.val / 512) + 3 < cfg0.N := by omega
  have hpt : Value.pt10Of (ix2 n R) = 4 * (R.val / 512) + 3 := by
    show 4 * (16 * (n.val / 2048 - 0) + 1 * (R.val / 512 - 0)) + 3 = _
    omega
  have hloc : Value.loc10Of (ix2 n R) = ix2 n (⟨R.val % 512, by omega⟩ : Fin 512) := by
    funext a
    match a with
    | ⟨0, _⟩ => exact Fin.ext (Nat.mod_eq_of_lt n.isLt)
    | ⟨1, _⟩ => exact Fin.ext (rfl)
  unfold Value.G10
  rw [dif_pos (by rw [hpt]; exact ht), hloc]
  have key : ∀ (p : ℕ) (h : p < cfg0.N) (h' : 0 + p < cfg0.N), p = 4 * (R.val / 512) + 3 →
      (Pipeline.accAt (fun n h => Value.stAt0 m c n h Value.junk0) (Value.stAt0 m c) 0 p h').2.1 (ix2 n (⟨R.val % 512, by omega⟩ : Fin 512))
        = res (m (c, Proc.tc.devRef main_arg0)) (m (c, Proc.tc.devRef main_arg1)) (m (c, Proc.tc.devRef main_arg2)) (m (c, Proc.tc.devRef main_arg3))
          (m (c, Proc.tc.devRef main_arg4)) R n := by
    rintro p h h' rfl
    rw [← Value.outsAt0_sweep m c _ h]
    refine (out10 m c ⟨4 * (R.val / 512) + 3, h⟩ (by dsimp only; omega) (by dsimp only; omega) (by dsimp only; omega) n (⟨R.val % 512, by omega⟩ : Fin 512)).trans ?_
    exact (pay4_apply _ _ _ _ _ _).trans (out9_apply m c (R.val / 512) hq h ⟨R.val % 512, by omega⟩ n R (by dsimp only; omega))
  exact key _ (by rw [hpt]; exact ht) _ hpt

end Cert.Ro
-- ==== Proof.Lin.RoRef.lean ====
module
public import proofs.«01_k».proof.Proof.Gen.Reference5Ideal.Read
public import proofs.«01_k».proof.Proof.Lin.RoBlock
@[expose] public section
set_option maxRecDepth 16384
noncomputable section
namespace Cert.Ro
open Idealize.ShloMosaic Cert.Reference5Ideal Cert.Reference5Ideal.Gen Cert.Reference5Ideal.Read Idealize.SL.Sem

/-- The sum the reference normalizes: the scaled residual stream plus the projection. -/
theorem ref_sum (x : FVec Ideal S2x4096x2048 .f32) (a : FVec Ideal S2x4096x4096 .f32) (w : FVec Ideal S4096x2048 .f32) (R : Fin 8192) (k : Fin 2048) :
    val_main_v3 (F := Ideal) x a w (ix3 ⟨R.val / 4096, by omega⟩ ⟨R.val % 4096, by omega⟩ k)
      = Cert.Lin.mixed (fun k => x (ix3 ⟨R.val / 4096, by omega⟩ ⟨R.val % 4096, by omega⟩ k)) (prod a w R) k := by
  unfold val_main_v3 val_main_v2 val_main_v1 val_main_v0 val_main_cst Cert.Lin.mixed prod term
  pointwise

/-- The reference's first array is the layer norm of that sum. -/
theorem ref_apply (x : FVec Ideal S2x4096x2048 .f32) (a : FVec Ideal S2x4096x4096 .f32) (w : FVec Ideal S4096x2048 .f32) (g b : FVec Ideal S2048 .f32)
    (R : Fin 8192) (n : Fin 2048) :
    val_main_v28 (F := Ideal) x a w g b (ix2 R n) = res x a w g b R n := by
  unfold res
  rw [← funext fun k => ref_sum x a w R k]
  unfold val_main_v28 val_main_v27 val_main_v26 val_main_v25 val_main_v24 val_main_v23 val_main_v22 val_main_v21 val_main_v20 val_main_v19 val_main_v18
    val_main_v17 val_main_cst_4 val_main_v16 val_main_v15 val_main_v14 val_main_v13 val_main_cst_3 val_main_v12 val_main_v11 val_main_cst_2 val_main_v10
    val_main_v9 val_main_v8 val_main_v7 val_main_v6 val_main_cst_1 val_main_v5 val_main_v4 val_main_cst_0 Cert.Lin.norm Cert.Lin.centred
  pointwise

/-- The reference's second array is the first, transposed. -/
theorem ref2_apply (x : FVec Ideal S2x4096x2048 .f32) (a : FVec Ideal S2x4096x4096 .f32) (w : FVec Ideal S4096x2048 .f32) (g b : FVec Ideal S2048 .f32)
    (R : Fin 8192) (n : Fin 2048) :
    val_main_v30 (F := Ideal) x a w g b (ix2 n R) = res x a w g b R n := by
  refine Eq.trans ?_ (ref_apply x a w g b R n)
  unfold val_main_v30 val_main_v29
  pointwise

end Cert.Ro
-- ==== Proof.Lin.RoClaim.lean ====
module
public import proofs.«01_k».proof.Defs
public import proofs.«01_k».proof.Proof.Gen.Kernel5Ideal.Value
public import proofs.«01_k».proof.Proof.Gen.Reference5Ideal.Run
public import proofs.«01_k».proof.Proof.Lin.RoRef
public import Idealize.ShloMosaic.Adequacy
public import Idealize.ShloMosaic.Init
@[expose] public section
noncomputable section
namespace Cert.Ro
open Idealize.ShloMosaic Idealize.SL.Sem

/-- The reference of the retention's projection out ends with its arguments unchanged and every counter at zero. -/
theorem frame_ref (m : (ℓ : Loc Cert.Reference5Ideal.nD Cert.Reference5Ideal.τ Cert.Reference5Ideal.sig) → Buf (Elt Ideal) ℓ) (g : Dev Cert.Reference5Ideal.nD → PrngReg) :
    θ_run (Cert.Reference5Ideal.defs (F := Ideal)) (onTc (τ := Cert.Reference5Ideal.τ) (Cert.Reference5Ideal.main (F := Ideal))) ⟨m, fun _ => 0, g⟩
      (fun r => (∀ c : Dev Cert.Reference5Ideal.nD,
        r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
        ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
        ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
        ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
        ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
        ∧ r.2.sem = fun _ => 0) :=
  (θ_run Cert.Reference5Ideal.defs _ _).mono
    (fun r h => ⟨fun c => (h c).2.2, sem_eq_zero_of_no_sems (by decide) r.2⟩)
    (Cert.Reference5Ideal.Value.run m g)

/-- The first array of the retention's projection out is the reference's. -/
theorem arr9_eq (m : (ℓ : Loc Cert.Kernel5Ideal.nD Cert.Kernel5Ideal.τ Cert.Kernel5Ideal.sig) → Buf (Elt Ideal) ℓ) (c : Dev Cert.Kernel5Ideal.nD) :
    Cert.Kernel5Ideal.Value.G9 m c = Cert.Reference5Ideal.Read.val_main_v28 (F := Ideal) (m (c, Proc.tc.devRef Cert.Kernel5Ideal.main_arg0)) (m (c, Proc.tc.devRef Cert.Kernel5Ideal.main_arg1)) (m (c, Proc.tc.devRef Cert.Kernel5Ideal.main_arg2)) (m (c, Proc.tc.devRef Cert.Kernel5Ideal.main_arg3)) (m (c, Proc.tc.devRef Cert.Kernel5Ideal.main_arg4)) := by
  funext i
  have e : i = ix2 (⟨(i 0).val, (i 0).isLt⟩ : Fin 8192) (⟨(i 1).val, (i 1).isLt⟩ : Fin 2048) := by
    funext a
    match a with
    | ⟨0, _⟩ => rfl
    | ⟨1, _⟩ => rfl
  rw [e]
  exact (arr9_apply m c _ _).trans (ref_apply _ _ _ _ _ _ _).symm

/-- The second array of the retention's projection out is the reference's. -/
theorem arr10_eq (m : (ℓ : Loc Cert.Kernel5Ideal.nD Cert.Kernel5Ideal.τ Cert.Kernel5Ideal.sig) → Buf (Elt Ideal) ℓ) (c : Dev Cert.Kernel5Ideal.nD) :
    Cert.Kernel5Ideal.Value.G10 m c = Cert.Reference5Ideal.Read.val_main_v30 (F := Ideal) (m (c, Proc.tc.devRef Cert.Kernel5Ideal.main_arg0)) (m (c, Proc.tc.devRef Cert.Kernel5Ideal.main_arg1)) (m (c, Proc.tc.devRef Cert.Kernel5Ideal.main_arg2)) (m (c, Proc.tc.devRef Cert.Kernel5Ideal.main_arg3)) (m (c, Proc.tc.devRef Cert.Kernel5Ideal.main_arg4)) := by
  funext i
  have e : i = ix2 (⟨(i 0).val, (i 0).isLt⟩ : Fin 2048) (⟨(i 1).val, (i 1).isLt⟩ : Fin 8192) := by
    funext a
    match a with
    | ⟨0, _⟩ => rfl
    | ⟨1, _⟩ => rfl
  rw [e]
  exact (arr10_apply m c _ _).trans (ref2_apply _ _ _ _ _ _ _).symm

/-- Kernel and reference of the retention's projection out compute one function. -/
theorem algebraic : Cert.algebraic_Kernel5Ideal_Reference5Ideal (hKernel5Ideal := Cert.Kernel5Ideal.Gen.facts)
    (hReference5Ideal := Cert.Reference5Ideal.Gen.facts) := by
  intro m g m' g' _ hargs
  refine ⟨Cert.Kernel5Ideal.Value.G9 m, Cert.Kernel5Ideal.Value.G10 m, Cert.Kernel5Ideal.Value.run m g, ?_⟩
  refine (θ_run Cert.Reference5Ideal.defs _ _).mono (fun r h c => ⟨(h c).1.trans ?_, (h c).2.1.trans ?_, (h c).2.2⟩) (Cert.Reference5Ideal.Value.run m' g')
  · obtain ⟨e0, e1, e2, e3, e4⟩ := hargs c
    rw [Cert.Reference5Ideal.Read.val_main_v28_eq, e0, e1, e2, e3, e4]
    exact (arr9_eq m c).symm
  · obtain ⟨e0, e1, e2, e3, e4⟩ := hargs c
    rw [Cert.Reference5Ideal.Read.val_main_v30_eq, e0, e1, e2, e3, e4]
    exact (arr10_eq m c).symm

end Cert.Ro
-- ==== Proof.Lin.MoPieces.lean ====
module
public import proofs.«01_k».proof.Proof.Gen.Kernel6Ideal.Value
public import proofs.«01_k».proof.Proof.Lin.Join
public import Idealize.ShloMosaic.Lib.Pipeline.ValueKit
public import Idealize.ShloMosaic.Lib.Pointwise
@[expose] public section
set_option maxRecDepth 16384
noncomputable section
namespace Cert.Mo
open Idealize.ShloMosaic Cert.Kernel6Ideal Cert.Kernel6Ideal.Gen Idealize.SL.Sem

/-- What one grid step adds to a place of a block: the row of the two windows, laid end to end, times a column of the weights. -/
def part (x0 x1 : FVec Ideal S512x512 .bf16) (w : Fin 1024 → EReal) (r : Fin 512) : EReal :=
  ∑ k : Fin 1024, Cert.Lin.join2 (fun d => x0 (ix2 r d)) (fun d => x1 (ix2 r d)) k * w k

/-- The first quarter's new entry. -/
theorem pay7_apply (x0 x1 : FVec Ideal S512x512 .bf16) (a : FVec Ideal S512x512 .f32) (w : FVec Ideal S1024x512 .bf16) (r d : Fin 512) :
    k0_pay7 (F := Ideal) x0 x1 a w (ix2 r d) = a (ix2 r d) + part x0 x1 (fun k => w (ix2 k d)) r := by
  unfold k0_pay7 k0_pay6 part Cert.Lin.join2
  pointwise

/-- The second quarter's new entry. -/
theorem pay8_apply (x0 x1 : FVec Ideal S512x512 .bf16) (a : FVec Ideal S512x512 .f32) (w : FVec Ideal S1024x512 .bf16) (r d : Fin 512) :
    k0_pay8 (F := Ideal) x0 x1 a w (ix2 r d) = a (ix2 r d) + part x0 x1 (fun k => w (ix2 k d)) r := by
  unfold k0_pay8 k0_pay6 part Cert.Lin.join2
  pointwise

/-- The third quarter's new entry. -/
theorem pay9_apply (x0 x1 : FVec Ideal S512x512 .bf16) (a : FVec Ideal S512x512 .f32) (w : FVec Ideal S1024x512 .bf16) (r d : Fin 512) :
    k0_pay1 (k0_pay9 (F := Ideal) x0 x1 a w) (ix2 r d) = a (ix2 r d) + part x0 x1 (fun k => w (ix2 k d)) r := by
  unfold k0_pay1 k0_pay9 k0_pay6 part Cert.Lin.join2
  pointwise

/-- The fourth quarter's new entry. -/
theorem pay2_apply (x0 x1 : FVec Ideal S512x512 .bf16) (a : FVec Ideal S512x512 .f32) (w : FVec Ideal S1024x512 .bf16) (r d : Fin 512) :
    k0_pay2 (F := Ideal) (k0_pay6 x0 x1) a w (ix2 r d) = a (ix2 r d) + part x0 x1 (fun k => w (ix2 k d)) r := by
  unfold k0_pay2 k0_pay6 part Cert.Lin.join2
  pointwise

/-- The block that a sum starts from is zero. -/
theorem pay5_apply (r : Fin 512) (n : Fin 2048) : k0_pay5 (F := Ideal) (ix2 r n) = 0 := by
  unfold k0_pay5
  pointwise

/-- Four quarters of the block of sums, stored one after the other. -/
abbrev pieces (p0 p1 p2 p3 : FVec Ideal S512x512 .f32) (L : List (View.Piece (Elt Ideal) S512x2048 .f32)) : List (View.Piece (Elt Ideal) S512x2048 .f32) :=
  ⟨Rect.unit (s := S512x2048) ![0, 1536] S512x512.size inb_S512x2048_S512x512_0_1536, p3⟩
  :: ⟨Rect.unit (s := S512x2048) ![0, 1024] S512x512.size inb_S512x2048_S512x512_0_1024, p2⟩
  :: ⟨Rect.unit (s := S512x2048) ![0, 512] S512x512.size inb_S512x2048_S512x512_0_512, p1⟩
  :: ⟨Rect.unit (s := S512x2048) ![0, 0] S512x512.size inb_S512x2048_S512x512_0_0, p0⟩ :: L

/-- The four quarters of the block of sums, as one grid step stores them. -/
abbrev quarters (x0 x1 : FVec Ideal S512x512 .bf16) (a0 a1 a2 a3 : FVec Ideal S512x512 .f32) (w0 w1 w2 w3 : FVec Ideal S1024x512 .bf16)
    (L : List (View.Piece (Elt Ideal) S512x2048 .f32)) : List (View.Piece (Elt Ideal) S512x2048 .f32) :=
  pieces (k0_pay7 (F := Ideal) x0 x1 a0 w0) (k0_pay8 (F := Ideal) x0 x1 a1 w1) (k0_pay1 (k0_pay9 (F := Ideal) x0 x1 a2 w2))
    (k0_pay2 (F := Ideal) (k0_pay6 x0 x1) a3 w3) L

/-- Four quarters stored in a row, read at a place: the quarter the place lies in. -/
theorem canon_quarters (p0 p1 p2 p3 : FVec Ideal S512x512 .f32) (L : List (View.Piece (Elt Ideal) S512x2048 .f32)) (r : Fin 512) (n : Fin 2048) :
    View.canon (pieces p0 p1 p2 p3 L) (ix2 r n)
      = Cert.Lin.join (fun d => p0 (ix2 r d)) (fun d => p1 (ix2 r d)) (fun d => p2 (ix2 r d)) (fun d => p3 (ix2 r d)) n := by
  unfold Cert.Lin.join
  by_cases h0 : n.val < 512
  · rw [dif_pos h0, View.canon_cons_of_not_mem, View.canon_cons_of_not_mem, View.canon_cons_of_not_mem]
    · rw [show ix2 r n = (Rect.unit (s := S512x2048) ![0, 0] S512x512.size inb_S512x2048_S512x512_0_0).emb (ix2 r (⟨n.val, h0⟩ : Fin 512)) from ?_,
        View.canon_cons_emb]
      funext a; fin_cases a <;> exact Fin.ext (by simp [Rect.emb_apply])
    all_goals
      rw [Rect.mem_set_unit]; intro h; have h := (h 1).1; simp at h; omega
  · rw [dif_neg h0]
    by_cases h1 : n.val - 512 < 512
    · rw [dif_pos h1, View.canon_cons_of_not_mem, View.canon_cons_of_not_mem]
      · rw [show ix2 r n = (Rect.unit (s := S512x2048) ![0, 512] S512x512.size inb_S512x2048_S512x512_0_512).emb (ix2 r (⟨n.val - 512, h1⟩ : Fin 512)) from ?_,
          View.canon_cons_emb]
        funext a; fin_cases a <;> exact Fin.ext (by simp [Rect.emb_apply]; try omega)
      all_goals
        rw [Rect.mem_set_unit]; intro h; have h := (h 1).1; simp at h; omega
    · rw [dif_neg h1]
      by_cases h2 : n.val - 512 - 512 < 512
      · rw [dif_pos h2, View.canon_cons_of_not_mem]
        · rw [show ix2 r n = (Rect.unit (s := S512x2048) ![0, 1024] S512x512.size inb_S512x2048_S512x512_0_1024).emb (ix2 r (⟨n.val - 512 - 512, h2⟩ : Fin 512)) from ?_,
            View.canon_cons_emb]
          funext a; fin_cases a <;> exact Fin.ext (by simp [Rect.emb_apply]; try omega)
        all_goals
          rw [Rect.mem_set_unit]; intro h; have h := (h 1).1; simp at h; omega
      · rw [dif_neg h2]
        rw [show ix2 r n = (Rect.unit (s := S512x2048) ![0, 1536] S512x512.size inb_S512x2048_S512x512_0_1536).emb (ix2 r (⟨n.val - 512 - 512 - 512, by omega⟩ : Fin 512)) from ?_,
          View.canon_cons_emb]
        funext a; fin_cases a <;> exact Fin.ext (by simp [Rect.emb_apply]; try omega)

/-- One place of the block of sums after a grid step, whose four quarters held the entries of `g` before it. -/
theorem quarters_apply (g : Fin 2048 → EReal) (x0 x1 : FVec Ideal S512x512 .bf16) (a0 a1 a2 a3 : FVec Ideal S512x512 .f32)
    (w0 w1 w2 w3 : FVec Ideal S1024x512 .bf16) (L : List (View.Piece (Elt Ideal) S512x2048 .f32)) (r : Fin 512) (n : Fin 2048)
    (h0 : ∀ d : Fin 512, a0 (ix2 r d) = g ⟨d.val, by omega⟩) (h1 : ∀ d : Fin 512, a1 (ix2 r d) = g ⟨512 + d.val, by omega⟩)
    (h2 : ∀ d : Fin 512, a2 (ix2 r d) = g ⟨1024 + d.val, by omega⟩) (h3 : ∀ d : Fin 512, a3 (ix2 r d) = g ⟨1536 + d.val, by omega⟩) :
    View.canon (quarters x0 x1 a0 a1 a2 a3 w0 w1 w2 w3 L) (ix2 r n)
      = g n + part x0 x1 (fun k => Cert.Lin.join (fun d => w0 (ix2 k d)) (fun d => w1 (ix2 k d)) (fun d => w2 (ix2 k d)) (fun d => w3 (ix2 k d)) n) r := by
  refine (canon_quarters _ _ _ _ _ _ _).trans ?_
  unfold Cert.Lin.join
  by_cases i0 : n.val < 512
  · simp only [dif_pos i0]
    rw [pay7_apply, h0]
  · simp only [dif_neg i0]
    by_cases i1 : n.val - 512 < 512
    · simp only [dif_pos i1]
      rw [pay8_apply, h1]
      exact congrArg (· + _) (congrArg g (Fin.ext (by dsimp only; omega)))
    · simp only [dif_neg i1]
      by_cases i2 : n.val - 512 - 512 < 512
      · simp only [dif_pos i2]
        rw [pay9_apply, h2]
        exact congrArg (· + _) (congrArg g (Fin.ext (by dsimp only; omega)))
      · simp only [dif_neg i2]
        rw [pay2_apply, h3]
        exact congrArg (· + _) (congrArg g (Fin.ext (by dsimp only; omega)))

end Cert.Mo
-- ==== Proof.Lin.MoSteps.lean ====
module
public import proofs.«01_k».proof.Proof.Lin.MoPieces
public import Idealize.ShloMosaic.Lib.Pipeline.ReadBack
@[expose] public section
set_option maxRecDepth 16384
noncomputable section
namespace Cert.Mo
open Idealize.ShloMosaic Cert.Kernel6Ideal Cert.Kernel6Ideal.Gen Idealize.SL.Sem
variable (m : (ℓ : Loc nD τ sig) → Buf (Elt Ideal) ℓ) (c : Dev nD)

/-- The part that grid step `t` adds to place `n` of row `r` of its block. -/
def stepPart (t : Fin cfg0.N) (r : Fin 512) (n : Fin 2048) : EReal :=
  part (iblk m c 0 t) (iblk m c 1 t) (fun k => Cert.Lin.join (fun d => iblk m c 2 t (ix2 k d)) (fun d => iblk m c 3 t (ix2 k d))
    (fun d => iblk m c 4 t (ix2 k d)) (fun d => iblk m c 5 t (ix2 k d)) n) r

/-- A read through a rectangle of columns. -/
theorem ld_cols (X : FVec Ideal S512x2048 .f32) (o : ℕ) (inb) (r d : Fin 512) (n : Fin 2048) (hn : n.val = o + d.val) :
    View.ld (Val := Elt Ideal) (e' := .f32) X (Rect.unit (s := S512x2048) ![0, o] S512x512.size inb) (ix2 r d) = X (ix2 r n) := by
  refine View.ld_unit_apply_of (Val := Elt Ideal) (e := .f32) X _ _ _ _ _ fun a => ?_
  fin_cases a
  · exact (Nat.zero_add _).symm
  · exact hn

/-- The four quarters cover the block. -/
theorem pieces_cover (p0 p1 p2 p3 : FVec Ideal S512x512 .f32) (L : List (View.Piece (Elt Ideal) S512x2048 .f32)) (y : S512x2048.Idx) :
    ∃ p ∈ pieces p0 p1 p2 p3 L, y ∈ p.1.set := by
  have b0 : (y 0).val < 512 := (y 0).isLt
  have b1 : (y 1).val < 2048 := (y 1).isLt
  by_cases i0 : (y 1).val < 512
  · refine ⟨_, .tail _ (.tail _ (.tail _ (.head _))), ?_⟩
    rw [Rect.mem_set_unit]; intro a; fin_cases a <;> simp <;> omega
  by_cases i1 : (y 1).val < 1024
  · refine ⟨_, .tail _ (.tail _ (.head _)), ?_⟩
    rw [Rect.mem_set_unit]; intro a; fin_cases a <;> simp <;> omega
  by_cases i2 : (y 1).val < 1536
  · refine ⟨_, .tail _ (.head _), ?_⟩
    rw [Rect.mem_set_unit]; intro a; fin_cases a <;> simp <;> omega
  · refine ⟨_, .head _, ?_⟩
    rw [Rect.mem_set_unit]; intro a; fin_cases a <;> simp <;> omega

/-- The whole block, zeroed. -/
abbrev zeroed : View.Piece (Elt Ideal) S512x2048 .f32 :=
  ⟨Rect.unit (s := S512x2048) ![0, 0] S512x2048.size inb_S512x2048_S512x2048_0_0, k0_pay5 (F := Ideal)⟩

/-- The zeroed block covers everything. -/
theorem zeroed_mem (y : S512x2048.Idx) : y ∈ zeroed.1.set := by
  have b0 : (y 0).val < 512 := (y 0).isLt
  have b1 : (y 1).val < 2048 := (y 1).isLt
  rw [Rect.mem_set_unit]; intro a; fin_cases a <;> simp <;> omega

/-- The zeroed block reads zero. -/
theorem zeroed_apply (r : Fin 512) (n : Fin 2048) : View.canon [zeroed] (ix2 r n) = 0 := by
  rw [View.canon_unit_zero Cert.Lin.origin]
  exact pay5_apply r n

/-- The first grid step of a block leaves its part alone. -/
theorem accA (t : Fin cfg0.N) (h0 : t.val % 2 = 0) (h1 : ¬t.val % 2 = 1) (r : Fin 512) (n : Fin 2048) :
    (outsAt0 m c t.val t.isLt).2.2 (ix2 r n) = 0 + stepPart m c t r n := by
  rw [outsAt0_A m c t h0 h1]
  frame_out
  refine quarters_apply (fun n => 0) _ _ _ _ _ _ _ _ _ _ _ r n ?_ ?_ ?_ ?_
  all_goals intro d
  · rw [View.readCov_eq_canon_ld _ _ _ (fun y => ⟨_, .head _, zeroed_mem y⟩)]
    exact (ld_cols _ 0 _ r d ⟨d.val, by omega⟩ (Nat.zero_add _).symm).trans (zeroed_apply r _)
  · rw [View.readCov_eq_canon_ld _ _ _ (fun y => ⟨_, .tail _ (.head _), zeroed_mem y⟩)]
    refine (ld_cols _ _ _ r d ⟨512 + d.val, by omega⟩ rfl).trans ?_
    rw [View.canon_cons_of_not_mem]
    · exact zeroed_apply r _
    · rw [Rect.mem_set_unit]; intro h; have h := (h 1).2; simp at h
  · rw [View.readCov_eq_canon_ld _ _ _ (fun y => ⟨_, .tail _ (.tail _ (.head _)), zeroed_mem y⟩)]
    refine (ld_cols _ _ _ r d ⟨1024 + d.val, by omega⟩ rfl).trans ?_
    rw [View.canon_cons_of_not_mem, View.canon_cons_of_not_mem]
    · exact zeroed_apply r _
    all_goals
      rw [Rect.mem_set_unit]; intro h; have h := (h 1).2; simp at h; try omega
  · rw [View.readCov_eq_canon_ld _ _ _ (fun y => ⟨_, .tail _ (.tail _ (.tail _ (.head _))), zeroed_mem y⟩)]
    refine (ld_cols _ _ _ r d ⟨1536 + d.val, by omega⟩ rfl).trans ?_
    rw [View.canon_cons_of_not_mem, View.canon_cons_of_not_mem, View.canon_cons_of_not_mem]
    · exact zeroed_apply r _
    all_goals
      rw [Rect.mem_set_unit]; intro h; have h := (h 1).2; simp at h; try omega

/-- The block of sums after the last grid step of a block, from the block `X` before it. -/
def sumsAt (t : Fin cfg0.N) (X : FVec Ideal S512x2048 .f32) : FVec Ideal S512x2048 .f32 :=
  View.canon (quarters (iblk m c 0 t) (iblk m c 1 t)
    (View.ld (Val := Elt Ideal) (e' := .f32) X (Rect.unit (s := S512x2048) ![0, 0] S512x512.size inb_S512x2048_S512x512_0_0))
    (View.ld (Val := Elt Ideal) (e' := .f32) X (Rect.unit (s := S512x2048) ![0, 512] S512x512.size inb_S512x2048_S512x512_0_512))
    (View.ld (Val := Elt Ideal) (e' := .f32) X (Rect.unit (s := S512x2048) ![0, 1024] S512x512.size inb_S512x2048_S512x512_0_1024))
    (View.ld (Val := Elt Ideal) (e' := .f32) X (Rect.unit (s := S512x2048) ![0, 1536] S512x512.size inb_S512x2048_S512x512_0_1536))
    (iblk m c 2 t) (iblk m c 3 t) (iblk m c 4 t) (iblk m c 5 t) [])

/-- The last grid step of a block adds its part. -/
theorem sumsAt_apply (t : Fin cfg0.N) (X : FVec Ideal S512x2048 .f32) (r : Fin 512) (n : Fin 2048) :
    sumsAt m c t X (ix2 r n) = X (ix2 r n) + stepPart m c t r n := by
  refine quarters_apply (fun n => X (ix2 r n)) _ _ _ _ _ _ _ _ _ _ [] r n ?_ ?_ ?_ ?_
  all_goals intro d
  · exact ld_cols _ 0 _ r d _ (Nat.zero_add _).symm
  all_goals exact ld_cols _ _ _ r d _ rfl

/-- The first result's block, as the last grid step stores it. -/
theorem out9 (t : Fin cfg0.N) (h0 : ¬t.val % 2 = 0) (h1 : t.val % 2 = 1) (hp) (r : Fin 512) (n : Fin 2048) :
    (outsAt0 m c t.val t.isLt).1 (ix2 r n)
      = k0_pay3 (F := Ideal) (iblk m c 6 t) (sumsAt m c t (outsAt0 m c (t.val - 1) hp).2.2) (iblk m c 7 t) (iblk m c 8 t) (ix2 r n) := by
  rw [outsAt0_B m c t h0 h1]
  frame_out
  simp only [read_unread_whole]
  rw [View.readCov_eq_canon_ld _ _ _ (pieces_cover _ _ _ _ _), View.ld_unit_zero Cert.Lin.origin]

/-- The second result's block, as the last grid step stores it. -/
theorem out10 (t : Fin cfg0.N) (h0 : ¬t.val % 2 = 0) (h1 : t.val % 2 = 1) (hp) (n : Fin 2048) (r : Fin 512) :
    (outsAt0 m c t.val t.isLt).2.1 (ix2 n r)
      = k0_pay4 (F := Ideal) (iblk m c 6 t) (sumsAt m c t (outsAt0 m c (t.val - 1) hp).2.2) (iblk m c 7 t) (iblk m c 8 t) (ix2 n r) := by
  rw [outsAt0_B m c t h0 h1]
  frame_out
  simp only [read_unread_whole]
  rw [View.readCov_eq_canon_ld _ _ _ (pieces_cover _ _ _ _ _), View.ld_unit_zero Cert.Lin.origin]

end Cert.Mo
-- ==== Proof.Lin.MoBlock.lean ====
module
public import proofs.«01_k».proof.Proof.Lin.MoSteps
public import proofs.«01_k».proof.Proof.Lin.Norm
@[expose] public section
set_option maxRecDepth 16384
noncomputable section
namespace Cert.Mo
open Idealize.ShloMosaic Cert.Kernel6Ideal Cert.Kernel6Ideal.Gen Idealize.SL.Sem

/-- One entry of the first result's block: the layer norm of its row. -/
theorem pay3_apply (x z : FVec Ideal S512x2048 .f32) (g b : FVec Ideal S1x2048 .f32) (r : Fin 512) (n : Fin 2048) :
    k0_pay3 (F := Ideal) x z g b (ix2 r n)
      = Cert.Lin.norm (Cert.Lin.mixed (fun k => x (ix2 r k)) (fun k => z (ix2 r k))) (fun k => g (ix2 0 k)) (fun k => b (ix2 0 k)) n := by
  unfold k0_pay3 Cert.Lin.norm Cert.Lin.centred Cert.Lin.mixed
  pointwise

/-- The second result's block is the first's, transposed. -/
theorem pay4_apply (x z : FVec Ideal S512x2048 .f32) (g b : FVec Ideal S1x2048 .f32) (r : Fin 512) (n : Fin 2048) :
    k0_pay4 (F := Ideal) x z g b (ix2 n r) = k0_pay3 (F := Ideal) x z g b (ix2 r n) := by
  unfold k0_pay4
  pointwise

/-- Where each window's block lies at a grid point: its block of rows is `t / 2`, its step along the inner axis `t % 2`. -/
theorem idx_facts : ∀ t : Fin cfg0.N,
    win0_0.index t (0 : Fin 2) = t.val / 2 ∧ win0_0.index t (1 : Fin 2) = 2 * (t.val % 2)
    ∧ win0_1.index t (0 : Fin 2) = t.val / 2 ∧ win0_1.index t (1 : Fin 2) = 2 * (t.val % 2) + 1
    ∧ win0_2.index t (0 : Fin 2) = t.val % 2 ∧ win0_2.index t (1 : Fin 2) = 0
    ∧ win0_3.index t (0 : Fin 2) = t.val % 2 ∧ win0_3.index t (1 : Fin 2) = 1
    ∧ win0_4.index t (0 : Fin 2) = t.val % 2 ∧ win0_4.index t (1 : Fin 2) = 2
    ∧ win0_5.index t (0 : Fin 2) = t.val % 2 ∧ win0_5.index t (1 : Fin 2) = 3
    ∧ win0_6.index t (0 : Fin 2) = t.val / 2 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0 :=
  (by decide +kernel : ∀ t : Fin grid0.N,
    win0_0.index t (0 : Fin 2) = t.val / 2 ∧ win0_0.index t (1 : Fin 2) = 2 * (t.val % 2)
    ∧ win0_1.index t (0 : Fin 2) = t.val / 2 ∧ win0_1.index t (1 : Fin 2) = 2 * (t.val % 2) + 1
    ∧ win0_2.index t (0 : Fin 2) = t.val % 2 ∧ win0_2.index t (1 : Fin 2) = 0
    ∧ win0_3.index t (0 : Fin 2) = t.val % 2 ∧ win0_3.index t (1 : Fin 2) = 1
    ∧ win0_4.index t (0 : Fin 2) = t.val % 2 ∧ win0_4.index t (1 : Fin 2) = 2
    ∧ win0_5.index t (0 : Fin 2) = t.val % 2 ∧ win0_5.index t (1 : Fin 2) = 3
    ∧ win0_6.index t (0 : Fin 2) = t.val / 2 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0)

variable (m : (ℓ : Loc nD τ sig) → Buf (Elt Ideal) ℓ) (c : Dev nD)

/-- The first half of the step's columns of the rows. -/
theorem iblk0_apply (t : Fin cfg0.N) (r d : Fin 512) (R : Fin 8192) (D : Fin 2048)
    (hR : R.val = 512 * (t.val / 2) + r.val) (hD : D.val = 1024 * (t.val % 2) + d.val) : iblk m c 0 t (ix2 r d) = V m c main_v1 (ix2 R D) := by
  obtain ⟨h0, h1, -⟩ := idx_facts t
  unfold iblk
  blk_ext [h0, h1]

/-- The second half of the step's columns of the rows. -/
theorem iblk1_apply (t : Fin cfg0.N) (r d : Fin 512) (R : Fin 8192) (D : Fin 2048)
    (hR : R.val = 512 * (t.val / 2) + r.val) (hD : D.val = 1024 * (t.val % 2) + (512 + d.val)) : iblk m c 1 t (ix2 r d) = V m c main_v1 (ix2 R D) := by
  obtain ⟨-, -, h0, h1, -⟩ := idx_facts t
  unfold iblk
  blk_ext [h0, h1]

/-- The step's rows of the weights, first quarter of the columns. -/
theorem iblk2_apply (t : Fin cfg0.N) (k : Fin 1024) (d : Fin 512) (K : Fin 2048) (D : Fin 2048)
    (hK : K.val = 1024 * (t.val % 2) + k.val) (hD : D.val = d.val) : iblk m c 2 t (ix2 k d) = V m c main_v2 (ix2 K D) := by
  obtain ⟨-, -, -, -, h0, h1, -⟩ := idx_facts t
  unfold iblk
  blk_ext [h0, h1]

/-- The step's rows of the weights, second quarter of the columns. -/
theorem iblk3_apply (t : Fin cfg0.N) (k : Fin 1024) (d : Fin 512) (K : Fin 2048) (D : Fin 2048)
    (hK : K.val = 1024 * (t.val % 2) + k.val) (hD : D.val = 512 + d.val) : iblk m c 3 t (ix2 k d) = V m c main_v2 (ix2 K D) := by
  obtain ⟨-, -, -, -, -, -, h0, h1, -⟩ := idx_facts t
  unfold iblk
  blk_ext [h0, h1]

/-- The step's rows of the weights, third quarter of the columns. -/
theorem iblk4_apply (t : Fin cfg0.N) (k : Fin 1024) (d : Fin 512) (K : Fin 2048) (D : Fin 2048)
    (hK : K.val = 1024 * (t.val % 2) + k.val) (hD : D.val = 1024 + d.val) : iblk m c 4 t (ix2 k d) = V m c main_v2 (ix2 K D) := by
  obtain ⟨-, -, -, -, -, -, -, -, h0, h1, -⟩ := idx_facts t
  unfold iblk
  blk_ext [h0, h1]

/-- The step's rows of the weights, fourth quarter of the columns. -/
theorem iblk5_apply (t : Fin cfg0.N) (k : Fin 1024) (d : Fin 512) (K : Fin 2048) (D : Fin 2048)
    (hK : K.val = 1024 * (t.val % 2) + k.val) (hD : D.val = 1536 + d.val) : iblk m c 5 t (ix2 k d) = V m c main_v2 (ix2 K D) := by
  obtain ⟨-, -, -, -, -, -, -, -, -, -, h0, h1, -⟩ := idx_facts t
  unfold iblk
  blk_ext [h0, h1]

/-- The block of the residual stream's rows. -/
theorem iblk6_apply (t : Fin cfg0.N) (r : Fin 512) (d : Fin 2048) (R : Fin 8192)
    (hR : R.val = 512 * (t.val / 2) + r.val) : iblk m c 6 t (ix2 r d) = V m c main_v3 (ix2 R d) := by
  obtain ⟨-, -, -, -, -, -, -, -, -, -, -, -, h0, h1, -⟩ := idx_facts t
  unfold iblk
  blk_ext [h0, h1]

/-- The gains. -/
theorem iblk7_apply (t : Fin cfg0.N) (d : Fin 2048) : iblk m c 7 t (ix2 0 d) = V m c main_v4 (ix2 0 d) := by
  obtain ⟨-, -, -, -, -, -, -, -, -, -, -, -, -, -, h0, h1, -⟩ := idx_facts t
  unfold iblk
  blk_ext [h0, h1]

/-- The shifts. -/
theorem iblk8_apply (t : Fin cfg0.N) (d : Fin 2048) : iblk m c 8 t (ix2 0 d) = V m c main_v5 (ix2 0 d) := by
  obtain ⟨-, -, -, -, -, -, -, -, -, -, -, -, -, -, -, -, h0, h1⟩ := idx_facts t
  unfold iblk
  blk_ext [h0, h1]

/-- The rows as the call takes them: flattened, in bf16. -/
def rows (a : FVec Ideal S2x4096x2048 .f32) : FVec Ideal S8192x2048 .bf16 :=
  truncf .bf16 (shapeCast S8192x2048 a shapeCasts_S2x4096x2048_S8192x2048) bitsLt_bf16_f32

/-- The weights as the call takes them. -/
def wts (a : FVec Ideal S2048x2048 .f32) : FVec Ideal S2048x2048 .bf16 := truncf .bf16 a bitsLt_bf16_f32

/-- The residual stream as the call takes it: flattened. -/
def flat (a : FVec Ideal S2x4096x2048 .f32) : FVec Ideal S8192x2048 .f32 := shapeCast S8192x2048 a shapeCasts_S2x4096x2048_S8192x2048

/-- A vector as the call takes it: one row. -/
def row (a : FVec Ideal S2048 .f32) : FVec Ideal S1x2048 .f32 := shapeCast S1x2048 a shapeCasts_S2048_S1x2048

/-- The first two windows' array is the rows. -/
theorem v1_eq : V m c main_v1 = rows (m (c, Proc.tc.devRef main_arg1)) := by
  dsimp only [V, hostOps0]
  after_results
  rfl

/-- The next four windows' array is the weights. -/
theorem v2_eq : V m c main_v2 = wts (m (c, Proc.tc.devRef main_arg2)) := by
  dsimp only [V, hostOps0]
  after_results
  rfl

/-- The seventh window's array is the residual stream. -/
theorem v3_eq : V m c main_v3 = flat (m (c, Proc.tc.devRef main_arg0)) := by
  dsimp only [V, hostOps0]
  after_results
  rfl

/-- The eighth window's array is the gains. -/
theorem v4_eq : V m c main_v4 = row (m (c, Proc.tc.devRef main_arg3)) := by
  dsimp only [V, hostOps0]
  after_results
  rfl

/-- The ninth window's array is the shifts. -/
theorem v5_eq : V m c main_v5 = row (m (c, Proc.tc.devRef main_arg4)) := by
  dsimp only [V, hostOps0]
  after_results
  rfl

/-- One entry of a row. -/
theorem rows_apply (a) (R : Fin 8192) (D : Fin 2048) : rows a (ix2 R D) = a (ix3 ⟨R.val / 4096, by omega⟩ ⟨R.val % 4096, by omega⟩ D) := by
  unfold rows
  pointwise

/-- One entry of the residual stream. -/
theorem flat_apply (a) (R : Fin 8192) (D : Fin 2048) : flat a (ix2 R D) = a (ix3 ⟨R.val / 4096, by omega⟩ ⟨R.val % 4096, by omega⟩ D) := by
  unfold flat
  pointwise

/-- One entry of a vector. -/
theorem row_apply (a) (D : Fin 2048) : row a (ix2 0 D) = a (ix1 D) := by
  unfold row
  pointwise

/-- One product of the sum over the rows' columns. -/
def term (a : FVec Ideal S2x4096x2048 .f32) (w : FVec Ideal S2048x2048 .f32) (R : Fin 8192) (n : Fin 2048) (k : Fin 2048) : EReal :=
  a (ix3 ⟨R.val / 4096, by omega⟩ ⟨R.val % 4096, by omega⟩ k) * w (ix2 k n)

/-- The projection's entry: a row times a column of the weights. -/
def prod (a : FVec Ideal S2x4096x2048 .f32) (w : FVec Ideal S2048x2048 .f32) (R : Fin 8192) (n : Fin 2048) : EReal := ∑ k : Fin 2048, term a w R n k

/-- One entry of the result: the layer norm of the scaled residual stream plus the projection. -/
def res (x : FVec Ideal S2x4096x2048 .f32) (a : FVec Ideal S2x4096x2048 .f32) (w : FVec Ideal S2048x2048 .f32) (g b : FVec Ideal S2048 .f32)
    (R : Fin 8192) (n : Fin 2048) : EReal :=
  Cert.Lin.norm (Cert.Lin.mixed (fun k => x (ix3 ⟨R.val / 4096, by omega⟩ ⟨R.val % 4096, by omega⟩ k)) (prod a w R)) (fun k => g (ix1 k)) (fun k => b (ix1 k)) n

/-- A grid step's part is the sum over its 1024 columns. -/
theorem stepPart_eq (t : Fin cfg0.N) (r : Fin 512) (n : Fin 2048) (R : Fin 8192) (hR : R.val = 512 * (t.val / 2) + r.val) (j : Fin 2)
    (hj : t.val % 2 = j.val) :
    stepPart m c t r n = ∑ k : Fin 1024, term (m (c, Proc.tc.devRef main_arg1)) (m (c, Proc.tc.devRef main_arg2)) R n ⟨j.val * 1024 + k.val, by omega⟩ := by
  unfold stepPart part
  refine Finset.sum_congr rfl fun k _ => congrArg₂ (· * ·) ?_ ?_
  · refine (Cert.Lin.join2_eq (fun k => rows (m (c, Proc.tc.devRef main_arg1)) (ix2 R ⟨j.val * 1024 + k.val, by omega⟩)) _ _
      (fun d => ?_) (fun d => ?_) k).trans (rows_apply _ _ _)
    · exact (iblk0_apply m c t r d R ⟨j.val * 1024 + d.val, by omega⟩ hR (by dsimp only; omega)).trans (congrFun (v1_eq m c) _)
    · exact (iblk1_apply m c t r d R ⟨j.val * 1024 + (512 + d.val), by omega⟩ hR (by dsimp only; omega)).trans (congrFun (v1_eq m c) _)
  · refine Cert.Lin.join_eq (fun n => wts (m (c, Proc.tc.devRef main_arg2)) (ix2 ⟨j.val * 1024 + k.val, by omega⟩ n)) _ _ _ _
      (fun d => ?_) (fun d => ?_) (fun d => ?_) (fun d => ?_) n
    · exact (iblk2_apply m c t k d ⟨j.val * 1024 + k.val, by omega⟩ ⟨d.val, by omega⟩ (by dsimp only; omega) rfl).trans (congrFun (v2_eq m c) _)
    · exact (iblk3_apply m c t k d ⟨j.val * 1024 + k.val, by omega⟩ ⟨512 + d.val, by omega⟩ (by dsimp only; omega) rfl).trans (congrFun (v2_eq m c) _)
    · exact (iblk4_apply m c t k d ⟨j.val * 1024 + k.val, by omega⟩ ⟨1024 + d.val, by omega⟩ (by dsimp only; omega) rfl).trans (congrFun (v2_eq m c) _)
    · exact (iblk5_apply m c t k d ⟨j.val * 1024 + k.val, by omega⟩ ⟨1536 + d.val, by omega⟩ (by dsimp only; omega) rfl).trans (congrFun (v2_eq m c) _)

/-- The block of sums after the last step of a block holds the projection. -/
theorem sums_eq (q : ℕ) (hq : q < 16) (ht : 2 * q + 1 < cfg0.N) (hp) (r : Fin 512) (n : Fin 2048) (R : Fin 8192) (hR : R.val = 512 * q + r.val) :
    sumsAt m c ⟨2 * q + 1, ht⟩ (outsAt0 m c (2 * q + 1 - 1) hp).2.2 (ix2 r n)
      = prod (m (c, Proc.tc.devRef main_arg1)) (m (c, Proc.tc.devRef main_arg2)) R n := by
  have e1 := accA m c ⟨2 * q, by omega⟩ (by dsimp only; omega) (by dsimp only; omega) r n
  refine (sumsAt_apply m c _ _ r n).trans ?_
  refine (congrArg (· + _) e1).trans ?_
  rw [stepPart_eq m c ⟨2 * q, by omega⟩ r n R (by dsimp only; omega) 0 (by dsimp only; simp),
    stepPart_eq m c ⟨2 * q + 1, ht⟩ r n R (by dsimp only; omega) 1 (by dsimp only; simp)]
  unfold prod
  refine Eq.trans ?_ (Fin.sum_mul_add_fin 2 1024 (term (m (c, Proc.tc.devRef main_arg1)) (m (c, Proc.tc.devRef main_arg2)) R n))
  rw [Fin.sum_univ_two, zero_add]

/-- The first result's block, entry by entry. -/
theorem out9_apply (q : ℕ) (hq : q < 16) (ht : 2 * q + 1 < cfg0.N) (r : Fin 512) (n : Fin 2048) (R : Fin 8192) (hR : R.val = 512 * q + r.val) :
    k0_pay3 (F := Ideal) (iblk m c 6 ⟨2 * q + 1, ht⟩) (sumsAt m c ⟨2 * q + 1, ht⟩ (outsAt0 m c (2 * q + 1 - 1) (by omega)).2.2) (iblk m c 7 ⟨2 * q + 1, ht⟩)
        (iblk m c 8 ⟨2 * q + 1, ht⟩) (ix2 r n)
      = res (m (c, Proc.tc.devRef main_arg0)) (m (c, Proc.tc.devRef main_arg1)) (m (c, Proc.tc.devRef main_arg2)) (m (c, Proc.tc.devRef main_arg3))
          (m (c, Proc.tc.devRef main_arg4)) R n := by
  refine (pay3_apply _ _ _ _ r n).trans ?_
  unfold res
  refine congrFun (congr (congr (congrArg Cert.Lin.norm ?_) ?_) ?_) n
  · refine congrArg₂ Cert.Lin.mixed (funext fun k => ?_) (funext fun k => ?_)
    · exact (iblk6_apply m c _ r k R (by dsimp only; omega)).trans ((congrFun (v3_eq m c) _).trans (flat_apply _ _ _))
    · exact sums_eq m c q hq ht _ r k R hR
  · exact funext fun k => (iblk7_apply m c _ k).trans ((congrFun (v4_eq m c) _).trans (row_apply _ _))
  · exact funext fun k => (iblk8_apply m c _ k).trans ((congrFun (v5_eq m c) _).trans (row_apply _ _))

/-- WHAT THE CALL LEAVES in its first result. -/
theorem arr9_apply (R : Fin 8192) (n : Fin 2048) :
    Value.G9 m c (ix2 R n)
      = res (m (c, Proc.tc.devRef main_arg0)) (m (c, Proc.tc.devRef main_arg1)) (m (c, Proc.tc.devRef main_arg2)) (m (c, Proc.tc.devRef main_arg3))
          (m (c, Proc.tc.devRef main_arg4)) R n := by
  have hq : R.val / 512 < 16 := by omega
  have hN : cfg0.N = 32 := N_0
  have ht : 2 * (R.val / 512) + 1 < cfg0.N := by omega
  have hpt : Value.pt9Of (ix2 R n) = 2 * (R.val / 512) + 1 := by
    show 2 * (1 * (R.val / 512 - 0) + 1 * (n.val / 2048 - 0)) + 1 = _
    omega
  have hloc : Value.loc9Of (ix2 R n) = ix2 (⟨R.val % 512, by omega⟩ : Fin 512) n := by
    funext a
    match a with
    | ⟨0, _⟩ => exact Fin.ext (rfl)
    | ⟨1, _⟩ => exact Fin.ext (Nat.mod_eq_of_lt n.isLt)
  unfold Value.G9
  rw [dif_pos (by rw [hpt]; exact ht), hloc]
  have key : ∀ (p : ℕ) (h : p < cfg0.N) (h' : 0 + p < cfg0.N), p = 2 * (R.val / 512) + 1 →
      (Pipeline.accAt (fun n h => Value.stAt0 m c n h Value.junk0) (Value.stAt0 m c) 0 p h').1 (ix2 (⟨R.val % 512, by omega⟩ : Fin 512) n)
        = res (m (c, Proc.tc.devRef main_arg0)) (m (c, Proc.tc.devRef main_arg1)) (m (c, Proc.tc.devRef main_arg2)) (m (c, Proc.tc.devRef main_arg3))
          (m (c, Proc.tc.devRef main_arg4)) R n := by
    rintro p h h' rfl
    rw [← Value.outsAt0_sweep m c _ h]
    refine (out9 m c ⟨2 * (R.val / 512) + 1, h⟩ (by dsimp only; omega) (by dsimp only; omega) (by dsimp only; omega) (⟨R.val % 512, by omega⟩ : Fin 512) n).trans ?_
    exact out9_apply m c (R.val / 512) hq h ⟨R.val % 512, by omega⟩ n R (by dsimp only; omega)
  exact key _ (by rw [hpt]; exact ht) _ hpt

/-- WHAT THE CALL LEAVES in its second result. -/
theorem arr10_apply (R : Fin 8192) (n : Fin 2048) :
    Value.G10 m c (ix2 n R)
      = res (m (c, Proc.tc.devRef main_arg0)) (m (c, Proc.tc.devRef main_arg1)) (m (c, Proc.tc.devRef main_arg2)) (m (c, Proc.tc.devRef main_arg3))
          (m (c, Proc.tc.devRef main_arg4)) R n := by
  have hq : R.val / 512 < 16 := by omega
  have hN : cfg0.N = 32 := N_0
  have ht : 2 * (R.val / 512) + 1 < cfg0.N := by omega
  have hpt : Value.pt10Of (ix2 n R) = 2 * (R.val / 512) + 1 := by
    show 2 * (16 * (n.val / 2048 - 0) + 1 * (R.val / 512 - 0)) + 1 = _
    omega
  have hloc : Value.loc10Of (ix2 n R) = ix2 n (⟨R.val % 512, by omega⟩ : Fin 512) := by
    funext a
    match a with
    | ⟨0, _⟩ => exact Fin.ext (Nat.mod_eq_of_lt n.isLt)
    | ⟨1, _⟩ => exact Fin.ext (rfl)
  unfold Value.G10
  rw [dif_pos (by rw [hpt]; exact ht), hloc]
  have key : ∀ (p : ℕ) (h : p < cfg0.N) (h' : 0 + p < cfg0.N), p = 2 * (R.val / 512) + 1 →
      (Pipeline.accAt (fun n h => Value.stAt0 m c n h Value.junk0) (Value.stAt0 m c) 0 p h').2.1 (ix2 n (⟨R.val % 512, by omega⟩ : Fin 512))
        = res (m (c, Proc.tc.devRef main_arg0)) (m (c, Proc.tc.devRef main_arg1)) (m (c, Proc.tc.devRef main_arg2)) (m (c, Proc.tc.devRef main_arg3))
          (m (c, Proc.tc.devRef main_arg4)) R n := by
    rintro p h h' rfl
    rw [← Value.outsAt0_sweep m c _ h]
    refine (out10 m c ⟨2 * (R.val / 512) + 1, h⟩ (by dsimp only; omega) (by dsimp only; omega) (by dsimp only; omega) n (⟨R.val % 512, by omega⟩ : Fin 512)).trans ?_
    exact (pay4_apply _ _ _ _ _ _).trans (out9_apply m c (R.val / 512) hq h ⟨R.val % 512, by omega⟩ n R (by dsimp only; omega))
  exact key _ (by rw [hpt]; exact ht) _ hpt

end Cert.Mo
-- ==== Proof.Lin.MoRef.lean ====
module
public import proofs.«01_k».proof.Proof.Gen.Reference6Ideal.Read
public import proofs.«01_k».proof.Proof.Lin.MoBlock
@[expose] public section
set_option maxRecDepth 16384
noncomputable section
namespace Cert.Mo
open Idealize.ShloMosaic Cert.Reference6Ideal Cert.Reference6Ideal.Gen Cert.Reference6Ideal.Read Idealize.SL.Sem

/-- The sum the reference normalizes: the scaled residual stream plus the projection. -/
theorem ref_sum (x : FVec Ideal S2x4096x2048 .f32) (a : FVec Ideal S2x4096x2048 .f32) (w : FVec Ideal S2048x2048 .f32) (R : Fin 8192) (k : Fin 2048) :
    val_main_v3 (F := Ideal) x a w (ix3 ⟨R.val / 4096, by omega⟩ ⟨R.val % 4096, by omega⟩ k)
      = Cert.Lin.mixed (fun k => x (ix3 ⟨R.val / 4096, by omega⟩ ⟨R.val % 4096, by omega⟩ k)) (prod a w R) k := by
  unfold val_main_v3 val_main_v2 val_main_v1 val_main_v0 val_main_cst Cert.Lin.mixed prod term
  pointwise

/-- The reference's first array is the layer norm of that sum. -/
theorem ref_apply (x : FVec Ideal S2x4096x2048 .f32) (a : FVec Ideal S2x4096x2048 .f32) (w : FVec Ideal S2048x2048 .f32) (g b : FVec Ideal S2048 .f32)
    (R : Fin 8192) (n : Fin 2048) :
    val_main_v28 (F := Ideal) x a w g b (ix2 R n) = res x a w g b R n := by
  unfold res
  rw [← funext fun k => ref_sum x a w R k]
  unfold val_main_v28 val_main_v27 val_main_v26 val_main_v25 val_main_v24 val_main_v23 val_main_v22 val_main_v21 val_main_v20 val_main_v19 val_main_v18
    val_main_v17 val_main_cst_4 val_main_v16 val_main_v15 val_main_v14 val_main_v13 val_main_cst_3 val_main_v12 val_main_v11 val_main_cst_2 val_main_v10
    val_main_v9 val_main_v8 val_main_v7 val_main_v6 val_main_cst_1 val_main_v5 val_main_v4 val_main_cst_0 Cert.Lin.norm Cert.Lin.centred
  pointwise

/-- The reference's second array is the first, transposed. -/
theorem ref2_apply (x : FVec Ideal S2x4096x2048 .f32) (a : FVec Ideal S2x4096x2048 .f32) (w : FVec Ideal S2048x2048 .f32) (g b : FVec Ideal S2048 .f32)
    (R : Fin 8192) (n : Fin 2048) :
    val_main_v30 (F := Ideal) x a w g b (ix2 n R) = res x a w g b R n := by
  refine Eq.trans ?_ (ref_apply x a w g b R n)
  unfold val_main_v30 val_main_v29
  pointwise

end Cert.Mo
-- ==== Proof.Lin.MoClaim.lean ====
module
public import proofs.«01_k».proof.Defs
public import proofs.«01_k».proof.Proof.Gen.Kernel6Ideal.Value
public import proofs.«01_k».proof.Proof.Gen.Reference6Ideal.Run
public import proofs.«01_k».proof.Proof.Lin.MoRef
public import Idealize.ShloMosaic.Adequacy
public import Idealize.ShloMosaic.Init
@[expose] public section
noncomputable section
namespace Cert.Mo
open Idealize.ShloMosaic Idealize.SL.Sem

/-- The reference of the latent attention's projection out ends with its arguments unchanged and every counter at zero. -/
theorem frame_ref (m : (ℓ : Loc Cert.Reference6Ideal.nD Cert.Reference6Ideal.τ Cert.Reference6Ideal.sig) → Buf (Elt Ideal) ℓ) (g : Dev Cert.Reference6Ideal.nD → PrngReg) :
    θ_run (Cert.Reference6Ideal.defs (F := Ideal)) (onTc (τ := Cert.Reference6Ideal.τ) (Cert.Reference6Ideal.main (F := Ideal))) ⟨m, fun _ => 0, g⟩
      (fun r => (∀ c : Dev Cert.Reference6Ideal.nD,
        r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
        ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
        ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
        ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
        ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4))
        ∧ r.2.sem = fun _ => 0) :=
  (θ_run Cert.Reference6Ideal.defs _ _).mono
    (fun r h => ⟨fun c => (h c).2.2, sem_eq_zero_of_no_sems (by decide) r.2⟩)
    (Cert.Reference6Ideal.Value.run m g)

/-- The first array of the latent attention's projection out is the reference's. -/
theorem arr9_eq (m : (ℓ : Loc Cert.Kernel6Ideal.nD Cert.Kernel6Ideal.τ Cert.Kernel6Ideal.sig) → Buf (Elt Ideal) ℓ) (c : Dev Cert.Kernel6Ideal.nD) :
    Cert.Kernel6Ideal.Value.G9 m c = Cert.Reference6Ideal.Read.val_main_v28 (F := Ideal) (m (c, Proc.tc.devRef Cert.Kernel6Ideal.main_arg0)) (m (c, Proc.tc.devRef Cert.Kernel6Ideal.main_arg1)) (m (c, Proc.tc.devRef Cert.Kernel6Ideal.main_arg2)) (m (c, Proc.tc.devRef Cert.Kernel6Ideal.main_arg3)) (m (c, Proc.tc.devRef Cert.Kernel6Ideal.main_arg4)) := by
  funext i
  have e : i = ix2 (⟨(i 0).val, (i 0).isLt⟩ : Fin 8192) (⟨(i 1).val, (i 1).isLt⟩ : Fin 2048) := by
    funext a
    match a with
    | ⟨0, _⟩ => rfl
    | ⟨1, _⟩ => rfl
  rw [e]
  exact (arr9_apply m c _ _).trans (ref_apply _ _ _ _ _ _ _).symm

/-- The second array of the latent attention's projection out is the reference's. -/
theorem arr10_eq (m : (ℓ : Loc Cert.Kernel6Ideal.nD Cert.Kernel6Ideal.τ Cert.Kernel6Ideal.sig) → Buf (Elt Ideal) ℓ) (c : Dev Cert.Kernel6Ideal.nD) :
    Cert.Kernel6Ideal.Value.G10 m c = Cert.Reference6Ideal.Read.val_main_v30 (F := Ideal) (m (c, Proc.tc.devRef Cert.Kernel6Ideal.main_arg0)) (m (c, Proc.tc.devRef Cert.Kernel6Ideal.main_arg1)) (m (c, Proc.tc.devRef Cert.Kernel6Ideal.main_arg2)) (m (c, Proc.tc.devRef Cert.Kernel6Ideal.main_arg3)) (m (c, Proc.tc.devRef Cert.Kernel6Ideal.main_arg4)) := by
  funext i
  have e : i = ix2 (⟨(i 0).val, (i 0).isLt⟩ : Fin 2048) (⟨(i 1).val, (i 1).isLt⟩ : Fin 8192) := by
    funext a
    match a with
    | ⟨0, _⟩ => rfl
    | ⟨1, _⟩ => rfl
  rw [e]
  exact (arr10_apply m c _ _).trans (ref2_apply _ _ _ _ _ _ _).symm

/-- Kernel and reference of the latent attention's projection out compute one function. -/
theorem algebraic : Cert.algebraic_Kernel6Ideal_Reference6Ideal (hKernel6Ideal := Cert.Kernel6Ideal.Gen.facts)
    (hReference6Ideal := Cert.Reference6Ideal.Gen.facts) := by
  intro m g m' g' _ hargs
  refine ⟨Cert.Kernel6Ideal.Value.G9 m, Cert.Kernel6Ideal.Value.G10 m, Cert.Kernel6Ideal.Value.run m g, ?_⟩
  refine (θ_run Cert.Reference6Ideal.defs _ _).mono (fun r h c => ⟨(h c).1.trans ?_, (h c).2.1.trans ?_, (h c).2.2⟩) (Cert.Reference6Ideal.Value.run m' g')
  · obtain ⟨e0, e1, e2, e3, e4⟩ := hargs c
    rw [Cert.Reference6Ideal.Read.val_main_v28_eq, e0, e1, e2, e3, e4]
    exact (arr9_eq m c).symm
  · obtain ⟨e0, e1, e2, e3, e4⟩ := hargs c
    rw [Cert.Reference6Ideal.Read.val_main_v30_eq, e0, e1, e2, e3, e4]
    exact (arr10_eq m c).symm

end Cert.Mo
-- ==== Proof.Lin.Rms.lean ====
module
public import Idealize.ShloMosaic.Lib.ValueIdx
public import Idealize.ShloMosaic.PureOps.Ideal.Laws
@[expose] public section
noncomputable section
namespace Cert.Lin
open Idealize.ShloMosaic

/-- A row of 512 entries over the root of its mean square, with its gains. -/
def rms (y g : Fin 512 → EReal) (n : Fin 512) : EReal :=
  y n * Ideal.rsqrt (Ideal.div (∑ k, y k * y k) (Ideal.ofBits .f32 0x44000000#32) + Ideal.ofBits .f32 0x3727C5AC#32) * g n

/-- One lane of a rotation as the kernel makes it: the lanes, and the lanes moved by 96 and by 32 places, times three tables. -/
def turn (y c s1 s2 : Fin 128 → EReal) (l : Fin 128) : EReal :=
  y l * c l + y ⟨(l.val + 128 - 96) % 128, by omega⟩ * s1 l + y ⟨(l.val + 128 - 32) % 128, by omega⟩ * s2 l

/-- One lane of the rotation of 64 lanes followed by 64 zero lanes. -/
def rot (y : Fin 128 → EReal) (co si : Fin 32 → EReal) (l : Fin 128) : EReal :=
  if h : l.val < 32 then y l * co ⟨l.val, h⟩ - y ⟨l.val + 32, by omega⟩ * si ⟨l.val, h⟩
  else if h : l.val < 64 then y l * co ⟨l.val - 32, by omega⟩ + y ⟨l.val - 32, by omega⟩ * si ⟨l.val - 32, by omega⟩
  else 0

/-- The table of the cosines: twice the 32, then zeros. -/
def tabC (co : Fin 32 → EReal) (l : Fin 128) : EReal :=
  if h : l.val < 32 then co ⟨l.val, h⟩ else if h : l.val < 64 then co ⟨l.val - 32, by omega⟩ else 0

/-- The table of the sines of the first half: the 32 with a minus sign, then zeros. -/
def tabS1 (si : Fin 32 → EReal) (l : Fin 128) : EReal := if h : l.val < 32 then -si ⟨l.val, h⟩ else 0

/-- The table of the sines of the second half: zeros, the 32, zeros. -/
def tabS2 (si : Fin 32 → EReal) (l : Fin 128) : EReal :=
  if l.val < 32 then 0 else if h : l.val < 64 then si ⟨l.val - 32, by omega⟩ else 0

/-- With those tables the kernel's rotation is the rotation. -/
theorem turn_eq (y c s1 s2 : Fin 128 → EReal) (co si : Fin 32 → EReal) (l : Fin 128)
    (hc : c l = tabC co l) (h1 : s1 l = tabS1 si l) (h2 : s2 l = tabS2 si l) : turn y c s1 s2 l = rot y co si l := by
  unfold turn rot
  rw [hc, h1, h2]
  unfold tabC tabS1 tabS2
  by_cases a : l.val < 32
  · have e : (⟨(l.val + 128 - 96) % 128, by omega⟩ : Fin 128) = ⟨l.val + 32, by omega⟩ := Fin.ext (by dsimp only; omega)
    simp only [a, dif_pos, if_pos, mul_zero, add_zero, e]
    rw [mul_neg, sub_eq_add_neg]
  · by_cases b : l.val < 64
    · have e : (⟨(l.val + 128 - 32) % 128, by omega⟩ : Fin 128) = ⟨l.val - 32, by omega⟩ := Fin.ext (by dsimp only; omega)
      simp only [a, b, dif_pos, dif_neg, not_false_eq_true, if_false, mul_zero, add_zero, e]
    · simp only [a, b, dif_neg, not_false_eq_true, if_false, mul_zero, add_zero]

/-- The rotation with its cases asked in another order. -/
theorem rot_alt (y : Fin 128 → EReal) (co si : Fin 32 → EReal) (l : Fin 128) :
    (if h : l.val < 64 then
      if h3 : l.val < 32 then y l * co ⟨l.val, h3⟩ - y ⟨l.val + 32, by omega⟩ * si ⟨l.val, h3⟩
      else y l * co ⟨l.val - 32, by omega⟩ + y ⟨l.val - 32, by omega⟩ * si ⟨l.val - 32, by omega⟩
    else 0) = rot y co si l := by
  unfold rot
  by_cases a : l.val < 32
  · rw [dif_pos a, dif_pos (by omega), dif_pos a]
  · by_cases b : l.val < 64
    · rw [dif_neg a, dif_pos b, dif_neg a, dif_pos b]
    · rw [dif_neg a, dif_neg b, dif_neg b]

end Cert.Lin
-- ==== Proof.Lin.DqBlock.lean ====
module
public import proofs.«01_k».proof.Proof.Gen.Kernel7Ideal.Value
public import proofs.«01_k».proof.Proof.Lin.Join
public import proofs.«01_k».proof.Proof.Lin.Rms
public import Idealize.ShloMosaic.Lib.Pipeline.ValueKit
public import Idealize.ShloMosaic.Lib.Pointwise
@[expose] public section
set_option maxRecDepth 16384
noncomputable section
namespace Cert.Dq
open Idealize.ShloMosaic Cert.Kernel7Ideal Cert.Kernel7Ideal.Gen Idealize.SL.Sem

/-- A row of the four windows, laid end to end, times a column of the weights. -/
def acc (x0 x1 x2 x3 : FVec Ideal S1024x512 .bf16) (w : FVec Ideal S2048x512 .bf16) (r : Fin 1024) (c : Fin 512) : EReal :=
  ∑ k : Fin 2048, Cert.Lin.join (fun k => x0 (ix2 r k)) (fun k => x1 (ix2 r k)) (fun k => x2 (ix2 r k)) (fun k => x3 (ix2 r k)) k
          * w (ix2 k c)

/-- One entry of the block that a grid point stores: the row of products, over the root of its mean square, with the gains. -/
theorem pay_apply (x0 x1 x2 x3 : FVec Ideal S1024x512 .bf16) (w : FVec Ideal S2048x512 .bf16) (g : FVec Ideal S1x512 .f32)
    (r : Fin 1024) (c : Fin 512) :
    k0_pay1 (F := Ideal) x0 x1 x2 x3 w g (ix2 r c) = Cert.Lin.rms (acc x0 x1 x2 x3 w r) (fun n => g (ix2 0 n)) c := by
  unfold k0_pay1 Cert.Lin.rms acc Cert.Lin.join
  pointwise

/-- Where each window's block lies at a grid point (block of rows). -/
theorem idx_facts : ∀ t : Fin cfg0.N,
    win0_0.index t (0 : Fin 2) = (grid0.coords t 0).val ∧ win0_0.index t (1 : Fin 2) = 0
    ∧ win0_1.index t (0 : Fin 2) = (grid0.coords t 0).val ∧ win0_1.index t (1 : Fin 2) = 1
    ∧ win0_2.index t (0 : Fin 2) = (grid0.coords t 0).val ∧ win0_2.index t (1 : Fin 2) = 2
    ∧ win0_3.index t (0 : Fin 2) = (grid0.coords t 0).val ∧ win0_3.index t (1 : Fin 2) = 3
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = (grid0.coords t 0).val ∧ win0_6.index t (1 : Fin 2) = 0 :=
  (by decide +kernel : ∀ t : Fin grid0.N,
    win0_0.index t (0 : Fin 2) = (grid0.coords t 0).val ∧ win0_0.index t (1 : Fin 2) = 0
    ∧ win0_1.index t (0 : Fin 2) = (grid0.coords t 0).val ∧ win0_1.index t (1 : Fin 2) = 1
    ∧ win0_2.index t (0 : Fin 2) = (grid0.coords t 0).val ∧ win0_2.index t (1 : Fin 2) = 2
    ∧ win0_3.index t (0 : Fin 2) = (grid0.coords t 0).val ∧ win0_3.index t (1 : Fin 2) = 3
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = (grid0.coords t 0).val ∧ win0_6.index t (1 : Fin 2) = 0)

/-- Every block of rows has its grid point. -/
theorem exists_point : ∀ i : Fin 8, ∃ t : Fin cfg0.N, (grid0.coords t 0).val = i.val :=
  (by decide +kernel : ∀ i : Fin 8, ∃ t : Fin grid0.N, (grid0.coords t 0).val = i.val)

variable (m : (ℓ : Loc nD τ sig) → Buf (Elt Ideal) ℓ) (c : Dev nD)

/-- The first quarter of the rows' block. -/
theorem iblk0_apply (t : Fin cfg0.N) (r : Fin 1024) (d : Fin 512) (R : Fin 8192) (D : Fin 2048)
    (hR : R.val = 1024 * (grid0.coords t 0).val + r.val) (hD : D.val = d.val) : iblk m c 0 t (ix2 r d) = V m c main_v1 (ix2 R D) := by
  obtain ⟨h0, h1, -⟩ := idx_facts t
  unfold iblk
  blk_ext [h0, h1]

/-- The second quarter of the rows' block. -/
theorem iblk1_apply (t : Fin cfg0.N) (r : Fin 1024) (d : Fin 512) (R : Fin 8192) (D : Fin 2048)
    (hR : R.val = 1024 * (grid0.coords t 0).val + r.val) (hD : D.val = 512 + d.val) : iblk m c 1 t (ix2 r d) = V m c main_v1 (ix2 R D) := by
  obtain ⟨-, -, h0, h1, -⟩ := idx_facts t
  unfold iblk
  blk_ext [h0, h1]

/-- The third quarter of the rows' block. -/
theorem iblk2_apply (t : Fin cfg0.N) (r : Fin 1024) (d : Fin 512) (R : Fin 8192) (D : Fin 2048)
    (hR : R.val = 1024 * (grid0.coords t 0).val + r.val) (hD : D.val = 1024 + d.val) : iblk m c 2 t (ix2 r d) = V m c main_v1 (ix2 R D) := by
  obtain ⟨-, -, -, -, h0, h1, -⟩ := idx_facts t
  unfold iblk
  blk_ext [h0, h1]

/-- The fourth quarter of the rows' block. -/
theorem iblk3_apply (t : Fin cfg0.N) (r : Fin 1024) (d : Fin 512) (R : Fin 8192) (D : Fin 2048)
    (hR : R.val = 1024 * (grid0.coords t 0).val + r.val) (hD : D.val = 1536 + d.val) : iblk m c 3 t (ix2 r d) = V m c main_v1 (ix2 R D) := by
  obtain ⟨-, -, -, -, -, -, h0, h1, -⟩ := idx_facts t
  unfold iblk
  blk_ext [h0, h1]

/-- The weights: one block. -/
theorem iblk4_apply (t : Fin cfg0.N) (k : Fin 2048) (d : Fin 512) : iblk m c 4 t (ix2 k d) = V m c main_v2 (ix2 k d) := by
  obtain ⟨-, -, -, -, -, -, -, -, h0, h1, -⟩ := idx_facts t
  unfold iblk
  blk_ext [h0, h1]

/-- The gains: one block. -/
theorem iblk5_apply (t : Fin cfg0.N) (k : Fin 1) (d : Fin 512) : iblk m c 5 t (ix2 k d) = V m c main_v3 (ix2 k d) := by
  obtain ⟨-, -, -, -, -, -, -, -, -, -, h0, h1, -⟩ := idx_facts t
  unfold iblk
  blk_ext [h0, h1]

/-- One entry of the array the call leaves, as the entry of the block that was written there. -/
theorem arr_block (t : Fin cfg0.N) (r : Fin 1024) (d : Fin 512) (R : Fin 8192)
    (hR : R.val = 1024 * (grid0.coords t 0).val + r.val) :
    (dats m 0 c).arrAt 6 cfg0.N (ix2 R d)
      = out0_6 (iblk m c 0 t) (iblk m c 1 t) (iblk m c 2 t) (iblk m c 3 t) (iblk m c 4 t) (iblk m c 5 t) (ix2 r d) := by
  obtain ⟨-, -, -, -, -, -, -, -, -, -, -, -, h0, h1⟩ := idx_facts t
  have hb := congrFun (Cert.Kernel7Ideal.Value.blocks6 m c t (flush0_6 t)) (ix2 r d)
  rw [Cert.Kernel7Ideal.Value.flushed6] at hb
  refine Eq.trans ?_ (hb.trans ?_)
  · blk_ext [h0, h1]
  · blk_ext [h0, h1]

/-- The rows as the call takes them: the activations, flattened. -/
def rows (a : FVec Ideal S2x4096x2048 .f32) : FVec Ideal S8192x2048 .bf16 :=
  truncf .bf16 (shapeCast S8192x2048 a shapeCasts_S2x4096x2048_S8192x2048) bitsLt_bf16_f32

/-- The weights as the call takes them. -/
def wts (a : FVec Ideal S2048x512 .f32) : FVec Ideal S2048x512 .bf16 := truncf .bf16 a bitsLt_bf16_f32

/-- The gains as the call takes them. -/
def gains (a : FVec Ideal S512 .f32) : FVec Ideal S1x512 .f32 := shapeCast S1x512 a shapeCasts_S512_S1x512

/-- The first four windows' array is the rows. -/
theorem v1_eq : V m c main_v1 = rows (m (c, Proc.tc.devRef main_arg0)) := by
  dsimp only [V, hostOps0]
  after_results
  rfl

/-- The fifth window's array is the weights. -/
theorem v2_eq : V m c main_v2 = wts (m (c, Proc.tc.devRef main_arg1)) := by
  dsimp only [V, hostOps0]
  after_results
  rfl

/-- The sixth window's array is the gains. -/
theorem v3_eq : V m c main_v3 = gains (m (c, Proc.tc.devRef main_arg2)) := by
  dsimp only [V, hostOps0]
  after_results
  rfl

/-- One entry of a row. -/
theorem rows_apply (a) (R : Fin 8192) (D : Fin 2048) : rows a (ix2 R D) = a (ix3 ⟨R.val / 4096, by omega⟩ ⟨R.val % 4096, by omega⟩ D) := by
  unfold rows
  pointwise

/-- One gain. -/
theorem gains_apply (a) (n : Fin 512) : gains a (ix2 0 n) = a (ix1 n) := by
  unfold gains
  pointwise

/-- One row of the activations times one column of the weights. -/
def prod (a : FVec Ideal S2x4096x2048 .f32) (w : FVec Ideal S2048x512 .f32) (R : Fin 8192) (D : Fin 512) : EReal :=
  ∑ k : Fin 2048, a (ix3 ⟨R.val / 4096, by omega⟩ ⟨R.val % 4096, by omega⟩ k) * w (ix2 k D)

/-- The row of products at a grid point. -/
theorem acc_eq (t : Fin cfg0.N) (r : Fin 1024) (R : Fin 8192) (hr : R.val = 1024 * (grid0.coords t 0).val + r.val) (D : Fin 512) :
    acc (iblk m c 0 t) (iblk m c 1 t) (iblk m c 2 t) (iblk m c 3 t) (iblk m c 4 t) r D
      = prod (m (c, Proc.tc.devRef main_arg0)) (m (c, Proc.tc.devRef main_arg1)) R D := by
  refine Finset.sum_congr rfl fun k _ => congrArg₂ (· * ·) ?_ ?_
  · refine (Cert.Lin.join_eq (fun k => rows (m (c, Proc.tc.devRef main_arg0)) (ix2 R k)) _ _ _ _
      (fun d => ?_) (fun d => ?_) (fun d => ?_) (fun d => ?_) k).trans (rows_apply _ _ _)
    · exact (iblk0_apply m c t _ d R ⟨d.val, by omega⟩ hr rfl).trans (congrFun (v1_eq m c) _)
    · exact (iblk1_apply m c t _ d R ⟨512 + d.val, by omega⟩ hr rfl).trans (congrFun (v1_eq m c) _)
    · exact (iblk2_apply m c t _ d R ⟨1024 + d.val, by omega⟩ hr rfl).trans (congrFun (v1_eq m c) _)
    · exact (iblk3_apply m c t _ d R ⟨1536 + d.val, by omega⟩ hr rfl).trans (congrFun (v1_eq m c) _)
  · exact (iblk4_apply m c t k _).trans (congrFun (v2_eq m c) _)

/-- WHAT THE CALL LEAVES: each row of products, over the root of its mean square, with the gains. -/
theorem arr_apply (R : Fin 8192) (D : Fin 512) :
    (dats m 0 c).arrAt 6 cfg0.N (ix2 R D)
      = Cert.Lin.rms (prod (m (c, Proc.tc.devRef main_arg0)) (m (c, Proc.tc.devRef main_arg1)) R)
          (fun n => (m (c, Proc.tc.devRef main_arg2) : FVec Ideal S512 .f32) (ix1 n)) D := by
  obtain ⟨t, hi⟩ := exists_point ⟨R.val / 1024, by omega⟩
  dsimp only at hi
  have hr : R.val = 1024 * (grid0.coords t 0).val + R.val % 1024 := by omega
  rw [arr_block m c t ⟨R.val % 1024, by omega⟩ D R hr]
  unfold out0_6
  rw [View.canon_unit_zero, View.ld_unit_zero, View.ld_unit_zero, View.ld_unit_zero, View.ld_unit_zero, View.ld_unit_zero, View.ld_unit_zero]
  refine (pay_apply _ _ _ _ _ _ _ _).trans ?_
  · refine congrFun (congr (congrArg Cert.Lin.rms ?_) ?_) D
    · funext n
      exact acc_eq m c t _ R hr n
    · funext n
      exact ((iblk5_apply m c t 0 n).trans (congrFun (v3_eq m c) _)).trans (gains_apply _ n)
  all_goals exact Cert.Lin.origin

end Cert.Dq
-- ==== Proof.Lin.DqRef.lean ====
module
public import proofs.«01_k».proof.Proof.Gen.Reference7Ideal.Read
public import proofs.«01_k».proof.Proof.Lin.DqBlock
@[expose] public section
set_option maxRecDepth 16384
noncomputable section
namespace Cert.Dq
open Idealize.ShloMosaic Cert.Reference7Ideal Cert.Reference7Ideal.Gen Cert.Reference7Ideal.Read Idealize.SL.Sem

/-- The reference's array, one entry. -/
theorem ref_apply (a : FVec Ideal S2x4096x2048 .f32) (w : FVec Ideal S2048x512 .f32) (g : FVec Ideal S512 .f32) (R : Fin 8192) (D : Fin 512) :
    val_main_v15 (F := Ideal) a w g (ix2 R D) = Cert.Lin.rms (prod a w R) (fun n => g (ix1 n)) D := by
  unfold val_main_v15 val_main_v14 val_main_v13 val_main_v12 val_main_v11 val_main_v10 val_main_v9 val_main_v8 val_main_v7 val_main_v6
    val_main_v5 val_main_v4 val_main_v3 val_main_v2 val_main_v1 val_main_v0 val_main_cst val_main_cst_0 val_main_cst_1 Cert.Lin.rms prod
  pointwise

end Cert.Dq
-- ==== Proof.Lin.DqClaim.lean ====
module
public import proofs.«01_k».proof.Defs
public import proofs.«01_k».proof.Proof.Gen.Kernel7Ideal.Value
public import proofs.«01_k».proof.Proof.Gen.Reference7Ideal.Run
public import proofs.«01_k».proof.Proof.Lin.DqRef
public import Idealize.ShloMosaic.Adequacy
public import Idealize.ShloMosaic.Init
@[expose] public section
noncomputable section
namespace Cert.Dq
open Idealize.ShloMosaic Idealize.SL.Sem

/-- The reference of the compressed queries of the latent attention ends with its arguments unchanged and every counter at zero. -/
theorem frame_ref (m : (ℓ : Loc Cert.Reference7Ideal.nD Cert.Reference7Ideal.τ Cert.Reference7Ideal.sig) → Buf (Elt Ideal) ℓ) (g : Dev Cert.Reference7Ideal.nD → PrngReg) :
    θ_run (Cert.Reference7Ideal.defs (F := Ideal)) (onTc (τ := Cert.Reference7Ideal.τ) (Cert.Reference7Ideal.main (F := Ideal))) ⟨m, fun _ => 0, g⟩
      (fun r => (∀ c : Dev Cert.Reference7Ideal.nD,
        r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
        ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
        ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
        ∧ r.2.sem = fun _ => 0) :=
  (θ_run Cert.Reference7Ideal.defs _ _).mono
    (fun r h => ⟨fun c => (h c).2, sem_eq_zero_of_no_sems (by decide) r.2⟩)
    (Cert.Reference7Ideal.Value.run m g)

/-- The array of the compressed queries of the latent attention is the reference's. -/
theorem arr_eq (m : (ℓ : Loc Cert.Kernel7Ideal.nD Cert.Kernel7Ideal.τ Cert.Kernel7Ideal.sig) → Buf (Elt Ideal) ℓ) (c : Dev Cert.Kernel7Ideal.nD) :
    (Cert.Kernel7Ideal.Gen.dats m 0 c).arrAt 6 Cert.Kernel7Ideal.cfg0.N
      = Cert.Reference7Ideal.Read.val_main_v15 (F := Ideal) (m (c, Proc.tc.devRef Cert.Kernel7Ideal.main_arg0)) (m (c, Proc.tc.devRef Cert.Kernel7Ideal.main_arg1)) (m (c, Proc.tc.devRef Cert.Kernel7Ideal.main_arg2)) := by
  funext i
  have e : i = ix2 (⟨(i 0).val, (i 0).isLt⟩ : Fin 8192) (⟨(i 1).val, (i 1).isLt⟩ : Fin 512) := by
    funext a
    match a with
    | ⟨0, _⟩ => rfl
    | ⟨1, _⟩ => rfl
  rw [e]
  exact (arr_apply m c _ _).trans (ref_apply _ _ _ _ _).symm

/-- Kernel and reference of the compressed queries of the latent attention compute one function. -/
theorem algebraic : Cert.algebraic_Kernel7Ideal_Reference7Ideal (hKernel7Ideal := Cert.Kernel7Ideal.Gen.facts)
    (hReference7Ideal := Cert.Reference7Ideal.Gen.facts) := by
  intro m g m' g' _ hargs
  refine ⟨fun c => (Cert.Kernel7Ideal.Gen.dats m 0 c).arrAt 6 Cert.Kernel7Ideal.cfg0.N, Cert.Kernel7Ideal.Value.run_blocks m g, ?_⟩
  refine (θ_run Cert.Reference7Ideal.defs _ _).mono (fun r h c => ⟨(h c).1.trans ?_, (h c).2⟩) (Cert.Reference7Ideal.Value.run m' g')
  obtain ⟨e0, e1, e2⟩ := hargs c
  rw [Cert.Reference7Ideal.Read.val_main_v15_eq, e0, e1, e2]
  exact (arr_eq m c).symm

end Cert.Dq
-- ==== Proof.Lin.VuBlock.lean ====
module
public import proofs.«01_k».proof.Proof.Gen.Kernel8Ideal.Value
public import proofs.«01_k».proof.Proof.Lin.Join
public import Idealize.ShloMosaic.Lib.Pipeline.ValueKit
public import Idealize.ShloMosaic.Lib.Pointwise
@[expose] public section
set_option maxRecDepth 16384
noncomputable section
namespace Cert.Vu
open Idealize.ShloMosaic Cert.Kernel8Ideal Cert.Kernel8Ideal.Gen Idealize.SL.Sem

/-- One entry of the block that a grid point stores: a row of the latent times a column of the weights. -/
theorem pay_apply (x : FVec Ideal S1024x512 .bf16) (w : FVec Ideal S512x512 .bf16) (r : Fin 1024) (c : Fin 512) :
    k0_pay1 (F := Ideal) x w (ix2 r c) = ∑ k : Fin 512, x (ix2 r k) * w (ix2 k c) := by
  unfold k0_pay1
  pointwise

/-- Where each window's block lies at a grid point (block of rows, block of columns). -/
theorem idx_facts : ∀ t : Fin cfg0.N,
    win0_0.index t (0 : Fin 2) = (grid0.coords t 0).val ∧ win0_0.index t (1 : Fin 2) = 0
    ∧ win0_1.index t (0 : Fin 2) = 0 ∧ win0_1.index t (1 : Fin 2) = (grid0.coords t 1).val
    ∧ win0_2.index t (0 : Fin 2) = (grid0.coords t 0).val ∧ win0_2.index t (1 : Fin 2) = (grid0.coords t 1).val :=
  (by decide +kernel : ∀ t : Fin grid0.N,
    win0_0.index t (0 : Fin 2) = (grid0.coords t 0).val ∧ win0_0.index t (1 : Fin 2) = 0
    ∧ win0_1.index t (0 : Fin 2) = 0 ∧ win0_1.index t (1 : Fin 2) = (grid0.coords t 1).val
    ∧ win0_2.index t (0 : Fin 2) = (grid0.coords t 0).val ∧ win0_2.index t (1 : Fin 2) = (grid0.coords t 1).val)

/-- Every block of rows and block of columns has its grid point. -/
theorem exists_point : ∀ (i : Fin 8) (j : Fin 4), ∃ t : Fin cfg0.N, (grid0.coords t 0).val = i.val ∧ (grid0.coords t 1).val = j.val :=
  (by decide +kernel : ∀ (i : Fin 8) (j : Fin 4), ∃ t : Fin grid0.N, (grid0.coords t 0).val = i.val ∧ (grid0.coords t 1).val = j.val)

variable (m : (ℓ : Loc nD τ sig) → Buf (Elt Ideal) ℓ) (c : Dev nD)

/-- The rows' block. -/
theorem iblk0_apply (t : Fin cfg0.N) (r : Fin 1024) (d : Fin 512) (R : Fin 8192)
    (hR : R.val = 1024 * (grid0.coords t 0).val + r.val) : iblk m c 0 t (ix2 r d) = V m c main_v5 (ix2 R d) := by
  obtain ⟨h0, h1, -⟩ := idx_facts t
  unfold iblk
  blk_ext [h0, h1]

/-- The block of the weights' columns. -/
theorem iblk1_apply (t : Fin cfg0.N) (k : Fin 512) (d : Fin 512) (D : Fin 2048)
    (hD : D.val = 512 * (grid0.coords t 1).val + d.val) : iblk m c 1 t (ix2 k d) = V m c main_v3 (ix2 k D) := by
  obtain ⟨-, -, h0, h1, -⟩ := idx_facts t
  unfold iblk
  blk_ext [h0, h1]

/-- One entry of the array the call leaves, as the entry of the block that was written there. -/
theorem arr_block (t : Fin cfg0.N) (r : Fin 1024) (d : Fin 512) (R : Fin 8192) (D : Fin 2048)
    (hR : R.val = 1024 * (grid0.coords t 0).val + r.val) (hD : D.val = 512 * (grid0.coords t 1).val + d.val) :
    (dats m 0 c).arrAt 2 cfg0.N (ix2 R D) = out0_2 (iblk m c 0 t) (iblk m c 1 t) (ix2 r d) := by
  obtain ⟨-, -, -, -, h0, h1⟩ := idx_facts t
  have hb := congrFun (Cert.Kernel8Ideal.Value.blocks2 m c t (flush0_2 t)) (ix2 r d)
  rw [Cert.Kernel8Ideal.Value.flushed2] at hb
  refine Eq.trans ?_ (hb.trans ?_)
  · blk_ext [h0, h1]
  · blk_ext [h0, h1]

/-- The rows as the call takes them: the latent, flattened. -/
def rows (a : FVec Ideal S2x4096x512 .f32) : FVec Ideal S8192x512 .bf16 :=
  truncf .bf16 (shapeCast S8192x512 a shapeCasts_S2x4096x512_S8192x512) bitsLt_bf16_f32

/-- The weights as the call takes them: of each head's 256 columns, the last 128. -/
def wts (a : FVec Ideal S512x4096 .f32) : FVec Ideal S512x2048 .bf16 :=
  truncf .bf16 (shapeCast S512x2048 (extractStridedSlice S512x16x128 ![0, 0, 128]
    (shapeCast S512x16x256 a shapeCasts_S512x4096_S512x16x256) slices_S512x16x256_S512x16x128_0_0_128)
    shapeCasts_S512x16x128_S512x2048) bitsLt_bf16_f32

/-- The first window's array is the rows. -/
theorem v5_eq : V m c main_v5 = rows (m (c, Proc.tc.devRef main_arg0)) := by
  dsimp only [V, hostOps0]
  after_results
  rfl

/-- The second window's array is the weights. -/
theorem v3_eq : V m c main_v3 = wts (m (c, Proc.tc.devRef main_arg1)) := by
  dsimp only [V, hostOps0]
  after_results
  rfl

/-- One entry of a row. -/
theorem rows_apply (a) (R : Fin 8192) (D : Fin 512) : rows a (ix2 R D) = a (ix3 ⟨R.val / 4096, by omega⟩ ⟨R.val % 4096, by omega⟩ D) := by
  unfold rows
  pointwise

/-- One entry of the weights. -/
theorem wts_apply (a) (k : Fin 512) (D : Fin 2048) : wts a (ix2 k D) = a (ix2 k ⟨D.val / 128 * 256 + (128 + D.val % 128), by omega⟩) := by
  unfold wts
  pointwise

/-- One row of the latent times one column of the weights. -/
def prod (a : FVec Ideal S2x4096x512 .f32) (w : FVec Ideal S512x4096 .f32) (R : Fin 8192) (D : Fin 4096) : EReal :=
  ∑ k : Fin 512, a (ix3 ⟨R.val / 4096, by omega⟩ ⟨R.val % 4096, by omega⟩ k) * w (ix2 k D)

/-- WHAT THE CALL LEAVES: each row of the latent times each value column of the weights. -/
theorem arr_apply (R : Fin 8192) (D : Fin 2048) :
    (dats m 0 c).arrAt 2 cfg0.N (ix2 R D)
      = prod (m (c, Proc.tc.devRef main_arg0)) (m (c, Proc.tc.devRef main_arg1)) R ⟨D.val / 128 * 256 + (128 + D.val % 128), by omega⟩ := by
  obtain ⟨t, hi, hj⟩ := exists_point ⟨R.val / 1024, by omega⟩ ⟨D.val / 512, by omega⟩
  dsimp only at hi hj
  have hr : R.val = 1024 * (grid0.coords t 0).val + R.val % 1024 := by omega
  rw [arr_block m c t ⟨R.val % 1024, by omega⟩ ⟨D.val % 512, by omega⟩ R D hr (by dsimp only; omega)]
  unfold out0_2
  rw [View.canon_unit_zero, View.ld_unit_zero, View.ld_unit_zero]
  refine (pay_apply _ _ _ _).trans (Finset.sum_congr rfl fun k _ => congrArg₂ (· * ·) ?_ ?_)
  · exact ((iblk0_apply m c t _ k R hr).trans (congrFun (v5_eq m c) _)).trans (rows_apply _ _ _)
  · exact ((iblk1_apply m c t k _ D (by dsimp only; omega)).trans (congrFun (v3_eq m c) _)).trans (wts_apply _ _ _)
  all_goals exact Cert.Lin.origin

end Cert.Vu
-- ==== Proof.Lin.VuRef.lean ====
module
public import proofs.«01_k».proof.Proof.Gen.Reference8Ideal.Read
public import proofs.«01_k».proof.Proof.Lin.VuBlock
@[expose] public section
set_option maxRecDepth 16384
noncomputable section
namespace Cert.Vu
open Idealize.ShloMosaic Cert.Reference8Ideal Cert.Reference8Ideal.Gen Cert.Reference8Ideal.Read Idealize.SL.Sem

/-- The reference's array, one entry. -/
theorem ref_apply (a : FVec Ideal S2x4096x512 .f32) (w : FVec Ideal S512x4096 .f32) (R : Fin 8192) (D : Fin 2048) :
    val_main_v4 (F := Ideal) a w (ix2 R D) = prod a w R ⟨D.val / 128 * 256 + (128 + D.val % 128), by omega⟩ := by
  unfold val_main_v4 val_main_v3 val_main_v2 val_main_v1 val_main_v0 prod
  pointwise

end Cert.Vu
-- ==== Proof.Lin.VuClaim.lean ====
module
public import proofs.«01_k».proof.Defs
public import proofs.«01_k».proof.Proof.Gen.Kernel8Ideal.Value
public import proofs.«01_k».proof.Proof.Gen.Reference8Ideal.Run
public import proofs.«01_k».proof.Proof.Lin.VuRef
public import Idealize.ShloMosaic.Adequacy
public import Idealize.ShloMosaic.Init
@[expose] public section
noncomputable section
namespace Cert.Vu
open Idealize.ShloMosaic Idealize.SL.Sem

/-- The reference of the values of the latent attention ends with its arguments unchanged and every counter at zero. -/
theorem frame_ref (m : (ℓ : Loc Cert.Reference8Ideal.nD Cert.Reference8Ideal.τ Cert.Reference8Ideal.sig) → Buf (Elt Ideal) ℓ) (g : Dev Cert.Reference8Ideal.nD → PrngReg) :
    θ_run (Cert.Reference8Ideal.defs (F := Ideal)) (onTc (τ := Cert.Reference8Ideal.τ) (Cert.Reference8Ideal.main (F := Ideal))) ⟨m, fun _ => 0, g⟩
      (fun r => (∀ c : Dev Cert.Reference8Ideal.nD,
        r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
        ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
        ∧ r.2.sem = fun _ => 0) :=
  (θ_run Cert.Reference8Ideal.defs _ _).mono
    (fun r h => ⟨fun c => (h c).2, sem_eq_zero_of_no_sems (by decide) r.2⟩)
    (Cert.Reference8Ideal.Value.run m g)

/-- The array of the values of the latent attention is the reference's. -/
theorem arr_eq (m : (ℓ : Loc Cert.Kernel8Ideal.nD Cert.Kernel8Ideal.τ Cert.Kernel8Ideal.sig) → Buf (Elt Ideal) ℓ) (c : Dev Cert.Kernel8Ideal.nD) :
    (Cert.Kernel8Ideal.Gen.dats m 0 c).arrAt 2 Cert.Kernel8Ideal.cfg0.N
      = Cert.Reference8Ideal.Read.val_main_v4 (F := Ideal) (m (c, Proc.tc.devRef Cert.Kernel8Ideal.main_arg0)) (m (c, Proc.tc.devRef Cert.Kernel8Ideal.main_arg1)) := by
  funext i
  have e : i = ix2 (⟨(i 0).val, (i 0).isLt⟩ : Fin 8192) (⟨(i 1).val, (i 1).isLt⟩ : Fin 2048) := by
    funext a
    match a with
    | ⟨0, _⟩ => rfl
    | ⟨1, _⟩ => rfl
  rw [e]
  exact (arr_apply m c _ _).trans (ref_apply _ _ _ _).symm

/-- Kernel and reference of the values of the latent attention compute one function. -/
theorem algebraic : Cert.algebraic_Kernel8Ideal_Reference8Ideal (hKernel8Ideal := Cert.Kernel8Ideal.Gen.facts)
    (hReference8Ideal := Cert.Reference8Ideal.Gen.facts) := by
  intro m g m' g' _ hargs
  refine ⟨fun c => (Cert.Kernel8Ideal.Gen.dats m 0 c).arrAt 2 Cert.Kernel8Ideal.cfg0.N, Cert.Kernel8Ideal.Value.run_blocks m g, ?_⟩
  refine (θ_run Cert.Reference8Ideal.defs _ _).mono (fun r h c => ⟨(h c).1.trans ?_, (h c).2⟩) (Cert.Reference8Ideal.Value.run m' g')
  obtain ⟨e0, e1⟩ := hargs c
  rw [Cert.Reference8Ideal.Read.val_main_v4_eq, e0, e1]
  exact (arr_eq m c).symm

end Cert.Vu
-- ==== Proof.Lin.QuTables.lean ====
module
public import proofs.«01_k».proof.Proof.Gen.Kernel9Ideal.Value
public import proofs.«01_k».proof.Proof.Lin.Rms
public import Idealize.ShloMosaic.Lib.KernelVsHost
public import Idealize.ShloMosaic.Lib.Pipeline.ValueKit
public import Idealize.ShloMosaic.Lib.Pointwise
@[expose] public section
set_option maxRecDepth 16384
noncomputable section
namespace Cert.Qu
open Idealize.ShloMosaic Cert.Kernel9Ideal Cert.Kernel9Ideal.Gen Idealize.SL.Sem

/-- The frequencies of the rotation. -/
def freq : FVec Ideal S32 .f32 :=
  Host.powf (broadcastInDim S32 ![] bcast_S_S32 (constant (F := Ideal) S_ .f32 0x461C4000#32))
    (Host.divf (Host.negf (sitofp (F := Ideal) .f32 (iotaInDim S32 32 0))) (broadcastInDim S32 ![] bcast_S_S32 (constant (F := Ideal) S_ .f32 0x42000000#32)))

/-- The frequencies of the 128 lanes: the 32 twice, then zeros. -/
def lanes : FVec Ideal S128 .f32 :=
  concatenate S128 0 [⟨S32, freq⟩, ⟨S32, freq⟩, ⟨S64, broadcastInDim S64 ![] bcast_S_S64 (constant (F := Ideal) S_ .f32 0x00000000#32)⟩]
    concatenates_S32_S32_S64_S128_d0

/-- The angles, one row for each token. -/
def ang (p : (⟨S2x4096, .i32⟩ : BufTy).Contents (Elt Ideal)) : FVec Ideal S8192x128 .f32 :=
  mulf (broadcastInDim S8192x128 ![0, 1] bcast_S8192x1_S8192x128_0_1 (sitofp (F := Ideal) .f32 (shapeCast S8192x1 p shapeCasts_S2x4096_S8192x1)))
    (broadcastInDim S8192x128 ![0, 1] bcast_S1x128_S8192x128_0_1 (shapeCast S1x128 lanes shapeCasts_S128_S1x128))

/-- The zeros that fill a table. -/
def zeros : FVec Ideal S8192x128 .f32 := broadcastInDim S8192x128 ![] bcast_S_S8192x128 (constant (F := Ideal) S_ .f32 0x00000000#32)

/-- The lanes below a bound. -/
def below (b : BitVec 32) : IVec S8192x128 1 :=
  cmpi .slt (iotaInDim S8192x128 32 1) (broadcastInDim S8192x128 ![] bcast_S_S8192x128 (constantI S_ 32 b))

/-- The lanes from a bound on. -/
def above (b : BitVec 32) : IVec S8192x128 1 :=
  cmpi .sge (iotaInDim S8192x128 32 1) (broadcastInDim S8192x128 ![] bcast_S_S8192x128 (constantI S_ 32 b))

/-- The table of the cosines, as the call takes it. -/
def tC (p : (⟨S2x4096, .i32⟩ : BufTy).Contents (Elt Ideal)) : FVec Ideal S8192x128 .f32 := select (below 64#32) (Host.cos (ang p)) zeros

/-- The table of the sines of the first half, as the call takes it. -/
def tS1 (p : (⟨S2x4096, .i32⟩ : BufTy).Contents (Elt Ideal)) : FVec Ideal S8192x128 .f32 :=
  select (below 32#32) (Host.negf (Host.sin (ang p))) zeros

/-- The table of the sines of the second half, as the call takes it. -/
def tS2 (p : (⟨S2x4096, .i32⟩ : BufTy).Contents (Elt Ideal)) : FVec Ideal S8192x128 .f32 :=
  select (andi (above 32#32) (below 64#32)) (Host.sin (ang p)) zeros

variable (m : (ℓ : Loc nD τ sig) → Buf (Elt Ideal) ℓ) (c : Dev nD)

/-- The first table's array. -/
theorem v19_eq : V m c main_v19 = tC (m (c, Proc.tc.devRef main_arg1)) := by
  dsimp only [V, hostOps0, hostOps0_1, hostOps0_2, hostOps0_3, hostOps0_4, hostOps0_5, hostOps0_6, hostOps0_7, hostOps0_8, List.flatten_cons, List.flatten_nil, List.append_nil, List.cons_append, List.nil_append]
  after_results
  rfl

/-- The second table's array. -/
theorem v23_eq : V m c main_v23 = tS1 (m (c, Proc.tc.devRef main_arg1)) := by
  dsimp only [V, hostOps0, hostOps0_1, hostOps0_2, hostOps0_3, hostOps0_4, hostOps0_5, hostOps0_6, hostOps0_7, hostOps0_8, List.flatten_cons, List.flatten_nil, List.append_nil, List.cons_append, List.nil_append]
  after_results
  rfl

/-- The third table's array. -/
theorem v29_eq : V m c main_v29 = tS2 (m (c, Proc.tc.devRef main_arg1)) := by
  dsimp only [V, hostOps0, hostOps0_1, hostOps0_2, hostOps0_3, hostOps0_4, hostOps0_5, hostOps0_6, hostOps0_7, hostOps0_8, List.flatten_cons, List.flatten_nil, List.append_nil, List.cons_append, List.nil_append]
  after_results
  rfl

/-- The angle of a position at a frequency. -/
def angE (p : (⟨S2x4096, .i32⟩ : BufTy).Contents (Elt Ideal)) (R : Fin 8192) (e : Fin 32) : EReal :=
  FloatOps.mulf (F := Ideal) (φ := .f32) (FloatOps.sitofp (F := Ideal) .f32 (p (ix2 ⟨R.val / 4096, by omega⟩ ⟨R.val % 4096, by omega⟩))) (freq (ix1 e))

/-- The cosine of that angle. -/
def cosE (p : (⟨S2x4096, .i32⟩ : BufTy).Contents (Elt Ideal)) (R : Fin 8192) (e : Fin 32) : EReal :=
  FloatOps.hostUnary (F := Ideal) (φ := .f32) .cos (angE p R e)

/-- The sine of that angle. -/
def sinE (p : (⟨S2x4096, .i32⟩ : BufTy).Contents (Elt Ideal)) (R : Fin 8192) (e : Fin 32) : EReal :=
  FloatOps.hostUnary (F := Ideal) (φ := .f32) .sin (angE p R e)

/-- The frequency of a lane. -/
theorem lanes_apply (l : Fin 128) :
    lanes (ix1 l) = if h : l.val < 32 then freq (ix1 ⟨l.val, h⟩) else if h : l.val < 64 then freq (ix1 ⟨l.val - 32, by omega⟩)
      else 0 := by
  unfold lanes
  pointwise
  refine dite_congr rfl (fun _ => rfl) (fun a => ?_)
  exact dite_congr (propext ⟨fun h => by omega, fun h => by omega⟩) (fun _ => rfl) (fun _ => rfl)

/-- One entry of the angles. -/
theorem ang_apply (p) (R : Fin 8192) (l : Fin 128) :
    ang p (ix2 R l) = FloatOps.mulf (F := Ideal) (φ := .f32)
      (FloatOps.sitofp (F := Ideal) .f32 (p (ix2 ⟨R.val / 4096, by omega⟩ ⟨R.val % 4096, by omega⟩))) (lanes (ix1 l)) := by
  unfold ang
  pointwise

/-- The angle of a lane of the first half. -/
theorem ang_lo (p) (R : Fin 8192) (l : Fin 128) (h : l.val < 32) : ang p (ix2 R l) = angE p R ⟨l.val, h⟩ := by
  rw [ang_apply, lanes_apply, dif_pos h]
  rfl

/-- The angle of a lane of the second half. -/
theorem ang_hi (p) (R : Fin 8192) (l : Fin 128) (a : ¬l.val < 32) (h : l.val < 64) : ang p (ix2 R l) = angE p R ⟨l.val - 32, by omega⟩ := by
  rw [ang_apply, lanes_apply, dif_neg a, dif_pos h]
  rfl

/-- The word of zero is zero. -/
theorem zero_bits : Ideal.ofBits .f32 0x00000000#32 = 0 := by
  simp [Ideal.ofBits, Ideal.ieee]

/-- One entry of the zeros. -/
theorem zeros_apply (R : Fin 8192) (l : Fin 128) : zeros (ix2 R l) = 0 := zero_bits

/-- Which lanes lie below 64. -/
theorem below64 (R : Fin 8192) (l : Fin 128) : below 64#32 (ix2 R l) = if l.val < 64 then 1#1 else 0#1 :=
  (by decide : ∀ l : Fin 128, Scalar.cmpi .slt (BitVec.ofNat 32 l.val) 64#32 = if l.val < 64 then 1#1 else 0#1) l

/-- Which lanes lie below 32. -/
theorem below32 (R : Fin 8192) (l : Fin 128) : below 32#32 (ix2 R l) = if l.val < 32 then 1#1 else 0#1 :=
  (by decide : ∀ l : Fin 128, Scalar.cmpi .slt (BitVec.ofNat 32 l.val) 32#32 = if l.val < 32 then 1#1 else 0#1) l

/-- Which lanes lie from 32 on. -/
theorem above32 (R : Fin 8192) (l : Fin 128) : above 32#32 (ix2 R l) = if l.val < 32 then 0#1 else 1#1 :=
  (by decide : ∀ l : Fin 128, Scalar.cmpi .sge (BitVec.ofNat 32 l.val) 32#32 = if l.val < 32 then 0#1 else 1#1) l

/-- The table of the cosines, one entry. -/
theorem tC_apply (p) (R : Fin 8192) (l : Fin 128) : tC p (ix2 R l) = Cert.Lin.tabC (cosE p R) l := by
  have e : tC p (ix2 R l) = Scalar.select (below 64#32 (ix2 R l)) (FloatOps.hostUnary (F := Ideal) (φ := .f32) .cos (ang p (ix2 R l))) (zeros (ix2 R l)) := rfl
  rw [e, below64, zeros_apply]
  unfold Cert.Lin.tabC
  by_cases a : l.val < 32
  · rw [dif_pos a, if_pos (by omega), ang_lo p R l a]
    rfl
  · rw [dif_neg a]
    by_cases b : l.val < 64
    · rw [dif_pos b, if_pos b, ang_hi p R l a b]
      rfl
    · rw [dif_neg b, if_neg b]
      rfl

/-- The table of the sines of the first half, one entry. -/
theorem tS1_apply (p) (R : Fin 8192) (l : Fin 128) : tS1 p (ix2 R l) = Cert.Lin.tabS1 (sinE p R) l := by
  have e : tS1 p (ix2 R l) = Scalar.select (below 32#32 (ix2 R l))
      (-(FloatOps.hostUnary (F := Ideal) (φ := .f32) .sin (ang p (ix2 R l)) : EReal)) (zeros (ix2 R l)) := rfl
  rw [e, below32, zeros_apply]
  unfold Cert.Lin.tabS1
  by_cases a : l.val < 32
  · rw [dif_pos a, if_pos a, ang_lo p R l a]
    rfl
  · rw [dif_neg a, if_neg a]
    rfl

/-- The table of the sines of the second half, one entry. -/
theorem tS2_apply (p) (R : Fin 8192) (l : Fin 128) : tS2 p (ix2 R l) = Cert.Lin.tabS2 (sinE p R) l := by
  have e : tS2 p (ix2 R l) = Scalar.select (Scalar.andi (above 32#32 (ix2 R l)) (below 64#32 (ix2 R l)))
      (FloatOps.hostUnary (F := Ideal) (φ := .f32) .sin (ang p (ix2 R l))) (zeros (ix2 R l)) := rfl
  rw [e, above32, below64, zeros_apply]
  unfold Cert.Lin.tabS2
  by_cases a : l.val < 32
  · rw [if_pos a, if_pos a, if_pos (by omega)]
    rfl
  · rw [if_neg a, if_neg a]
    by_cases b : l.val < 64
    · rw [dif_pos b, if_pos b, ang_hi p R l a b]
      rfl
    · rw [dif_neg b, if_neg b]
      rfl

end Cert.Qu
-- ==== Proof.Lin.QuBlock.lean ====
module
public import proofs.«01_k».proof.Proof.Lin.QuTables
public import proofs.«01_k».proof.Proof.Lin.Join
@[expose] public section
set_option maxRecDepth 16384
noncomputable section
namespace Cert.Qu
open Idealize.ShloMosaic Cert.Kernel9Ideal Cert.Kernel9Ideal.Gen Idealize.SL.Sem

/-- A row of the compressed queries times a column of the weights. -/
theorem pay2_apply (x : FVec Ideal S1024x512 .bf16) (w : FVec Ideal S512x512 .bf16) (r : Fin 1024) (c : Fin 512) :
    k0_pay2 (F := Ideal) x w (ix2 r c) = ∑ k : Fin 512, x (ix2 r k) * w (ix2 k c) := by
  unfold k0_pay2
  pointwise

/-- The first quarter: columns of the product as they are. -/
theorem pay6_apply (x : FVec Ideal S1024x512 .bf16) (w : FVec Ideal S512x512 .bf16) (r : Fin 1024) (e : Fin 128) :
    k0_pay6 (F := Ideal) x w (ix2 r e) = k0_pay2 (F := Ideal) x w (ix2 r ⟨0 + e.val, by omega⟩) := by
  unfold k0_pay6
  pointwise

/-- The third quarter: columns of the product as they are. -/
theorem pay8_apply (x : FVec Ideal S1024x512 .bf16) (w : FVec Ideal S512x512 .bf16) (r : Fin 1024) (e : Fin 128) :
    k0_pay8 (F := Ideal) x w (ix2 r e) = k0_pay2 (F := Ideal) x w (ix2 r ⟨256 + e.val, by omega⟩) := by
  unfold k0_pay8
  pointwise

/-- The second quarter: columns of the product, rotated. -/
theorem pay7_apply (x : FVec Ideal S1024x512 .bf16) (w : FVec Ideal S512x512 .bf16) (tc t1 t2 : FVec Ideal S1024x128 .f32) (r : Fin 1024) (e : Fin 128) :
    k0_pay7 (F := Ideal) x w tc t1 t2 (ix2 r e)
      = Cert.Lin.turn (fun l => k0_pay2 (F := Ideal) x w (ix2 r ⟨128 + l.val, by omega⟩)) (fun l => tc (ix2 r l)) (fun l => t1 (ix2 r l)) (fun l => t2 (ix2 r l)) e := by
  unfold k0_pay7 k0_pay3 k0_pay4 k0_pay5 Cert.Lin.turn
  pointwise

/-- The fourth quarter: columns of the product, rotated. -/
theorem pay1_apply (x : FVec Ideal S1024x512 .bf16) (w : FVec Ideal S512x512 .bf16) (tc t1 t2 : FVec Ideal S1024x128 .f32) (r : Fin 1024) (e : Fin 128) :
    k0_pay1 (F := Ideal) (k0_pay10 x w tc t1) (k0_pay11 x w t2) (ix2 r e)
      = Cert.Lin.turn (fun l => k0_pay2 (F := Ideal) x w (ix2 r ⟨384 + l.val, by omega⟩)) (fun l => tc (ix2 r l)) (fun l => t1 (ix2 r l)) (fun l => t2 (ix2 r l)) e := by
  unfold k0_pay1 k0_pay10 k0_pay11 k0_pay9 k0_pay3 k0_pay4 k0_pay5 Cert.Lin.turn
  pointwise

/-- The first quarter of the columns that a grid point stores: the first head, as it is. -/
theorem out0 (x : FVec Ideal S1024x512 .bf16) (w : FVec Ideal S512x512 .bf16) (tc t1 t2 : FVec Ideal S1024x128 .f32) (r : Fin 1024) (e : Fin 128) :
    out0_5 (F := Ideal) x w tc t1 t2 (ix2 r ⟨0 + e.val, by omega⟩) = k0_pay2 (F := Ideal) x w (ix2 r ⟨0 + e.val, by omega⟩) := by
  refine Eq.trans ?_ (pay6_apply x w r e)
  unfold out0_5
  rw [View.ld_unit_zero, View.ld_unit_zero, View.ld_unit_zero, View.ld_unit_zero, View.ld_unit_zero]
  rw [View.canon_cons_of_not_mem, View.canon_cons_of_not_mem, View.canon_cons_of_not_mem, show (ix2 r (⟨0 + e.val, by omega⟩ : Fin 512)) = (Rect.unit (s := S1024x512) ![0, 0] S1024x128.size inb_S1024x512_S1024x128_0_0).emb (ix2 r e) from ?_, View.canon_cons_emb]
  · funext a
    fin_cases a <;> exact Fin.ext (by simp [Rect.emb_apply])
  all_goals first
    | exact Cert.Lin.origin
    | (rw [Rect.mem_set_unit]
       intro h
       have h := (h 1).1
       simp at h
       omega)

/-- The second quarter: the first head, rotated. -/
theorem out1 (x : FVec Ideal S1024x512 .bf16) (w : FVec Ideal S512x512 .bf16) (tc t1 t2 : FVec Ideal S1024x128 .f32) (r : Fin 1024) (e : Fin 128) :
    out0_5 (F := Ideal) x w tc t1 t2 (ix2 r ⟨128 + e.val, by omega⟩) = Cert.Lin.turn (fun l => k0_pay2 (F := Ideal) x w (ix2 r ⟨128 + l.val, by omega⟩)) (fun l => tc (ix2 r l)) (fun l => t1 (ix2 r l)) (fun l => t2 (ix2 r l)) e := by
  refine Eq.trans ?_ (pay7_apply x w tc t1 t2 r e)
  unfold out0_5
  rw [View.ld_unit_zero, View.ld_unit_zero, View.ld_unit_zero, View.ld_unit_zero, View.ld_unit_zero]
  rw [View.canon_cons_of_not_mem, View.canon_cons_of_not_mem, show (ix2 r (⟨128 + e.val, by omega⟩ : Fin 512)) = (Rect.unit (s := S1024x512) ![0, 128] S1024x128.size inb_S1024x512_S1024x128_0_128).emb (ix2 r e) from ?_, View.canon_cons_emb]
  · funext a
    fin_cases a <;> exact Fin.ext (by simp [Rect.emb_apply])
  all_goals first
    | exact Cert.Lin.origin
    | (rw [Rect.mem_set_unit]
       intro h
       have h := (h 1).1
       simp at h
       omega)

/-- The third quarter: the second head, as it is. -/
theorem out2 (x : FVec Ideal S1024x512 .bf16) (w : FVec Ideal S512x512 .bf16) (tc t1 t2 : FVec Ideal S1024x128 .f32) (r : Fin 1024) (e : Fin 128) :
    out0_5 (F := Ideal) x w tc t1 t2 (ix2 r ⟨256 + e.val, by omega⟩) = k0_pay2 (F := Ideal) x w (ix2 r ⟨256 + e.val, by omega⟩) := by
  refine Eq.trans ?_ (pay8_apply x w r e)
  unfold out0_5
  rw [View.ld_unit_zero, View.ld_unit_zero, View.ld_unit_zero, View.ld_unit_zero, View.ld_unit_zero]
  rw [View.canon_cons_of_not_mem, show (ix2 r (⟨256 + e.val, by omega⟩ : Fin 512)) = (Rect.unit (s := S1024x512) ![0, 256] S1024x128.size inb_S1024x512_S1024x128_0_256).emb (ix2 r e) from ?_, View.canon_cons_emb]
  · funext a
    fin_cases a <;> exact Fin.ext (by simp [Rect.emb_apply])
  all_goals first
    | exact Cert.Lin.origin
    | (rw [Rect.mem_set_unit]
       intro h
       have h := (h 1).1
       simp at h
       omega)

/-- The fourth quarter: the second head, rotated. -/
theorem out3 (x : FVec Ideal S1024x512 .bf16) (w : FVec Ideal S512x512 .bf16) (tc t1 t2 : FVec Ideal S1024x128 .f32) (r : Fin 1024) (e : Fin 128) :
    out0_5 (F := Ideal) x w tc t1 t2 (ix2 r ⟨384 + e.val, by omega⟩) = Cert.Lin.turn (fun l => k0_pay2 (F := Ideal) x w (ix2 r ⟨384 + l.val, by omega⟩)) (fun l => tc (ix2 r l)) (fun l => t1 (ix2 r l)) (fun l => t2 (ix2 r l)) e := by
  refine Eq.trans ?_ (pay1_apply x w tc t1 t2 r e)
  unfold out0_5
  rw [View.ld_unit_zero, View.ld_unit_zero, View.ld_unit_zero, View.ld_unit_zero, View.ld_unit_zero]
  rw [show (ix2 r (⟨384 + e.val, by omega⟩ : Fin 512)) = (Rect.unit (s := S1024x512) ![0, 384] S1024x128.size inb_S1024x512_S1024x128_0_384).emb (ix2 r e) from ?_, View.canon_cons_emb]
  · funext a
    fin_cases a <;> exact Fin.ext (by simp [Rect.emb_apply])
  all_goals first
    | exact Cert.Lin.origin
    | (rw [Rect.mem_set_unit]
       intro h
       have h := (h 1).1
       simp at h
       omega)

/-- Where each window's block lies at a grid point (block of rows, block of columns). -/
theorem idx_facts : ∀ t : Fin cfg0.N,
    win0_0.index t (0 : Fin 2) = (grid0.coords t 0).val ∧ win0_0.index t (1 : Fin 2) = 0
    ∧ win0_1.index t (0 : Fin 2) = 0 ∧ win0_1.index t (1 : Fin 2) = (grid0.coords t 1).val
    ∧ win0_2.index t (0 : Fin 2) = (grid0.coords t 0).val ∧ win0_2.index t (1 : Fin 2) = 0
    ∧ win0_3.index t (0 : Fin 2) = (grid0.coords t 0).val ∧ win0_3.index t (1 : Fin 2) = 0
    ∧ win0_4.index t (0 : Fin 2) = (grid0.coords t 0).val ∧ win0_4.index t (1 : Fin 2) = 0
    ∧ win0_5.index t (0 : Fin 2) = (grid0.coords t 0).val ∧ win0_5.index t (1 : Fin 2) = (grid0.coords t 1).val :=
  (by decide +kernel : ∀ t : Fin grid0.N,
    win0_0.index t (0 : Fin 2) = (grid0.coords t 0).val ∧ win0_0.index t (1 : Fin 2) = 0
    ∧ win0_1.index t (0 : Fin 2) = 0 ∧ win0_1.index t (1 : Fin 2) = (grid0.coords t 1).val
    ∧ win0_2.index t (0 : Fin 2) = (grid0.coords t 0).val ∧ win0_2.index t (1 : Fin 2) = 0
    ∧ win0_3.index t (0 : Fin 2) = (grid0.coords t 0).val ∧ win0_3.index t (1 : Fin 2) = 0
    ∧ win0_4.index t (0 : Fin 2) = (grid0.coords t 0).val ∧ win0_4.index t (1 : Fin 2) = 0
    ∧ win0_5.index t (0 : Fin 2) = (grid0.coords t 0).val ∧ win0_5.index t (1 : Fin 2) = (grid0.coords t 1).val)

/-- Every block of rows and block of columns has its grid point. -/
theorem exists_point : ∀ (i : Fin 8) (j : Fin 8), ∃ t : Fin cfg0.N, (grid0.coords t 0).val = i.val ∧ (grid0.coords t 1).val = j.val :=
  (by decide +kernel : ∀ (i : Fin 8) (j : Fin 8), ∃ t : Fin grid0.N, (grid0.coords t 0).val = i.val ∧ (grid0.coords t 1).val = j.val)

variable (m : (ℓ : Loc nD τ sig) → Buf (Elt Ideal) ℓ) (c : Dev nD)

/-- The rows' block. -/
theorem iblk0_apply (t : Fin cfg0.N) (r : Fin 1024) (d : Fin 512) (R : Fin 8192)
    (hR : R.val = 1024 * (grid0.coords t 0).val + r.val) : iblk m c 0 t (ix2 r d) = V m c main_v35 (ix2 R d) := by
  obtain ⟨h0, h1, -⟩ := idx_facts t
  unfold iblk
  blk_ext [h0, h1]

/-- The block of the weights' columns. -/
theorem iblk1_apply (t : Fin cfg0.N) (k : Fin 512) (d : Fin 512) (D : Fin 4096)
    (hD : D.val = 512 * (grid0.coords t 1).val + d.val) : iblk m c 1 t (ix2 k d) = V m c main_v33 (ix2 k D) := by
  obtain ⟨-, -, h0, h1, -⟩ := idx_facts t
  unfold iblk
  blk_ext [h0, h1]

/-- The block of the cosines. -/
theorem iblk2_apply (t : Fin cfg0.N) (r : Fin 1024) (e : Fin 128) (R : Fin 8192)
    (hR : R.val = 1024 * (grid0.coords t 0).val + r.val) : iblk m c 2 t (ix2 r e) = V m c main_v19 (ix2 R e) := by
  obtain ⟨-, -, -, -, h0, h1, -⟩ := idx_facts t
  unfold iblk
  blk_ext [h0, h1]

/-- The block of the sines of the first half. -/
theorem iblk3_apply (t : Fin cfg0.N) (r : Fin 1024) (e : Fin 128) (R : Fin 8192)
    (hR : R.val = 1024 * (grid0.coords t 0).val + r.val) : iblk m c 3 t (ix2 r e) = V m c main_v23 (ix2 R e) := by
  obtain ⟨-, -, -, -, -, -, h0, h1, -⟩ := idx_facts t
  unfold iblk
  blk_ext [h0, h1]

/-- The block of the sines of the second half. -/
theorem iblk4_apply (t : Fin cfg0.N) (r : Fin 1024) (e : Fin 128) (R : Fin 8192)
    (hR : R.val = 1024 * (grid0.coords t 0).val + r.val) : iblk m c 4 t (ix2 r e) = V m c main_v29 (ix2 R e) := by
  obtain ⟨-, -, -, -, -, -, -, -, h0, h1, -⟩ := idx_facts t
  unfold iblk
  blk_ext [h0, h1]

/-- One entry of the array the call leaves, as the entry of the block that was written there. -/
theorem arr_block (t : Fin cfg0.N) (r : Fin 1024) (d : Fin 512) (R : Fin 8192) (D : Fin 4096)
    (hR : R.val = 1024 * (grid0.coords t 0).val + r.val) (hD : D.val = 512 * (grid0.coords t 1).val + d.val) :
    (dats m 0 c).arrAt 5 cfg0.N (ix2 R D) = out0_5 (iblk m c 0 t) (iblk m c 1 t) (iblk m c 2 t) (iblk m c 3 t) (iblk m c 4 t) (ix2 r d) := by
  obtain ⟨-, -, -, -, -, -, -, -, -, -, h0, h1⟩ := idx_facts t
  have hb := congrFun (Cert.Kernel9Ideal.Value.blocks5 m c t (flush0_5 t)) (ix2 r d)
  rw [Cert.Kernel9Ideal.Value.flushed5] at hb
  refine Eq.trans ?_ (hb.trans ?_)
  · blk_ext [h0, h1]
  · blk_ext [h0, h1]

/-- The rows as the call takes them: the compressed queries, flattened. -/
def rows (a : FVec Ideal S2x4096x512 .f32) : FVec Ideal S8192x512 .bf16 :=
  truncf .bf16 (shapeCast S8192x512 a shapeCasts_S2x4096x512_S8192x512) bitsLt_bf16_f32

/-- Each head's 192 columns of weights, and 64 zero columns. -/
def padded (a : FVec Ideal S512x3072 .f32) : FVec Ideal S512x16x256 .f32 :=
  pad S512x16x256 ![0, 0, 0] ![0, 0, 64] ![0, 0, 0] (shapeCast S512x16x192 a shapeCasts_S512x3072_S512x16x192)
    (sitofp (F := Ideal) .f32 (constantI S_ 32 0#32)) pads_S512x16x192_S512x16x256_000_000_0640 h_S_

/-- The weights as the call takes them. -/
def wts (a : FVec Ideal S512x3072 .f32) : FVec Ideal S512x4096 .bf16 :=
  truncf .bf16 (shapeCast S512x4096 (padded a) shapeCasts_S512x16x256_S512x4096) bitsLt_bf16_f32

/-- The first window's array is the rows. -/
theorem v35_eq : V m c main_v35 = rows (m (c, Proc.tc.devRef main_arg0)) := by
  dsimp only [V, hostOps0, hostOps0_1, hostOps0_2, hostOps0_3, hostOps0_4, hostOps0_5, hostOps0_6, hostOps0_7, hostOps0_8, List.flatten_cons, List.flatten_nil, List.append_nil, List.cons_append, List.nil_append]
  after_results
  rfl

/-- The second window's array is the weights. -/
theorem v33_eq : V m c main_v33 = wts (m (c, Proc.tc.devRef main_arg2)) := by
  dsimp only [V, hostOps0, hostOps0_1, hostOps0_2, hostOps0_3, hostOps0_4, hostOps0_5, hostOps0_6, hostOps0_7, hostOps0_8, List.flatten_cons, List.flatten_nil, List.append_nil, List.cons_append, List.nil_append]
  after_results
  rfl

/-- One entry of a row. -/
theorem rows_apply (a) (R : Fin 8192) (D : Fin 512) : rows a (ix2 R D) = a (ix3 ⟨R.val / 4096, by omega⟩ ⟨R.val % 4096, by omega⟩ D) := by
  unfold rows
  pointwise

/-- A head's weights, and zeros past them. -/
def padE (a : FVec Ideal S512x3072 .f32) (k : Fin 512) (D : Fin 4096) : EReal :=
  if h : D.val % 256 < 192 then a (ix2 k ⟨D.val / 256 * 192 + D.val % 256, by omega⟩) else 0

/-- One entry of the padded weights. -/
theorem padded_apply (a) (k : Fin 512) (D : Fin 4096) :
    padded a (ix3 k (⟨D.val / 256, by omega⟩ : Fin 16) (⟨D.val % 256, by omega⟩ : Fin 256)) = padE a k D := by
  unfold padded padE
  by_cases h : D.val % 256 < 192
  · rw [dif_pos h]
    refine (pad_apply_of_inside ![0, 0, 0] ![0, 0, 64] ![0, 0, 0] _ _ pads_S512x16x192_S512x16x256_000_000_0640 h_S_
      (ix3 k (⟨D.val / 256, by omega⟩ : Fin 16) (⟨D.val % 256, by omega⟩ : Fin 256))
      (ix3 k (⟨D.val / 256, by omega⟩ : Fin 16) (⟨D.val % 256, h⟩ : Fin 192)) ?_).trans ?_
    · intro b
      fin_cases b <;> simp
    · pointwise
  · rw [dif_neg h]
    refine (pad_apply_of_not_inside (s := S512x16x192) (t := S512x16x256) ![0, 0, 0] ![0, 0, 64] ![0, 0, 0] _ _ pads_S512x16x192_S512x16x256_000_000_0640 h_S_
      (ix3 k (⟨D.val / 256, by omega⟩ : Fin 16) (⟨D.val % 256, by omega⟩ : Fin 256)) 2 ?_).trans ?_
    · simp
      omega
    · show FloatOps.sitofp (F := Ideal) .f32 (0#32) = (0 : EReal)
      simp [FloatOps.sitofp]

/-- One entry of the weights. -/
theorem wts_apply (a) (k : Fin 512) (D : Fin 4096) : wts a (ix2 k D) = padE a k D := by
  refine Eq.trans ?_ (padded_apply a k D)
  unfold wts
  pointwise

/-- One row of the compressed queries times one column of the padded weights. -/
def prod (a : FVec Ideal S2x4096x512 .f32) (w : FVec Ideal S512x3072 .f32) (R : Fin 8192) (D : Fin 4096) : EReal :=
  ∑ k : Fin 512, a (ix3 ⟨R.val / 4096, by omega⟩ ⟨R.val % 4096, by omega⟩ k) * padE w k D

/-- One entry of the queries: of each head, 128 columns as they are, then the rotated lanes. -/
def spec (a : FVec Ideal S2x4096x512 .f32) (p : (⟨S2x4096, .i32⟩ : BufTy).Contents (Elt Ideal)) (w : FVec Ideal S512x3072 .f32)
    (R : Fin 8192) (D : Fin 4096) : EReal :=
  if D.val % 256 < 128 then prod a w R D
  else Cert.Lin.rot (fun l => prod a w R ⟨D.val / 256 * 256 + 128 + l.val, by omega⟩) (cosE p R) (sinE p R) ⟨D.val % 256 - 128, by omega⟩

/-- A product at a grid point. -/
theorem blk_apply (t : Fin cfg0.N) (r : Fin 1024) (d : Fin 512) (R : Fin 8192) (D : Fin 4096)
    (hR : R.val = 1024 * (grid0.coords t 0).val + r.val) (hD : D.val = 512 * (grid0.coords t 1).val + d.val) :
    k0_pay2 (F := Ideal) (iblk m c 0 t) (iblk m c 1 t) (ix2 r d)
      = prod (m (c, Proc.tc.devRef main_arg0)) (m (c, Proc.tc.devRef main_arg2)) R D := by
  refine (pay2_apply _ _ _ _).trans (Finset.sum_congr rfl fun k _ => congrArg₂ (· * ·) ?_ ?_)
  · exact ((iblk0_apply m c t _ k R hR).trans (congrFun (v35_eq m c) _)).trans (rows_apply _ _ _)
  · exact ((iblk1_apply m c t k d D hD).trans (congrFun (v33_eq m c) _)).trans (wts_apply _ _ _)

/-- The rotated lanes at a grid point, from any of the block's columns. -/
theorem turn_blk (t : Fin cfg0.N) (r : Fin 1024) (R : Fin 8192) (hR : R.val = 1024 * (grid0.coords t 0).val + r.val)
    (off : ℕ) (hoff : off + 128 ≤ 512) (d : ℕ) (hd : d + 128 ≤ 4096) (hD : d = 512 * (grid0.coords t 1).val + off) (e : Fin 128) :
    Cert.Lin.turn (fun l => k0_pay2 (F := Ideal) (iblk m c 0 t) (iblk m c 1 t) (ix2 r ⟨off + l.val, by omega⟩))
        (fun l => iblk m c 2 t (ix2 r l)) (fun l => iblk m c 3 t (ix2 r l)) (fun l => iblk m c 4 t (ix2 r l)) e
      = Cert.Lin.rot (fun l => prod (m (c, Proc.tc.devRef main_arg0)) (m (c, Proc.tc.devRef main_arg2)) R ⟨d + l.val, by omega⟩)
          (cosE (m (c, Proc.tc.devRef main_arg1)) R) (sinE (m (c, Proc.tc.devRef main_arg1)) R) e := by
  refine (Cert.Lin.turn_eq _ _ _ _ (cosE (m (c, Proc.tc.devRef main_arg1)) R) (sinE (m (c, Proc.tc.devRef main_arg1)) R) _ ?_ ?_ ?_).trans ?_
  · exact (iblk2_apply m c t r e R hR).trans ((congrFun (v19_eq m c) _).trans (tC_apply _ R e))
  · exact (iblk3_apply m c t r e R hR).trans ((congrFun (v23_eq m c) _).trans (tS1_apply _ R e))
  · exact (iblk4_apply m c t r e R hR).trans ((congrFun (v29_eq m c) _).trans (tS2_apply _ R e))
  · exact congrArg (fun y => Cert.Lin.rot y _ _ _) (funext fun l => blk_apply m c t r _ R _ hR (by dsimp only; omega))

/-- WHAT THE CALL LEAVES: the queries of the latent attention, the last lanes of each head rotated. -/
theorem arr_apply (R : Fin 8192) (D : Fin 4096) :
    (dats m 0 c).arrAt 5 cfg0.N (ix2 R D)
      = spec (m (c, Proc.tc.devRef main_arg0)) (m (c, Proc.tc.devRef main_arg1)) (m (c, Proc.tc.devRef main_arg2)) R D := by
  obtain ⟨t, hi, hj⟩ := exists_point ⟨R.val / 1024, by omega⟩ ⟨D.val / 512, by omega⟩
  dsimp only at hi hj
  have hr : R.val = 1024 * (grid0.coords t 0).val + R.val % 1024 := by omega
  have hd : D.val = 512 * (grid0.coords t 1).val + D.val % 512 := by omega
  have hb := fun d D h => blk_apply m c t ⟨R.val % 1024, by omega⟩ d R D hr h
  rw [arr_block m c t ⟨R.val % 1024, by omega⟩ ⟨D.val % 512, by omega⟩ R D hr hd]
  unfold spec
  have hq : D.val % 512 / 128 = 0 ∨ D.val % 512 / 128 = 1 ∨ D.val % 512 / 128 = 2 ∨ D.val % 512 / 128 = 3 := by omega
  rcases hq with h | h | h | h
  · have e : (⟨D.val % 512, by omega⟩ : Fin 512) = ⟨0 + (⟨D.val % 512 - 0, by omega⟩ : Fin 128).val, by dsimp only; omega⟩ := Fin.ext (by dsimp only; omega)
    rw [if_pos (by omega), e, out0]
    exact hb _ D (by dsimp only; omega)
  · have e : (⟨D.val % 512, by omega⟩ : Fin 512) = ⟨128 + (⟨D.val % 512 - 128, by omega⟩ : Fin 128).val, by dsimp only; omega⟩ := Fin.ext (by dsimp only; omega)
    rw [if_neg (by omega), e, out1]
    have e2 : (⟨D.val % 256 - 128, by omega⟩ : Fin 128) = ⟨D.val % 512 - 128, by omega⟩ := Fin.ext (by dsimp only; omega)
    rw [e2]
    exact turn_blk m c t ⟨R.val % 1024, by omega⟩ R hr 128 (by omega) (D.val / 256 * 256 + 128) (by omega) (by omega) ⟨D.val % 512 - 128, by omega⟩
  · have e : (⟨D.val % 512, by omega⟩ : Fin 512) = ⟨256 + (⟨D.val % 512 - 256, by omega⟩ : Fin 128).val, by dsimp only; omega⟩ := Fin.ext (by dsimp only; omega)
    rw [if_pos (by omega), e, out2]
    exact hb _ D (by dsimp only; omega)
  · have e : (⟨D.val % 512, by omega⟩ : Fin 512) = ⟨384 + (⟨D.val % 512 - 384, by omega⟩ : Fin 128).val, by dsimp only; omega⟩ := Fin.ext (by dsimp only; omega)
    rw [if_neg (by omega), e, out3]
    have e2 : (⟨D.val % 256 - 128, by omega⟩ : Fin 128) = ⟨D.val % 512 - 384, by omega⟩ := Fin.ext (by dsimp only; omega)
    rw [e2]
    exact turn_blk m c t ⟨R.val % 1024, by omega⟩ R hr 384 (by omega) (D.val / 256 * 256 + 128) (by omega) (by omega) ⟨D.val % 512 - 384, by omega⟩

end Cert.Qu
-- ==== Proof.Lin.QuRef.lean ====
module
public import proofs.«01_k».proof.Proof.Gen.Reference9Ideal.Read
public import proofs.«01_k».proof.Proof.Lin.QuBlock
@[expose] public section
set_option maxRecDepth 16384
noncomputable section
namespace Cert.Qu
open Idealize.ShloMosaic Cert.Reference9Ideal Cert.Reference9Ideal.Gen Cert.Reference9Ideal.Read Idealize.SL.Sem

variable (a : FVec Ideal S2x4096x512 .f32) (p : (⟨S2x4096, .i32⟩ : BufTy).Contents (Elt Ideal)) (w : FVec Ideal S512x3072 .f32)

/-- The reference's frequencies. -/
theorem v9_eq : val_main_v9 (F := Ideal) = freq := rfl

/-- The reference's products, one entry. -/
theorem v0_apply (R : Fin 8192) (D : Fin 3072) (D' : Fin 4096) (h : D'.val % 256 < 192) (hD : D.val = D'.val / 256 * 192 + D'.val % 256) :
    val_main_v0 (F := Ideal) a w (ix3 ⟨R.val / 4096, by omega⟩ ⟨R.val % 4096, by omega⟩ D) = prod a w R D' := by
  have e : D = ⟨D'.val / 256 * 192 + D'.val % 256, by omega⟩ := Fin.ext hD
  have e2 : ∀ k : Fin 512, padE w k D' = w (ix2 k D) := fun k => by
    rw [e]
    exact dif_pos h
  unfold val_main_v0 prod
  simp only [e2]
  pointwise

/-- The angles, one entry. -/
theorem v15_apply (R : Fin 8192) (e : Fin 32) : val_main_v15 (F := Ideal) p (ix3 ⟨R.val / 4096, by omega⟩ ⟨R.val % 4096, by omega⟩ e) = angE p R e := by
  unfold val_main_v15 val_main_v13 val_main_v14 val_main_v11 val_main_v12 val_main_v10 angE
  rw [v9_eq]
  pointwise

/-- The cosines, one entry. -/
theorem v16_apply (R : Fin 8192) (e : Fin 32) : val_main_v16 (F := Ideal) p (ix3 ⟨R.val / 4096, by omega⟩ ⟨R.val % 4096, by omega⟩ e) = cosE p R e :=
  congrArg (FloatOps.hostUnary (F := Ideal) (φ := .f32) .cos) (v15_apply p R e)

/-- The sines, one entry. -/
theorem v18_apply (R : Fin 8192) (e : Fin 32) : val_main_v18 (F := Ideal) p (ix3 ⟨R.val / 4096, by omega⟩ ⟨R.val % 4096, by omega⟩ e) = sinE p R e :=
  congrArg (FloatOps.hostUnary (F := Ideal) (φ := .f32) .sin) (v15_apply p R e)

/-- The reference's array, one entry. -/
theorem ref_apply (R : Fin 8192) (D : Fin 4096) :
    val_main_v36 (F := Ideal) a p w (ix2 R D) = spec a p w R D := by
  unfold val_main_v36 val_main_v35 val_main_v34 val_main_v33 val_main_v32 val_main_v31 val_main_v30 val_main_v29 val_main_v28 val_main_v27 val_main_v26 val_main_v25 val_main_v24 val_main_v23 val_main_v22 val_main_v21 val_main_v20 val_main_v19 val_main_v17 val_main_v3 val_main_v2 val_main_v1 val_main_cst_1 spec
  pointwise
  simp only [v16_apply, v18_apply]
  by_cases h : D.val % 256 < 128
  · exact (dif_pos h).trans ((v0_apply a w R _ D (by omega) rfl).trans (if_pos h).symm)
  refine (dif_neg h).trans (Eq.trans ?_ (if_neg h).symm)
  refine Eq.trans ?_ (Cert.Lin.rot_alt _ _ _ _)
  refine dite_congr rfl (fun h6 => dite_congr rfl (fun h3 => ?_) (fun h3 => ?_)) (fun _ => rfl)
  · have a6 : D.val % 256 - 128 < 64 := h6
    have a3 : D.val % 256 - 128 < 32 := h3
    refine congrArg₂ HSub.hSub (congrArg (· * _) ?_) (congrArg (· * _) ?_)
    · exact v0_apply a w R _ ⟨D.val / 256 * 256 + 128 + (D.val % 256 - 128), by omega⟩ (by dsimp only; omega) (by dsimp only; omega)
    · exact v0_apply a w R _ ⟨D.val / 256 * 256 + 128 + (D.val % 256 - 128 + 32), by omega⟩ (by dsimp only; omega) (by dsimp only; omega)
  · have a6 : D.val % 256 - 128 < 64 := h6
    have a3 : ¬ D.val % 256 - 128 < 32 := h3
    refine congrArg₂ HAdd.hAdd (congrArg (· * _) ?_) (congrArg (· * _) ?_)
    · exact v0_apply a w R _ ⟨D.val / 256 * 256 + 128 + (D.val % 256 - 128), by omega⟩ (by dsimp only; omega) (by dsimp only; omega)
    · exact v0_apply a w R _ ⟨D.val / 256 * 256 + 128 + (D.val % 256 - 128 - 32), by omega⟩ (by dsimp only; omega) (by dsimp only; omega)

end Cert.Qu
-- ==== Proof.Lin.QuClaim.lean ====
module
public import proofs.«01_k».proof.Defs
public import proofs.«01_k».proof.Proof.Gen.Kernel9Ideal.Value
public import proofs.«01_k».proof.Proof.Gen.Reference9Ideal.Run
public import proofs.«01_k».proof.Proof.Lin.QuRef
public import Idealize.ShloMosaic.Adequacy
public import Idealize.ShloMosaic.Init
@[expose] public section
noncomputable section
namespace Cert.Qu
open Idealize.ShloMosaic Idealize.SL.Sem

/-- The reference of the queries of the latent attention ends with its arguments unchanged and every counter at zero. -/
theorem frame_ref (m : (ℓ : Loc Cert.Reference9Ideal.nD Cert.Reference9Ideal.τ Cert.Reference9Ideal.sig) → Buf (Elt Ideal) ℓ) (g : Dev Cert.Reference9Ideal.nD → PrngReg) :
    θ_run (Cert.Reference9Ideal.defs (F := Ideal)) (onTc (τ := Cert.Reference9Ideal.τ) (Cert.Reference9Ideal.main (F := Ideal))) ⟨m, fun _ => 0, g⟩
      (fun r => (∀ c : Dev Cert.Reference9Ideal.nD,
        r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
        ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
        ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2))
        ∧ r.2.sem = fun _ => 0) :=
  (θ_run Cert.Reference9Ideal.defs _ _).mono
    (fun r h => ⟨fun c => (h c).2, sem_eq_zero_of_no_sems (by decide) r.2⟩)
    (Cert.Reference9Ideal.Value.run m g)

/-- The array of the queries of the latent attention is the reference's. -/
theorem arr_eq (m : (ℓ : Loc Cert.Kernel9Ideal.nD Cert.Kernel9Ideal.τ Cert.Kernel9Ideal.sig) → Buf (Elt Ideal) ℓ) (c : Dev Cert.Kernel9Ideal.nD) :
    (Cert.Kernel9Ideal.Gen.dats m 0 c).arrAt 5 Cert.Kernel9Ideal.cfg0.N
      = Cert.Reference9Ideal.Read.val_main_v36 (F := Ideal) (m (c, Proc.tc.devRef Cert.Kernel9Ideal.main_arg0)) (m (c, Proc.tc.devRef Cert.Kernel9Ideal.main_arg1)) (m (c, Proc.tc.devRef Cert.Kernel9Ideal.main_arg2)) := by
  funext i
  have e : i = ix2 (⟨(i 0).val, (i 0).isLt⟩ : Fin 8192) (⟨(i 1).val, (i 1).isLt⟩ : Fin 4096) := by
    funext a
    match a with
    | ⟨0, _⟩ => rfl
    | ⟨1, _⟩ => rfl
  rw [e]
  exact (arr_apply m c _ _).trans (ref_apply _ _ _ _ _).symm

/-- Kernel and reference of the queries of the latent attention compute one function. -/
theorem algebraic : Cert.algebraic_Kernel9Ideal_Reference9Ideal (hKernel9Ideal := Cert.Kernel9Ideal.Gen.facts)
    (hReference9Ideal := Cert.Reference9Ideal.Gen.facts) := by
  intro m g m' g' _ hargs
  refine ⟨fun c => (Cert.Kernel9Ideal.Gen.dats m 0 c).arrAt 5 Cert.Kernel9Ideal.cfg0.N, Cert.Kernel9Ideal.Value.run_blocks m g, ?_⟩
  refine (θ_run Cert.Reference9Ideal.defs _ _).mono (fun r h c => ⟨(h c).1.trans ?_, (h c).2⟩) (Cert.Reference9Ideal.Value.run m' g')
  obtain ⟨e0, e1, e2⟩ := hargs c
  rw [Cert.Reference9Ideal.Read.val_main_v36_eq, e0, e1, e2]
  exact (arr_eq m c).symm

end Cert.Qu
-- ==== Proof.Lin.KvTables.lean ====
module
public import proofs.«01_k».proof.Proof.Gen.Kernel10Ideal.Value
public import proofs.«01_k».proof.Proof.Lin.Rms
public import Idealize.ShloMosaic.Lib.KernelVsHost
public import Idealize.ShloMosaic.Lib.Pipeline.ValueKit
public import Idealize.ShloMosaic.Lib.Pointwise
@[expose] public section
set_option maxRecDepth 16384
noncomputable section
namespace Cert.Kv
open Idealize.ShloMosaic Cert.Kernel10Ideal Cert.Kernel10Ideal.Gen Idealize.SL.Sem

/-- The frequencies of the rotation. -/
def freq : FVec Ideal S32 .f32 :=
  Host.powf (broadcastInDim S32 ![] bcast_S_S32 (constant (F := Ideal) S_ .f32 0x461C4000#32))
    (Host.divf (Host.negf (sitofp (F := Ideal) .f32 (iotaInDim S32 32 0))) (broadcastInDim S32 ![] bcast_S_S32 (constant (F := Ideal) S_ .f32 0x42000000#32)))

/-- The frequencies of the 128 lanes: the 32 twice, then zeros. -/
def lanes : FVec Ideal S128 .f32 :=
  concatenate S128 0 [⟨S32, freq⟩, ⟨S32, freq⟩, ⟨S64, broadcastInDim S64 ![] bcast_S_S64 (constant (F := Ideal) S_ .f32 0x00000000#32)⟩]
    concatenates_S32_S32_S64_S128_d0

/-- The angles, one row for each token. -/
def ang (p : (⟨S2x4096, .i32⟩ : BufTy).Contents (Elt Ideal)) : FVec Ideal S8192x128 .f32 :=
  mulf (broadcastInDim S8192x128 ![0, 1] bcast_S8192x1_S8192x128_0_1 (sitofp (F := Ideal) .f32 (shapeCast S8192x1 p shapeCasts_S2x4096_S8192x1)))
    (broadcastInDim S8192x128 ![0, 1] bcast_S1x128_S8192x128_0_1 (shapeCast S1x128 lanes shapeCasts_S128_S1x128))

/-- The zeros that fill a table. -/
def zeros : FVec Ideal S8192x128 .f32 := broadcastInDim S8192x128 ![] bcast_S_S8192x128 (constant (F := Ideal) S_ .f32 0x00000000#32)

/-- The lanes below a bound. -/
def below (b : BitVec 32) : IVec S8192x128 1 :=
  cmpi .slt (iotaInDim S8192x128 32 1) (broadcastInDim S8192x128 ![] bcast_S_S8192x128 (constantI S_ 32 b))

/-- The lanes from a bound on. -/
def above (b : BitVec 32) : IVec S8192x128 1 :=
  cmpi .sge (iotaInDim S8192x128 32 1) (broadcastInDim S8192x128 ![] bcast_S_S8192x128 (constantI S_ 32 b))

/-- The table of the cosines, as the call takes it. -/
def tC (p : (⟨S2x4096, .i32⟩ : BufTy).Contents (Elt Ideal)) : FVec Ideal S8192x128 .f32 := select (below 64#32) (Host.cos (ang p)) zeros

/-- The table of the sines of the first half, as the call takes it. -/
def tS1 (p : (⟨S2x4096, .i32⟩ : BufTy).Contents (Elt Ideal)) : FVec Ideal S8192x128 .f32 :=
  select (below 32#32) (Host.negf (Host.sin (ang p))) zeros

/-- The table of the sines of the second half, as the call takes it. -/
def tS2 (p : (⟨S2x4096, .i32⟩ : BufTy).Contents (Elt Ideal)) : FVec Ideal S8192x128 .f32 :=
  select (andi (above 32#32) (below 64#32)) (Host.sin (ang p)) zeros

variable (m : (ℓ : Loc nD τ sig) → Buf (Elt Ideal) ℓ) (c : Dev nD)

/-- The first table's array. -/
theorem v19_eq : V m c main_v19 = tC (m (c, Proc.tc.devRef main_arg1)) := by
  dsimp only [V, hostOps0, hostOps0_1, hostOps0_2, hostOps0_3, hostOps0_4, hostOps0_5, hostOps0_6, hostOps0_7, hostOps0_8, List.flatten_cons, List.flatten_nil, List.append_nil, List.cons_append, List.nil_append]
  after_results
  rfl

/-- The second table's array. -/
theorem v23_eq : V m c main_v23 = tS1 (m (c, Proc.tc.devRef main_arg1)) := by
  dsimp only [V, hostOps0, hostOps0_1, hostOps0_2, hostOps0_3, hostOps0_4, hostOps0_5, hostOps0_6, hostOps0_7, hostOps0_8, List.flatten_cons, List.flatten_nil, List.append_nil, List.cons_append, List.nil_append]
  after_results
  rfl

/-- The third table's array. -/
theorem v29_eq : V m c main_v29 = tS2 (m (c, Proc.tc.devRef main_arg1)) := by
  dsimp only [V, hostOps0, hostOps0_1, hostOps0_2, hostOps0_3, hostOps0_4, hostOps0_5, hostOps0_6, hostOps0_7, hostOps0_8, List.flatten_cons, List.flatten_nil, List.append_nil, List.cons_append, List.nil_append]
  after_results
  rfl

/-- The angle of a position at a frequency. -/
def angE (p : (⟨S2x4096, .i32⟩ : BufTy).Contents (Elt Ideal)) (R : Fin 8192) (e : Fin 32) : EReal :=
  FloatOps.mulf (F := Ideal) (φ := .f32) (FloatOps.sitofp (F := Ideal) .f32 (p (ix2 ⟨R.val / 4096, by omega⟩ ⟨R.val % 4096, by omega⟩))) (freq (ix1 e))

/-- The cosine of that angle. -/
def cosE (p : (⟨S2x4096, .i32⟩ : BufTy).Contents (Elt Ideal)) (R : Fin 8192) (e : Fin 32) : EReal :=
  FloatOps.hostUnary (F := Ideal) (φ := .f32) .cos (angE p R e)

/-- The sine of that angle. -/
def sinE (p : (⟨S2x4096, .i32⟩ : BufTy).Contents (Elt Ideal)) (R : Fin 8192) (e : Fin 32) : EReal :=
  FloatOps.hostUnary (F := Ideal) (φ := .f32) .sin (angE p R e)

/-- The frequency of a lane. -/
theorem lanes_apply (l : Fin 128) :
    lanes (ix1 l) = if h : l.val < 32 then freq (ix1 ⟨l.val, h⟩) else if h : l.val < 64 then freq (ix1 ⟨l.val - 32, by omega⟩)
      else 0 := by
  unfold lanes
  pointwise
  refine dite_congr rfl (fun _ => rfl) (fun a => ?_)
  exact dite_congr (propext ⟨fun h => by omega, fun h => by omega⟩) (fun _ => rfl) (fun _ => rfl)

/-- One entry of the angles. -/
theorem ang_apply (p) (R : Fin 8192) (l : Fin 128) :
    ang p (ix2 R l) = FloatOps.mulf (F := Ideal) (φ := .f32)
      (FloatOps.sitofp (F := Ideal) .f32 (p (ix2 ⟨R.val / 4096, by omega⟩ ⟨R.val % 4096, by omega⟩))) (lanes (ix1 l)) := by
  unfold ang
  pointwise

/-- The angle of a lane of the first half. -/
theorem ang_lo (p) (R : Fin 8192) (l : Fin 128) (h : l.val < 32) : ang p (ix2 R l) = angE p R ⟨l.val, h⟩ := by
  rw [ang_apply, lanes_apply, dif_pos h]
  rfl

/-- The angle of a lane of the second half. -/
theorem ang_hi (p) (R : Fin 8192) (l : Fin 128) (a : ¬l.val < 32) (h : l.val < 64) : ang p (ix2 R l) = angE p R ⟨l.val - 32, by omega⟩ := by
  rw [ang_apply, lanes_apply, dif_neg a, dif_pos h]
  rfl

/-- The word of zero is zero. -/
theorem zero_bits : Ideal.ofBits .f32 0x00000000#32 = 0 := by
  simp [Ideal.ofBits, Ideal.ieee]

/-- One entry of the zeros. -/
theorem zeros_apply (R : Fin 8192) (l : Fin 128) : zeros (ix2 R l) = 0 := zero_bits

/-- Which lanes lie below 64. -/
theorem below64 (R : Fin 8192) (l : Fin 128) : below 64#32 (ix2 R l) = if l.val < 64 then 1#1 else 0#1 :=
  (by decide : ∀ l : Fin 128, Scalar.cmpi .slt (BitVec.ofNat 32 l.val) 64#32 = if l.val < 64 then 1#1 else 0#1) l

/-- Which lanes lie below 32. -/
theorem below32 (R : Fin 8192) (l : Fin 128) : below 32#32 (ix2 R l) = if l.val < 32 then 1#1 else 0#1 :=
  (by decide : ∀ l : Fin 128, Scalar.cmpi .slt (BitVec.ofNat 32 l.val) 32#32 = if l.val < 32 then 1#1 else 0#1) l

/-- Which lanes lie from 32 on. -/
theorem above32 (R : Fin 8192) (l : Fin 128) : above 32#32 (ix2 R l) = if l.val < 32 then 0#1 else 1#1 :=
  (by decide : ∀ l : Fin 128, Scalar.cmpi .sge (BitVec.ofNat 32 l.val) 32#32 = if l.val < 32 then 0#1 else 1#1) l

/-- The table of the cosines, one entry. -/
theorem tC_apply (p) (R : Fin 8192) (l : Fin 128) : tC p (ix2 R l) = Cert.Lin.tabC (cosE p R) l := by
  have e : tC p (ix2 R l) = Scalar.select (below 64#32 (ix2 R l)) (FloatOps.hostUnary (F := Ideal) (φ := .f32) .cos (ang p (ix2 R l))) (zeros (ix2 R l)) := rfl
  rw [e, below64, zeros_apply]
  unfold Cert.Lin.tabC
  by_cases a : l.val < 32
  · rw [dif_pos a, if_pos (by omega), ang_lo p R l a]
    rfl
  · rw [dif_neg a]
    by_cases b : l.val < 64
    · rw [dif_pos b, if_pos b, ang_hi p R l a b]
      rfl
    · rw [dif_neg b, if_neg b]
      rfl

/-- The table of the sines of the first half, one entry. -/
theorem tS1_apply (p) (R : Fin 8192) (l : Fin 128) : tS1 p (ix2 R l) = Cert.Lin.tabS1 (sinE p R) l := by
  have e : tS1 p (ix2 R l) = Scalar.select (below 32#32 (ix2 R l))
      (-(FloatOps.hostUnary (F := Ideal) (φ := .f32) .sin (ang p (ix2 R l)) : EReal)) (zeros (ix2 R l)) := rfl
  rw [e, below32, zeros_apply]
  unfold Cert.Lin.tabS1
  by_cases a : l.val < 32
  · rw [dif_pos a, if_pos a, ang_lo p R l a]
    rfl
  · rw [dif_neg a, if_neg a]
    rfl

/-- The table of the sines of the second half, one entry. -/
theorem tS2_apply (p) (R : Fin 8192) (l : Fin 128) : tS2 p (ix2 R l) = Cert.Lin.tabS2 (sinE p R) l := by
  have e : tS2 p (ix2 R l) = Scalar.select (Scalar.andi (above 32#32 (ix2 R l)) (below 64#32 (ix2 R l)))
      (FloatOps.hostUnary (F := Ideal) (φ := .f32) .sin (ang p (ix2 R l))) (zeros (ix2 R l)) := rfl
  rw [e, above32, below64, zeros_apply]
  unfold Cert.Lin.tabS2
  by_cases a : l.val < 32
  · rw [if_pos a, if_pos a, if_pos (by omega)]
    rfl
  · rw [if_neg a, if_neg a]
    by_cases b : l.val < 64
    · rw [dif_pos b, if_pos b, ang_hi p R l a b]
      rfl
    · rw [dif_neg b, if_neg b]
      rfl

end Cert.Kv
-- ==== Proof.Lin.KvBlock.lean ====
module
public import proofs.«01_k».proof.Proof.Lin.KvTables
public import proofs.«01_k».proof.Proof.Lin.Join
@[expose] public section
set_option maxRecDepth 16384
noncomputable section
namespace Cert.Kv
open Idealize.ShloMosaic Cert.Kernel10Ideal Cert.Kernel10Ideal.Gen Idealize.SL.Sem

/-- A row of the four windows, laid end to end, times a column of the weights. -/
def acc (x0 x1 x2 x3 : FVec Ideal S1024x512 .bf16) (w : FVec Ideal S2048x640 .bf16) (r : Fin 1024) (c : Fin 640) : EReal :=
  ∑ k : Fin 2048, Cert.Lin.join (fun k => x0 (ix2 r k)) (fun k => x1 (ix2 r k)) (fun k => x2 (ix2 r k)) (fun k => x3 (ix2 r k)) k
          * w (ix2 k c)

/-- One entry of the product at a grid point. -/
theorem pay2_apply (x0 x1 x2 x3 : FVec Ideal S1024x512 .bf16) (w : FVec Ideal S2048x640 .bf16) (r : Fin 1024) (c : Fin 640) :
    k0_pay2 (F := Ideal) x0 x1 x2 x3 w (ix2 r c) = acc x0 x1 x2 x3 w r c := by
  unfold k0_pay2 acc Cert.Lin.join
  pointwise

/-- One entry of the first block: the first 512 products, over the root of their mean square, with the gains. -/
theorem pay6_apply (x0 x1 x2 x3 : FVec Ideal S1024x512 .bf16) (w : FVec Ideal S2048x640 .bf16) (g : FVec Ideal S1x512 .f32) (r : Fin 1024) (c : Fin 512) :
    k0_pay6 (F := Ideal) x0 x1 x2 x3 w g (ix2 r c)
      = Cert.Lin.rms (fun n => k0_pay2 (F := Ideal) x0 x1 x2 x3 w (ix2 r ⟨0 + n.val, by omega⟩)) (fun n => g (ix2 0 n)) c := by
  unfold k0_pay6 Cert.Lin.rms
  pointwise

/-- One entry of the second block: the last 128 products, rotated. -/
theorem pay1_apply (y : FVec Ideal S1024x640 .f32) (tc t1 t2 : FVec Ideal S1024x128 .f32) (r : Fin 1024) (e : Fin 128) :
    k0_pay1 (F := Ideal) y (k0_pay3 tc) (k0_pay4 t1) (k0_pay5 t2) (ix2 r e)
      = Cert.Lin.turn (fun l => y (ix2 r ⟨512 + l.val, by omega⟩)) (fun l => tc (ix2 r l)) (fun l => t1 (ix2 r l)) (fun l => t2 (ix2 r l)) e := by
  unfold k0_pay1 k0_pay3 k0_pay4 k0_pay5 Cert.Lin.turn
  pointwise

/-- Where each window's block lies at a grid point (block of rows). -/
theorem idx_facts : ∀ t : Fin cfg0.N,
    win0_0.index t (0 : Fin 2) = (grid0.coords t 0).val ∧ win0_0.index t (1 : Fin 2) = 0
    ∧ win0_1.index t (0 : Fin 2) = (grid0.coords t 0).val ∧ win0_1.index t (1 : Fin 2) = 1
    ∧ win0_2.index t (0 : Fin 2) = (grid0.coords t 0).val ∧ win0_2.index t (1 : Fin 2) = 2
    ∧ win0_3.index t (0 : Fin 2) = (grid0.coords t 0).val ∧ win0_3.index t (1 : Fin 2) = 3
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = (grid0.coords t 0).val ∧ win0_6.index t (1 : Fin 2) = 0
    ∧ win0_7.index t (0 : Fin 2) = (grid0.coords t 0).val ∧ win0_7.index t (1 : Fin 2) = 0
    ∧ win0_8.index t (0 : Fin 2) = (grid0.coords t 0).val ∧ win0_8.index t (1 : Fin 2) = 0
    ∧ win0_9.index t (0 : Fin 2) = (grid0.coords t 0).val ∧ win0_9.index t (1 : Fin 2) = 0
    ∧ win0_10.index t (0 : Fin 2) = (grid0.coords t 0).val ∧ win0_10.index t (1 : Fin 2) = 0 :=
  (by decide +kernel : ∀ t : Fin grid0.N,
    win0_0.index t (0 : Fin 2) = (grid0.coords t 0).val ∧ win0_0.index t (1 : Fin 2) = 0
    ∧ win0_1.index t (0 : Fin 2) = (grid0.coords t 0).val ∧ win0_1.index t (1 : Fin 2) = 1
    ∧ win0_2.index t (0 : Fin 2) = (grid0.coords t 0).val ∧ win0_2.index t (1 : Fin 2) = 2
    ∧ win0_3.index t (0 : Fin 2) = (grid0.coords t 0).val ∧ win0_3.index t (1 : Fin 2) = 3
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = (grid0.coords t 0).val ∧ win0_6.index t (1 : Fin 2) = 0
    ∧ win0_7.index t (0 : Fin 2) = (grid0.coords t 0).val ∧ win0_7.index t (1 : Fin 2) = 0
    ∧ win0_8.index t (0 : Fin 2) = (grid0.coords t 0).val ∧ win0_8.index t (1 : Fin 2) = 0
    ∧ win0_9.index t (0 : Fin 2) = (grid0.coords t 0).val ∧ win0_9.index t (1 : Fin 2) = 0
    ∧ win0_10.index t (0 : Fin 2) = (grid0.coords t 0).val ∧ win0_10.index t (1 : Fin 2) = 0)

/-- Every block of rows has its grid point. -/
theorem exists_point : ∀ i : Fin 8, ∃ t : Fin cfg0.N, (grid0.coords t 0).val = i.val :=
  (by decide +kernel : ∀ i : Fin 8, ∃ t : Fin grid0.N, (grid0.coords t 0).val = i.val)

variable (m : (ℓ : Loc nD τ sig) → Buf (Elt Ideal) ℓ) (c : Dev nD)

/-- The first quarter of the rows' block. -/
theorem iblk0_apply (t : Fin cfg0.N) (r : Fin 1024) (d : Fin 512) (R : Fin 8192) (D : Fin 2048)
    (hR : R.val = 1024 * (grid0.coords t 0).val + r.val) (hD : D.val = d.val) : iblk m c 0 t (ix2 r d) = V m c main_v33 (ix2 R D) := by
  obtain ⟨h0, h1, -⟩ := idx_facts t
  unfold iblk
  blk_ext [h0, h1]

/-- The second quarter of the rows' block. -/
theorem iblk1_apply (t : Fin cfg0.N) (r : Fin 1024) (d : Fin 512) (R : Fin 8192) (D : Fin 2048)
    (hR : R.val = 1024 * (grid0.coords t 0).val + r.val) (hD : D.val = 512 + d.val) : iblk m c 1 t (ix2 r d) = V m c main_v33 (ix2 R D) := by
  obtain ⟨-, -, h0, h1, -⟩ := idx_facts t
  unfold iblk
  blk_ext [h0, h1]

/-- The third quarter of the rows' block. -/
theorem iblk2_apply (t : Fin cfg0.N) (r : Fin 1024) (d : Fin 512) (R : Fin 8192) (D : Fin 2048)
    (hR : R.val = 1024 * (grid0.coords t 0).val + r.val) (hD : D.val = 1024 + d.val) : iblk m c 2 t (ix2 r d) = V m c main_v33 (ix2 R D) := by
  obtain ⟨-, -, -, -, h0, h1, -⟩ := idx_facts t
  unfold iblk
  blk_ext [h0, h1]

/-- The fourth quarter of the rows' block. -/
theorem iblk3_apply (t : Fin cfg0.N) (r : Fin 1024) (d : Fin 512) (R : Fin 8192) (D : Fin 2048)
    (hR : R.val = 1024 * (grid0.coords t 0).val + r.val) (hD : D.val = 1536 + d.val) : iblk m c 3 t (ix2 r d) = V m c main_v33 (ix2 R D) := by
  obtain ⟨-, -, -, -, -, -, h0, h1, -⟩ := idx_facts t
  unfold iblk
  blk_ext [h0, h1]

/-- The weights: one block. -/
theorem iblk4_apply (t : Fin cfg0.N) (k : Fin 2048) (d : Fin 640) : iblk m c 4 t (ix2 k d) = V m c main_v31 (ix2 k d) := by
  obtain ⟨-, -, -, -, -, -, -, -, h0, h1, -⟩ := idx_facts t
  unfold iblk
  blk_ext [h0, h1]

/-- The gains: one block. -/
theorem iblk5_apply (t : Fin cfg0.N) (k : Fin 1) (d : Fin 512) : iblk m c 5 t (ix2 k d) = V m c main_v34 (ix2 k d) := by
  obtain ⟨-, -, -, -, -, -, -, -, -, -, h0, h1, -⟩ := idx_facts t
  unfold iblk
  blk_ext [h0, h1]

/-- The block of the cosines. -/
theorem iblk6_apply (t : Fin cfg0.N) (r : Fin 1024) (e : Fin 128) (R : Fin 8192)
    (hR : R.val = 1024 * (grid0.coords t 0).val + r.val) : iblk m c 6 t (ix2 r e) = V m c main_v19 (ix2 R e) := by
  obtain ⟨-, -, -, -, -, -, -, -, -, -, -, -, h0, h1, -⟩ := idx_facts t
  unfold iblk
  blk_ext [h0, h1]

/-- The block of the sines of the first half. -/
theorem iblk7_apply (t : Fin cfg0.N) (r : Fin 1024) (e : Fin 128) (R : Fin 8192)
    (hR : R.val = 1024 * (grid0.coords t 0).val + r.val) : iblk m c 7 t (ix2 r e) = V m c main_v23 (ix2 R e) := by
  obtain ⟨-, -, -, -, -, -, -, -, -, -, -, -, -, -, h0, h1, -⟩ := idx_facts t
  unfold iblk
  blk_ext [h0, h1]

/-- The block of the sines of the second half. -/
theorem iblk8_apply (t : Fin cfg0.N) (r : Fin 1024) (e : Fin 128) (R : Fin 8192)
    (hR : R.val = 1024 * (grid0.coords t 0).val + r.val) : iblk m c 8 t (ix2 r e) = V m c main_v29 (ix2 R e) := by
  obtain ⟨-, -, -, -, -, -, -, -, -, -, -, -, -, -, -, -, h0, h1, -⟩ := idx_facts t
  unfold iblk
  blk_ext [h0, h1]

/-- One entry of the first array the call leaves, as the entry of the block that was written there. -/
theorem arr9_block (t : Fin cfg0.N) (r : Fin 1024) (d : Fin 512) (R : Fin 8192)
    (hR : R.val = 1024 * (grid0.coords t 0).val + r.val) :
    (dats m 0 c).arrAt 9 cfg0.N (ix2 R d) = out0_9 (iblk m c 0 t) (iblk m c 1 t) (iblk m c 2 t) (iblk m c 3 t) (iblk m c 4 t) (iblk m c 5 t) (iblk m c 6 t) (iblk m c 7 t) (iblk m c 8 t) (ix2 r d) := by
  obtain ⟨-, -, -, -, -, -, -, -, -, -, -, -, -, -, -, -, -, -, h0, h1, -⟩ := idx_facts t
  have hb := congrFun (Cert.Kernel10Ideal.Value.blocks9 m c t (flush0_9 t)) (ix2 r d)
  rw [Cert.Kernel10Ideal.Value.flushed9] at hb
  refine Eq.trans ?_ (hb.trans ?_)
  · blk_ext [h0, h1]
  · blk_ext [h0, h1]

/-- One entry of the second array the call leaves, as the entry of the block that was written there. -/
theorem arr10_block (t : Fin cfg0.N) (r : Fin 1024) (d : Fin 128) (R : Fin 8192)
    (hR : R.val = 1024 * (grid0.coords t 0).val + r.val) :
    (dats m 0 c).arrAt 10 cfg0.N (ix2 R d) = out0_10 (iblk m c 0 t) (iblk m c 1 t) (iblk m c 2 t) (iblk m c 3 t) (iblk m c 4 t) (iblk m c 5 t) (iblk m c 6 t) (iblk m c 7 t) (iblk m c 8 t) (ix2 r d) := by
  obtain ⟨-, -, -, -, -, -, -, -, -, -, -, -, -, -, -, -, -, -, -, -, h0, h1⟩ := idx_facts t
  have hb := congrFun (Cert.Kernel10Ideal.Value.blocks10 m c t (flush0_10 t)) (ix2 r d)
  rw [Cert.Kernel10Ideal.Value.flushed10] at hb
  refine Eq.trans ?_ (hb.trans ?_)
  · blk_ext [h0, h1]
  · blk_ext [h0, h1]

/-- The rows as the call takes them: the activations, flattened. -/
def rows (a : FVec Ideal S2x4096x2048 .f32) : FVec Ideal S8192x2048 .bf16 :=
  truncf .bf16 (shapeCast S8192x2048 a shapeCasts_S2x4096x2048_S8192x2048) bitsLt_bf16_f32

/-- The weights, and 64 zero columns. -/
def padded (a : FVec Ideal S2048x576 .f32) : FVec Ideal S2048x640 .f32 :=
  pad S2048x640 ![0, 0] ![0, 64] ![0, 0] a
    (sitofp (F := Ideal) .f32 (constantI S_ 32 0#32)) pads_S2048x576_S2048x640_000_0640 h_S_

/-- The weights as the call takes them. -/
def wts (a : FVec Ideal S2048x576 .f32) : FVec Ideal S2048x640 .bf16 := truncf .bf16 (padded a) bitsLt_bf16_f32

/-- The gains as the call takes them. -/
def gains (a : FVec Ideal S512 .f32) : FVec Ideal S1x512 .f32 := shapeCast S1x512 a shapeCasts_S512_S1x512

/-- The first four windows' array is the rows. -/
theorem v33_eq : V m c main_v33 = rows (m (c, Proc.tc.devRef main_arg0)) := by
  dsimp only [V, hostOps0, hostOps0_1, hostOps0_2, hostOps0_3, hostOps0_4, hostOps0_5, hostOps0_6, hostOps0_7, hostOps0_8, List.flatten_cons, List.flatten_nil, List.append_nil, List.cons_append, List.nil_append]
  after_results
  rfl

/-- The fifth window's array is the weights. -/
theorem v31_eq : V m c main_v31 = wts (m (c, Proc.tc.devRef main_arg2)) := by
  dsimp only [V, hostOps0, hostOps0_1, hostOps0_2, hostOps0_3, hostOps0_4, hostOps0_5, hostOps0_6, hostOps0_7, hostOps0_8, List.flatten_cons, List.flatten_nil, List.append_nil, List.cons_append, List.nil_append]
  after_results
  rfl

/-- The sixth window's array is the gains. -/
theorem v34_eq : V m c main_v34 = gains (m (c, Proc.tc.devRef main_arg3)) := by
  dsimp only [V, hostOps0, hostOps0_1, hostOps0_2, hostOps0_3, hostOps0_4, hostOps0_5, hostOps0_6, hostOps0_7, hostOps0_8, List.flatten_cons, List.flatten_nil, List.append_nil, List.cons_append, List.nil_append]
  after_results
  rfl

/-- One entry of a row. -/
theorem rows_apply (a) (R : Fin 8192) (D : Fin 2048) : rows a (ix2 R D) = a (ix3 ⟨R.val / 4096, by omega⟩ ⟨R.val % 4096, by omega⟩ D) := by
  unfold rows
  pointwise

/-- One gain. -/
theorem gains_apply (a) (n : Fin 512) : gains a (ix2 0 n) = a (ix1 n) := by
  unfold gains
  pointwise

/-- The weights, and zeros past them. -/
def padE (a : FVec Ideal S2048x576 .f32) (k : Fin 2048) (D : Fin 640) : EReal :=
  if h : D.val < 576 then a (ix2 k ⟨D.val, h⟩) else 0

/-- One entry of the padded weights. -/
theorem padded_apply (a) (k : Fin 2048) (D : Fin 640) : padded a (ix2 k D) = padE a k D := by
  unfold padded padE
  by_cases h : D.val < 576
  · rw [dif_pos h]
    refine pad_apply_of_inside ![0, 0] ![0, 64] ![0, 0] _ _ pads_S2048x576_S2048x640_000_0640 h_S_ (ix2 k D) (ix2 k (⟨D.val, h⟩ : Fin 576)) ?_
    intro b
    fin_cases b <;> simp
  · rw [dif_neg h]
    refine (pad_apply_of_not_inside (s := S2048x576) (t := S2048x640) ![0, 0] ![0, 64] ![0, 0] _ _ pads_S2048x576_S2048x640_000_0640 h_S_ (ix2 k D) 1 ?_).trans ?_
    · simp
      omega
    · show FloatOps.sitofp (F := Ideal) .f32 (0#32) = (0 : EReal)
      simp [FloatOps.sitofp]

/-- One entry of the weights. -/
theorem wts_apply (a) (k : Fin 2048) (D : Fin 640) : wts a (ix2 k D) = padE a k D := padded_apply a k D

/-- One row of the activations times one column of the padded weights. -/
def prod (a : FVec Ideal S2x4096x2048 .f32) (w : FVec Ideal S2048x576 .f32) (R : Fin 8192) (D : Fin 640) : EReal :=
  ∑ k : Fin 2048, a (ix3 ⟨R.val / 4096, by omega⟩ ⟨R.val % 4096, by omega⟩ k) * padE w k D

/-- A product at a grid point. -/
theorem blk_apply (t : Fin cfg0.N) (r : Fin 1024) (R : Fin 8192) (hr : R.val = 1024 * (grid0.coords t 0).val + r.val) (D : Fin 640) :
    k0_pay2 (F := Ideal) (iblk m c 0 t) (iblk m c 1 t) (iblk m c 2 t) (iblk m c 3 t) (iblk m c 4 t) (ix2 r D)
      = prod (m (c, Proc.tc.devRef main_arg0)) (m (c, Proc.tc.devRef main_arg2)) R D := by
  refine (pay2_apply _ _ _ _ _ _ _).trans (Finset.sum_congr rfl fun k _ => congrArg₂ (· * ·) ?_ ?_)
  · refine (Cert.Lin.join_eq (fun k => rows (m (c, Proc.tc.devRef main_arg0)) (ix2 R k)) _ _ _ _
      (fun d => ?_) (fun d => ?_) (fun d => ?_) (fun d => ?_) k).trans (rows_apply _ _ _)
    · exact (iblk0_apply m c t _ d R ⟨d.val, by omega⟩ hr rfl).trans (congrFun (v33_eq m c) _)
    · exact (iblk1_apply m c t _ d R ⟨512 + d.val, by omega⟩ hr rfl).trans (congrFun (v33_eq m c) _)
    · exact (iblk2_apply m c t _ d R ⟨1024 + d.val, by omega⟩ hr rfl).trans (congrFun (v33_eq m c) _)
    · exact (iblk3_apply m c t _ d R ⟨1536 + d.val, by omega⟩ hr rfl).trans (congrFun (v33_eq m c) _)
  · exact ((iblk4_apply m c t k _).trans (congrFun (v31_eq m c) _)).trans (wts_apply _ _ _)

/-- One entry of the latent: the first 512 products, over the root of their mean square, with the gains. -/
def spec (a : FVec Ideal S2x4096x2048 .f32) (w : FVec Ideal S2048x576 .f32) (g : FVec Ideal S512 .f32) (R : Fin 8192) (D : Fin 512) : EReal :=
  Cert.Lin.rms (fun n => prod a w R ⟨0 + n.val, by omega⟩) (fun n => g (ix1 n)) D

/-- One entry of the shared key: the last products, rotated. -/
def spec2 (a : FVec Ideal S2x4096x2048 .f32) (p : (⟨S2x4096, .i32⟩ : BufTy).Contents (Elt Ideal)) (w : FVec Ideal S2048x576 .f32)
    (R : Fin 8192) (D : Fin 128) : EReal :=
  Cert.Lin.rot (fun l => prod a w R ⟨512 + l.val, by omega⟩) (cosE p R) (sinE p R) D

/-- WHAT THE CALL LEAVES in the first array: the latent. -/
theorem arr9_apply (R : Fin 8192) (D : Fin 512) :
    (dats m 0 c).arrAt 9 cfg0.N (ix2 R D) = spec (m (c, Proc.tc.devRef main_arg0)) (m (c, Proc.tc.devRef main_arg2)) (m (c, Proc.tc.devRef main_arg3)) R D := by
  obtain ⟨t, hi⟩ := exists_point ⟨R.val / 1024, by omega⟩
  dsimp only at hi
  have hr : R.val = 1024 * (grid0.coords t 0).val + R.val % 1024 := by omega
  rw [arr9_block m c t ⟨R.val % 1024, by omega⟩ D R hr]
  unfold out0_9
  rw [View.canon_unit_zero, View.ld_unit_zero, View.ld_unit_zero, View.ld_unit_zero, View.ld_unit_zero, View.ld_unit_zero, View.ld_unit_zero]
  refine (pay6_apply _ _ _ _ _ _ _ _).trans ?_
  · refine congrFun (congr (congrArg Cert.Lin.rms ?_) ?_) D
    · funext n
      exact blk_apply m c t _ R hr _
    · funext n
      exact ((iblk5_apply m c t 0 n).trans (congrFun (v34_eq m c) _)).trans (gains_apply _ n)
  all_goals exact Cert.Lin.origin

/-- WHAT THE CALL LEAVES in the second array: the shared key, rotated. -/
theorem arr10_apply (R : Fin 8192) (D : Fin 128) :
    (dats m 0 c).arrAt 10 cfg0.N (ix2 R D) = spec2 (m (c, Proc.tc.devRef main_arg0)) (m (c, Proc.tc.devRef main_arg1)) (m (c, Proc.tc.devRef main_arg2)) R D := by
  obtain ⟨t, hi⟩ := exists_point ⟨R.val / 1024, by omega⟩
  dsimp only at hi
  have hr : R.val = 1024 * (grid0.coords t 0).val + R.val % 1024 := by omega
  rw [arr10_block m c t ⟨R.val % 1024, by omega⟩ D R hr]
  unfold out0_10
  rw [View.canon_unit_zero, View.ld_unit_zero, View.ld_unit_zero, View.ld_unit_zero, View.ld_unit_zero, View.ld_unit_zero, View.ld_unit_zero, View.ld_unit_zero, View.ld_unit_zero]
  refine (pay1_apply _ _ _ _ _ _).trans ((Cert.Lin.turn_eq _ _ _ _ (cosE (m (c, Proc.tc.devRef main_arg1)) R) (sinE (m (c, Proc.tc.devRef main_arg1)) R) _ ?_ ?_ ?_).trans ?_)
  · exact (iblk6_apply m c t ⟨R.val % 1024, by omega⟩ D R hr).trans ((congrFun (v19_eq m c) _).trans (tC_apply _ R D))
  · exact (iblk7_apply m c t ⟨R.val % 1024, by omega⟩ D R hr).trans ((congrFun (v23_eq m c) _).trans (tS1_apply _ R D))
  · exact (iblk8_apply m c t ⟨R.val % 1024, by omega⟩ D R hr).trans ((congrFun (v29_eq m c) _).trans (tS2_apply _ R D))
  · exact congrArg (fun y => Cert.Lin.rot y _ _ _) (funext fun l => blk_apply m c t _ R hr _)
  all_goals exact Cert.Lin.origin

end Cert.Kv
-- ==== Proof.Lin.KvRef.lean ====
module
public import proofs.«01_k».proof.Proof.Gen.Reference10Ideal.Read
public import proofs.«01_k».proof.Proof.Lin.KvBlock
@[expose] public section
set_option maxRecDepth 16384
noncomputable section
namespace Cert.Kv
open Idealize.ShloMosaic Cert.Reference10Ideal Cert.Reference10Ideal.Gen Cert.Reference10Ideal.Read Idealize.SL.Sem

variable (a : FVec Ideal S2x4096x2048 .f32) (p : (⟨S2x4096, .i32⟩ : BufTy).Contents (Elt Ideal)) (w : FVec Ideal S2048x576 .f32)

/-- The reference's frequencies. -/
theorem v22_eq : val_main_v22 (F := Ideal) = freq := rfl

/-- The reference's products, one entry. -/
theorem v0_apply (R : Fin 8192) (D : Fin 576) (D' : Fin 640) (hD : D.val = D'.val) :
    val_main_v0 (F := Ideal) a w (ix3 ⟨R.val / 4096, by omega⟩ ⟨R.val % 4096, by omega⟩ D) = prod a w R D' := by
  have e : D = ⟨D'.val, by omega⟩ := Fin.ext hD
  have e2 : ∀ k : Fin 2048, padE w k D' = w (ix2 k D) := fun k => by
    rw [e]
    exact dif_pos _
  unfold val_main_v0 prod
  simp only [e2]
  pointwise

/-- The angles, one entry. -/
theorem v28_apply (R : Fin 8192) (e : Fin 32) : val_main_v28 (F := Ideal) p (ix3 ⟨R.val / 4096, by omega⟩ ⟨R.val % 4096, by omega⟩ e) = angE p R e := by
  unfold val_main_v28 val_main_v26 val_main_v27 val_main_v24 val_main_v25 val_main_v23 angE
  rw [v22_eq]
  pointwise

/-- The cosines, one entry. -/
theorem v29_apply (R : Fin 8192) (e : Fin 32) : val_main_v29 (F := Ideal) p (ix3 ⟨R.val / 4096, by omega⟩ ⟨R.val % 4096, by omega⟩ e) = cosE p R e :=
  congrArg (FloatOps.hostUnary (F := Ideal) (φ := .f32) .cos) (v28_apply p R e)

/-- The sines, one entry. -/
theorem v31_apply (R : Fin 8192) (e : Fin 32) : val_main_v31 (F := Ideal) p (ix3 ⟨R.val / 4096, by omega⟩ ⟨R.val % 4096, by omega⟩ e) = sinE p R e :=
  congrArg (FloatOps.hostUnary (F := Ideal) (φ := .f32) .sin) (v28_apply p R e)

/-- The reference's latent, one entry, over its products. -/
theorem v45_apply (g : FVec Ideal S512 .f32) (R : Fin 8192) (D : Fin 512) :
    val_main_v45 (F := Ideal) a w g (ix2 R D)
      = Cert.Lin.rms (fun n => val_main_v0 (F := Ideal) a w (ix3 ⟨R.val / 4096, by omega⟩ ⟨R.val % 4096, by omega⟩ ⟨0 + n.val, by omega⟩)) (fun n => g (ix1 n)) D := by
  unfold val_main_v45 val_main_v44 val_main_v14 val_main_v13 val_main_v12 val_main_v11 val_main_v10 val_main_v9 val_main_v8 val_main_v7 val_main_v6 val_main_v5 val_main_v4 val_main_v3 val_main_v2 val_main_v1 val_main_cst val_main_cst_0 val_main_cst_1 Cert.Lin.rms
  pointwise

/-- The reference's latent, one entry. -/
theorem ref_apply (g : FVec Ideal S512 .f32) (R : Fin 8192) (D : Fin 512) :
    val_main_v45 (F := Ideal) a w g (ix2 R D) = spec a w g R D :=
  (v45_apply a w g R D).trans (congrFun (congrFun (congrArg Cert.Lin.rms (funext fun n => v0_apply a w R _ _ rfl)) _) D)

/-- The reference's shared key, one entry. -/
theorem ref2_apply (R : Fin 8192) (D : Fin 128) :
    val_main_v48 (F := Ideal) a p w (ix2 R D) = spec2 a p w R D := by
  unfold val_main_v48 val_main_v47 val_main_v46 val_main_v43 val_main_v42 val_main_v41 val_main_v40 val_main_v39 val_main_v38 val_main_v37 val_main_v36 val_main_v35 val_main_v34 val_main_v33 val_main_v32 val_main_v30 val_main_v16 val_main_v15 val_main_cst_4 spec2
  pointwise
  simp only [v29_apply, v31_apply]
  refine Eq.trans ?_ (Cert.Lin.rot_alt _ _ _ D)
  refine dite_congr rfl (fun h6 => dite_congr rfl (fun h3 => ?_) (fun h3 => ?_)) (fun _ => rfl)
  · refine congrArg₂ HSub.hSub (congrArg (· * _) ?_) (congrArg (· * _) ?_)
    · exact v0_apply a w R _ ⟨512 + D.val, by omega⟩ rfl
    · exact v0_apply a w R _ ⟨512 + (D.val + 32), by omega⟩ (by dsimp only; omega)
  · refine congrArg₂ HAdd.hAdd (congrArg (· * _) ?_) (congrArg (· * _) ?_)
    · exact v0_apply a w R _ ⟨512 + D.val, by omega⟩ (by dsimp only; omega)
    · exact v0_apply a w R _ ⟨512 + (D.val - 32), by omega⟩ rfl

end Cert.Kv
-- ==== Proof.Lin.KvClaim.lean ====
module
public import proofs.«01_k».proof.Defs
public import proofs.«01_k».proof.Proof.Gen.Kernel10Ideal.Value
public import proofs.«01_k».proof.Proof.Gen.Reference10Ideal.Run
public import proofs.«01_k».proof.Proof.Lin.KvRef
public import Idealize.ShloMosaic.Adequacy
public import Idealize.ShloMosaic.Init
@[expose] public section
noncomputable section
namespace Cert.Kv
open Idealize.ShloMosaic Idealize.SL.Sem

/-- The reference of the latent and the shared key of the latent attention ends with its arguments unchanged and every counter at zero. -/
theorem frame_ref (m : (ℓ : Loc Cert.Reference10Ideal.nD Cert.Reference10Ideal.τ Cert.Reference10Ideal.sig) → Buf (Elt Ideal) ℓ) (g : Dev Cert.Reference10Ideal.nD → PrngReg) :
    θ_run (Cert.Reference10Ideal.defs (F := Ideal)) (onTc (τ := Cert.Reference10Ideal.τ) (Cert.Reference10Ideal.main (F := Ideal))) ⟨m, fun _ => 0, g⟩
      (fun r => (∀ c : Dev Cert.Reference10Ideal.nD,
        r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
        ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
        ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
        ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3))
        ∧ r.2.sem = fun _ => 0) :=
  (θ_run Cert.Reference10Ideal.defs _ _).mono
    (fun r h => ⟨fun c => (h c).2.2, sem_eq_zero_of_no_sems (by decide) r.2⟩)
    (Cert.Reference10Ideal.Value.run m g)

/-- The first array of the latent and the shared key of the latent attention is the reference's. -/
theorem arr9_eq (m : (ℓ : Loc Cert.Kernel10Ideal.nD Cert.Kernel10Ideal.τ Cert.Kernel10Ideal.sig) → Buf (Elt Ideal) ℓ) (c : Dev Cert.Kernel10Ideal.nD) :
    (Cert.Kernel10Ideal.Gen.dats m 0 c).arrAt 9 Cert.Kernel10Ideal.cfg0.N = Cert.Reference10Ideal.Read.val_main_v45 (F := Ideal) (m (c, Proc.tc.devRef Cert.Kernel10Ideal.main_arg0)) (m (c, Proc.tc.devRef Cert.Kernel10Ideal.main_arg2)) (m (c, Proc.tc.devRef Cert.Kernel10Ideal.main_arg3)) := by
  funext i
  have e : i = ix2 (⟨(i 0).val, (i 0).isLt⟩ : Fin 8192) (⟨(i 1).val, (i 1).isLt⟩ : Fin 512) := by
    funext a
    match a with
    | ⟨0, _⟩ => rfl
    | ⟨1, _⟩ => rfl
  rw [e]
  exact (arr9_apply m c _ _).trans (ref_apply _ _ _ _ _).symm

/-- The second array of the latent and the shared key of the latent attention is the reference's. -/
theorem arr10_eq (m : (ℓ : Loc Cert.Kernel10Ideal.nD Cert.Kernel10Ideal.τ Cert.Kernel10Ideal.sig) → Buf (Elt Ideal) ℓ) (c : Dev Cert.Kernel10Ideal.nD) :
    (Cert.Kernel10Ideal.Gen.dats m 0 c).arrAt 10 Cert.Kernel10Ideal.cfg0.N = Cert.Reference10Ideal.Read.val_main_v48 (F := Ideal) (m (c, Proc.tc.devRef Cert.Kernel10Ideal.main_arg0)) (m (c, Proc.tc.devRef Cert.Kernel10Ideal.main_arg1)) (m (c, Proc.tc.devRef Cert.Kernel10Ideal.main_arg2)) := by
  funext i
  have e : i = ix2 (⟨(i 0).val, (i 0).isLt⟩ : Fin 8192) (⟨(i 1).val, (i 1).isLt⟩ : Fin 128) := by
    funext a
    match a with
    | ⟨0, _⟩ => rfl
    | ⟨1, _⟩ => rfl
  rw [e]
  exact (arr10_apply m c _ _).trans (ref2_apply _ _ _ _ _).symm

/-- Kernel and reference of the latent and the shared key of the latent attention compute one function. -/
theorem algebraic : Cert.algebraic_Kernel10Ideal_Reference10Ideal (hKernel10Ideal := Cert.Kernel10Ideal.Gen.facts)
    (hReference10Ideal := Cert.Reference10Ideal.Gen.facts) := by
  intro m g m' g' _ hargs
  refine ⟨fun c => (Cert.Kernel10Ideal.Gen.dats m 0 c).arrAt 9 Cert.Kernel10Ideal.cfg0.N, fun c => (Cert.Kernel10Ideal.Gen.dats m 0 c).arrAt 10 Cert.Kernel10Ideal.cfg0.N, Cert.Kernel10Ideal.Value.run_blocks m g, ?_⟩
  refine (θ_run Cert.Reference10Ideal.defs _ _).mono (fun r h c => ⟨(h c).1.trans ?_, (h c).2.1.trans ?_, (h c).2.2⟩) (Cert.Reference10Ideal.Value.run m' g')
  · obtain ⟨e0, e1, e2, e3⟩ := hargs c
    rw [Cert.Reference10Ideal.Read.val_main_v45_eq, e0, e2, e3]
    exact (arr9_eq m c).symm
  · obtain ⟨e0, e1, e2, e3⟩ := hargs c
    rw [Cert.Reference10Ideal.Read.val_main_v48_eq, e0, e1, e2]
    exact (arr10_eq m c).symm

end Cert.Kv
-- ==== Proof.Lin.KuBlock.lean ====
module
public import proofs.«01_k».proof.Proof.Gen.Kernel11Ideal.Value
public import proofs.«01_k».proof.Proof.Lin.Join
public import Idealize.ShloMosaic.Lib.KernelVsHost
public import Idealize.ShloMosaic.Lib.Pipeline.ValueKit
public import Idealize.ShloMosaic.Lib.Pointwise
@[expose] public section
set_option maxRecDepth 16384
noncomputable section
namespace Cert.Ku
open Idealize.ShloMosaic Cert.Kernel11Ideal Cert.Kernel11Ideal.Gen Idealize.SL.Sem

/-- A row of the latent times a column of the weights. -/
theorem pay1_apply (x : FVec Ideal S1024x512 .bf16) (w : FVec Ideal S512x256 .bf16) (r : Fin 1024) (c : Fin 256) :
    k0_pay1 (F := Ideal) x w (ix2 r c) = ∑ k : Fin 512, x (ix2 r k) * w (ix2 k c) := by
  unfold k0_pay1
  pointwise

/-- The first head's columns. -/
theorem pay3_apply (x : FVec Ideal S1024x512 .bf16) (w : FVec Ideal S512x256 .bf16) (r : Fin 1024) (e : Fin 128) :
    k0_pay3 (F := Ideal) x w (ix2 r e) = k0_pay1 (F := Ideal) x w (ix2 r ⟨0 + e.val, by omega⟩) := by
  unfold k0_pay3
  pointwise

/-- The second head's columns. -/
theorem pay4_apply (x : FVec Ideal S1024x512 .bf16) (w : FVec Ideal S512x256 .bf16) (r : Fin 1024) (e : Fin 128) :
    k0_pay4 (F := Ideal) x w (ix2 r e) = k0_pay1 (F := Ideal) x w (ix2 r ⟨128 + e.val, by omega⟩) := by
  unfold k0_pay4
  pointwise

/-- The shared key's columns. -/
theorem pay2_apply (kr : FVec Ideal S1024x128 .bf16) (r : Fin 1024) (e : Fin 128) : k0_pay2 (F := Ideal) kr (ix2 r e) = kr (ix2 r e) := by
  unfold k0_pay2
  pointwise

/-- The first quarter of the columns that a grid point stores: the first head. -/
theorem out0 (x : FVec Ideal S1024x512 .bf16) (w : FVec Ideal S512x256 .bf16) (kr : FVec Ideal S1024x128 .bf16) (r : Fin 1024) (e : Fin 128) :
    out0_3 (F := Ideal) x w kr (ix2 r ⟨0 + e.val, by omega⟩) = k0_pay1 (F := Ideal) x w (ix2 r ⟨0 + e.val, by omega⟩) := by
  refine Eq.trans ?_ (pay3_apply x w r e)
  unfold out0_3
  rw [View.ld_unit_zero, View.ld_unit_zero, View.ld_unit_zero]
  rw [View.canon_cons_of_not_mem, View.canon_cons_of_not_mem, View.canon_cons_of_not_mem, show (ix2 r (⟨0 + e.val, by omega⟩ : Fin 512)) = (Rect.unit (s := S1024x512) ![0, 0] S1024x128.size inb_S1024x512_S1024x128_0_0).emb (ix2 r e) from ?_, View.canon_cons_emb]
  · funext a
    fin_cases a <;> exact Fin.ext (by simp [Rect.emb_apply])
  all_goals first
    | exact Cert.Lin.origin
    | (rw [Rect.mem_set_unit]
       intro h
       have h := (h 1).1
       simp at h
       omega)

/-- The second quarter: the shared key. -/
theorem out1 (x : FVec Ideal S1024x512 .bf16) (w : FVec Ideal S512x256 .bf16) (kr : FVec Ideal S1024x128 .bf16) (r : Fin 1024) (e : Fin 128) :
    out0_3 (F := Ideal) x w kr (ix2 r ⟨128 + e.val, by omega⟩) = kr (ix2 r e) := by
  refine Eq.trans ?_ (pay2_apply kr r e)
  unfold out0_3
  rw [View.ld_unit_zero, View.ld_unit_zero, View.ld_unit_zero]
  rw [View.canon_cons_of_not_mem, View.canon_cons_of_not_mem, show (ix2 r (⟨128 + e.val, by omega⟩ : Fin 512)) = (Rect.unit (s := S1024x512) ![0, 128] S1024x128.size inb_S1024x512_S1024x128_0_128).emb (ix2 r e) from ?_, View.canon_cons_emb]
  · funext a
    fin_cases a <;> exact Fin.ext (by simp [Rect.emb_apply])
  all_goals first
    | exact Cert.Lin.origin
    | (rw [Rect.mem_set_unit]
       intro h
       have h := (h 1).1
       simp at h
       omega)

/-- The third quarter: the second head. -/
theorem out2 (x : FVec Ideal S1024x512 .bf16) (w : FVec Ideal S512x256 .bf16) (kr : FVec Ideal S1024x128 .bf16) (r : Fin 1024) (e : Fin 128) :
    out0_3 (F := Ideal) x w kr (ix2 r ⟨256 + e.val, by omega⟩) = k0_pay1 (F := Ideal) x w (ix2 r ⟨128 + e.val, by omega⟩) := by
  refine Eq.trans ?_ (pay4_apply x w r e)
  unfold out0_3
  rw [View.ld_unit_zero, View.ld_unit_zero, View.ld_unit_zero]
  rw [View.canon_cons_of_not_mem, show (ix2 r (⟨256 + e.val, by omega⟩ : Fin 512)) = (Rect.unit (s := S1024x512) ![0, 256] S1024x128.size inb_S1024x512_S1024x128_0_256).emb (ix2 r e) from ?_, View.canon_cons_emb]
  · funext a
    fin_cases a <;> exact Fin.ext (by simp [Rect.emb_apply])
  all_goals first
    | exact Cert.Lin.origin
    | (rw [Rect.mem_set_unit]
       intro h
       have h := (h 1).1
       simp at h
       omega)

/-- The fourth quarter: the shared key. -/
theorem out3 (x : FVec Ideal S1024x512 .bf16) (w : FVec Ideal S512x256 .bf16) (kr : FVec Ideal S1024x128 .bf16) (r : Fin 1024) (e : Fin 128) :
    out0_3 (F := Ideal) x w kr (ix2 r ⟨384 + e.val, by omega⟩) = kr (ix2 r e) := by
  refine Eq.trans ?_ (pay2_apply kr r e)
  unfold out0_3
  rw [View.ld_unit_zero, View.ld_unit_zero, View.ld_unit_zero]
  rw [show (ix2 r (⟨384 + e.val, by omega⟩ : Fin 512)) = (Rect.unit (s := S1024x512) ![0, 384] S1024x128.size inb_S1024x512_S1024x128_0_384).emb (ix2 r e) from ?_, View.canon_cons_emb]
  · funext a
    fin_cases a <;> exact Fin.ext (by simp [Rect.emb_apply])
  all_goals first
    | exact Cert.Lin.origin
    | (rw [Rect.mem_set_unit]
       intro h
       have h := (h 1).1
       simp at h
       omega)

/-- Where each window's block lies at a grid point (block of rows, block of columns). -/
theorem idx_facts : ∀ t : Fin cfg0.N,
    win0_0.index t (0 : Fin 2) = (grid0.coords t 0).val ∧ win0_0.index t (1 : Fin 2) = 0
    ∧ win0_1.index t (0 : Fin 2) = 0 ∧ win0_1.index t (1 : Fin 2) = (grid0.coords t 1).val
    ∧ win0_2.index t (0 : Fin 2) = (grid0.coords t 0).val ∧ win0_2.index t (1 : Fin 2) = 0
    ∧ win0_3.index t (0 : Fin 2) = (grid0.coords t 0).val ∧ win0_3.index t (1 : Fin 2) = (grid0.coords t 1).val :=
  (by decide +kernel : ∀ t : Fin grid0.N,
    win0_0.index t (0 : Fin 2) = (grid0.coords t 0).val ∧ win0_0.index t (1 : Fin 2) = 0
    ∧ win0_1.index t (0 : Fin 2) = 0 ∧ win0_1.index t (1 : Fin 2) = (grid0.coords t 1).val
    ∧ win0_2.index t (0 : Fin 2) = (grid0.coords t 0).val ∧ win0_2.index t (1 : Fin 2) = 0
    ∧ win0_3.index t (0 : Fin 2) = (grid0.coords t 0).val ∧ win0_3.index t (1 : Fin 2) = (grid0.coords t 1).val)

/-- Every block of rows and block of columns has its grid point. -/
theorem exists_point : ∀ (i : Fin 8) (j : Fin 8), ∃ t : Fin cfg0.N, (grid0.coords t 0).val = i.val ∧ (grid0.coords t 1).val = j.val :=
  (by decide +kernel : ∀ (i : Fin 8) (j : Fin 8), ∃ t : Fin grid0.N, (grid0.coords t 0).val = i.val ∧ (grid0.coords t 1).val = j.val)

variable (m : (ℓ : Loc nD τ sig) → Buf (Elt Ideal) ℓ) (c : Dev nD)

/-- The rows' block. -/
theorem iblk0_apply (t : Fin cfg0.N) (r : Fin 1024) (d : Fin 512) (R : Fin 8192)
    (hR : R.val = 1024 * (grid0.coords t 0).val + r.val) : iblk m c 0 t (ix2 r d) = V m c main_v8 (ix2 R d) := by
  obtain ⟨h0, h1, -⟩ := idx_facts t
  unfold iblk
  blk_ext [h0, h1]

/-- The block of the weights' columns. -/
theorem iblk1_apply (t : Fin cfg0.N) (k : Fin 512) (d : Fin 256) (D : Fin 2048)
    (hD : D.val = 256 * (grid0.coords t 1).val + d.val) : iblk m c 1 t (ix2 k d) = V m c main_v3 (ix2 k D) := by
  obtain ⟨-, -, h0, h1, -⟩ := idx_facts t
  unfold iblk
  blk_ext [h0, h1]

/-- The block of the shared key. -/
theorem iblk2_apply (t : Fin cfg0.N) (r : Fin 1024) (e : Fin 128) (R : Fin 8192)
    (hR : R.val = 1024 * (grid0.coords t 0).val + r.val) : iblk m c 2 t (ix2 r e) = V m c main_v6 (ix2 R e) := by
  obtain ⟨-, -, -, -, h0, h1, -⟩ := idx_facts t
  unfold iblk
  blk_ext [h0, h1]

/-- One entry of the array the call leaves, as the entry of the block that was written there. -/
theorem arr_block (t : Fin cfg0.N) (r : Fin 1024) (d : Fin 512) (R : Fin 8192) (D : Fin 4096)
    (hR : R.val = 1024 * (grid0.coords t 0).val + r.val) (hD : D.val = 512 * (grid0.coords t 1).val + d.val) :
    (dats m 0 c).arrAt 3 cfg0.N (ix2 R D) = out0_3 (iblk m c 0 t) (iblk m c 1 t) (iblk m c 2 t) (ix2 r d) := by
  obtain ⟨-, -, -, -, -, -, h0, h1⟩ := idx_facts t
  have hb := congrFun (Cert.Kernel11Ideal.Value.blocks3 m c t (flush0_3 t)) (ix2 r d)
  rw [Cert.Kernel11Ideal.Value.flushed3] at hb
  refine Eq.trans ?_ (hb.trans ?_)
  · blk_ext [h0, h1]
  · blk_ext [h0, h1]

/-- The rows as the call takes them: the latent, flattened. -/
def rows (a : FVec Ideal S2x4096x512 .f32) : FVec Ideal S8192x512 .bf16 :=
  truncf .bf16 (shapeCast S8192x512 a shapeCasts_S2x4096x512_S8192x512) bitsLt_bf16_f32

/-- The weights as the call takes them: of each head's 256 columns, the first 128. -/
def wts (a : FVec Ideal S512x4096 .f32) : FVec Ideal S512x2048 .bf16 :=
  truncf .bf16 (shapeCast S512x2048 (extractStridedSlice S512x16x128 ![0, 0, 0]
    (shapeCast S512x16x256 a shapeCasts_S512x4096_S512x16x256) slices_S512x16x256_S512x16x128_0_0_0)
    shapeCasts_S512x16x128_S512x2048) bitsLt_bf16_f32

/-- The shared key, flattened, and 64 zero columns. -/
def padded (a : FVec Ideal S2x4096x64 .f32) : FVec Ideal S8192x128 .f32 :=
  pad S8192x128 ![0, 0] ![0, 64] ![0, 0] (shapeCast S8192x64 a shapeCasts_S2x4096x64_S8192x64)
    (sitofp (F := Ideal) .f32 (constantI S_ 32 0#32)) pads_S8192x64_S8192x128_000_0640 h_S_

/-- The shared key as the call takes it. -/
def keys (a : FVec Ideal S2x4096x64 .f32) : FVec Ideal S8192x128 .bf16 := truncf .bf16 (padded a) bitsLt_bf16_f32

/-- The first window's array is the rows. -/
theorem v8_eq : V m c main_v8 = rows (m (c, Proc.tc.devRef main_arg0)) := by
  dsimp only [V, hostOps0, hostOps0_1, hostOps0_2, List.flatten_cons, List.flatten_nil, List.append_nil, List.cons_append, List.nil_append]
  after_results
  rfl

/-- The second window's array is the weights. -/
theorem v3_eq : V m c main_v3 = wts (m (c, Proc.tc.devRef main_arg2)) := by
  dsimp only [V, hostOps0, hostOps0_1, hostOps0_2, List.flatten_cons, List.flatten_nil, List.append_nil, List.cons_append, List.nil_append]
  after_results
  rfl

/-- The third window's array is the shared key. -/
theorem v6_eq : V m c main_v6 = keys (m (c, Proc.tc.devRef main_arg1)) := by
  dsimp only [V, hostOps0, hostOps0_1, hostOps0_2, List.flatten_cons, List.flatten_nil, List.append_nil, List.cons_append, List.nil_append]
  after_results
  rfl

/-- One entry of a row. -/
theorem rows_apply (a) (R : Fin 8192) (D : Fin 512) : rows a (ix2 R D) = a (ix3 ⟨R.val / 4096, by omega⟩ ⟨R.val % 4096, by omega⟩ D) := by
  unfold rows
  pointwise

/-- One entry of the weights. -/
theorem wts_apply (a) (k : Fin 512) (D : Fin 2048) : wts a (ix2 k D) = a (ix2 k ⟨D.val / 128 * 256 + D.val % 128, by omega⟩) := by
  unfold wts
  pointwise

/-- The shared key's row, and zeros past it. -/
def keyE (a : FVec Ideal S2x4096x64 .f32) (R : Fin 8192) (e : Fin 128) : EReal :=
  if h : e.val < 64 then a (ix3 ⟨R.val / 4096, by omega⟩ ⟨R.val % 4096, by omega⟩ ⟨e.val, h⟩) else 0

/-- One entry of the padded shared key. -/
theorem padded_apply (a) (R : Fin 8192) (e : Fin 128) : padded a (ix2 R e) = keyE a R e := by
  unfold padded keyE
  by_cases h : e.val < 64
  · rw [dif_pos h]
    refine (pad_apply_of_inside ![0, 0] ![0, 64] ![0, 0] _ _ pads_S8192x64_S8192x128_000_0640 h_S_ (ix2 R e) (ix2 R (⟨e.val, h⟩ : Fin 64)) ?_).trans ?_
    · intro b
      fin_cases b <;> simp
    · pointwise
  · rw [dif_neg h]
    refine (pad_apply_of_not_inside (s := S8192x64) (t := S8192x128) ![0, 0] ![0, 64] ![0, 0] _ _ pads_S8192x64_S8192x128_000_0640 h_S_ (ix2 R e) 1 ?_).trans ?_
    · simp
      omega
    · show FloatOps.sitofp (F := Ideal) .f32 (0#32) = (0 : EReal)
      simp [FloatOps.sitofp]

/-- One entry of the shared key. -/
theorem keys_apply (a) (R : Fin 8192) (e : Fin 128) : keys a (ix2 R e) = keyE a R e := padded_apply a R e

/-- One row of the latent times one column of the weights. -/
def prod (a : FVec Ideal S2x4096x512 .f32) (w : FVec Ideal S512x4096 .f32) (R : Fin 8192) (D : Fin 4096) : EReal :=
  ∑ k : Fin 512, a (ix3 ⟨R.val / 4096, by omega⟩ ⟨R.val % 4096, by omega⟩ k) * w (ix2 k D)

/-- One entry of the keys: 128 columns of products, then the shared key. -/
def spec (a : FVec Ideal S2x4096x512 .f32) (p : FVec Ideal S2x4096x64 .f32) (w : FVec Ideal S512x4096 .f32) (R : Fin 8192) (D : Fin 4096) : EReal :=
  if D.val % 256 < 128 then prod a w R D else keyE p R ⟨D.val % 256 - 128, by omega⟩

/-- A product at a grid point. -/
theorem blk_apply (t : Fin cfg0.N) (r : Fin 1024) (d : Fin 256) (R : Fin 8192) (D : Fin 4096)
    (hR : R.val = 1024 * (grid0.coords t 0).val + r.val)
    (hD : D.val = 512 * (grid0.coords t 1).val + d.val / 128 * 256 + d.val % 128) :
    k0_pay1 (F := Ideal) (iblk m c 0 t) (iblk m c 1 t) (ix2 r d)
      = prod (m (c, Proc.tc.devRef main_arg0)) (m (c, Proc.tc.devRef main_arg2)) R D := by
  refine (pay1_apply _ _ _ _).trans (Finset.sum_congr rfl fun k _ => congrArg₂ (· * ·) ?_ ?_)
  · exact ((iblk0_apply m c t _ k R hR).trans (congrFun (v8_eq m c) _)).trans (rows_apply _ _ _)
  · have hj : (grid0.coords t 1).val < 8 := (grid0.coords t 1).isLt
    refine ((iblk1_apply m c t k d ⟨256 * (grid0.coords t 1).val + d.val, by omega⟩ rfl).trans (congrFun (v3_eq m c) _)).trans ((wts_apply _ _ _).trans ?_)
    refine congrArg (fun x => (m (c, Proc.tc.devRef main_arg2) : FVec Ideal S512x4096 .f32) (ix2 k x)) (Fin.ext ?_)
    dsimp only
    omega

/-- WHAT THE CALL LEAVES: for each head, the products and the shared key. -/
theorem arr_apply (R : Fin 8192) (D : Fin 4096) :
    (dats m 0 c).arrAt 3 cfg0.N (ix2 R D)
      = spec (m (c, Proc.tc.devRef main_arg0)) (m (c, Proc.tc.devRef main_arg1)) (m (c, Proc.tc.devRef main_arg2)) R D := by
  obtain ⟨t, hi, hj⟩ := exists_point ⟨R.val / 1024, by omega⟩ ⟨D.val / 512, by omega⟩
  dsimp only at hi hj
  have hr : R.val = 1024 * (grid0.coords t 0).val + R.val % 1024 := by omega
  have hd : D.val = 512 * (grid0.coords t 1).val + D.val % 512 := by omega
  have hk : ∀ e : Fin 128, iblk m c 2 t (ix2 (⟨R.val % 1024, by omega⟩ : Fin 1024) e) = keyE (m (c, Proc.tc.devRef main_arg1)) R e := fun e =>
    (iblk2_apply m c t ⟨R.val % 1024, by omega⟩ e R hr).trans ((congrFun (v6_eq m c) _).trans (keys_apply _ R e))
  have hb := fun d D h => blk_apply m c t ⟨R.val % 1024, by omega⟩ d R D hr h
  rw [arr_block m c t ⟨R.val % 1024, by omega⟩ ⟨D.val % 512, by omega⟩ R D hr hd]
  unfold spec
  have hq : D.val % 512 / 128 = 0 ∨ D.val % 512 / 128 = 1 ∨ D.val % 512 / 128 = 2 ∨ D.val % 512 / 128 = 3 := by omega
  rcases hq with h | h | h | h
  · have e : (⟨D.val % 512, by omega⟩ : Fin 512) = ⟨0 + (⟨D.val % 512 - 0, by omega⟩ : Fin 128).val, by dsimp only; omega⟩ := Fin.ext (by dsimp only; omega)
    rw [if_pos (by omega), e, out0]
    exact hb _ D (by dsimp only; omega)
  · have e : (⟨D.val % 512, by omega⟩ : Fin 512) = ⟨128 + (⟨D.val % 512 - 128, by omega⟩ : Fin 128).val, by dsimp only; omega⟩ := Fin.ext (by dsimp only; omega)
    rw [if_neg (by omega), e, out1]
    exact (hk _).trans (congrArg _ (Fin.ext (by dsimp only; omega)))
  · have e : (⟨D.val % 512, by omega⟩ : Fin 512) = ⟨256 + (⟨D.val % 512 - 256, by omega⟩ : Fin 128).val, by dsimp only; omega⟩ := Fin.ext (by dsimp only; omega)
    rw [if_pos (by omega), e, out2]
    exact hb _ D (by dsimp only; omega)
  · have e : (⟨D.val % 512, by omega⟩ : Fin 512) = ⟨384 + (⟨D.val % 512 - 384, by omega⟩ : Fin 128).val, by dsimp only; omega⟩ := Fin.ext (by dsimp only; omega)
    rw [if_neg (by omega), e, out3]
    exact (hk _).trans (congrArg _ (Fin.ext (by dsimp only; omega)))

end Cert.Ku
-- ==== Proof.Lin.KuRef.lean ====
module
public import proofs.«01_k».proof.Proof.Gen.Reference11Ideal.Read
public import proofs.«01_k».proof.Proof.Lin.KuBlock
@[expose] public section
set_option maxRecDepth 16384
noncomputable section
namespace Cert.Ku
open Idealize.ShloMosaic Cert.Reference11Ideal Cert.Reference11Ideal.Gen Cert.Reference11Ideal.Read Idealize.SL.Sem

/-- The reference's products, one entry. -/
theorem v0_apply (a : FVec Ideal S2x4096x512 .f32) (w : FVec Ideal S512x4096 .f32) (R : Fin 8192) (D : Fin 4096) :
    val_main_v0 (F := Ideal) a w (ix3 ⟨R.val / 4096, by omega⟩ ⟨R.val % 4096, by omega⟩ D) = prod a w R D := by
  unfold val_main_v0 prod
  pointwise

/-- The word of zero is zero. -/
theorem zero_bits : Ideal.ofBits .f32 0x00000000#32 = 0 := by
  simp [Ideal.ofBits, Ideal.ieee]

/-- The reference's array, one entry. -/
theorem ref_apply (a : FVec Ideal S2x4096x512 .f32) (p : FVec Ideal S2x4096x64 .f32) (w : FVec Ideal S512x4096 .f32) (R : Fin 8192) (D : Fin 4096) :
    val_main_v8 (F := Ideal) a p w (ix2 R D) = spec a p w R D := by
  unfold val_main_v8 val_main_v7 val_main_v6 val_main_v5 val_main_v4 val_main_v3 val_main_v2 val_main_v1 val_main_cst spec keyE
  pointwise
  by_cases h : D.val % 256 < 128
  · exact (dif_pos h).trans ((v0_apply a w R D).trans (if_pos h).symm)
  · exact (dif_neg h).trans (if_neg h).symm

end Cert.Ku
-- ==== Proof.Lin.KuClaim.lean ====
module
public import proofs.«01_k».proof.Defs
public import proofs.«01_k».proof.Proof.Gen.Kernel11Ideal.Value
public import proofs.«01_k».proof.Proof.Gen.Reference11Ideal.Run
public import proofs.«01_k».proof.Proof.Lin.KuRef
public import Idealize.ShloMosaic.Adequacy
public import Idealize.ShloMosaic.Init
@[expose] public section
noncomputable section
namespace Cert.Ku
open Idealize.ShloMosaic Idealize.SL.Sem

/-- The reference of the keys of the latent attention ends with its arguments unchanged and every counter at zero. -/
theorem frame_ref (m : (ℓ : Loc Cert.Reference11Ideal.nD Cert.Reference11Ideal.τ Cert.Reference11Ideal.sig) → Buf (Elt Ideal) ℓ) (g : Dev Cert.Reference11Ideal.nD → PrngReg) :
    θ_run (Cert.Reference11Ideal.defs (F := Ideal)) (onTc (τ := Cert.Reference11Ideal.τ) (Cert.Reference11Ideal.main (F := Ideal))) ⟨m, fun _ => 0, g⟩
      (fun r => (∀ c : Dev Cert.Reference11Ideal.nD,
        r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
        ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
        ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2))
        ∧ r.2.sem = fun _ => 0) :=
  (θ_run Cert.Reference11Ideal.defs _ _).mono
    (fun r h => ⟨fun c => (h c).2, sem_eq_zero_of_no_sems (by decide) r.2⟩)
    (Cert.Reference11Ideal.Value.run m g)

/-- The array of the keys of the latent attention is the reference's. -/
theorem arr_eq (m : (ℓ : Loc Cert.Kernel11Ideal.nD Cert.Kernel11Ideal.τ Cert.Kernel11Ideal.sig) → Buf (Elt Ideal) ℓ) (c : Dev Cert.Kernel11Ideal.nD) :
    (Cert.Kernel11Ideal.Gen.dats m 0 c).arrAt 3 Cert.Kernel11Ideal.cfg0.N
      = Cert.Reference11Ideal.Read.val_main_v8 (F := Ideal) (m (c, Proc.tc.devRef Cert.Kernel11Ideal.main_arg0)) (m (c, Proc.tc.devRef Cert.Kernel11Ideal.main_arg1)) (m (c, Proc.tc.devRef Cert.Kernel11Ideal.main_arg2)) := by
  funext i
  have e : i = ix2 (⟨(i 0).val, (i 0).isLt⟩ : Fin 8192) (⟨(i 1).val, (i 1).isLt⟩ : Fin 4096) := by
    funext a
    match a with
    | ⟨0, _⟩ => rfl
    | ⟨1, _⟩ => rfl
  rw [e]
  exact (arr_apply m c _ _).trans (ref_apply _ _ _ _ _).symm

/-- Kernel and reference of the keys of the latent attention compute one function. -/
theorem algebraic : Cert.algebraic_Kernel11Ideal_Reference11Ideal (hKernel11Ideal := Cert.Kernel11Ideal.Gen.facts)
    (hReference11Ideal := Cert.Reference11Ideal.Gen.facts) := by
  intro m g m' g' _ hargs
  refine ⟨fun c => (Cert.Kernel11Ideal.Gen.dats m 0 c).arrAt 3 Cert.Kernel11Ideal.cfg0.N, Cert.Kernel11Ideal.Value.run_blocks m g, ?_⟩
  refine (θ_run Cert.Reference11Ideal.defs _ _).mono (fun r h c => ⟨(h c).1.trans ?_, (h c).2⟩) (Cert.Reference11Ideal.Value.run m' g')
  obtain ⟨e0, e1, e2⟩ := hargs c
  rw [Cert.Reference11Ideal.Read.val_main_v8_eq, e0, e1, e2]
  exact (arr_eq m c).symm

end Cert.Ku
-- ==== Proof.lean ====
module

public import proofs.«01_k».proof.Defs
public import proofs.«01_k».proof.Proof.Gen.Kernel.Frame
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Pre_finite_qk
public import proofs.«01_k».proof.Proof.Attn.Finite
public import proofs.«01_k».proof.Proof.Gen.Kernel2.Frame
public import proofs.«01_k».proof.Proof.Lin.QkClaim
public import proofs.«01_k».proof.Proof.Gen.Kernel3.Frame
public import proofs.«01_k».proof.Proof.Lin.VgClaim
public import proofs.«01_k».proof.Proof.Gen.Kernel4.Frame
public import proofs.«01_k».proof.Proof.Lin.PqClaim
public import proofs.«01_k».proof.Proof.Gen.Kernel5.Frame
public import proofs.«01_k».proof.Proof.Lin.RoClaim
public import proofs.«01_k».proof.Proof.Gen.Kernel6.Frame
public import proofs.«01_k».proof.Proof.Lin.MoClaim
public import proofs.«01_k».proof.Proof.Gen.Kernel7.Frame
public import proofs.«01_k».proof.Proof.Lin.DqClaim
public import proofs.«01_k».proof.Proof.Gen.Kernel8.Frame
public import proofs.«01_k».proof.Proof.Lin.VuClaim
public import proofs.«01_k».proof.Proof.Gen.Kernel9.Frame
public import proofs.«01_k».proof.Proof.Lin.QuClaim
public import proofs.«01_k».proof.Proof.Gen.Kernel10.Frame
public import proofs.«01_k».proof.Proof.Lin.KvClaim
public import proofs.«01_k».proof.Proof.Gen.Kernel11.Frame
public import proofs.«01_k».proof.Proof.Lin.KuClaim
public import Idealize.ShloMosaic.Adequacy
public import Idealize.ShloMosaic.Init

@[expose] public section

noncomputable section

namespace Cert.Proof

open Idealize.ShloMosaic Idealize.SL.Sem Cert.Kernel

/-- The reference of the attention ends with its arguments unchanged and every counter at zero. -/
theorem frame_ref (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩
      (fun r => (∀ c : Dev Cert.ReferenceIdeal.nD,
        r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
        ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
        ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
        ∧ r.2.sem = fun _ => 0) :=
  (θ_run Cert.ReferenceIdeal.defs _ _).mono
    (fun r h => ⟨fun c => (h c).2, sem_eq_zero_of_no_sems (by decide) r.2⟩)
    (Cert.ReferenceIdeal.Value.run m g)

/-- The attention's array is the reference's: index by index, a row is a batch and a query, a column a head and a place in it. -/
theorem attention_eq (m : (ℓ : Loc Cert.KernelIdeal.nD Cert.KernelIdeal.τ Cert.KernelIdeal.sig) → Buf (Elt Ideal) ℓ)
    (hpre : Cert.Pre_KernelIdeal_finite_qk (hPre_finite_qk := Cert.Pre_finite_qk.Gen.facts) m) (c : Dev Cert.KernelIdeal.nD) :
    (Cert.KernelIdeal.Gen.dats m 0 c).arrAt 3 Cert.KernelIdeal.cfg0.N
      = Cert.ReferenceIdeal.Read.val_main_v30 (F := Ideal) (m (c, Proc.tc.devRef Cert.KernelIdeal.main_arg0))
          (m (c, Proc.tc.devRef Cert.KernelIdeal.main_arg1)) (m (c, Proc.tc.devRef Cert.KernelIdeal.main_arg2))
          (m (c, Proc.tc.devRef Cert.KernelIdeal.main_arg3)) (m (c, Proc.tc.devRef Cert.KernelIdeal.main_arg4)) := by
  obtain ⟨h0, h1, h2, h3⟩ := Cert.Attn.finite_args _ _ _ _ _ (hpre c)
  have hR := Cert.Attn.qk_real h0 h1 h2 h3
  funext i
  have hr : (i 0).val < 8192 := (i 0).isLt
  have hd : (i 1).val < 2048 := (i 1).isLt
  have e : i = ix2 (⟨4096 * (⟨(i 0).val / 4096, by omega⟩ : Fin 2).val + (⟨(i 0).val % 4096, by omega⟩ : Fin 4096).val, by dsimp only; omega⟩ : Fin 8192)
      (⟨128 * (⟨(i 1).val / 128, by omega⟩ : Fin 16).val + (⟨(i 1).val % 128, by omega⟩ : Fin 128).val, by dsimp only; omega⟩ : Fin 2048) := by
    funext a
    match a with
    | ⟨0, _⟩ => exact Fin.ext (by show (i 0).val = 4096 * ((i 0).val / 4096) + (i 0).val % 4096; omega)
    | ⟨1, _⟩ => exact Fin.ext (by show (i 1).val = 128 * ((i 1).val / 128) + (i 1).val % 128; omega)
  rw [e]
  exact (Cert.Attn.arr_apply m c hR _ _ _ _).trans (Cert.Attn.ref_eq _ _ _ _ _ hR _ _ _ _)

/-- Kernel and reference of the attention compute one function. -/
theorem algebraic_attention : Cert.algebraic_KernelIdeal_ReferenceIdeal_pre_finite_qk (hKernelIdeal := Cert.KernelIdeal.Gen.facts)
    (hReferenceIdeal := Cert.ReferenceIdeal.Gen.facts) (hPre_finite_qk := Cert.Pre_finite_qk.Gen.facts) := by
  intro m g m' g' hpre hargs
  refine ⟨fun c => (Cert.KernelIdeal.Gen.dats m 0 c).arrAt 3 Cert.KernelIdeal.cfg0.N, Cert.KernelIdeal.Value.run_blocks m g, ?_⟩
  refine (θ_run Cert.ReferenceIdeal.defs _ _).mono (fun r h c => ⟨(h c).1.trans ?_, (h c).2⟩) (Cert.ReferenceIdeal.Value.run m' g')
  obtain ⟨e0, e1, e2, e3, e4⟩ := hargs c
  rw [Cert.ReferenceIdeal.Read.val_main_v30_eq, e0, e1, e2, e3, e4]
  exact (attention_eq m hpre c).symm

/-- All the claims, each with its proof. -/
theorem claim : Cert.Claim := ⟨Cert.Kernel.Gen.facts,
  Cert.KernelIdeal.Gen.facts,
  Cert.ReferenceIdeal.Gen.facts,
  Cert.Kernel2.Gen.facts,
  Cert.Kernel2Ideal.Gen.facts,
  Cert.Reference2Ideal.Gen.facts,
  Cert.Kernel3.Gen.facts,
  Cert.Kernel3Ideal.Gen.facts,
  Cert.Reference3Ideal.Gen.facts,
  Cert.Kernel4.Gen.facts,
  Cert.Kernel4Ideal.Gen.facts,
  Cert.Reference4Ideal.Gen.facts,
  Cert.Kernel5.Gen.facts,
  Cert.Kernel5Ideal.Gen.facts,
  Cert.Reference5Ideal.Gen.facts,
  Cert.Kernel6.Gen.facts,
  Cert.Kernel6Ideal.Gen.facts,
  Cert.Reference6Ideal.Gen.facts,
  Cert.Kernel7.Gen.facts,
  Cert.Kernel7Ideal.Gen.facts,
  Cert.Reference7Ideal.Gen.facts,
  Cert.Kernel8.Gen.facts,
  Cert.Kernel8Ideal.Gen.facts,
  Cert.Reference8Ideal.Gen.facts,
  Cert.Kernel9.Gen.facts,
  Cert.Kernel9Ideal.Gen.facts,
  Cert.Reference9Ideal.Gen.facts,
  Cert.Kernel10.Gen.facts,
  Cert.Kernel10Ideal.Gen.facts,
  Cert.Reference10Ideal.Gen.facts,
  Cert.Kernel11.Gen.facts,
  Cert.Kernel11Ideal.Gen.facts,
  Cert.Reference11Ideal.Gen.facts,
  Cert.Pre_finite_qk.Gen.facts,
  fun m ρ _ => Cert.Kernel.Gen.frame m ρ,
  fun m ρ _ => Cert.KernelIdeal.Gen.frame m ρ,
  fun m ρ _ => Cert.KernelIdeal.Gen.frame m ρ,
  fun m ρ _ => frame_ref m ρ,
  fun m ρ _ => frame_ref m ρ,
  fun m ρ _ => Cert.Kernel2.Gen.frame m ρ,
  fun m ρ _ => Cert.Kernel2Ideal.Gen.frame m ρ,
  fun m ρ _ => Cert.Qk.frame_ref m ρ,
  fun m ρ _ => Cert.Kernel3.Gen.frame m ρ,
  fun m ρ _ => Cert.Kernel3Ideal.Gen.frame m ρ,
  fun m ρ _ => Cert.Vg.frame_ref m ρ,
  fun m ρ _ => Cert.Kernel4.Gen.frame m ρ,
  fun m ρ _ => Cert.Kernel4Ideal.Gen.frame m ρ,
  fun m ρ _ => Cert.Pq.frame_ref m ρ,
  fun m ρ _ => Cert.Kernel5.Gen.frame m ρ,
  fun m ρ _ => Cert.Kernel5Ideal.Gen.frame m ρ,
  fun m ρ _ => Cert.Ro.frame_ref m ρ,
  fun m ρ _ => Cert.Kernel6.Gen.frame m ρ,
  fun m ρ _ => Cert.Kernel6Ideal.Gen.frame m ρ,
  fun m ρ _ => Cert.Mo.frame_ref m ρ,
  fun m ρ _ => Cert.Kernel7.Gen.frame m ρ,
  fun m ρ _ => Cert.Kernel7Ideal.Gen.frame m ρ,
  fun m ρ _ => Cert.Dq.frame_ref m ρ,
  fun m ρ _ => Cert.Kernel8.Gen.frame m ρ,
  fun m ρ _ => Cert.Kernel8Ideal.Gen.frame m ρ,
  fun m ρ _ => Cert.Vu.frame_ref m ρ,
  fun m ρ _ => Cert.Kernel9.Gen.frame m ρ,
  fun m ρ _ => Cert.Kernel9Ideal.Gen.frame m ρ,
  fun m ρ _ => Cert.Qu.frame_ref m ρ,
  fun m ρ _ => Cert.Kernel10.Gen.frame m ρ,
  fun m ρ _ => Cert.Kernel10Ideal.Gen.frame m ρ,
  fun m ρ _ => Cert.Kv.frame_ref m ρ,
  fun m ρ _ => Cert.Kernel11.Gen.frame m ρ,
  fun m ρ _ => Cert.Kernel11Ideal.Gen.frame m ρ,
  fun m ρ _ => Cert.Ku.frame_ref m ρ,
  IdealRules.named_const.statement Cert.KernelIdeal.κ "scale_log2e" .f32 0x3DD53B95#32 _ rfl,
  algebraic_attention,
  trivial,
  Cert.Qk.algebraic,
  trivial,
  Cert.Vg.algebraic,
  trivial,
  Cert.Pq.algebraic,
  trivial,
  Cert.Ro.algebraic,
  trivial,
  Cert.Mo.algebraic,
  trivial,
  Cert.Dq.algebraic,
  trivial,
  Cert.Vu.algebraic,
  trivial,
  Cert.Qu.algebraic,
  trivial,
  Cert.Kv.algebraic,
  trivial,
  Cert.Ku.algebraic⟩

end Cert.Proof

end
